-- ==== Defs.lean ====
def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_finite_in_proj [hPre_finite_in_proj : Cert.Pre_finite_in_proj.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_finite_in_proj.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11)) (m ((c.tc : Thread Cert.InProjBwdIdeal.nD Cert.InProjBwdIdeal.τ).loc Cert.InProjBwdIdeal.main_arg12)) (m ((c.tc : Thread Cert.InProjBwdIdeal.nD Cert.InProjBwdIdeal.τ).loc Cert.InProjBwdIdeal.main_arg13)) (m ((c.tc : Thread Cert.InProjBwdIdeal.nD Cert.InProjBwdIdeal.τ).loc Cert.InProjBwdIdeal.main_arg14))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_in_proj [hPre_finite_in_proj : Cert.Pre_finite_in_proj.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_in_proj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8)) (m ((c.tc : Thread Cert.InProjRefIdeal.nD Cert.InProjRefIdeal.τ).loc Cert.InProjRefIdeal.main_arg9)) (m ((c.tc : Thread Cert.InProjRefIdeal.nD Cert.InProjRefIdeal.τ).loc Cert.InProjRefIdeal.main_arg10)) (m ((c.tc : Thread Cert.InProjRefIdeal.nD Cert.InProjRefIdeal.τ).loc Cert.InProjRefIdeal.main_arg11)) (m ((c.tc : Thread Cert.InProjRefIdeal.nD Cert.InProjRefIdeal.τ).loc Cert.InProjRefIdeal.main_arg12)) (m ((c.tc : Thread Cert.InProjRefIdeal.nD Cert.InProjRefIdeal.τ).loc Cert.InProjRefIdeal.main_arg13)) (m ((c.tc : Thread Cert.InProjRefIdeal.nD Cert.InProjRefIdeal.τ).loc Cert.InProjRefIdeal.main_arg14))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7)
      ∧ r.2.mem ((c.tc : Thread Cert.InProjBwd.nD Cert.InProjBwd.τ).loc Cert.InProjBwd.main_arg8) = m ((c.tc : Thread Cert.InProjBwd.nD Cert.InProjBwd.τ).loc Cert.InProjBwd.main_arg8)
      ∧ r.2.mem ((c.tc : Thread Cert.InProjBwd.nD Cert.InProjBwd.τ).loc Cert.InProjBwd.main_arg9) = m ((c.tc : Thread Cert.InProjBwd.nD Cert.InProjBwd.τ).loc Cert.InProjBwd.main_arg9)
      ∧ r.2.mem ((c.tc : Thread Cert.InProjBwd.nD Cert.InProjBwd.τ).loc Cert.InProjBwd.main_arg10) = m ((c.tc : Thread Cert.InProjBwd.nD Cert.InProjBwd.τ).loc Cert.InProjBwd.main_arg10)
      ∧ r.2.mem ((c.tc : Thread Cert.InProjBwd.nD Cert.InProjBwd.τ).loc Cert.InProjBwd.main_arg11) = m ((c.tc : Thread Cert.InProjBwd.nD Cert.InProjBwd.τ).loc Cert.InProjBwd.main_arg11)
      ∧ r.2.mem ((c.tc : Thread Cert.InProjBwd.nD Cert.InProjBwd.τ).loc Cert.InProjBwd.main_arg12) = m ((c.tc : Thread Cert.InProjBwd.nD Cert.InProjBwd.τ).loc Cert.InProjBwd.main_arg12)
      ∧ r.2.mem ((c.tc : Thread Cert.InProjBwd.nD Cert.InProjBwd.τ).loc Cert.InProjBwd.main_arg13) = m ((c.tc : Thread Cert.InProjBwd.nD Cert.InProjBwd.τ).loc Cert.InProjBwd.main_arg13)
      ∧ r.2.mem ((c.tc : Thread Cert.InProjBwd.nD Cert.InProjBwd.τ).loc Cert.InProjBwd.main_arg14) = m ((c.tc : Thread Cert.InProjBwd.nD Cert.InProjBwd.τ).loc Cert.InProjBwd.main_arg14))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
      ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10)
      ∧ r.2.mem ((c.tc : Thread Cert.InProjBwdIdeal.nD Cert.InProjBwdIdeal.τ).loc Cert.InProjBwdIdeal.main_arg11) = m ((c.tc : Thread Cert.InProjBwdIdeal.nD Cert.InProjBwdIdeal.τ).loc Cert.InProjBwdIdeal.main_arg11)
      ∧ r.2.mem ((c.tc : Thread Cert.InProjBwdIdeal.nD Cert.InProjBwdIdeal.τ).loc Cert.InProjBwdIdeal.main_arg12) = m ((c.tc : Thread Cert.InProjBwdIdeal.nD Cert.InProjBwdIdeal.τ).loc Cert.InProjBwdIdeal.main_arg12)
      ∧ r.2.mem ((c.tc : Thread Cert.InProjBwdIdeal.nD Cert.InProjBwdIdeal.τ).loc Cert.InProjBwdIdeal.main_arg13) = m ((c.tc : Thread Cert.InProjBwdIdeal.nD Cert.InProjBwdIdeal.τ).loc Cert.InProjBwdIdeal.main_arg13)
      ∧ r.2.mem ((c.tc : Thread Cert.InProjBwdIdeal.nD Cert.InProjBwdIdeal.τ).loc Cert.InProjBwdIdeal.main_arg14) = m ((c.tc : Thread Cert.InProjBwdIdeal.nD Cert.InProjBwdIdeal.τ).loc Cert.InProjBwdIdeal.main_arg14))
      ∧ r.2.sem = fun _ => 0)

def quiescent_InProjBwdIdeal_pre_finite_in_proj [hInProjBwdIdeal : Cert.InProjBwdIdeal.Facts] [hPre_finite_in_proj : Cert.Pre_finite_in_proj.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_finite_in_proj m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
      ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10)
      ∧ r.2.mem ((c.tc : Thread Cert.InProjBwdIdeal.nD Cert.InProjBwdIdeal.τ).loc Cert.InProjBwdIdeal.main_arg11) = m ((c.tc : Thread Cert.InProjBwdIdeal.nD Cert.InProjBwdIdeal.τ).loc Cert.InProjBwdIdeal.main_arg11)
      ∧ r.2.mem ((c.tc : Thread Cert.InProjBwdIdeal.nD Cert.InProjBwdIdeal.τ).loc Cert.InProjBwdIdeal.main_arg12) = m ((c.tc : Thread Cert.InProjBwdIdeal.nD Cert.InProjBwdIdeal.τ).loc Cert.InProjBwdIdeal.main_arg12)
      ∧ r.2.mem ((c.tc : Thread Cert.InProjBwdIdeal.nD Cert.InProjBwdIdeal.τ).loc Cert.InProjBwdIdeal.main_arg13) = m ((c.tc : Thread Cert.InProjBwdIdeal.nD Cert.InProjBwdIdeal.τ).loc Cert.InProjBwdIdeal.main_arg13)
      ∧ r.2.mem ((c.tc : Thread Cert.InProjBwdIdeal.nD Cert.InProjBwdIdeal.τ).loc Cert.InProjBwdIdeal.main_arg14) = m ((c.tc : Thread Cert.InProjBwdIdeal.nD Cert.InProjBwdIdeal.τ).loc Cert.InProjBwdIdeal.main_arg14))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10)
      ∧ r.2.mem ((c.tc : Thread Cert.InProjRefIdeal.nD Cert.InProjRefIdeal.τ).loc Cert.InProjRefIdeal.main_arg11) = m ((c.tc : Thread Cert.InProjRefIdeal.nD Cert.InProjRefIdeal.τ).loc Cert.InProjRefIdeal.main_arg11)
      ∧ r.2.mem ((c.tc : Thread Cert.InProjRefIdeal.nD Cert.InProjRefIdeal.τ).loc Cert.InProjRefIdeal.main_arg12) = m ((c.tc : Thread Cert.InProjRefIdeal.nD Cert.InProjRefIdeal.τ).loc Cert.InProjRefIdeal.main_arg12)
      ∧ r.2.mem ((c.tc : Thread Cert.InProjRefIdeal.nD Cert.InProjRefIdeal.τ).loc Cert.InProjRefIdeal.main_arg13) = m ((c.tc : Thread Cert.InProjRefIdeal.nD Cert.InProjRefIdeal.τ).loc Cert.InProjRefIdeal.main_arg13)
      ∧ r.2.mem ((c.tc : Thread Cert.InProjRefIdeal.nD Cert.InProjRefIdeal.τ).loc Cert.InProjRefIdeal.main_arg14) = m ((c.tc : Thread Cert.InProjRefIdeal.nD Cert.InProjRefIdeal.τ).loc Cert.InProjRefIdeal.main_arg14))
      ∧ r.2.sem = fun _ => 0)

def quiescent_InProjRefIdeal_pre_finite_in_proj [hInProjRefIdeal : Cert.InProjRefIdeal.Facts] [hPre_finite_in_proj : Cert.Pre_finite_in_proj.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_in_proj m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10)
      ∧ r.2.mem ((c.tc : Thread Cert.InProjRefIdeal.nD Cert.InProjRefIdeal.τ).loc Cert.InProjRefIdeal.main_arg11) = m ((c.tc : Thread Cert.InProjRefIdeal.nD Cert.InProjRefIdeal.τ).loc Cert.InProjRefIdeal.main_arg11)
      ∧ r.2.mem ((c.tc : Thread Cert.InProjRefIdeal.nD Cert.InProjRefIdeal.τ).loc Cert.InProjRefIdeal.main_arg12) = m ((c.tc : Thread Cert.InProjRefIdeal.nD Cert.InProjRefIdeal.τ).loc Cert.InProjRefIdeal.main_arg12)
      ∧ r.2.mem ((c.tc : Thread Cert.InProjRefIdeal.nD Cert.InProjRefIdeal.τ).loc Cert.InProjRefIdeal.main_arg13) = m ((c.tc : Thread Cert.InProjRefIdeal.nD Cert.InProjRefIdeal.τ).loc Cert.InProjRefIdeal.main_arg13)
      ∧ r.2.mem ((c.tc : Thread Cert.InProjRefIdeal.nD Cert.InProjRefIdeal.τ).loc Cert.InProjRefIdeal.main_arg14) = m ((c.tc : Thread Cert.InProjRefIdeal.nD Cert.InProjRefIdeal.τ).loc Cert.InProjRefIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def preserves_InProjBwd_InProjBwdIdeal : Prop :=
  True

def algebraic_InProjBwdIdeal_InProjRefIdeal_pre_finite_in_proj [hInProjBwdIdeal : Cert.InProjBwdIdeal.Facts] [hInProjRefIdeal : Cert.InProjRefIdeal.Facts] [hPre_finite_in_proj : Cert.Pre_finite_in_proj.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjBwdIdeal_finite_in_proj m →
    (∀ c : Dev Cert.InProjBwdIdeal.nD,
      m' ((c.tc : Thread Cert.InProjRefIdeal.nD Cert.InProjRefIdeal.τ).loc Cert.InProjRefIdeal.main_arg0) = m ((c.tc : Thread Cert.InProjBwdIdeal.nD Cert.InProjBwdIdeal.τ).loc Cert.InProjBwdIdeal.main_arg0)
      ∧ m' ((c.tc : Thread Cert.InProjRefIdeal.nD Cert.InProjRefIdeal.τ).loc Cert.InProjRefIdeal.main_arg1) = m ((c.tc : Thread Cert.InProjBwdIdeal.nD Cert.InProjBwdIdeal.τ).loc Cert.InProjBwdIdeal.main_arg1)
      ∧ m' ((c.tc : Thread Cert.InProjRefIdeal.nD Cert.InProjRefIdeal.τ).loc Cert.InProjRefIdeal.main_arg2) = m ((c.tc : Thread Cert.InProjBwdIdeal.nD Cert.InProjBwdIdeal.τ).loc Cert.InProjBwdIdeal.main_arg2)
      ∧ m' ((c.tc : Thread Cert.InProjRefIdeal.nD Cert.InProjRefIdeal.τ).loc Cert.InProjRefIdeal.main_arg3) = m ((c.tc : Thread Cert.InProjBwdIdeal.nD Cert.InProjBwdIdeal.τ).loc Cert.InProjBwdIdeal.main_arg3)
      ∧ m' ((c.tc : Thread Cert.InProjRefIdeal.nD Cert.InProjRefIdeal.τ).loc Cert.InProjRefIdeal.main_arg4) = m ((c.tc : Thread Cert.InProjBwdIdeal.nD Cert.InProjBwdIdeal.τ).loc Cert.InProjBwdIdeal.main_arg4)
      ∧ m' ((c.tc : Thread Cert.InProjRefIdeal.nD Cert.InProjRefIdeal.τ).loc Cert.InProjRefIdeal.main_arg5) = m ((c.tc : Thread Cert.InProjBwdIdeal.nD Cert.InProjBwdIdeal.τ).loc Cert.InProjBwdIdeal.main_arg5)
      ∧ m' ((c.tc : Thread Cert.InProjRefIdeal.nD Cert.InProjRefIdeal.τ).loc Cert.InProjRefIdeal.main_arg6) = m ((c.tc : Thread Cert.InProjBwdIdeal.nD Cert.InProjBwdIdeal.τ).loc Cert.InProjBwdIdeal.main_arg6)
      ∧ m' ((c.tc : Thread Cert.InProjRefIdeal.nD Cert.InProjRefIdeal.τ).loc Cert.InProjRefIdeal.main_arg7) = m ((c.tc : Thread Cert.InProjBwdIdeal.nD Cert.InProjBwdIdeal.τ).loc Cert.InProjBwdIdeal.main_arg7)
      ∧ m' ((c.tc : Thread Cert.InProjRefIdeal.nD Cert.InProjRefIdeal.τ).loc Cert.InProjRefIdeal.main_arg8) = m ((c.tc : Thread Cert.InProjBwdIdeal.nD Cert.InProjBwdIdeal.τ).loc Cert.InProjBwdIdeal.main_arg8)
      ∧ m' ((c.tc : Thread Cert.InProjRefIdeal.nD Cert.InProjRefIdeal.τ).loc Cert.InProjRefIdeal.main_arg9) = m ((c.tc : Thread Cert.InProjBwdIdeal.nD Cert.InProjBwdIdeal.τ).loc Cert.InProjBwdIdeal.main_arg9)
      ∧ m' ((c.tc : Thread Cert.InProjRefIdeal.nD Cert.InProjRefIdeal.τ).loc Cert.InProjRefIdeal.main_arg10) = m ((c.tc : Thread Cert.InProjBwdIdeal.nD Cert.InProjBwdIdeal.τ).loc Cert.InProjBwdIdeal.main_arg10)
      ∧ m' ((c.tc : Thread Cert.InProjRefIdeal.nD Cert.InProjRefIdeal.τ).loc Cert.InProjRefIdeal.main_arg11) = m ((c.tc : Thread Cert.InProjBwdIdeal.nD Cert.InProjBwdIdeal.τ).loc Cert.InProjBwdIdeal.main_arg11)
      ∧ m' ((c.tc : Thread Cert.InProjRefIdeal.nD Cert.InProjRefIdeal.τ).loc Cert.InProjRefIdeal.main_arg12) = m ((c.tc : Thread Cert.InProjBwdIdeal.nD Cert.InProjBwdIdeal.τ).loc Cert.InProjBwdIdeal.main_arg12)
      ∧ m' ((c.tc : Thread Cert.InProjRefIdeal.nD Cert.InProjRefIdeal.τ).loc Cert.InProjRefIdeal.main_arg13) = m ((c.tc : Thread Cert.InProjBwdIdeal.nD Cert.InProjBwdIdeal.τ).loc Cert.InProjBwdIdeal.main_arg13)
      ∧ m' ((c.tc : Thread Cert.InProjRefIdeal.nD Cert.InProjRefIdeal.τ).loc Cert.InProjRefIdeal.main_arg14) = m ((c.tc : Thread Cert.InProjBwdIdeal.nD Cert.InProjBwdIdeal.τ).loc Cert.InProjBwdIdeal.main_arg14)) →
    ∃ (v0 : (c : Dev Cert.InProjBwdIdeal.nD) → Buf (Elt Ideal) ((c.tc : Thread Cert.InProjBwdIdeal.nD Cert.InProjBwdIdeal.τ).loc Cert.InProjBwdIdeal.main_v6_0)) (v1 : (c : Dev Cert.InProjBwdIdeal.nD) → Buf (Elt Ideal) ((c.tc : Thread Cert.InProjBwdIdeal.nD Cert.InProjBwdIdeal.τ).loc Cert.InProjBwdIdeal.main_v6_1)) (v2 : (c : Dev Cert.InProjBwdIdeal.nD) → Buf (Elt Ideal) ((c.tc : Thread Cert.InProjBwdIdeal.nD Cert.InProjBwdIdeal.τ).loc Cert.InProjBwdIdeal.main_v6_2)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v6_0) = v0 c
          ∧ r.2.mem ((c.tc : Thread Cert.InProjBwdIdeal.nD Cert.InProjBwdIdeal.τ).loc Cert.InProjBwdIdeal.main_v6_1) = v1 c
          ∧ r.2.mem ((c.tc : Thread Cert.InProjBwdIdeal.nD Cert.InProjBwdIdeal.τ).loc Cert.InProjBwdIdeal.main_v6_2) = v2 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
          ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
          ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
          ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10)
          ∧ r.2.mem ((c.tc : Thread Cert.InProjBwdIdeal.nD Cert.InProjBwdIdeal.τ).loc Cert.InProjBwdIdeal.main_arg11) = m ((c.tc : Thread Cert.InProjBwdIdeal.nD Cert.InProjBwdIdeal.τ).loc Cert.InProjBwdIdeal.main_arg11)
          ∧ r.2.mem ((c.tc : Thread Cert.InProjBwdIdeal.nD Cert.InProjBwdIdeal.τ).loc Cert.InProjBwdIdeal.main_arg12) = m ((c.tc : Thread Cert.InProjBwdIdeal.nD Cert.InProjBwdIdeal.τ).loc Cert.InProjBwdIdeal.main_arg12)
          ∧ r.2.mem ((c.tc : Thread Cert.InProjBwdIdeal.nD Cert.InProjBwdIdeal.τ).loc Cert.InProjBwdIdeal.main_arg13) = m ((c.tc : Thread Cert.InProjBwdIdeal.nD Cert.InProjBwdIdeal.τ).loc Cert.InProjBwdIdeal.main_arg13)
          ∧ r.2.mem ((c.tc : Thread Cert.InProjBwdIdeal.nD Cert.InProjBwdIdeal.τ).loc Cert.InProjBwdIdeal.main_arg14) = m ((c.tc : Thread Cert.InProjBwdIdeal.nD Cert.InProjBwdIdeal.τ).loc Cert.InProjBwdIdeal.main_arg14))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v66) = v0 c
          ∧ r.2.mem ((c.tc : Thread Cert.InProjRefIdeal.nD Cert.InProjRefIdeal.τ).loc Cert.InProjRefIdeal.main_v72) = v1 c
          ∧ r.2.mem ((c.tc : Thread Cert.InProjRefIdeal.nD Cert.InProjRefIdeal.τ).loc Cert.InProjRefIdeal.main_v73) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10)
          ∧ r.2.mem ((c.tc : Thread Cert.InProjRefIdeal.nD Cert.InProjRefIdeal.τ).loc Cert.InProjRefIdeal.main_arg11) = m' ((c.tc : Thread Cert.InProjRefIdeal.nD Cert.InProjRefIdeal.τ).loc Cert.InProjRefIdeal.main_arg11)
          ∧ r.2.mem ((c.tc : Thread Cert.InProjRefIdeal.nD Cert.InProjRefIdeal.τ).loc Cert.InProjRefIdeal.main_arg12) = m' ((c.tc : Thread Cert.InProjRefIdeal.nD Cert.InProjRefIdeal.τ).loc Cert.InProjRefIdeal.main_arg12)
          ∧ r.2.mem ((c.tc : Thread Cert.InProjRefIdeal.nD Cert.InProjRefIdeal.τ).loc Cert.InProjRefIdeal.main_arg13) = m' ((c.tc : Thread Cert.InProjRefIdeal.nD Cert.InProjRefIdeal.τ).loc Cert.InProjRefIdeal.main_arg13)
          ∧ r.2.mem ((c.tc : Thread Cert.InProjRefIdeal.nD Cert.InProjRefIdeal.τ).loc Cert.InProjRefIdeal.main_arg14) = m' ((c.tc : Thread Cert.InProjRefIdeal.nD Cert.InProjRefIdeal.τ).loc Cert.InProjRefIdeal.main_arg14))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)) (v2 : (c : Dev Cert.FfnIdeal.nD) → Buf (Elt Ideal) ((c.tc : Thread Cert.FfnIdeal.nD Cert.FfnIdeal.τ).loc Cert.FfnIdeal.main_v9_2)) (v3 : (c : Dev Cert.FfnIdeal.nD) → Buf (Elt Ideal) ((c.tc : Thread Cert.FfnIdeal.nD Cert.FfnIdeal.τ).loc Cert.FfnIdeal.main_v9_3)) (v4 : (c : Dev Cert.FfnIdeal.nD) → Buf (Elt Ideal) ((c.tc : Thread Cert.FfnIdeal.nD Cert.FfnIdeal.τ).loc Cert.FfnIdeal.main_v9_4)) (v5 : (c : Dev Cert.FfnIdeal.nD) → Buf (Elt Ideal) ((c.tc : Thread Cert.FfnIdeal.nD Cert.FfnIdeal.τ).loc Cert.FfnIdeal.main_v9_5)) (v6 : (c : Dev Cert.FfnIdeal.nD) → Buf (Elt Ideal) ((c.tc : Thread Cert.FfnIdeal.nD Cert.FfnIdeal.τ).loc Cert.FfnIdeal.main_v9_6)) (v7 : (c : Dev Cert.FfnIdeal.nD) → Buf (Elt Ideal) ((c.tc : Thread Cert.FfnIdeal.nD Cert.FfnIdeal.τ).loc Cert.FfnIdeal.main_v9_7)) (v8 : (c : Dev Cert.FfnIdeal.nD) → Buf (Elt Ideal) ((c.tc : Thread Cert.FfnIdeal.nD Cert.FfnIdeal.τ).loc Cert.FfnIdeal.main_v9_8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_v9_2) = v2 c
          ∧ r.2.mem ((c.tc : Thread Cert.FfnIdeal.nD Cert.FfnIdeal.τ).loc Cert.FfnIdeal.main_v9_3) = v3 c
          ∧ r.2.mem ((c.tc : Thread Cert.FfnIdeal.nD Cert.FfnIdeal.τ).loc Cert.FfnIdeal.main_v9_4) = v4 c
          ∧ r.2.mem ((c.tc : Thread Cert.FfnIdeal.nD Cert.FfnIdeal.τ).loc Cert.FfnIdeal.main_v9_5) = v5 c
          ∧ r.2.mem ((c.tc : Thread Cert.FfnIdeal.nD Cert.FfnIdeal.τ).loc Cert.FfnIdeal.main_v9_6) = v6 c
          ∧ r.2.mem ((c.tc : Thread Cert.FfnIdeal.nD Cert.FfnIdeal.τ).loc Cert.FfnIdeal.main_v9_7) = v7 c
          ∧ r.2.mem ((c.tc : Thread Cert.FfnIdeal.nD Cert.FfnIdeal.τ).loc Cert.FfnIdeal.main_v9_8) = v8 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v104) = v0 c
          ∧ r.2.mem ((c.tc : Thread Cert.FfnRefIdeal.nD Cert.FfnRefIdeal.τ).loc Cert.FfnRefIdeal.main_v105) = v1 c
          ∧ r.2.mem ((c.tc : Thread Cert.FfnRefIdeal.nD Cert.FfnRefIdeal.τ).loc Cert.FfnRefIdeal.main_v106) = v2 c
          ∧ r.2.mem ((c.tc : Thread Cert.FfnRefIdeal.nD Cert.FfnRefIdeal.τ).loc Cert.FfnRefIdeal.main_v107) = v3 c
          ∧ r.2.mem ((c.tc : Thread Cert.FfnRefIdeal.nD Cert.FfnRefIdeal.τ).loc Cert.FfnRefIdeal.main_v108) = v4 c
          ∧ r.2.mem ((c.tc : Thread Cert.FfnRefIdeal.nD Cert.FfnRefIdeal.τ).loc Cert.FfnRefIdeal.main_v109) = v5 c
          ∧ r.2.mem ((c.tc : Thread Cert.FfnRefIdeal.nD Cert.FfnRefIdeal.τ).loc Cert.FfnRefIdeal.main_v110) = v6 c
          ∧ r.2.mem ((c.tc : Thread Cert.FfnRefIdeal.nD Cert.FfnRefIdeal.τ).loc Cert.FfnRefIdeal.main_v111) = v7 c
          ∧ r.2.mem ((c.tc : Thread Cert.FfnRefIdeal.nD Cert.FfnRefIdeal.τ).loc Cert.FfnRefIdeal.main_v112) = v8 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Mix_MixIdeal : Prop :=
  IdealRules.named_const.Statement Cert.MixIdeal.κ "half_root" .f32 0x3F3504F3#32 (((Real.sqrt 2)⁻¹ : ℝ) : EReal)
  ∧ IdealRules.named_const.Statement Cert.MixIdeal.κ "normal_slope" .f32 0x3ECC422A#32 (((9465531 / 16777216) * (Real.sqrt 2)⁻¹ : ℝ) : EReal)

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v78_0)) (v1 : (c : Dev Cert.MixIdeal.nD) → Buf (Elt Ideal) ((c.tc : Thread Cert.MixIdeal.nD Cert.MixIdeal.τ).loc Cert.MixIdeal.main_v78_1)) (v2 : (c : Dev Cert.MixIdeal.nD) → Buf (Elt Ideal) ((c.tc : Thread Cert.MixIdeal.nD Cert.MixIdeal.τ).loc Cert.MixIdeal.main_v78_2)) (v3 : (c : Dev Cert.MixIdeal.nD) → Buf (Elt Ideal) ((c.tc : Thread Cert.MixIdeal.nD Cert.MixIdeal.τ).loc Cert.MixIdeal.main_v78_3)) (v4 : (c : Dev Cert.MixIdeal.nD) → Buf (Elt Ideal) ((c.tc : Thread Cert.MixIdeal.nD Cert.MixIdeal.τ).loc Cert.MixIdeal.main_v78_4)) (v5 : (c : Dev Cert.MixIdeal.nD) → Buf (Elt Ideal) ((c.tc : Thread Cert.MixIdeal.nD Cert.MixIdeal.τ).loc Cert.MixIdeal.main_v78_5)) (v6 : (c : Dev Cert.MixIdeal.nD) → Buf (Elt Ideal) ((c.tc : Thread Cert.MixIdeal.nD Cert.MixIdeal.τ).loc Cert.MixIdeal.main_v78_6)) (v7 : (c : Dev Cert.MixIdeal.nD) → Buf (Elt Ideal) ((c.tc : Thread Cert.MixIdeal.nD Cert.MixIdeal.τ).loc Cert.MixIdeal.main_v78_7)) (v8 : (c : Dev Cert.MixIdeal.nD) → Buf (Elt Ideal) ((c.tc : Thread Cert.MixIdeal.nD Cert.MixIdeal.τ).loc Cert.MixIdeal.main_v78_8)) (v9 : (c : Dev Cert.MixIdeal.nD) → Buf (Elt Ideal) ((c.tc : Thread Cert.MixIdeal.nD Cert.MixIdeal.τ).loc Cert.MixIdeal.main_v78_9)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v78_0) = v0 c
          ∧ r.2.mem ((c.tc : Thread Cert.MixIdeal.nD Cert.MixIdeal.τ).loc Cert.MixIdeal.main_v78_1) = v1 c
          ∧ r.2.mem ((c.tc : Thread Cert.MixIdeal.nD Cert.MixIdeal.τ).loc Cert.MixIdeal.main_v78_2) = v2 c
          ∧ r.2.mem ((c.tc : Thread Cert.MixIdeal.nD Cert.MixIdeal.τ).loc Cert.MixIdeal.main_v78_3) = v3 c
          ∧ r.2.mem ((c.tc : Thread Cert.MixIdeal.nD Cert.MixIdeal.τ).loc Cert.MixIdeal.main_v78_4) = v4 c
          ∧ r.2.mem ((c.tc : Thread Cert.MixIdeal.nD Cert.MixIdeal.τ).loc Cert.MixIdeal.main_v78_5) = v5 c
          ∧ r.2.mem ((c.tc : Thread Cert.MixIdeal.nD Cert.MixIdeal.τ).loc Cert.MixIdeal.main_v78_6) = v6 c
          ∧ r.2.mem ((c.tc : Thread Cert.MixIdeal.nD Cert.MixIdeal.τ).loc Cert.MixIdeal.main_v78_7) = v7 c
          ∧ r.2.mem ((c.tc : Thread Cert.MixIdeal.nD Cert.MixIdeal.τ).loc Cert.MixIdeal.main_v78_8) = v8 c
          ∧ r.2.mem ((c.tc : Thread Cert.MixIdeal.nD Cert.MixIdeal.τ).loc Cert.MixIdeal.main_v78_9) = v9 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v164) = v0 c
          ∧ r.2.mem ((c.tc : Thread Cert.MixRefIdeal.nD Cert.MixRefIdeal.τ).loc Cert.MixRefIdeal.main_v165) = v1 c
          ∧ r.2.mem ((c.tc : Thread Cert.MixRefIdeal.nD Cert.MixRefIdeal.τ).loc Cert.MixRefIdeal.main_v167) = v2 c
          ∧ r.2.mem ((c.tc : Thread Cert.MixRefIdeal.nD Cert.MixRefIdeal.τ).loc Cert.MixRefIdeal.main_v169) = v3 c
          ∧ r.2.mem ((c.tc : Thread Cert.MixRefIdeal.nD Cert.MixRefIdeal.τ).loc Cert.MixRefIdeal.main_v80) = v4 c
          ∧ r.2.mem ((c.tc : Thread Cert.MixRefIdeal.nD Cert.MixRefIdeal.τ).loc Cert.MixRefIdeal.main_v170) = v5 c
          ∧ r.2.mem ((c.tc : Thread Cert.MixRefIdeal.nD Cert.MixRefIdeal.τ).loc Cert.MixRefIdeal.main_v171) = v6 c
          ∧ r.2.mem ((c.tc : Thread Cert.MixRefIdeal.nD Cert.MixRefIdeal.τ).loc Cert.MixRefIdeal.main_v172) = v7 c
          ∧ r.2.mem ((c.tc : Thread Cert.MixRefIdeal.nD Cert.MixRefIdeal.τ).loc Cert.MixRefIdeal.main_v92) = v8 c
          ∧ r.2.mem ((c.tc : Thread Cert.MixRefIdeal.nD Cert.MixRefIdeal.τ).loc Cert.MixRefIdeal.main_v173) = v9 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_MixFwd_MixFwdIdeal : Prop :=
  IdealRules.named_const.Statement Cert.MixFwdIdeal.κ "half_root" .f32 0x3F3504F3#32 (((Real.sqrt 2)⁻¹ : ℝ) : EReal)

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)) →
    ∃ (v0 : (c : Dev Cert.MixFwdIdeal.nD) → Buf (Elt Ideal) ((c.tc : Thread Cert.MixFwdIdeal.nD Cert.MixFwdIdeal.τ).loc Cert.MixFwdIdeal.main_v9_0)) (v1 : (c : Dev Cert.MixFwdIdeal.nD) → Buf (Elt Ideal) ((c.tc : Thread Cert.MixFwdIdeal.nD Cert.MixFwdIdeal.τ).loc Cert.MixFwdIdeal.main_v9_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v9_0) = v0 c
          ∧ r.2.mem ((c.tc : Thread Cert.MixFwdIdeal.nD Cert.MixFwdIdeal.τ).loc Cert.MixFwdIdeal.main_v9_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v70) = v0 c
          ∧ r.2.mem ((c.tc : Thread Cert.MixFwdRefIdeal.nD Cert.MixFwdRefIdeal.τ).loc Cert.MixFwdRefIdeal.main_v71) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Gla_GlaIdeal : Prop :=
  True

def Claim : Prop :=
  ∃ (hInProjBwd : Cert.InProjBwd.Facts) (hInProjBwdIdeal : Cert.InProjBwdIdeal.Facts) (hInProjRefIdeal : Cert.InProjRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hMixFwd : Cert.MixFwd.Facts) (hMixFwdIdeal : Cert.MixFwdIdeal.Facts) (hMixFwdRefIdeal : Cert.MixFwdRefIdeal.Facts) (hNorm : Cert.Norm.Facts) (hNormIdeal : Cert.NormIdeal.Facts) (hNormRefIdeal : Cert.NormRefIdeal.Facts) (hGla : Cert.Gla.Facts) (hGlaIdeal : Cert.GlaIdeal.Facts) (hPre_finite_in_proj : Cert.Pre_finite_in_proj.Facts) (hPre_finite_ffn : Cert.Pre_finite_ffn.Facts) (hPre_finite_mix : Cert.Pre_finite_mix.Facts),
    quiescent_InProjBwd (hInProjBwd := hInProjBwd)
    ∧ quiescent_InProjBwdIdeal (hInProjBwdIdeal := hInProjBwdIdeal)
    ∧ quiescent_InProjBwdIdeal_pre_finite_in_proj (hInProjBwdIdeal := hInProjBwdIdeal) (hPre_finite_in_proj := hPre_finite_in_proj)
    ∧ quiescent_InProjRefIdeal (hInProjRefIdeal := hInProjRefIdeal)
    ∧ quiescent_InProjRefIdeal_pre_finite_in_proj (hInProjRefIdeal := hInProjRefIdeal) (hPre_finite_in_proj := hPre_finite_in_proj)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_Norm (hNorm := hNorm)
    ∧ quiescent_NormIdeal (hNormIdeal := hNormIdeal)
    ∧ quiescent_NormRefIdeal (hNormRefIdeal := hNormRefIdeal)
    ∧ quiescent_Gla (hGla := hGla)
    ∧ quiescent_GlaIdeal (hGlaIdeal := hGlaIdeal)
    ∧ preserves_InProjBwd_InProjBwdIdeal
    ∧ algebraic_InProjBwdIdeal_InProjRefIdeal_pre_finite_in_proj (hInProjBwdIdeal := hInProjBwdIdeal) (hInProjRefIdeal := hInProjRefIdeal) (hPre_finite_in_proj := hPre_finite_in_proj)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_MixFwd_MixFwdIdeal
    ∧ algebraic_MixFwdIdeal_MixFwdRefIdeal (hMixFwdIdeal := hMixFwdIdeal) (hMixFwdRefIdeal := hMixFwdRefIdeal)
    ∧ preserves_Norm_NormIdeal
    ∧ algebraic_NormIdeal_NormRefIdeal (hNormIdeal := hNormIdeal) (hNormRefIdeal := hNormRefIdeal)
    ∧ preserves_Gla_GlaIdeal
-- ==== Pre_finite_ffn.lean ====
abbrev S8192x1024 : Shape := ⟨2, ![8192, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x1024x2816 .f32) (main_arg5 : FVec F S1x1024x2816 .f32) (main_arg6 : FVec F S1x2816x1024 .f32) (main_v3 : IVec S_ 1) (main_v7 : IVec S_ 1) (main_v11 : IVec S_ 1) (main_v15 : IVec S_ 1) : IVec S_ 1 :=
  let main_v16 : FVec F S1x1024x2816 .f32 := Host.absf main_arg4
  let main_cst_6 : FVec F S_ .f32 := constant S_ .f32 0x7F800000#32
  let main_v17 : FVec F S1x1024x2816 .f32 := broadcastInDim S1x1024x2816 ![] bcast_S_S1x1024x2816 main_cst_6
  let main_v18 : IVec S1x1024x2816 1 := cmpf .olt main_v16 main_v17
  let main_c_7 : IVec S_ 1 := constantI S_ 1 1#1
  let main_v19 : IVec S_ 1 := (fun x v => Host.reduce IntOp.andi x v reducesTo_S1x1024x2816_S_d0_1_2 h_S_) main_v18 main_c_7
  let main_v20 : FVec F S1x1024x2816 .f32 := Host.absf main_arg5
  let main_cst_8 : FVec F S_ .f32 := constant S_ .f32 0x7F800000#32
  let main_v21 : FVec F S1x1024x2816 .f32 := broadcastInDim S1x1024x2816 ![] bcast_S_S1x1024x2816 main_cst_8
  let main_v22 : IVec S1x1024x2816 1 := cmpf .olt main_v20 main_v21
  let main_c_9 : IVec S_ 1 := constantI S_ 1 1#1
  let main_v23 : IVec S_ 1 := (fun x v => Host.reduce IntOp.andi x v reducesTo_S1x1024x2816_S_d0_1_2 h_S_) main_v22 main_c_9
  let main_v24 : FVec F S1x2816x1024 .f32 := Host.absf main_arg6
  let main_cst_10 : FVec F S_ .f32 := constant S_ .f32 0x7F800000#32
  let main_v25 : FVec F S1x2816x1024 .f32 := broadcastInDim S1x2816x1024 ![] bcast_S_S1x2816x1024 main_cst_10
  let main_v26 : IVec S1x2816x1024 1 := cmpf .olt main_v24 main_v25
  let main_c_11 : IVec S_ 1 := constantI S_ 1 1#1
  let main_v27 : IVec S_ 1 := (fun x v => Host.reduce IntOp.andi x v reducesTo_S1x2816x1024_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S8192x1024 .f32) (main_arg2 : FVec F S1x1024 .f32) (main_arg3 : FVec F S1024 .f32) (main_arg4 : FVec F S1x1024x2816 .f32) (main_arg5 : FVec F S1x1024x2816 .f32) (main_arg6 : FVec F S1x2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg6 main_v3 main_v7 main_v11 main_v15
-- ==== Pre_finite_in_proj.lean ====
abbrev S1x8192x1024 : Shape := ⟨3, ![1, 8192, 1024]⟩
abbrev S1x1024 : Shape := ⟨2, ![1, 1024]⟩
abbrev S1x1024x2592 : Shape := ⟨3, ![1, 1024, 2592]⟩
abbrev S8192x1024 : Shape := ⟨2, ![8192, 1024]⟩
abbrev S8192x256 : Shape := ⟨2, ![8192, 256]⟩
abbrev S8192x512 : Shape := ⟨2, ![8192, 512]⟩
abbrev S8192x16 : Shape := ⟨2, ![8192, 16]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2592 : S_.BroadcastsInDim S1x1024x2592 (![] : Fin 0 → Fin S1x1024x2592.rank)
  reducesTo_S1x1024x2592_S_d0_1_2 : S1x1024x2592.ReducesTo [0, 1, 2] S_
  bitsLt_bf16_f32 : FTy.bits .bf16 < FTy.bits .f32
  bcast_S_S8192x256 : S_.BroadcastsInDim S8192x256 (![] : Fin 0 → Fin S8192x256.rank)
  reducesTo_S8192x256_S_d0_1 : S8192x256.ReducesTo [0, 1] S_
  bcast_S_S8192x512 : S_.BroadcastsInDim S8192x512 (![] : Fin 0 → Fin S8192x512.rank)
  reducesTo_S8192x512_S_d0_1 : S8192x512.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part4 {F : FTy → Type} [FloatOps F] (main_v11 : IVec S_ 1) (main_v16 : IVec S_ 1) (main_v21 : IVec S_ 1) (main_v26 : IVec S_ 1) (main_v31 : IVec S_ 1) (main_v36 : IVec S_ 1) (main_v41 : IVec S_ 1) (main_v46 : IVec S_ 1) (main_v51 : IVec S_ 1) (main_v56 : IVec S_ 1) (main_v61 : IVec S_ 1) (main_v66 : IVec S_ 1) (main_v67 : IVec S_ 1) : IVec S_ 1 :=
  let main_v68 : IVec S_ 1 := andi main_v67 main_v11
  let main_v69 : IVec S_ 1 := andi main_v68 main_v16
  let main_v70 : IVec S_ 1 := andi main_v69 main_v21
  let main_v71 : IVec S_ 1 := andi main_v70 main_v26
  let main_v72 : IVec S_ 1 := andi main_v71 main_v31
  let main_v73 : IVec S_ 1 := andi main_v72 main_v36
  let main_v74 : IVec S_ 1 := andi main_v73 main_v41
  let main_v75 : IVec S_ 1 := andi main_v74 main_v46
  let main_v76 : IVec S_ 1 := andi main_v75 main_v51
  let main_v77 : IVec S_ 1 := andi main_v76 main_v56
  let main_v78 : IVec S_ 1 := andi main_v77 main_v61
  let main_v79 : IVec S_ 1 := andi main_v78 main_v66
  main_v79

def fn_part3 {F : FTy → Type} [FloatOps F] (main_arg12 : FVec F S8192x512 .bf16) (main_arg13 : FVec F S8192x16 .bf16) (main_arg14 : FVec F S8192x16 .bf16) (main_v3 : IVec S_ 1) (main_v7 : IVec S_ 1) (main_v11 : IVec S_ 1) (main_v16 : IVec S_ 1) (main_v21 : IVec S_ 1) (main_v26 : IVec S_ 1) (main_v31 : IVec S_ 1) (main_v36 : IVec S_ 1) (main_v41 : IVec S_ 1) (main_v46 : IVec S_ 1) (main_v50 : IVec S8192x512 1) : IVec S_ 1 :=
  let main_c_19 : IVec S_ 1 := constantI S_ 1 1#1
  let main_v51 : IVec S_ 1 := (fun x v => Host.reduce IntOp.andi x v reducesTo_S8192x512_S_d0_1 h_S_) main_v50 main_c_19
  let main_v52 : FVec F S8192x512 .f32 := (extf .f32 · bitsLt_bf16_f32) main_arg12
  let main_v53 : FVec F S8192x512 .f32 := Host.absf main_v52
  let main_cst_20 : FVec F S_ .f32 := constant S_ .f32 0x7F800000#32
  let main_v54 : FVec F S8192x512 .f32 := broadcastInDim S8192x512 ![] bcast_S_S8192x512 main_cst_20
  let main_v55 : IVec S8192x512 1 := cmpf .olt main_v53 main_v54
  let main_c_21 : IVec S_ 1 := constantI S_ 1 1#1
  let main_v56 : IVec S_ 1 := (fun x v => Host.reduce IntOp.andi x v reducesTo_S8192x512_S_d0_1 h_S_) main_v55 main_c_21
  let main_v57 : FVec F S8192x16 .f32 := (extf .f32 · bitsLt_bf16_f32) main_arg13
  let main_v58 : FVec F S8192x16 .f32 := Host.absf main_v57
  let main_cst_22 : FVec F S_ .f32 := constant S_ .f32 0x7F800000#32
  let main_v59 : FVec F S8192x16 .f32 := broadcastInDim S8192x16 ![] bcast_S_S8192x16 main_cst_22
  let main_v60 : IVec S8192x16 1 := cmpf .olt main_v58 main_v59
  let main_c_23 : IVec S_ 1 := constantI S_ 1 1#1
  let main_v61 : IVec S_ 1 := (fun x v => Host.reduce IntOp.andi x v reducesTo_S8192x16_S_d0_1 h_S_) main_v60 main_c_23
  let main_v62 : FVec F S8192x16 .f32 := (extf .f32 · bitsLt_bf16_f32) main_arg14
  let main_v63 : FVec F S8192x16 .f32 := Host.absf main_v62
  let main_cst_24 : FVec F S_ .f32 := constant S_ .f32 0x7F800000#32
  let main_v64 : FVec F S8192x16 .f32 := broadcastInDim S8192x16 ![] bcast_S_S8192x16 main_cst_24
  let main_v65 : IVec S8192x16 1 := cmpf .olt main_v63 main_v64
  let main_c_25 : IVec S_ 1 := constantI S_ 1 1#1
  let main_v66 : IVec S_ 1 := (fun x v => Host.reduce IntOp.andi x v reducesTo_S8192x16_S_d0_1 h_S_) main_v65 main_c_25
  let main_v67 : IVec S_ 1 := andi main_v3 main_v7
  fn_part4 (F := F) main_v11 main_v16 main_v21 main_v26 main_v31 main_v36 main_v41 main_v46 main_v51 main_v56 main_v61 main_v66 main_v67

def fn_part2 {F : FTy → Type} [FloatOps F] (main_arg9 : FVec F S8192x512 .bf16) (main_arg10 : FVec F S8192x512 .bf16) (main_arg11 : FVec F S8192x512 .bf16) (main_arg12 : FVec F S8192x512 .bf16) (main_arg13 : FVec F S8192x16 .bf16) (main_arg14 : FVec F S8192x16 .bf16) (main_v3 : IVec S_ 1) (main_v7 : IVec S_ 1) (main_v11 : IVec S_ 1) (main_v16 : IVec S_ 1) (main_v21 : IVec S_ 1) (main_v26 : IVec S_ 1) (main_v31 : IVec S_ 1) (main_v33 : FVec F S8192x512 .f32) : IVec S_ 1 :=
  let main_cst_12 : FVec F S_ .f32 := constant S_ .f32 0x7F800000#32
  let main_v34 : FVec F S8192x512 .f32 := broadcastInDim S8192x512 ![] bcast_S_S8192x512 main_cst_12
  let main_v35 : IVec S8192x512 1 := cmpf .olt main_v33 main_v34
  let main_c_13 : IVec S_ 1 := constantI S_ 1 1#1
  let main_v36 : IVec S_ 1 := (fun x v => Host.reduce IntOp.andi x v reducesTo_S8192x512_S_d0_1 h_S_) main_v35 main_c_13
  let main_v37 : FVec F S8192x512 .f32 := (extf .f32 · bitsLt_bf16_f32) main_arg9
  let main_v38 : FVec F S8192x512 .f32 := Host.absf main_v37
  let main_cst_14 : FVec F S_ .f32 := constant S_ .f32 0x7F800000#32
  let main_v39 : FVec F S8192x512 .f32 := broadcastInDim S8192x512 ![] bcast_S_S8192x512 main_cst_14
  let main_v40 : IVec S8192x512 1 := cmpf .olt main_v38 main_v39
  let main_c_15 : IVec S_ 1 := constantI S_ 1 1#1
  let main_v41 : IVec S_ 1 := (fun x v => Host.reduce IntOp.andi x v reducesTo_S8192x512_S_d0_1 h_S_) main_v40 main_c_15
  let main_v42 : FVec F S8192x512 .f32 := (extf .f32 · bitsLt_bf16_f32) main_arg10
  let main_v43 : FVec F S8192x512 .f32 := Host.absf main_v42
  let main_cst_16 : FVec F S_ .f32 := constant S_ .f32 0x7F800000#32
  let main_v44 : FVec F S8192x512 .f32 := broadcastInDim S8192x512 ![] bcast_S_S8192x512 main_cst_16
  let main_v45 : IVec S8192x512 1 := cmpf .olt main_v43 main_v44
  let main_c_17 : IVec S_ 1 := constantI S_ 1 1#1
  let main_v46 : IVec S_ 1 := (fun x v => Host.reduce IntOp.andi x v reducesTo_S8192x512_S_d0_1 h_S_) main_v45 main_c_17
  let main_v47 : FVec F S8192x512 .f32 := (extf .f32 · bitsLt_bf16_f32) main_arg11
  let main_v48 : FVec F S8192x512 .f32 := Host.absf main_v47
  let main_cst_18 : FVec F S_ .f32 := constant S_ .f32 0x7F800000#32
  let main_v49 : FVec F S8192x512 .f32 := broadcastInDim S8192x512 ![] bcast_S_S8192x512 main_cst_18
  let main_v50 : IVec S8192x512 1 := cmpf .olt main_v48 main_v49
  fn_part3 (F := F) main_arg12 main_arg13 main_arg14 main_v3 main_v7 main_v11 main_v16 main_v21 main_v26 main_v31 main_v36 main_v41 main_v46 main_v50

def fn_part1 {F : FTy → Type} [FloatOps F] (main_arg5 : FVec F S8192x256 .bf16) (main_arg6 : FVec F S8192x256 .bf16) (main_arg7 : FVec F S8192x256 .bf16) (main_arg8 : FVec F S8192x512 .bf16) (main_arg9 : FVec F S8192x512 .bf16) (main_arg10 : FVec F S8192x512 .bf16) (main_arg11 : FVec F S8192x512 .bf16) (main_arg12 : FVec F S8192x512 .bf16) (main_arg13 : FVec F S8192x16 .bf16) (main_arg14 : FVec F S8192x16 .bf16) (main_v3 : IVec S_ 1) (main_v7 : IVec S_ 1) (main_v11 : IVec S_ 1) (main_v15 : IVec S8192x256 1) (main_c_5 : IVec S_ 1) : IVec S_ 1 :=
  let main_v16 : IVec S_ 1 := (fun x v => Host.reduce IntOp.andi x v reducesTo_S8192x256_S_d0_1 h_S_) main_v15 main_c_5
  let main_v17 : FVec F S8192x256 .f32 := (extf .f32 · bitsLt_bf16_f32) main_arg5
  let main_v18 : FVec F S8192x256 .f32 := Host.absf main_v17
  let main_cst_6 : FVec F S_ .f32 := constant S_ .f32 0x7F800000#32
  let main_v19 : FVec F S8192x256 .f32 := broadcastInDim S8192x256 ![] bcast_S_S8192x256 main_cst_6
  let main_v20 : IVec S8192x256 1 := cmpf .olt main_v18 main_v19
  let main_c_7 : IVec S_ 1 := constantI S_ 1 1#1
  let main_v21 : IVec S_ 1 := (fun x v => Host.reduce IntOp.andi x v reducesTo_S8192x256_S_d0_1 h_S_) main_v20 main_c_7
  let main_v22 : FVec F S8192x256 .f32 := (extf .f32 · bitsLt_bf16_f32) main_arg6
  let main_v23 : FVec F S8192x256 .f32 := Host.absf main_v22
  let main_cst_8 : FVec F S_ .f32 := constant S_ .f32 0x7F800000#32
  let main_v24 : FVec F S8192x256 .f32 := broadcastInDim S8192x256 ![] bcast_S_S8192x256 main_cst_8
  let main_v25 : IVec S8192x256 1 := cmpf .olt main_v23 main_v24
  let main_c_9 : IVec S_ 1 := constantI S_ 1 1#1
  let main_v26 : IVec S_ 1 := (fun x v => Host.reduce IntOp.andi x v reducesTo_S8192x256_S_d0_1 h_S_) main_v25 main_c_9
  let main_v27 : FVec F S8192x256 .f32 := (extf .f32 · bitsLt_bf16_f32) main_arg7
  let main_v28 : FVec F S8192x256 .f32 := Host.absf main_v27
  let main_cst_10 : FVec F S_ .f32 := constant S_ .f32 0x7F800000#32
  let main_v29 : FVec F S8192x256 .f32 := broadcastInDim S8192x256 ![] bcast_S_S8192x256 main_cst_10
  let main_v30 : IVec S8192x256 1 := cmpf .olt main_v28 main_v29
  let main_c_11 : IVec S_ 1 := constantI S_ 1 1#1
  let main_v31 : IVec S_ 1 := (fun x v => Host.reduce IntOp.andi x v reducesTo_S8192x256_S_d0_1 h_S_) main_v30 main_c_11
  let main_v32 : FVec F S8192x512 .f32 := (extf .f32 · bitsLt_bf16_f32) main_arg8
  let main_v33 : FVec F S8192x512 .f32 := Host.absf main_v32
  fn_part2 (F := F) main_arg9 main_arg10 main_arg11 main_arg12 main_arg13 main_arg14 main_v3 main_v7 main_v11 main_v16 main_v21 main_v26 main_v31 main_v33

def fn {F : FTy → Type} [FloatOps F] (main_arg0 : FVec F S1x8192x1024 .f32) (main_arg1 : FVec F S1x1024 .f32) (main_arg2 : FVec F S1x1024x2592 .f32) (main_arg3 : FVec F S8192x1024 .f32) (main_arg4 : FVec F S8192x256 .bf16) (main_arg5 : FVec F S8192x256 .bf16) (main_arg6 : FVec F S8192x256 .bf16) (main_arg7 : FVec F S8192x256 .bf16) (main_arg8 : FVec F S8192x512 .bf16) (main_arg9 : FVec F S8192x512 .bf16) (main_arg10 : FVec F S8192x512 .bf16) (main_arg11 : FVec F S8192x512 .bf16) (main_arg12 : FVec F S8192x512 .bf16) (main_arg13 : FVec F S8192x16 .bf16) (main_arg14 : FVec F S8192x16 .bf16) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x2592 .f32 := Host.absf main_arg2
  let main_cst_2 : FVec F S_ .f32 := constant S_ .f32 0x7F800000#32
  let main_v9 : FVec F S1x1024x2592 .f32 := broadcastInDim S1x1024x2592 ![] bcast_S_S1x1024x2592 main_cst_2
  let main_v10 : IVec S1x1024x2592 1 := cmpf .olt main_v8 main_v9
  let main_c_3 : IVec S_ 1 := constantI S_ 1 1#1
  let main_v11 : IVec S_ 1 := (fun x v => Host.reduce IntOp.andi x v reducesTo_S1x1024x2592_S_d0_1_2 h_S_) main_v10 main_c_3
  let main_v12 : FVec F S8192x256 .f32 := (extf .f32 · bitsLt_bf16_f32) main_arg4
  let main_v13 : FVec F S8192x256 .f32 := Host.absf main_v12
  let main_cst_4 : FVec F S_ .f32 := constant S_ .f32 0x7F800000#32
  let main_v14 : FVec F S8192x256 .f32 := broadcastInDim S8192x256 ![] bcast_S_S8192x256 main_cst_4
  let main_v15 : IVec S8192x256 1 := cmpf .olt main_v13 main_v14
  let main_c_5 : IVec S_ 1 := constantI S_ 1 1#1
  fn_part1 (F := F) main_arg5 main_arg6 main_arg7 main_arg8 main_arg9 main_arg10 main_arg11 main_arg12 main_arg13 main_arg14 main_v3 main_v7 main_v11 main_v15 main_c_5
-- ==== Pre_finite_mix.lean ====
abbrev S8192x1024 : Shape := ⟨2, ![8192, 1024]⟩
abbrev S8192x512 : Shape := ⟨2, ![8192, 512]⟩
abbrev S8192x2592 : Shape := ⟨2, ![8192, 2592]⟩
abbrev S1x512 : Shape := ⟨2, ![1, 512]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bitsLt_bf16_f32 : FTy.bits .bf16 < FTy.bits .f32
  bcast_S_S8192x2592 : S_.BroadcastsInDim S8192x2592 (![] : Fin 0 → Fin S8192x2592.rank)
  reducesTo_S8192x2592_S_d0_1 : S8192x2592.ReducesTo [0, 1] S_
  bcast_S_S1x512 : S_.BroadcastsInDim S1x512 (![] : Fin 0 → Fin S1x512.rank)
  reducesTo_S1x512_S_d0_1 : S1x512.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part2 {F : FTy → Type} [FloatOps F] (main_arg8 : FVec F S1x4x128 .f32) (main_arg9 : FVec F S1x1024x1024 .f32) (main_v3 : IVec S_ 1) (main_v7 : IVec S_ 1) (main_v11 : IVec S_ 1) (main_v16 : IVec S_ 1) (main_v20 : IVec S_ 1) (main_v24 : IVec S_ 1) (main_v28 : IVec S_ 1) (main_v31 : IVec S1x4x128x128 1) (main_c_13 : IVec S_ 1) : IVec S_ 1 :=
  let main_v32 : IVec S_ 1 := (fun x v => Host.reduce IntOp.andi x v reducesTo_S1x4x128x128_S_d0_1_2_3 h_S_) main_v31 main_c_13
  let main_v33 : FVec F S1x4x128 .f32 := Host.absf main_arg8
  let main_cst_14 : FVec F S_ .f32 := constant S_ .f32 0x7F800000#32
  let main_v34 : FVec F S1x4x128 .f32 := broadcastInDim S1x4x128 ![] bcast_S_S1x4x128 main_cst_14
  let main_v35 : IVec S1x4x128 1 := cmpf .olt main_v33 main_v34
  let main_c_15 : IVec S_ 1 := constantI S_ 1 1#1
  let main_v36 : IVec S_ 1 := (fun x v => Host.reduce IntOp.andi x v reducesTo_S1x4x128_S_d0_1_2 h_S_) main_v35 main_c_15
  let main_v37 : FVec F S1x1024x1024 .f32 := Host.absf main_arg9
  let main_cst_16 : FVec F S_ .f32 := constant S_ .f32 0x7F800000#32
  let main_v38 : FVec F S1x1024x1024 .f32 := broadcastInDim S1x1024x1024 ![] bcast_S_S1x1024x1024 main_cst_16
  let main_v39 : IVec S1x1024x1024 1 := cmpf .olt main_v37 main_v38
  let main_c_17 : IVec S_ 1 := constantI S_ 1 1#1
  let main_v40 : IVec S_ 1 := (fun x v => Host.reduce IntOp.andi x v reducesTo_S1x1024x1024_S_d0_1_2 h_S_) main_v39 main_c_17
  let main_v41 : IVec S_ 1 := andi main_v3 main_v7
  let main_v42 : IVec S_ 1 := andi main_v41 main_v11
  let main_v43 : IVec S_ 1 := andi main_v42 main_v16
  let main_v44 : IVec S_ 1 := andi main_v43 main_v20
  let main_v45 : IVec S_ 1 := andi main_v44 main_v24
  let main_v46 : IVec S_ 1 := andi main_v45 main_v28
  let main_v47 : IVec S_ 1 := andi main_v46 main_v32
  let main_v48 : IVec S_ 1 := andi main_v47 main_v36
  let main_v49 : IVec S_ 1 := andi main_v48 main_v40
  main_v49

def fn_part1 {F : FTy → Type} [FloatOps F] (main_arg4 : FVec F S1x512 .f32) (main_arg5 : FVec F S1x512 .f32) (main_arg6 : FVec F S1x512 .f32) (main_arg7 : FVec F S1x4x128x128 .f32) (main_arg8 : FVec F S1x4x128 .f32) (main_arg9 : FVec F S1x1024x1024 .f32) (main_v3 : IVec S_ 1) (main_v7 : IVec S_ 1) (main_v11 : IVec S_ 1) (main_v15 : IVec S8192x2592 1) (main_c_5 : IVec S_ 1) : IVec S_ 1 :=
  let main_v16 : IVec S_ 1 := (fun x v => Host.reduce IntOp.andi x v reducesTo_S8192x2592_S_d0_1 h_S_) main_v15 main_c_5
  let main_v17 : FVec F S1x512 .f32 := Host.absf main_arg4
  let main_cst_6 : FVec F S_ .f32 := constant S_ .f32 0x7F800000#32
  let main_v18 : FVec F S1x512 .f32 := broadcastInDim S1x512 ![] bcast_S_S1x512 main_cst_6
  let main_v19 : IVec S1x512 1 := cmpf .olt main_v17 main_v18
  let main_c_7 : IVec S_ 1 := constantI S_ 1 1#1
  let main_v20 : IVec S_ 1 := (fun x v => Host.reduce IntOp.andi x v reducesTo_S1x512_S_d0_1 h_S_) main_v19 main_c_7
  let main_v21 : FVec F S1x512 .f32 := Host.absf main_arg5
  let main_cst_8 : FVec F S_ .f32 := constant S_ .f32 0x7F800000#32
  let main_v22 : FVec F S1x512 .f32 := broadcastInDim S1x512 ![] bcast_S_S1x512 main_cst_8
  let main_v23 : IVec S1x512 1 := cmpf .olt main_v21 main_v22
  let main_c_9 : IVec S_ 1 := constantI S_ 1 1#1
  let main_v24 : IVec S_ 1 := (fun x v => Host.reduce IntOp.andi x v reducesTo_S1x512_S_d0_1 h_S_) main_v23 main_c_9
  let main_v25 : FVec F S1x512 .f32 := Host.absf main_arg6
  let main_cst_10 : FVec F S_ .f32 := constant S_ .f32 0x7F800000#32
  let main_v26 : FVec F S1x512 .f32 := broadcastInDim S1x512 ![] bcast_S_S1x512 main_cst_10
  let main_v27 : IVec S1x512 1 := cmpf .olt main_v25 main_v26
  let main_c_11 : IVec S_ 1 := constantI S_ 1 1#1
  let main_v28 : IVec S_ 1 := (fun x v => Host.reduce IntOp.andi x v reducesTo_S1x512_S_d0_1 h_S_) main_v27 main_c_11
  let main_v29 : FVec F S1x4x128x128 .f32 := Host.absf main_arg7
  let main_cst_12 : FVec F S_ .f32 := constant S_ .f32 0x7F800000#32
  let main_v30 : FVec F S1x4x128x128 .f32 := broadcastInDim S1x4x128x128 ![] bcast_S_S1x4x128x128 main_cst_12
  let main_v31 : IVec S1x4x128x128 1 := cmpf .olt main_v29 main_v30
  let main_c_13 : IVec S_ 1 := constantI S_ 1 1#1
  fn_part2 (F := F) main_arg8 main_arg9 main_v3 main_v7 main_v11 main_v16 main_v20 main_v24 main_v28 main_v31 main_c_13

def fn {F : FTy → Type} [FloatOps F] (main_arg0 : FVec F S8192x1024 .f32) (main_arg1 : FVec F S8192x512 .f32) (main_arg2 : FVec F S8192x512 .f32) (main_arg3 : FVec F S8192x2592 .bf16) (main_arg4 : FVec F S1x512 .f32) (main_arg5 : FVec F S1x512 .f32) (main_arg6 : FVec F S1x512 .f32) (main_arg7 : FVec F S1x4x128x128 .f32) (main_arg8 : FVec F S1x4x128 .f32) (main_arg9 : FVec F S1x1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S8192x2592 .f32 := (extf .f32 · bitsLt_bf16_f32) main_arg3
  let main_v13 : FVec F S8192x2592 .f32 := Host.absf main_v12
  let main_cst_4 : FVec F S_ .f32 := constant S_ .f32 0x7F800000#32
  let main_v14 : FVec F S8192x2592 .f32 := broadcastInDim S8192x2592 ![] bcast_S_S8192x2592 main_cst_4
  let main_v15 : IVec S8192x2592 1 := cmpf .olt main_v13 main_v14
  let main_c_5 : IVec S_ 1 := constantI S_ 1 1#1
  fn_part1 (F := F) main_arg4 main_arg5 main_arg6 main_arg7 main_arg8 main_arg9 main_v3 main_v7 main_v11 main_v15 main_c_5
-- ==== InProjBwd.lean ====
abbrev S1x8192x1024 : Shape := ⟨3, ![1, 8192, 1024]⟩
abbrev S1x1024 : Shape := ⟨2, ![1, 1024]⟩
abbrev S1x1024x2592 : Shape := ⟨3, ![1, 1024, 2592]⟩
abbrev S8192x1024 : Shape := ⟨2, ![8192, 1024]⟩
abbrev S8192x256 : Shape := ⟨2, ![8192, 256]⟩
abbrev S8192x512 : Shape := ⟨2, ![8192, 512]⟩
abbrev S8192x16 : Shape := ⟨2, ![8192, 16]⟩
abbrev S1024x2592 : Shape := ⟨2, ![1024, 2592]⟩
abbrev S2592x1024 : Shape := ⟨2, ![2592, 1024]⟩
abbrev S_ : Shape := ⟨0, ![]⟩
abbrev S8192x128 : Shape := ⟨2, ![8192, 128]⟩
abbrev S8192x2688 : Shape := ⟨2, ![8192, 2688]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S512x2688 : Shape := ⟨2, ![512, 2688]⟩
abbrev S512x1536 : Shape := ⟨2, ![512, 1536]⟩
abbrev S1536x1024 : Shape := ⟨2, ![1536, 1024]⟩
abbrev S1024x1024 : Shape := ⟨2, ![1024, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 28
  | .vmem => 33
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2592, .f32⟩
  | .hbm, ⟨3, _⟩ => ⟨S8192x1024, .f32⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x256, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x16, .bf16⟩
  | .hbm, ⟨14, _⟩ => ⟨S8192x16, .bf16⟩
  | .hbm, ⟨15, _⟩ => ⟨S8192x1024, .f32⟩
  | .hbm, ⟨16, _⟩ => ⟨S1024x2592, .f32⟩
  | .hbm, ⟨17, _⟩ => ⟨S2592x1024, .f32⟩
  | .hbm, ⟨18, _⟩ => ⟨S2592x1024, .bf16⟩
  | .hbm, ⟨19, _⟩ => ⟨S_, .i32⟩
  | .hbm, ⟨20, _⟩ => ⟨S_, .bf16⟩
  | .hbm, ⟨21, _⟩ => ⟨S8192x128, .bf16⟩
  | .hbm, ⟨22, _⟩ => ⟨S_, .i32⟩
  | .hbm, ⟨23, _⟩ => ⟨S_, .bf16⟩
  | .hbm, ⟨24, _⟩ => ⟨S8192x128, .bf16⟩
  | .hbm, ⟨25, _⟩ => ⟨S8192x1024, .f32⟩
  | .hbm, ⟨26, _⟩ => ⟨S8192x2688, .bf16⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S2592x1024, .bf16⟩
  | .local _ .vmem, ⟨28, _⟩ => ⟨S512x1024, .f32⟩
  | .local _ .vmem, ⟨29, _⟩ => ⟨S512x1024, .f32⟩
  | .local _ .vmem, ⟨30, _⟩ => ⟨S512x2688, .bf16⟩
  | .local _ .vmem, ⟨31, _⟩ => ⟨S512x2688, .bf16⟩
  | .local _ .vmem, ⟨32, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_v0 : Ref sig .tc := ⟨.hbm, 20, rfl⟩
abbrev main_v4 : Ref sig .tc := ⟨.hbm, 21, rfl⟩
abbrev main_c_0 : Ref sig .tc := ⟨.hbm, 22, rfl⟩
abbrev main_call1_v0 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev main_v6_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2592x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2688 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== InProjRefIdeal.lean ====
abbrev S1x8192x1024 : Shape := ⟨3, ![1, 8192, 1024]⟩
abbrev S1x1024 : Shape := ⟨2, ![1, 1024]⟩
abbrev S1x1024x2592 : Shape := ⟨3, ![1, 1024, 2592]⟩
abbrev S8192x1024 : Shape := ⟨2, ![8192, 1024]⟩
abbrev S8192x256 : Shape := ⟨2, ![8192, 256]⟩
abbrev S8192x512 : Shape := ⟨2, ![8192, 512]⟩
abbrev S8192x16 : Shape := ⟨2, ![8192, 16]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2592 : Shape := ⟨2, ![1024, 2592]⟩
abbrev S8192x2592 : Shape := ⟨2, ![8192, 2592]⟩
abbrev S8192x1536 : Shape := ⟨2, ![8192, 1536]⟩
abbrev S8192x32 : Shape := ⟨2, ![8192, 32]⟩
abbrev S8192x96 : Shape := ⟨2, ![8192, 96]⟩
abbrev S8192x2688 : Shape := ⟨2, ![8192, 2688]⟩

abbrev nBuf : Space → Nat
  | .hbm => 99
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2592, .f32⟩
  | .hbm, ⟨3, _⟩ => ⟨S8192x1024, .f32⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x256, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x16, .bf16⟩
  | .hbm, ⟨14, _⟩ => ⟨S8192x16, .bf16⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x16, .f32⟩
  | .hbm, ⟨25, _⟩ => ⟨S8192x16, .f32⟩
  | .hbm, ⟨26, _⟩ => ⟨S8192x1024, .f32⟩
  | .hbm, ⟨27, _⟩ => ⟨S1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S1024x2592, .f32⟩
  | .hbm, ⟨49, _⟩ => ⟨S8192x2592, .f32⟩
  | .hbm, ⟨50, _⟩ => ⟨S8192x256, .f32⟩
  | .hbm, ⟨51, _⟩ => ⟨S8192x256, .f32⟩
  | .hbm, ⟨52, _⟩ => ⟨S8192x512, .f32⟩
  | .hbm, ⟨53, _⟩ => ⟨S8192x512, .f32⟩
  | .hbm, ⟨54, _⟩ => ⟨S8192x16, .f32⟩
  | .hbm, ⟨55, _⟩ => ⟨S8192x16, .f32⟩
  | .hbm, ⟨56, _⟩ => ⟨S8192x1024, .f32⟩
  | .hbm, ⟨57, _⟩ => ⟨S8192x512, .f32⟩
  | .hbm, ⟨58, _⟩ => ⟨S8192x512, .f32⟩
  | .hbm, ⟨59, _⟩ => ⟨S8192x256, .f32⟩
  | .hbm, ⟨60, _⟩ => ⟨S8192x256, .f32⟩
  | .hbm, ⟨61, _⟩ => ⟨S8192x512, .f32⟩
  | .hbm, ⟨62, _⟩ => ⟨S8192x1024, .f32⟩
  | .hbm, ⟨63, _⟩ => ⟨S8192x2592, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1536, .f32⟩
  | .hbm, ⟨92, _⟩ => ⟨S8192x1024, .f32⟩
  | .hbm, ⟨93, _⟩ => ⟨S8192x32, .f32⟩
  | .hbm, ⟨94, _⟩ => ⟨S_, .f32⟩
  | .hbm, ⟨95, _⟩ => ⟨S8192x96, .f32⟩
  | .hbm, ⟨96, _⟩ => ⟨S8192x2688, .f32⟩
  | .hbm, ⟨97, _⟩ => ⟨S8192x2688, .bf16⟩
  | .hbm, ⟨98, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_4 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S8192x2816 : Shape := ⟨2, ![8192, 2816]⟩
abbrev S8x128 : Shape := ⟨2, ![8, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 25
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1024x2816, .f32⟩
  | .hbm, ⟨12, _⟩ => ⟨S2816x1024, .f32⟩
  | .hbm, ⟨13, _⟩ => ⟨S2816x1024, .bf16⟩
  | .hbm, ⟨14, _⟩ => ⟨S2816x1024, .f32⟩
  | .hbm, ⟨15, _⟩ => ⟨S2816x1024, .bf16⟩
  | .hbm, ⟨16, _⟩ => ⟨S8192x1024, .f32⟩
  | .hbm, ⟨17, _⟩ => ⟨S8192x1024, .bf16⟩
  | .hbm, ⟨18, _⟩ => ⟨S8192x2816, .bf16⟩
  | .hbm, ⟨19, _⟩ => ⟨S8192x2816, .bf16⟩
  | .hbm, ⟨20, _⟩ => ⟨S8192x2816, .bf16⟩
  | .hbm, ⟨21, _⟩ => ⟨S8192x1024, .bf16⟩
  | .hbm, ⟨22, _⟩ => ⟨S8x128, .f32⟩
  | .hbm, ⟨23, _⟩ => ⟨S1x1024, .f32⟩
  | .hbm, ⟨24, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | .local _ .vmem, ⟨21, _⟩ => ⟨S8x128, .f32⟩
  | .local _ .vmem, ⟨22, _⟩ => ⟨S1x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev main_v9_8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FfnRefIdeal.lean ====
abbrev S8192x1024 : Shape := ⟨2, ![8192, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S2816x1024 : Shape := ⟨2, ![2816, 1024]⟩
abbrev S8x128 : Shape := ⟨2, ![8, 128]⟩

abbrev nBuf : Space → Nat
  | .hbm => 161
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024, .f32⟩
  | 4 => ⟨S1x1024x2816, .f32⟩
  | 5 => ⟨S1x1024x2816, .f32⟩
  | 6 => ⟨S1x2816x1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S1024x2816, .f32⟩
  | 29 => ⟨S8192x2816, .f32⟩
  | 30 => ⟨S1024x2816, .f32⟩
  | 31 => ⟨S8192x2816, .f32⟩
  | 32 => ⟨S8192x2816, .f32⟩
  | 33 => ⟨S8192x2816, .f32⟩
  | 34 => ⟨S_, .f32⟩
  | 35 => ⟨S8192x2816, .f32⟩
  | 36 => ⟨S8192x2816, .f32⟩
  | 37 => ⟨S_, .f32⟩
  | 38 => ⟨S8192x2816, .f32⟩
  | 39 => ⟨S8192x2816, .f32⟩
  | 40 => ⟨S_, .f32⟩
  | 41 => ⟨S8192x2816, .f32⟩
  | 42 => ⟨S8192x2816, .f32⟩
  | 43 => ⟨S8192x2816, .f32⟩
  | 44 => ⟨S8192x2816, .f32⟩
  | 45 => ⟨S8192x2816, .f32⟩
  | 46 => ⟨S2816x1024, .f32⟩
  | 47 => ⟨S8192x1024, .f32⟩
  | 48 => ⟨S8192x1024, .f32⟩
  | 49 => ⟨S8192x1024, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1024, .f32⟩
  | 65 => ⟨S8192x1024, .f32⟩
  | 66 => ⟨S1x1024, .f32⟩
  | 67 => ⟨S8192x1024, .f32⟩
  | 68 => ⟨S8192x1024, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S_, .f32⟩
  | 75 => ⟨S8192, .f32⟩
  | 76 => ⟨S_, .f32⟩
  | 77 => ⟨S8192, .f32⟩
  | 78 => ⟨S8192, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S8192, .f32⟩
  | 87 => ⟨S_, .f32⟩
  | 88 => ⟨S8192, .f32⟩
  | 89 => ⟨S8192, .f32⟩
  | 90 => ⟨S8192x1024, .f32⟩
  | 91 => ⟨S8192x1024, .f32⟩
  | 92 => ⟨S8192x1024, .f32⟩
  | 93 => ⟨S_, .f32⟩
  | 94 => ⟨S1024, .f32⟩
  | 95 => ⟨S1x1024, .f32⟩
  | 96 => ⟨S8192x1024, .f32⟩
  | 97 => ⟨S8192x1024, .f32⟩
  | 98 => ⟨S_, .f32⟩
  | 99 => ⟨S1024, .f32⟩
  | 100 => ⟨S8192x1024, .f32⟩
  | 101 => ⟨S_, .f32⟩
  | 102 => ⟨S8192, .f32⟩
  | 103 => ⟨S8192x1, .f32⟩
  | 104 => ⟨S8192x1024, .f32⟩
  | 105 => ⟨S8192x1024, .f32⟩
  | 106 => ⟨S8192x1, .f32⟩
  | 107 => ⟨S_, .f32⟩
  | 108 => ⟨S8192x1, .f32⟩
  | 109 => ⟨S8192x1, .f32⟩
  | 110 => ⟨S_, .f32⟩
  | 111 => ⟨S8192, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x2816, .f32⟩
  | 118 => ⟨S8192x2816, .f32⟩
  | 119 => ⟨S8192x2816, .f32⟩
  | 120 => ⟨S8192x2816, .f32⟩
  | 121 => ⟨S8192x2816, .f32⟩
  | 122 => ⟨S8192x2816, .f32⟩
  | 123 => ⟨S8192x2816, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S8192x1024, .f32⟩
  | 4 => ⟨S8192x1024, .f32⟩
  | 5 => ⟨S_, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S8192x1024, .f32⟩
  | 12 => ⟨S8192x1024, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .bf16⟩
  | 26 => ⟨S8192x2816, .bf16⟩
  | 27 => ⟨S8192x2816, .bf16⟩
  | 28 => ⟨S8192x2816, .bf16⟩
  | 29 => ⟨S8192x1024, .bf16⟩
  | 30 => ⟨S8x128, .f32⟩
  | 31 => ⟨S1x1024, .f32⟩
  | 32 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_cst_12 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_18 : Ref sig .tc := ⟨.hbm, 107, rfl⟩
abbrev main_v69 : Ref sig .tc := ⟨.hbm, 108, rfl⟩
abbrev main_v70 : Ref sig .tc := ⟨.hbm, 109, rfl⟩
abbrev main_cst_19 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_20 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_21 : Ref sig .tc := ⟨.hbm, 133, rfl⟩
abbrev main_v89 : Ref sig .tc := ⟨.hbm, 134, rfl⟩
abbrev main_v90 : Ref sig .tc := ⟨.hbm, 135, rfl⟩
abbrev main_cst_22 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_23 : Ref sig .tc := ⟨.hbm, 142, rfl⟩
abbrev main_v96 : Ref sig .tc := ⟨.hbm, 143, rfl⟩
abbrev main_v97 : Ref sig .tc := ⟨.hbm, 144, rfl⟩
abbrev main_cst_24 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩

abbrev nD : Nat := 1
abbrev τ : Topo := Topo.v7x

variable {F : FTy → Type} [FloatOps F]
-- ==== Mix.lean ====
abbrev S8192x1024 : Shape := ⟨2, ![8192, 1024]⟩
abbrev S8192x512 : Shape := ⟨2, ![8192, 512]⟩
abbrev S8192x2592 : Shape := ⟨2, ![8192, 2592]⟩
abbrev S1x512 : Shape := ⟨2, ![1, 512]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S8192x1536 : Shape := ⟨2, ![8192, 1536]⟩
abbrev S8192x128 : Shape := ⟨2, ![8192, 128]⟩
abbrev S8192x2688 : Shape := ⟨2, ![8192, 2688]⟩
abbrev S8192x4x128 : Shape := ⟨3, ![8192, 4, 128]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S8192x4 : Shape := ⟨2, ![8192, 4]⟩
abbrev S8192x4x1 : Shape := ⟨3, ![8192, 4, 1]⟩
abbrev S8192 : Shape := ⟨1, ![8192]⟩
abbrev S8192x1 : Shape := ⟨2, ![8192, 1]⟩
abbrev S64x128x4x128 : Shape := ⟨4, ![64, 128, 4, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S4x128x1 : Shape := ⟨3, ![4, 128, 1]⟩
abbrev S1024x1024 : Shape := ⟨2, ![1024, 1024]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 116
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2592, .bf16⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x4x128x128, .f32⟩
  | .hbm, ⟨8, _⟩ => ⟨S1x4x128, .f32⟩
  | .hbm, ⟨9, _⟩ => ⟨S1x1024x1024, .f32⟩
  | .hbm, ⟨10, _⟩ => ⟨S8192x1536, .bf16⟩
  | .hbm, ⟨11, _⟩ => ⟨S8192x1024, .bf16⟩
  | .hbm, ⟨12, _⟩ => ⟨S8192x128, .bf16⟩
  | .hbm, ⟨13, _⟩ => ⟨S8192x2688, .bf16⟩
  | .hbm, ⟨14, _⟩ => ⟨S8192x2592, .f32⟩
  | .hbm, ⟨15, _⟩ => ⟨S8192x512, .f32⟩
  | .hbm, ⟨16, _⟩ => ⟨S8192x4x128, .f32⟩
  | .hbm, ⟨17, _⟩ => ⟨S8192x512, .f32⟩
  | .hbm, ⟨18, _⟩ => ⟨S8192x1024, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S4x128x128, .f32⟩
  | .hbm, ⟨23, _⟩ => ⟨S4x128, .f32⟩
  | .hbm, ⟨24, _⟩ => ⟨S8192x4x128, .f32⟩
  | .hbm, ⟨25, _⟩ => ⟨S_, .f32⟩
  | .hbm, ⟨26, _⟩ => ⟨S8192x4, .f32⟩
  | .hbm, ⟨27, _⟩ => ⟨S8192x4x1, .f32⟩
  | .hbm, ⟨28, _⟩ => ⟨S_, .f32⟩
  | .hbm, ⟨29, _⟩ => ⟨S8192x4x1, .f32⟩
  | .hbm, ⟨30, _⟩ => ⟨S8192x4x1, .f32⟩
  | .hbm, ⟨31, _⟩ => ⟨S_, .f32⟩
  | .hbm, ⟨32, _⟩ => ⟨S8192x4x1, .f32⟩
  | .hbm, ⟨33, _⟩ => ⟨S8192x4x1, .f32⟩
  | .hbm, ⟨34, _⟩ => ⟨S8192x4x1, .f32⟩
  | .hbm, ⟨35, _⟩ => ⟨S8192x4x128, .f32⟩
  | .hbm, ⟨36, _⟩ => ⟨S8192x4x128, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1, .f32⟩
  | .hbm, ⟨82, _⟩ => ⟨S8192x512, .f32⟩
  | .hbm, ⟨83, _⟩ => ⟨S8192x512, .f32⟩
  | .hbm, ⟨84, _⟩ => ⟨S1x512, .f32⟩
  | .hbm, ⟨85, _⟩ => ⟨S8192x512, .f32⟩
  | .hbm, ⟨86, _⟩ => ⟨S8192x512, .f32⟩
  | .hbm, ⟨87, _⟩ => ⟨S1x512, .f32⟩
  | .hbm, ⟨88, _⟩ => ⟨S8192x512, .f32⟩
  | .hbm, ⟨89, _⟩ => ⟨S8192x512, .f32⟩
  | .hbm, ⟨90, _⟩ => ⟨S64x128x4x128, .f32⟩
  | .hbm, ⟨91, _⟩ => ⟨S4x64x128x128, .f32⟩
  | .hbm, ⟨92, _⟩ => ⟨S64x128x4x128, .f32⟩
  | .hbm, ⟨93, _⟩ => ⟨S128x4, .f32⟩
  | .hbm, ⟨94, _⟩ => ⟨S1x128x4x1, .f32⟩
  | .hbm, ⟨95, _⟩ => ⟨S64x128x4x128, .f32⟩
  | .hbm, ⟨96, _⟩ => ⟨S64x128x4x128, .f32⟩
  | .hbm, ⟨97, _⟩ => ⟨S8192x512, .f32⟩
  | .hbm, ⟨98, _⟩ => ⟨S8192x512, .f32⟩
  | .hbm, ⟨99, _⟩ => ⟨S8192x1024, .f32⟩
  | .hbm, ⟨100, _⟩ => ⟨S8192x1024, .bf16⟩
  | .hbm, ⟨101, _⟩ => ⟨S4x128x128, .f32⟩
  | .hbm, ⟨102, _⟩ => ⟨S4x128, .f32⟩
  | .hbm, ⟨103, _⟩ => ⟨S4x128x1, .f32⟩
  | .hbm, ⟨104, _⟩ => ⟨S1024x1024, .f32⟩
  | .hbm, ⟨105, _⟩ => ⟨S1024x1024, .bf16⟩
  | .hbm, ⟨106, _⟩ => ⟨S8192x512, .bf16⟩
  | .hbm, ⟨107, _⟩ => ⟨S8192x512, .bf16⟩
  | .hbm, ⟨108, _⟩ => ⟨S8192x512, .bf16⟩
  | .hbm, ⟨109, _⟩ => ⟨S8192x512, .bf16⟩
  | .hbm, ⟨110, _⟩ => ⟨S1024x1024, .f32⟩
  | .hbm, ⟨111, _⟩ => ⟨S1x512, .f32⟩
  | .hbm, ⟨112, _⟩ => ⟨S1x512, .f32⟩
  | .hbm, ⟨113, _⟩ => ⟨S1x512, .f32⟩
  | .hbm, ⟨114, _⟩ => ⟨S4x128x128, .f32⟩
  | .hbm, ⟨115, _⟩ => ⟨S4x128x1, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S4x128x128, .f32⟩
  | .local _ .vmem, ⟨18, _⟩ => ⟨S4x128x1, .f32⟩
  | .local _ .vmem, ⟨19, _⟩ => ⟨S1024x1024, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S1024x1024, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S4x128x128, .f32⟩
  | .local _ .vmem, ⟨33, _⟩ => ⟨S4x128x1, .f32⟩
  | .local _ .vmem, ⟨34, _⟩ => ⟨S512x512, .f32⟩
  | .local _ .vmem, ⟨35, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78_0 : Ref sig .tc := ⟨.hbm, 106, rfl⟩
abbrev main_v78_1 : Ref sig .tc := ⟨.hbm, 107, rfl⟩
abbrev main_v78_2 : Ref sig .tc := ⟨.hbm, 108, rfl⟩
abbrev main_v78_3 : Ref sig .tc := ⟨.hbm, 109, rfl⟩
abbrev main_v78_4 : Ref sig .tc := ⟨.hbm, 110, rfl⟩
abbrev main_v78_5 : Ref sig .tc := ⟨.hbm, 111, rfl⟩
abbrev main_v78_6 : Ref sig .tc := ⟨.hbm, 112, rfl⟩
abbrev main_v78_7 : Ref sig .tc := ⟨.hbm, 113, rfl⟩
abbrev main_v78_8 : Ref sig .tc := ⟨.hbm, 114, rfl⟩
abbrev main_v78_9 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MixIdeal.lean ====
variable {F : FTy → Type} [FloatOps F] [Named F]
def κ : String → Option EReal := fun
  | "half_root" => some (((Real.sqrt 2)⁻¹ : ℝ) : EReal)
  | "normal_slope" => some (((9465531 / 16777216) * (Real.sqrt 2)⁻¹ : ℝ) : EReal)
  | _ => none
-- ==== MixRefIdeal.lean ====
abbrev S8192x1024 : Shape := ⟨2, ![8192, 1024]⟩
abbrev S8192x512 : Shape := ⟨2, ![8192, 512]⟩
abbrev S8192x2592 : Shape := ⟨2, ![8192, 2592]⟩
abbrev S1x512 : Shape := ⟨2, ![1, 512]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S8192x4x128 : Shape := ⟨3, ![8192, 4, 128]⟩
abbrev S512 : Shape := ⟨1, ![512]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S8192x4 : Shape := ⟨2, ![8192, 4]⟩
abbrev S8192x4x1 : Shape := ⟨3, ![8192, 4, 1]⟩
abbrev S8192 : Shape := ⟨1, ![8192]⟩
abbrev S8192x1 : Shape := ⟨2, ![8192, 1]⟩
abbrev S64x128x4x128 : Shape := ⟨4, ![64, 128, 4, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S4x128x1 : Shape := ⟨3, ![4, 128, 1]⟩

abbrev nBuf : Space → Nat
  | .hbm => 230
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x2592, .bf16⟩
  | 4 => ⟨S1x512, .f32⟩
  | 5 => ⟨S1x512, .f32⟩
  | 6 => ⟨S1x512, .f32⟩
  | 7 => ⟨S1x4x128x128, .f32⟩
  | 8 => ⟨S1x4x128, .f32⟩
  | 9 => ⟨S1x1024x1024, .f32⟩
  | 10 => ⟨S8192x2592, .f32⟩
  | 11 => ⟨S8192x512, .f32⟩
  | 12 => ⟨S8192x4x128, .f32⟩
  | 13 => ⟨S8192x512, .f32⟩
  | 14 => ⟨S8192x1024, .f32⟩
  | 15 => ⟨S512, .f32⟩
  | 16 => ⟨S512, .f32⟩
  | 17 => ⟨S512, .f32⟩
  | 18 => ⟨S4x128x128, .f32⟩
  | 19 => ⟨S4x128, .f32⟩
  | 20 => ⟨S1024x1024, .f32⟩
  | 21 => ⟨S8192x4x128, .f32⟩
  | 22 => ⟨S_, .f32⟩
  | 23 => ⟨S8192x4, .f32⟩
  | 24 => ⟨S8192x4x1, .f32⟩
  | 25 => ⟨S_, .f32⟩
  | 26 => ⟨S8192x4x1, .f32⟩
  | 27 => ⟨S8192x4x1, .f32⟩
  | 28 => ⟨S_, .f32⟩
  | 29 => ⟨S8192x4x1, .f32⟩
  | 30 => ⟨S8192x4x1, .f32⟩
  | 31 => ⟨S8192x4x1, .f32⟩
  | 32 => ⟨S8192x4x1, .f32⟩
  | 33 => ⟨S_, .f32⟩
  | 34 => ⟨S8192x4x1, .f32⟩
  | 35 => ⟨S8192x4x1, .f32⟩
  | 36 => ⟨S8192x4x128, .f32⟩
  | 37 => ⟨S8192x4x128, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S_, .f32⟩
  | 57 => ⟨S8192x1024, .f32⟩
  | 58 => ⟨S8192x1024, .f32⟩
  | 59 => ⟨S8192x1024, .f32⟩
  | 60 => ⟨S_, .f32⟩
  | 61 => ⟨S_, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x512, .f32⟩
  | 70 => ⟨S8192x512, .f32⟩
  | 71 => ⟨S_, .f32⟩
  | 72 => ⟨S8192, .f32⟩
  | 73 => ⟨S8192x1, .f32⟩
  | 74 => ⟨S_, .f32⟩
  | 75 => ⟨S8192x1, .f32⟩
  | 76 => ⟨S8192x1, .f32⟩
  | 77 => ⟨S8192x512, .f32⟩
  | 78 => ⟨S8192x512, .f32⟩
  | 79 => ⟨S8192x512, .f32⟩
  | 80 => ⟨S_, .f32⟩
  | 81 => ⟨S8192, .f32⟩
  | 82 => ⟨S8192x1, .f32⟩
  | 83 => ⟨S_, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x512, .f32⟩
  | 95 => ⟨S8192x512, .f32⟩
  | 96 => ⟨S1x512, .f32⟩
  | 97 => ⟨S8192x512, .f32⟩
  | 98 => ⟨S8192x512, .f32⟩
  | 99 => ⟨S1x512, .f32⟩
  | 100 => ⟨S8192x512, .f32⟩
  | 101 => ⟨S8192x512, .f32⟩
  | 102 => ⟨S64x128x4x128, .f32⟩
  | 103 => ⟨S4x64x128x128, .f32⟩
  | 104 => ⟨S64x128x4x128, .f32⟩
  | 105 => ⟨S128x4, .f32⟩
  | 106 => ⟨S1x128x4x1, .f32⟩
  | 107 => ⟨S64x128x4x128, .f32⟩
  | 108 => ⟨S64x128x4x128, .f32⟩
  | 109 => ⟨S8192x512, .f32⟩
  | 110 => ⟨S8192x512, .f32⟩
  | 111 => ⟨S8192x1024, .f32⟩
  | 112 => ⟨S8192x1024, .f32⟩
  | 113 => ⟨S1024x1024, .f32⟩
  | 114 => ⟨S1024x1024, .f32⟩
  | 115 => ⟨S8192x1024, .f32⟩
  | 116 => ⟨S8192x512, .f32⟩
  | 117 => ⟨S8192x512, .f32⟩
  | 118 => ⟨S8192x512, .f32⟩
  | 119 => ⟨S8192x512, .f32⟩
  | 120 => ⟨S64x128x4x128, .f32⟩
  | 121 => ⟨S_, .f32⟩
  | 122 => ⟨S128x4, .f32⟩
  | 123 => ⟨S1x128x4x1, .f32⟩
  | 124 => ⟨S_, .f32⟩
  | 125 => ⟨S128x4, .f32⟩
  | 126 => ⟨S4x128, .f32⟩
  | 127 => ⟨S4x64x128x128, .f32⟩
  | _ => ⟨S8192x1024, .f32⟩

abbrev hbmTy0_1 (i : Nat) : BufTy := match i % 128 with
  | 0 => ⟨S4x128x128, .f32⟩
  | 1 => ⟨S4x64x128x128, .f32⟩
  | 2 => ⟨S64x128x4x128, .f32⟩
  | 3 => ⟨S8192x512, .f32⟩
  | 4 => ⟨S_, .f32⟩
  | 5 => ⟨S512, .f32⟩
  | 6 => ⟨S1x512, .f32⟩
  | 7 => ⟨S_, .f32⟩
  | 8 => ⟨S512, .f32⟩
  | 9 => ⟨S8192x512, .f32⟩
  | 10 => ⟨S_, .f32⟩
  | 11 => ⟨S512, .f32⟩
  | 12 => ⟨S1x512, .f32⟩
  | 13 => ⟨S8192x512, .f32⟩
  | 14 => ⟨S8192x512, .f32⟩
  | 15 => ⟨S_, .f32⟩
  | 16 => ⟨S512, .f32⟩
  | 17 => ⟨S8192x512, .f32⟩
  | 18 => ⟨S_, .f32⟩
  | 19 => ⟨S8192, .f32⟩
  | 20 => ⟨S8192x1, .f32⟩
  | 21 => ⟨S8192x512, .f32⟩
  | 22 => ⟨S8192x512, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S8192x512, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192, .f32⟩
  | 43 => ⟨S8192x512, .f32⟩
  | 44 => ⟨S8192x512, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S8192x1024, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S8192x512, .f32⟩
  | 65 => ⟨S8192x512, .f32⟩
  | 66 => ⟨S_, .f32⟩
  | 67 => ⟨S512, .f32⟩
  | 68 => ⟨S1x512, .f32⟩
  | 69 => ⟨S8192x512, .f32⟩
  | 70 => ⟨S8192x512, .f32⟩
  | 71 => ⟨S_, .f32⟩
  | 72 => ⟨S512, .f32⟩
  | 73 => ⟨S8192x4x128, .f32⟩
  | 74 => ⟨S8192x4x128, .f32⟩
  | 75 => ⟨S_, .f32⟩
  | 76 => ⟨S8192x4, .f32⟩
  | 77 => ⟨S8192x4x1, .f32⟩
  | 78 => ⟨S8192x4x128, .f32⟩
  | 79 => ⟨S8192x4x128, .f32⟩
  | 80 => ⟨S8192x4x1, .f32⟩
  | 81 => ⟨S_, .f32⟩
  | 82 => ⟨S8192x4x1, .f32⟩
  | 83 => ⟨S8192x4x1, .f32⟩
  | 84 => ⟨S_, .f32⟩
  | 85 => ⟨S8192x4, .f32⟩
  | 86 => ⟨S8192x4x128, .f32⟩
  | 87 => ⟨S8192x4x128, .f32⟩
  | 88 => ⟨S8192x4x128, .f32⟩
  | 89 => ⟨S8192x4x128, .f32⟩
  | 90 => ⟨S8192x4x128, .f32⟩
  | 91 => ⟨S8192x512, .f32⟩
  | 92 => ⟨S8192x512, .bf16⟩
  | 93 => ⟨S8192x512, .bf16⟩
  | 94 => ⟨S8192x512, .f32⟩
  | 95 => ⟨S8192x512, .bf16⟩
  | 96 => ⟨S8192x512, .f32⟩
  | 97 => ⟨S8192x512, .bf16⟩
  | 98 => ⟨S1x512, .f32⟩
  | 99 => ⟨S1x512, .f32⟩
  | 100 => ⟨S1x512, .f32⟩
  | 101 => ⟨S4x128x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v28_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v28_1 : Ref sig .tc := ⟨.hbm, 53, rfl⟩
abbrev main_v28_0 : Ref sig .tc := ⟨.hbm, 54, rfl⟩
abbrev main_v29 : Ref sig .tc := ⟨.hbm, 55, rfl⟩
abbrev main_cst_3 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_5 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_10 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_11 : Ref sig .tc := ⟨.hbm, 121, rfl⟩
abbrev main_v87 : Ref sig .tc := ⟨.hbm, 122, rfl⟩
abbrev main_v88 : Ref sig .tc := ⟨.hbm, 123, rfl⟩
abbrev main_cst_12 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_13 : Ref sig .tc := ⟨.hbm, 132, rfl⟩
abbrev main_v96 : Ref sig .tc := ⟨.hbm, 133, rfl⟩
abbrev main_v97 : Ref sig .tc := ⟨.hbm, 134, rfl⟩
abbrev main_cst_14 : Ref sig .tc := ⟨.hbm, 135, rfl⟩
abbrev main_v98 : Ref sig .tc := ⟨.hbm, 136, rfl⟩
abbrev main_v99 : Ref sig .tc := ⟨.hbm, 137, rfl⟩
abbrev main_cst_15 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_16 : Ref sig .tc := ⟨.hbm, 143, rfl⟩
abbrev main_v104 : Ref sig .tc := ⟨.hbm, 144, rfl⟩
abbrev main_v105 : Ref sig .tc := ⟨.hbm, 145, rfl⟩
abbrev main_cst_17 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_18 : Ref sig .tc := ⟨.hbm, 152, rfl⟩
abbrev main_v111 : Ref sig .tc := ⟨.hbm, 153, rfl⟩
abbrev main_v112 : Ref sig .tc := ⟨.hbm, 154, rfl⟩
abbrev main_cst_19 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_20 : Ref sig .tc := ⟨.hbm, 163, rfl⟩
abbrev main_v120 : Ref sig .tc := ⟨.hbm, 164, rfl⟩
abbrev main_v121 : Ref sig .tc := ⟨.hbm, 165, rfl⟩
abbrev main_cst_21 : Ref sig .tc := ⟨.hbm, 166, rfl⟩
abbrev main_v122 : Ref sig .tc := ⟨.hbm, 167, rfl⟩
abbrev main_v123 : Ref sig .tc := ⟨.hbm, 168, rfl⟩
abbrev main_cst_22 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_23 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_24 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_call1_v0 : Ref sig .tc := ⟨.hbm, 189, rfl⟩
abbrev main_call1_v1 : Ref sig .tc := ⟨.hbm, 190, rfl⟩
abbrev main_call1_v2 : Ref sig .tc := ⟨.hbm, 191, rfl⟩
abbrev main_v141 : Ref sig .tc := ⟨.hbm, 192, rfl⟩
abbrev main_v142 : Ref sig .tc := ⟨.hbm, 193, rfl⟩
abbrev main_cst_25 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_26 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_27 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_28 : Ref sig .tc := ⟨.hbm, 209, rfl⟩
abbrev main_v155 : Ref sig .tc := ⟨.hbm, 210, rfl⟩
abbrev main_v156 : Ref sig .tc := ⟨.hbm, 211, rfl⟩
abbrev main_cst_29 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩

abbrev nD : Nat := 1
abbrev τ : Topo := Topo.v7x

variable {F : FTy → Type} [FloatOps F]
-- ==== MixFwd.lean ====
abbrev S8192x1024 : Shape := ⟨2, ![8192, 1024]⟩
abbrev S8192x512 : Shape := ⟨2, ![8192, 512]⟩
abbrev S8192x2592 : Shape := ⟨2, ![8192, 2592]⟩
abbrev S1x512 : Shape := ⟨2, ![1, 512]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S8192x1536 : Shape := ⟨2, ![8192, 1536]⟩
abbrev S8192x128 : Shape := ⟨2, ![8192, 128]⟩
abbrev S8192x2688 : Shape := ⟨2, ![8192, 2688]⟩
abbrev S4x128x128 : Shape := ⟨3, ![4, 128, 128]⟩
abbrev S4x128 : Shape := ⟨2, ![4, 128]⟩
abbrev S4x128x1 : Shape := ⟨3, ![4, 128, 1]⟩
abbrev S1024x1024 : Shape := ⟨2, ![1024, 1024]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩

abbrev nBuf : Space → Nat
  | .hbm => 21
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2592, .bf16⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x4x128x128, .f32⟩
  | .hbm, ⟨8, _⟩ => ⟨S1x4x128, .f32⟩
  | .hbm, ⟨9, _⟩ => ⟨S1x1024x1024, .f32⟩
  | .hbm, ⟨10, _⟩ => ⟨S8192x1536, .bf16⟩
  | .hbm, ⟨11, _⟩ => ⟨S8192x1024, .bf16⟩
  | .hbm, ⟨12, _⟩ => ⟨S8192x128, .bf16⟩
  | .hbm, ⟨13, _⟩ => ⟨S8192x2688, .bf16⟩
  | .hbm, ⟨14, _⟩ => ⟨S4x128x128, .f32⟩
  | .hbm, ⟨15, _⟩ => ⟨S4x128, .f32⟩
  | .hbm, ⟨16, _⟩ => ⟨S4x128x1, .f32⟩
  | .hbm, ⟨17, _⟩ => ⟨S1024x1024, .f32⟩
  | .hbm, ⟨18, _⟩ => ⟨S1024x1024, .bf16⟩
  | .hbm, ⟨19, _⟩ => ⟨S8192x1024, .f32⟩
  | .hbm, ⟨20, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S4x128x128, .f32⟩
  | .local _ .vmem, ⟨16, _⟩ => ⟨S4x128x1, .f32⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixFwdIdeal.lean ====
variable {F : FTy → Type} [FloatOps F] [Named F]
def κ : String → Option EReal := fun
  | "half_root" => some (((Real.sqrt 2)⁻¹ : ℝ) : EReal)
  | _ => none
-- ==== MixFwdRefIdeal.lean ====
abbrev S8192x1024 : Shape := ⟨2, ![8192, 1024]⟩
abbrev S8192x512 : Shape := ⟨2, ![8192, 512]⟩
abbrev S8192x2592 : Shape := ⟨2, ![8192, 2592]⟩
abbrev S1x512 : Shape := ⟨2, ![1, 512]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S8192x4x128 : Shape := ⟨3, ![8192, 4, 128]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S8192x4 : Shape := ⟨2, ![8192, 4]⟩
abbrev S8192x4x1 : Shape := ⟨3, ![8192, 4, 1]⟩
abbrev S8192 : Shape := ⟨1, ![8192]⟩
abbrev S8192x1 : Shape := ⟨2, ![8192, 1]⟩
abbrev S64x128x4x128 : Shape := ⟨4, ![64, 128, 4, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S1024x1024 : Shape := ⟨2, ![1024, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x2592, .bf16⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x4x128x128, .f32⟩
  | .hbm, ⟨8, _⟩ => ⟨S1x4x128, .f32⟩
  | .hbm, ⟨9, _⟩ => ⟨S1x1024x1024, .f32⟩
  | .hbm, ⟨10, _⟩ => ⟨S8192x2592, .f32⟩
  | .hbm, ⟨11, _⟩ => ⟨S8192x512, .f32⟩
  | .hbm, ⟨12, _⟩ => ⟨S8192x4x128, .f32⟩
  | .hbm, ⟨13, _⟩ => ⟨S8192x512, .f32⟩
  | .hbm, ⟨14, _⟩ => ⟨S8192x1024, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S4x128x128, .f32⟩
  | .hbm, ⟨19, _⟩ => ⟨S4x128, .f32⟩
  | .hbm, ⟨20, _⟩ => ⟨S8192x4x128, .f32⟩
  | .hbm, ⟨21, _⟩ => ⟨S_, .f32⟩
  | .hbm, ⟨22, _⟩ => ⟨S8192x4, .f32⟩
  | .hbm, ⟨23, _⟩ => ⟨S8192x4x1, .f32⟩
  | .hbm, ⟨24, _⟩ => ⟨S_, .f32⟩
  | .hbm, ⟨25, _⟩ => ⟨S8192x4x1, .f32⟩
  | .hbm, ⟨26, _⟩ => ⟨S8192x4x1, .f32⟩
  | .hbm, ⟨27, _⟩ => ⟨S_, .f32⟩
  | .hbm, ⟨28, _⟩ => ⟨S8192x4x1, .f32⟩
  | .hbm, ⟨29, _⟩ => ⟨S8192x4x1, .f32⟩
  | .hbm, ⟨30, _⟩ => ⟨S8192x4x1, .f32⟩
  | .hbm, ⟨31, _⟩ => ⟨S8192x4x128, .f32⟩
  | .hbm, ⟨32, _⟩ => ⟨S8192x4x128, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x512, .f32⟩
  | .hbm, ⟨79, _⟩ => ⟨S8192x512, .f32⟩
  | .hbm, ⟨80, _⟩ => ⟨S1x512, .f32⟩
  | .hbm, ⟨81, _⟩ => ⟨S8192x512, .f32⟩
  | .hbm, ⟨82, _⟩ => ⟨S8192x512, .f32⟩
  | .hbm, ⟨83, _⟩ => ⟨S1x512, .f32⟩
  | .hbm, ⟨84, _⟩ => ⟨S8192x512, .f32⟩
  | .hbm, ⟨85, _⟩ => ⟨S8192x512, .f32⟩
  | .hbm, ⟨86, _⟩ => ⟨S64x128x4x128, .f32⟩
  | .hbm, ⟨87, _⟩ => ⟨S4x64x128x128, .f32⟩
  | .hbm, ⟨88, _⟩ => ⟨S64x128x4x128, .f32⟩
  | .hbm, ⟨89, _⟩ => ⟨S128x4, .f32⟩
  | .hbm, ⟨90, _⟩ => ⟨S1x128x4x1, .f32⟩
  | .hbm, ⟨91, _⟩ => ⟨S64x128x4x128, .f32⟩
  | .hbm, ⟨92, _⟩ => ⟨S64x128x4x128, .f32⟩
  | .hbm, ⟨93, _⟩ => ⟨S8192x512, .f32⟩
  | .hbm, ⟨94, _⟩ => ⟨S8192x512, .f32⟩
  | .hbm, ⟨95, _⟩ => ⟨S8192x1024, .f32⟩
  | .hbm, ⟨96, _⟩ => ⟨S1024x1024, .f32⟩
  | .hbm, ⟨97, _⟩ => ⟨S8192x1024, .f32⟩
  | .hbm, ⟨98, _⟩ => ⟨S8192x1024, .f32⟩
  | .hbm, ⟨99, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== Norm.lean ====
abbrev S1x8192x1024 : Shape := ⟨3, ![1, 8192, 1024]⟩
abbrev S1x1024 : Shape := ⟨2, ![1, 1024]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S1x8192x1024 : Shape := ⟨3, ![1, 8192, 1024]⟩
abbrev S1x1024 : Shape := ⟨2, ![1, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Gla.lean ====
abbrev S8192x2592 : Shape := ⟨2, ![8192, 2592]⟩
abbrev S1x16x256 : Shape := ⟨3, ![1, 16, 256]⟩
abbrev S1x256 : Shape := ⟨2, ![1, 256]⟩
abbrev S8192x1536 : Shape := ⟨2, ![8192, 1536]⟩
abbrev S8192x1024 : Shape := ⟨2, ![8192, 1024]⟩
abbrev S8192x128 : Shape := ⟨2, ![8192, 128]⟩
abbrev S8192x2688 : Shape := ⟨2, ![8192, 2688]⟩
abbrev S16x256 : Shape := ⟨2, ![16, 256]⟩
abbrev S_ : Shape := ⟨0, ![]⟩
abbrev S112x256 : Shape := ⟨2, ![112, 256]⟩
abbrev S128x256 : Shape := ⟨2, ![128, 256]⟩
abbrev S96x256 : Shape := ⟨2, ![96, 256]⟩
abbrev S8192x512 : Shape := ⟨2, ![8192, 512]⟩
abbrev S128x128x256 : Shape := ⟨3, ![128, 128, 256]⟩
abbrev S1024x256 : Shape := ⟨2, ![1024, 256]⟩
abbrev S1024x512 : Shape := ⟨2, ![1024, 512]⟩
abbrev S1024x128 : Shape := ⟨2, ![1024, 128]⟩
abbrev S16x128x256 : Shape := ⟨3, ![16, 128, 256]⟩
abbrev S64x256 : Shape := ⟨2, ![64, 256]⟩
abbrev S256x64 : Shape := ⟨2, ![256, 64]⟩
abbrev S64x64 : Shape := ⟨2, ![64, 64]⟩
abbrev S64x512 : Shape := ⟨2, ![64, 512]⟩
abbrev S256x256 : Shape := ⟨2, ![256, 256]⟩
abbrev S64x128 : Shape := ⟨2, ![64, 128]⟩
abbrev S256x128 : Shape := ⟨2, ![256, 128]⟩
abbrev S1x128x256 : Shape := ⟨3, ![1, 128, 256]⟩

abbrev nBuf : Space → Nat
  | .hbm => 23
  | .vmem => 30
  | .smem => 0
  | _ => 0

abbrev bufTy : (tb : Table) → Fin (tcTables nBuf tb) → BufTy
  | .hbm, ⟨0, _⟩ => ⟨S8192x2592, .bf16⟩
  | .hbm, ⟨1, _⟩ => ⟨S1x16x256, .f32⟩
  | .hbm, ⟨2, _⟩ => ⟨S1x256, .f32⟩
  | .hbm, ⟨3, _⟩ => ⟨S1x16x256, .f32⟩
  | .hbm, ⟨4, _⟩ => ⟨S1x256, .f32⟩
  | .hbm, ⟨5, _⟩ => ⟨S8192x1536, .bf16⟩
  | .hbm, ⟨6, _⟩ => ⟨S8192x1024, .bf16⟩
  | .hbm, ⟨7, _⟩ => ⟨S8192x128, .bf16⟩
  | .hbm, ⟨8, _⟩ => ⟨S8192x2688, .bf16⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S112x256, .f32⟩
  | .hbm, ⟨13, _⟩ => ⟨S128x256, .f32⟩
  | .hbm, ⟨14, _⟩ => ⟨S_, .f32⟩
  | .hbm, ⟨15, _⟩ => ⟨S16x256, .f32⟩
  | .hbm, ⟨16, _⟩ => ⟨S_, .f32⟩
  | .hbm, ⟨17, _⟩ => ⟨S96x256, .f32⟩
  | .hbm, ⟨18, _⟩ => ⟨S128x256, .f32⟩
  | .hbm, ⟨19, _⟩ => ⟨S8192x512, .f32⟩
  | .hbm, ⟨20, _⟩ => ⟨S128x128x256, .bf16⟩
  | .hbm, ⟨21, _⟩ => ⟨S8192x512, .f32⟩
  | .hbm, ⟨22, _⟩ => ⟨S128x128x256, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .bf16⟩
  | .local _ .vmem, ⟨7, _⟩ => ⟨S1024x128, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x512, .bf16⟩
  | .local _ .vmem, ⟨13, _⟩ => ⟨S1024x512, .bf16⟩
  | .local _ .vmem, ⟨14, _⟩ => ⟨S1024x128, .bf16⟩
  | .local _ .vmem, ⟨15, _⟩ => ⟨S1024x128, .bf16⟩
  | .local _ .vmem, ⟨16, _⟩ => ⟨S128x256, .f32⟩
  | .local _ .vmem, ⟨17, _⟩ => ⟨S1x256, .f32⟩
  | .local _ .vmem, ⟨18, _⟩ => ⟨S128x256, .f32⟩
  | .local _ .vmem, ⟨19, _⟩ => ⟨S1x256, .f32⟩
  | .local _ .vmem, ⟨20, _⟩ => ⟨S1024x512, .f32⟩
  | .local _ .vmem, ⟨21, _⟩ => ⟨S1024x512, .f32⟩
  | .local _ .vmem, ⟨22, _⟩ => ⟨S16x128x256, .bf16⟩
  | .local _ .vmem, ⟨23, _⟩ => ⟨S16x128x256, .bf16⟩
  | .local _ .vmem, ⟨24, _⟩ => ⟨S1024x512, .f32⟩
  | .local _ .vmem, ⟨25, _⟩ => ⟨S1024x512, .f32⟩
  | .local _ .vmem, ⟨26, _⟩ => ⟨S16x128x256, .bf16⟩
  | .local _ .vmem, ⟨27, _⟩ => ⟨S16x128x256, .bf16⟩
  | .local _ .vmem, ⟨28, _⟩ => ⟨S128x256, .f32⟩
  | .local _ .vmem, ⟨29, _⟩ => ⟨S128x256, .f32⟩
  | _, _ => ⟨S8192x2592, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c20_i32 : BitVec 32 := 20#32
  let c0_i32 : BitVec 32 := 0#32
  ![v0.toNat, c20_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Proof.InProj.Blocks.lean ====
/- The input blocks of the call's grid points, read at an index: the rows of the arguments a point works on. -/
module

public import proofs.«01_k».proof.Proof.Gen.InProjBwdIdeal.Value
public import Idealize.ShloMosaic.Lib.Pointwise
public import Idealize.ShloMosaic.Lib.Pipeline.ValueKit
public import Idealize.ShloMosaic.Lib.Claim

@[expose] public section

set_option maxRecDepth 16384

noncomputable section

namespace Cert.InProj

open Idealize.ShloMosaic Idealize.ShloMosaic.TcCoe Idealize.SL.Sem
open Cert.InProjBwdIdeal Cert.InProjBwdIdeal.Gen

theorem idx : ∀ t : Fin cfg0.N,
    win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![0, 0]
    ∧ win0_15.index t = ![t.val, 0] ∧ win0_16.index t = ![t.val, 0] ∧ win0_17.index t = ![0, 0] :=
  (by decide +kernel : ∀ t : Fin grid0.N, _)

/-- The row of the whole arrays that is row `r` of point `t`'s blocks. -/
def row (t : Fin cfg0.N) (r : Fin 512) : Fin 8192 := ⟨t.val * 512 + r.val, by have h : t.val < 16 := t.isLt; omega⟩

variable (m : (ℓ : Loc nD τ sig) → Buf (Elt Ideal) ℓ) (c : Dev nD) (t : Fin cfg0.N)

theorem host0 (r : Fin 8192) (l : Fin 1024) : V m c main_v0 (ix2 r l) = m ((c : Thread nD τ).loc main_arg0) (ix3 0 r l) := by
  simp only [V, hostOps0, hostOps0_1, hostOps0_2, hostOps0_3, List.flatten_cons, List.flatten_nil, List.append_nil, List.cons_append, List.nil_append]
  entry_read
  pointwise

theorem blk0 (r : Fin 512) (l : Fin 1024) : iblk m c 0 t (ix2 r l) = V m c main_v0 (ix2 (row t r) l) := by
  blk_point [iblk, row, idx t]

theorem blk1 (r : Fin 1) (l : Fin 1024) : iblk m c 1 t (ix2 r l) = m ((c : Thread nD τ).loc main_arg1) (ix2 r l) := by
  blk_point [iblk, row, idx t]

theorem blk2 (r : Fin 512) (l : Fin 1024) : iblk m c 2 t (ix2 r l) = m ((c : Thread nD τ).loc main_arg3) (ix2 (row t r) l) := by
  blk_point [iblk, row, idx t]

theorem blk3 (r : Fin 512) (l : Fin 256) : iblk m c 3 t (ix2 r l) = m ((c : Thread nD τ).loc main_arg4) (ix2 (row t r) l) := by
  blk_point [iblk, row, idx t]

theorem blk4 (r : Fin 512) (l : Fin 256) : iblk m c 4 t (ix2 r l) = m ((c : Thread nD τ).loc main_arg5) (ix2 (row t r) l) := by
  blk_point [iblk, row, idx t]

theorem blk5 (r : Fin 512) (l : Fin 256) : iblk m c 5 t (ix2 r l) = m ((c : Thread nD τ).loc main_arg6) (ix2 (row t r) l) := by
  blk_point [iblk, row, idx t]

theorem blk6 (r : Fin 512) (l : Fin 256) : iblk m c 6 t (ix2 r l) = m ((c : Thread nD τ).loc main_arg7) (ix2 (row t r) l) := by
  blk_point [iblk, row, idx t]

theorem blk7 (r : Fin 512) (l : Fin 512) : iblk m c 7 t (ix2 r l) = m ((c : Thread nD τ).loc main_arg8) (ix2 (row t r) l) := by
  blk_point [iblk, row, idx t]

theorem blk8 (r : Fin 512) (l : Fin 512) : iblk m c 8 t (ix2 r l) = m ((c : Thread nD τ).loc main_arg9) (ix2 (row t r) l) := by
  blk_point [iblk, row, idx t]

theorem blk9 (r : Fin 512) (l : Fin 512) : iblk m c 9 t (ix2 r l) = m ((c : Thread nD τ).loc main_arg10) (ix2 (row t r) l) := by
  blk_point [iblk, row, idx t]

theorem blk10 (r : Fin 512) (l : Fin 512) : iblk m c 10 t (ix2 r l) = m ((c : Thread nD τ).loc main_arg11) (ix2 (row t r) l) := by
  blk_point [iblk, row, idx t]

theorem blk11 (r : Fin 512) (l : Fin 512) : iblk m c 11 t (ix2 r l) = m ((c : Thread nD τ).loc main_arg12) (ix2 (row t r) l) := by
  blk_point [iblk, row, idx t]

/-- The padding value, the integer zero as a number, is zero. -/
theorem zero_lane : (FloatOps.sitofp FTy.bf16 (0#32) : Ideal FTy.bf16) = (0 : EReal) := by
  show (((0#32 : BitVec 32).toInt : ℝ) : EReal) = 0
  simp

theorem pad12 (x : FVec Ideal S8192x16 .bf16) (r : Fin 8192) (l : Fin 128) :
    pad S8192x128 ![0, 0] ![0, 112] ![0, 0] x (sitofp FTy.bf16 (constantI S_ 32 0#32)) pads_S8192x16_S8192x128_000_01120 h_S_ (ix2 r l) = if h : l.val < 16 then x (ix2 r ⟨l.val, h⟩) else (0 : EReal) := by
  pointwise [zero_lane]

theorem host12 (r : Fin 8192) (l : Fin 128) : V m c main_v4 (ix2 r l) = if h : l.val < 16 then m ((c : Thread nD τ).loc main_arg13) (ix2 r ⟨l.val, h⟩) else (0 : EReal) := by
  simp only [V, hostOps0, hostOps0_1, hostOps0_2, hostOps0_3, List.flatten_cons, List.flatten_nil, List.append_nil, List.cons_append, List.nil_append]
  entry_read
  exact pad12 _ r l

theorem blk12 (r : Fin 512) (l : Fin 128) : iblk m c 12 t (ix2 r l) = V m c main_v4 (ix2 (row t r) l) := by
  blk_point [iblk, row, idx t]

theorem pad13 (x : FVec Ideal S8192x16 .bf16) (r : Fin 8192) (l : Fin 128) :
    pad S8192x128 ![0, 16] ![0, 96] ![0, 0] x (sitofp FTy.bf16 (constantI S_ 32 0#32)) pads_S8192x16_S8192x128_000_16960 h_S_ (ix2 r l) = if h : 16 ≤ l.val ∧ l.val < 32 then x (ix2 r ⟨l.val - 16, by omega⟩) else (0 : EReal) := by
  pointwise [zero_lane]
  by_cases h : 16 ≤ l.val ∧ l.val < 32
  · rw [dif_pos h, dif_pos ⟨h.1, by omega⟩]
  · rw [dif_neg h, dif_neg (by omega)]

theorem host13 (r : Fin 8192) (l : Fin 128) : V m c main_v5 (ix2 r l) = if h : 16 ≤ l.val ∧ l.val < 32 then m ((c : Thread nD τ).loc main_arg14) (ix2 r ⟨l.val - 16, by omega⟩) else (0 : EReal) := by
  simp only [V, hostOps0, hostOps0_1, hostOps0_2, hostOps0_3, List.flatten_cons, List.flatten_nil, List.append_nil, List.cons_append, List.nil_append]
  entry_read
  exact pad13 _ r l

theorem blk13 (r : Fin 512) (l : Fin 128) : iblk m c 13 t (ix2 r l) = V m c main_v5 (ix2 (row t r) l) := by
  blk_point [iblk, row, idx t]

theorem host14 (r : Fin 2592) (l : Fin 1024) : V m c main_v3 (ix2 r l) = m ((c : Thread nD τ).loc main_arg2) (ix3 0 l r) := by
  simp only [V, hostOps0, hostOps0_1, hostOps0_2, hostOps0_3, List.flatten_cons, List.flatten_nil, List.append_nil, List.cons_append, List.nil_append]
  entry_read
  pointwise

theorem blk14 (r : Fin 2592) (l : Fin 1024) : iblk m c 14 t (ix2 r l) = V m c main_v3 (ix2 r l) := by
  blk_point [iblk, row, idx t]

end Cert.InProj

end
-- ==== Proof.Reals.lean ====
/- Extended reals that are numbers: the operations of the ideal programs on them are the reals' own, so an expression over finite
   arguments is one real expression, where the reals' algebra applies. -/
module

public import Idealize.ShloMosaic.PureOps.Ideal.Laws
public import Mathlib.Data.EReal.Operations

@[expose] public section

noncomputable section

namespace Cert.Reals

open Idealize.ShloMosaic
open scoped BigOperators

/-- A finite sum of numbers is the number their sum is. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two numbers, the divisor not zero. -/
theorem div_coe {y : ℝ} (h : y ≠ 0) (x : ℝ) : Ideal.div (x : EReal) (y : EReal) = ((x / y : ℝ) : EReal) := by
  rw [Ideal.div_coe h, ← EReal.coe_mul, mul_one_div]

/-- The reciprocal square root of a positive number. -/
theorem rsqrt_coe {y : ℝ} (h : 0 < y) : Ideal.rsqrt (y : EReal) = (((Real.sqrt y)⁻¹ : ℝ) : EReal) := by
  rw [Ideal.rsqrt_coe, if_neg (not_lt.mpr h.le), if_neg h.ne']

/-- An extended real whose absolute value is below `⊤` is a number. -/
theorem exists_coe {a : EReal} (h : max a (-a) < ⊤) : ∃ r : ℝ, a = (r : EReal) := by
  induction a with
  | bot => simp at h
  | top => simp at h
  | coe r => exact ⟨r, rfl⟩

/-- An extended real that is a number. -/
def IsNum (a : EReal) : Prop := ∃ r : ℝ, a = (r : EReal)

theorem IsNum.add {a b : EReal} (ha : IsNum a) (hb : IsNum b) : IsNum (a + b) := by
  obtain ⟨r, rfl⟩ := ha
  obtain ⟨s, rfl⟩ := hb
  exact ⟨r + s, rfl⟩

theorem IsNum.mul {a b : EReal} (ha : IsNum a) (hb : IsNum b) : IsNum (a * b) := by
  obtain ⟨r, rfl⟩ := ha
  obtain ⟨s, rfl⟩ := hb
  exact ⟨r * s, (EReal.coe_mul r s).symm⟩

theorem IsNum.sum {ι : Type*} [Fintype ι] {f : ι → EReal} (h : ∀ i, IsNum (f i)) : IsNum (∑ i, f i) := by
  choose g hg using h
  exact ⟨∑ i, g i, by rw [← coe_sum]; exact Finset.sum_congr rfl fun i _ => hg i⟩

/-- A family of extended reals that are numbers is a family of numbers. -/
theorem exists_fun {ι : Type*} {f : ι → EReal} (h : ∀ i, IsNum (f i)) : ∃ g : ι → ℝ, f = fun i => ((g i : ℝ) : EReal) :=
  ⟨fun i => (h i).choose, funext fun i => (h i).choose_spec⟩

theorem ofBits_1024 : Ideal.ofBits .f32 0x44800000#32 = ((1024 : ℝ) : EReal) := by
  simp only [Ideal.ofBits, Ideal.ieee]
  simp
  rw [← EReal.coe_mul]
  norm_num

theorem ofBits_neg_half : Ideal.ofBits .f32 0xBF000000#32 = ((-(1 / 2) : ℝ) : EReal) := by
  simp only [Ideal.ofBits, Ideal.ieee]
  simp
  rw [← EReal.coe_mul]
  norm_num

/-- The number the printed `1e-6` is. -/
def eps : ℝ := 8796093 * 2 ^ (-43 : ℤ)

theorem ofBits_eps : Ideal.ofBits .f32 0x358637BD#32 = ((eps : ℝ) : EReal) := by
  simp [Ideal.ofBits, Ideal.ieee, eps]

theorem eps_pos : 0 < eps := by unfold eps; positivity

theorem ofBits_inf : Ideal.ofBits .f32 0x7F800000#32 = ⊤ := by
  simp [Ideal.ofBits, Ideal.ieee]

/-- The mean of a row's squares, with `eps` added. -/
def meanSq {n : ℕ} (x : Fin n → ℝ) : ℝ := (∑ k, x k * x k) / 1024 + eps

theorem meanSq_pos {n : ℕ} (x : Fin n → ℝ) : 0 < meanSq x := by
  have h : 0 ≤ ∑ k, x k * x k := Finset.sum_nonneg fun k _ => mul_self_nonneg _
  have := eps_pos
  unfold meanSq
  positivity

theorem meanSq_coe {n : ℕ} (x : Fin n → ℝ) :
    Ideal.div (∑ k, (x k : EReal) * (x k : EReal)) ((1024 : ℝ) : EReal) + ((eps : ℝ) : EReal) = ((meanSq x : ℝ) : EReal) := by
  simp only [← EReal.coe_mul]
  rw [coe_sum, div_coe (by norm_num), ← EReal.coe_add]
  rfl

/-- Pulling back through `x ↦ x · rsqrt (mean x² + eps) · g` from the cotangent `d` of the result: the row's inner product with the
    normalised row, subtracted along it, is the derivative of the reciprocal root times the row. `a` is added on both sides and need not
    be a number. -/
theorem rms_pull {n : ℕ} (a : EReal) (x d : Fin n → ℝ) (j : Fin n) :
    a + Ideal.rsqrt ((meanSq x : ℝ) : EReal) * ((d j : EReal) - (x j : EReal) * Ideal.rsqrt ((meanSq x : ℝ) : EReal)
        * Ideal.div (∑ k, (d k : EReal) * ((x k : EReal) * Ideal.rsqrt ((meanSq x : ℝ) : EReal))) ((1024 : ℝ) : EReal))
      = a + (d j : EReal) * Ideal.rsqrt ((meanSq x : ℝ) : EReal)
        + (x j : EReal) * Ideal.div ((∑ k, (x k : EReal) * (d k : EReal)) * (((-(1 / 2) : ℝ) : EReal)
            * Ideal.div (Ideal.rsqrt ((meanSq x : ℝ) : EReal)) ((meanSq x : ℝ) : EReal))) ((1024 : ℝ) : EReal)
        + Ideal.div ((∑ k, (x k : EReal) * (d k : EReal)) * (((-(1 / 2) : ℝ) : EReal)
            * Ideal.div (Ideal.rsqrt ((meanSq x : ℝ) : EReal)) ((meanSq x : ℝ) : EReal))) ((1024 : ℝ) : EReal) * (x j : EReal) := by
  have hq := meanSq_pos x
  set q := meanSq x
  rw [rsqrt_coe hq, add_assoc, add_assoc]
  simp only [← EReal.coe_mul, coe_sum, div_coe hq.ne', div_coe (show (1024 : ℝ) ≠ 0 by norm_num), ← EReal.coe_sub, ← EReal.coe_add]
  refine congrArg (fun y : ℝ => a + (y : EReal)) ?_
  have hs : Real.sqrt q * Real.sqrt q = q := Real.mul_self_sqrt hq.le
  have hs0 : Real.sqrt q ≠ 0 := (Real.sqrt_pos.mpr hq).ne'
  have e : ∑ k, d k * (x k * (Real.sqrt q)⁻¹) = (∑ k, x k * d k) * (Real.sqrt q)⁻¹ := by
    rw [Finset.sum_mul]
    exact Finset.sum_congr rfl fun k _ => by ring
  rw [e]
  generalize Real.sqrt q = s at *
  rw [← hs]
  field_simp
  ring

end Cert.Reals

end
-- ==== Proof.Finite.lean ====
/- Reading a precondition `all (|x| < ∞)`: each element of the array is then a number. -/
module

public import proofs.«01_k».proof.Proof.Reals
public import Idealize.ShloMosaic.Lib.Pointwise

@[expose] public section

noncomputable section

namespace Cert.Reals

open Idealize.ShloMosaic

/-- A conjunction folded over a list is one only if every member is. -/
theorem foldl_and {α : Type} (f : α → BitVec 1) (l : List α) (b : BitVec 1) (h : l.foldl (fun r n => IntOp.andi r (f n)) b = 1#1) :
    b = 1#1 ∧ ∀ n ∈ l, f n = 1#1 := by
  induction l generalizing b with
  | nil => exact ⟨h, by simp⟩
  | cons a l ih =>
    obtain ⟨h1, h2⟩ := ih _ h
    have h3 : b = 1#1 ∧ f a = 1#1 := by
      have key : ∀ p q : BitVec 1, IntOp.andi p q = 1#1 → p = 1#1 ∧ q = 1#1 := by decide
      exact key _ _ h1
    exact ⟨h3.1, fun n hn => by
      rcases List.mem_cons.mp hn with rfl | hn
      · exact h3.2
      · exact h2 n hn⟩

theorem and_one : ∀ p q : BitVec 1, IntOp.andi p q = 1#1 → p = 1#1 ∧ q = 1#1 := by decide

/-- The conjunction of a whole array, reduced to a scalar, is one only if every element is. -/
theorem reduce_and {s t u : Shape} {axes : List (Fin s.rank)} (x : IVec s 1) (v : IVec u 1) (h : s.ReducesTo axes t) (hu : 0 < u.numel)
    (j : t.Idx) (ht : ∀ a b : t.Idx, a = b) (e : Host.reduce IntOp.andi x v h hu j = 1#1) (i : s.Idx) : x i = 1#1 := by
  have := (foldl_and _ _ _ e).2 (s.rowMajor i) (by
    rw [List.mem_filter]
    exact ⟨List.mem_finRange _, by simpa using ht _ _⟩)
  simpa using this

/-- The comparison `|x| < ∞` of an element holds only of a number. -/
theorem coe_of_cmp (a : EReal) (e : Ideal.cmp .olt (max a (-a)) (Ideal.ofBits .f32 0x7F800000#32) = 1#1) : ∃ r : ℝ, a = (r : EReal) := by
  rw [ofBits_inf] at e
  refine exists_coe ?_
  by_contra h
  simp [Ideal.cmp, h] at e

end Cert.Reals

end
-- ==== Proof.InProj.Point.lean ====
/- What one grid point computes, against the reference's pull-back read at the rows of the point. -/
module

public import proofs.«01_k».proof.Proof.InProj.Blocks
public import proofs.«01_k».proof.Proof.Gen.InProjRefIdeal.Read
public import proofs.«01_k».proof.Proof.Finite

@[expose] public section

set_option maxRecDepth 16384

noncomputable section

namespace Cert.InProj

open Idealize.ShloMosaic Idealize.ShloMosaic.TcCoe Idealize.SL.Sem

section Ref

open Cert.InProjRefIdeal Cert.InProjRefIdeal.Gen Cert.InProjRefIdeal.Read Cert.Reals

variable (x0 : FVec Ideal S1x8192x1024 .f32) (x1 : FVec Ideal S1x1024 .f32) (x2 : FVec Ideal S1x1024x2592 .f32) (x3 : FVec Ideal S8192x1024 .f32)
  (x4 x5 x6 x7 : FVec Ideal S8192x256 .bf16) (x8 x9 x10 x11 x12 : FVec Ideal S8192x512 .bf16) (x13 x14 : FVec Ideal S8192x16 .bf16)

/-- The cotangent of the projections, columns in the reference's order. -/
def dP (t : Fin 8192) (k : Fin 2592) : EReal := val_main_v44 (F := Ideal) x4 x5 x6 x7 x8 x9 x10 x11 x12 x13 x14 (ix2 t k)

theorem dP_eq (t : Fin 8192) (j : Fin 2592) : dP x4 x5 x6 x7 x8 x9 x10 x11 x12 x13 x14 t j
    = if h : j.val < 256 then x4 (ix2 t ⟨j.val, h⟩) + x5 (ix2 t ⟨j.val, h⟩)
      else if h1 : j.val < 512 then x6 (ix2 t ⟨j.val - 256, by omega⟩) + x7 (ix2 t ⟨j.val - 256, by omega⟩)
      else if h2 : j.val < 1024 then x8 (ix2 t ⟨j.val - 512, by omega⟩) + x9 (ix2 t ⟨j.val - 512, by omega⟩)
      else if h3 : j.val < 1536 then x10 (ix2 t ⟨j.val - 1024, by omega⟩)
      else if h4 : j.val < 1552 then x13 (ix2 t ⟨j.val - 1536, by omega⟩)
      else if h5 : j.val < 1568 then x14 (ix2 t ⟨j.val - 1552, by omega⟩)
      else if h6 : j.val < 2080 then x11 (ix2 t ⟨j.val - 1568, by omega⟩)
      else x12 (ix2 t ⟨j.val - 2080, by omega⟩) := by
  unfold dP
  pointwise [val_main_v44, val_main_v43, val_main_v42, val_main_v41, val_main_v40, val_main_v0, val_main_v1, val_main_v2, val_main_v3, val_main_v4,
    val_main_v5, val_main_v6, val_main_v7, val_main_v8, val_main_v9, val_main_v10]
  simp only [Nat.sub_sub, Nat.reduceAdd]
  by_cases h0 : j.val < 256
  · rw [dif_pos (show j.val < 256 by omega), dif_pos h0]
  rw [dif_neg (show ¬j.val < 256 by omega), dif_neg h0]
  by_cases h1 : j.val < 512
  · rw [dif_pos (show j.val - 256 < 256 by omega), dif_pos h1]
  rw [dif_neg (show ¬j.val - 256 < 256 by omega), dif_neg h1]
  by_cases h2 : j.val < 1024
  · rw [dif_pos (show j.val - 512 < 512 by omega), dif_pos h2]
  rw [dif_neg (show ¬j.val - 512 < 512 by omega), dif_neg h2]
  by_cases h3 : j.val < 1536
  · rw [dif_pos (show j.val - 1024 < 512 by omega), dif_pos h3]
  rw [dif_neg (show ¬j.val - 1024 < 512 by omega), dif_neg h3]
  by_cases h4 : j.val < 1552
  · rw [dif_pos (show j.val - 1536 < 16 by omega), dif_pos h4]
  rw [dif_neg (show ¬j.val - 1536 < 16 by omega), dif_neg h4]
  by_cases h5 : j.val < 1568
  · rw [dif_pos (show j.val - 1552 < 16 by omega), dif_pos h5]
  rw [dif_neg (show ¬j.val - 1552 < 16 by omega), dif_neg h5]
  by_cases h6 : j.val < 2080
  · rw [dif_pos (show j.val - 1568 < 512 by omega), dif_pos h6]
  rw [dif_neg (show ¬j.val - 1568 < 512 by omega), dif_neg h6]

/-- The cotangent of the normalised rows. -/
def dH (t : Fin 8192) (j : Fin 1024) : EReal := ∑ k, dP x4 x5 x6 x7 x8 x9 x10 x11 x12 x13 x14 t k * x2 (ix3 0 j k)

theorem v45_eq (t : Fin 8192) (j : Fin 1024) :
    val_main_v45 (F := Ideal) x2 x4 x5 x6 x7 x8 x9 x10 x11 x12 x13 x14 (ix2 t j) = dH x2 x4 x5 x6 x7 x8 x9 x10 x11 x12 x13 x14 t j := by
  unfold dH dP
  pointwise [val_main_v45, val_main_v29]

theorem v72_eq (t : Fin 8192) (j : Fin 2688) : val_main_v72 (F := Ideal) x4 x5 x6 x7 x8 x9 x10 x11 x12 x13 x14 (ix2 t j)
    = if h : j.val < 1536 then dP x4 x5 x6 x7 x8 x9 x10 x11 x12 x13 x14 t ⟨j.val, by omega⟩
      else if h1 : j.val < 2560 then dP x4 x5 x6 x7 x8 x9 x10 x11 x12 x13 x14 t ⟨j.val + 32, by omega⟩
      else if h2 : j.val < 2592 then dP x4 x5 x6 x7 x8 x9 x10 x11 x12 x13 x14 t ⟨j.val - 1024, by omega⟩
      else 0 := by
  unfold dP
  pointwise [val_main_v72, val_main_v71, val_main_v70, val_main_v69, val_main_v68, val_main_v67, val_main_cst_8]
  simp only [Nat.sub_sub, Nat.reduceAdd]
  have at_eq : ∀ a b : Fin 2592, a.val = b.val → val_main_v44 (F := Ideal) x4 x5 x6 x7 x8 x9 x10 x11 x12 x13 x14 (ix2 t a)
      = val_main_v44 (F := Ideal) x4 x5 x6 x7 x8 x9 x10 x11 x12 x13 x14 (ix2 t b) := fun a b h => by rw [Fin.ext h]
  by_cases h0 : j.val < 1536
  · rw [dif_pos h0, dif_pos h0]
  rw [dif_neg h0, dif_neg h0]
  by_cases h1 : j.val < 2560
  · rw [dif_pos (show j.val - 1536 < 1024 by omega), dif_pos h1]
    exact at_eq _ _ (by dsimp only; omega)
  rw [dif_neg (show ¬j.val - 1536 < 1024 by omega), dif_neg h1]
  by_cases h2 : j.val < 2592
  · rw [dif_pos (show j.val - 2560 < 32 by omega), dif_pos h2]
    exact at_eq _ _ (by dsimp only; omega)
  rw [dif_neg (show ¬j.val - 2560 < 32 by omega), dif_neg h2]

/-- What one row adds to the gain's gradient, `H` the cotangent of the normalised rows. -/
def dgRow (H : Fin 8192 → Fin 1024 → EReal) (t : Fin 8192) (j : Fin 1024) : EReal := H t j * (x0 (ix3 0 t j) * Ideal.rsqrt
  (Ideal.div (∑ k, x0 (ix3 0 t k) * x0 (ix3 0 t k)) (Ideal.ofBits FTy.f32 0x44800000#32) + Ideal.ofBits FTy.f32 0x358637BD#32))

theorem dP_num (h4 : ∀ i, IsNum (x4 i)) (h5 : ∀ i, IsNum (x5 i)) (h6 : ∀ i, IsNum (x6 i)) (h7 : ∀ i, IsNum (x7 i)) (h8 : ∀ i, IsNum (x8 i))
    (h9 : ∀ i, IsNum (x9 i)) (h10 : ∀ i, IsNum (x10 i)) (h11 : ∀ i, IsNum (x11 i)) (h12 : ∀ i, IsNum (x12 i)) (h13 : ∀ i, IsNum (x13 i))
    (h14 : ∀ i, IsNum (x14 i)) (t : Fin 8192) (k : Fin 2592) : IsNum (dP x4 x5 x6 x7 x8 x9 x10 x11 x12 x13 x14 t k) := by
  rw [dP_eq]
  split_ifs
  · exact (h4 _).add (h5 _)
  · exact (h6 _).add (h7 _)
  · exact (h8 _).add (h9 _)
  · exact h10 _
  · exact h13 _
  · exact h14 _
  · exact h11 _
  · exact h12 _

theorem v73_eq (j : Fin 1024) : val_main_v73 (F := Ideal) x0 x2 x4 x5 x6 x7 x8 x9 x10 x11 x12 x13 x14 (ix2 0 j)
    = ∑ t, dgRow x0 (dH x2 x4 x5 x6 x7 x8 x9 x10 x11 x12 x13 x14) t j := by
  unfold dgRow
  pointwise [val_main_v73, val_main_v51, val_main_v48, val_main_v47, val_main_v46,  val_main_v25, val_main_v24, val_main_v23, val_main_v22,
    val_main_v21, val_main_v20, val_main_v19, val_main_v18, val_main_v17, val_main_v16, val_main_v15, val_main_v14, val_main_v13, val_main_v12,
    val_main_v11, val_main_cst, val_main_cst_0, val_main_cst_1, val_main_cst_3, val_main_cst_4]
  simp only [v45_eq, Finset.univ_unique, Finset.sum_singleton]
  exact Finset.sum_congr rfl fun t _ => mul_comm _ _

/-- The reference's gradient of the input, where the row of the input and the row's cotangent through the gain are numbers. -/
theorem v66_eq (t : Fin 8192) (j : Fin 1024) (x d : Fin 1024 → ℝ) (hx : ∀ k, x0 (ix3 0 t k) = (x k : EReal))
    (hd : ∀ k, dH x2 x4 x5 x6 x7 x8 x9 x10 x11 x12 x13 x14 t k * x1 (ix2 0 k) = (d k : EReal)) :
    val_main_v66 (F := Ideal) x0 x1 x2 x3 x4 x5 x6 x7 x8 x9 x10 x11 x12 x13 x14 (ix2 t j)
      = x3 (ix2 t j) + Ideal.rsqrt ((meanSq x : ℝ) : EReal) * ((d j : EReal) - (x j : EReal) * Ideal.rsqrt ((meanSq x : ℝ) : EReal)
        * Ideal.div (∑ k, (d k : EReal) * ((x k : EReal) * Ideal.rsqrt ((meanSq x : ℝ) : EReal))) ((1024 : ℝ) : EReal)) := by
  pointwise [val_main_v66, val_main_v65, val_main_v64, val_main_v63, val_main_v62, val_main_v61, val_main_v60, val_main_v59, val_main_v58,
    val_main_v57, val_main_v56, val_main_v55, val_main_v54, val_main_v53, val_main_v52, val_main_v50, val_main_v49, val_main_v26, val_main_v25,
    val_main_v24, val_main_v23, val_main_v22, val_main_v21, val_main_v20, val_main_v19, val_main_v18, val_main_v17, val_main_v16, val_main_v15,
    val_main_v14, val_main_v13, val_main_v12, val_main_v11, val_main_cst, val_main_cst_0, val_main_cst_1, val_main_cst_2, val_main_cst_5,
    val_main_cst_6, val_main_cst_7]
  simp only [v45_eq, Finset.univ_unique, Finset.sum_singleton, hx, hd, ofBits_1024, ofBits_eps, ofBits_neg_half, meanSq_coe]
  exact (rms_pull _ x d j).symm

end Ref

section Kernel

open Cert.InProjBwdIdeal Cert.InProjBwdIdeal.Gen Cert.Reals

variable (v32 : FVec Ideal S512x2688 .bf16) (v35 : FVec Ideal S1536x1024 .bf16) (v41 : FVec Ideal S1024x1024 .bf16)
  (v46 : FVec Ideal S128x1024 .bf16)

/-- The three partial products over the padded columns are the one product over the reference's columns: the padding lanes are zero. -/
theorem pay4_at (P : Fin 2592 → EReal) (W : Fin 2592 → Fin 1024 → EReal) (r : Fin 512)
    (hP : ∀ k : Fin 2688, v32 (ix2 r k) = if h : k.val < 1536 then P ⟨k.val, by omega⟩
      else if h1 : k.val < 2560 then P ⟨k.val + 32, by omega⟩ else if h2 : k.val < 2592 then P ⟨k.val - 1024, by omega⟩ else 0)
    (h35 : ∀ k j, v35 (ix2 k j) = W ⟨k.val, by omega⟩ j) (h41 : ∀ k j, v41 (ix2 k j) = W ⟨1568 + k.val, by omega⟩ j)
    (h46 : ∀ k j, v46 (ix2 k j) = W ⟨1536 + k.val, by omega⟩ j) (j : Fin 1024) :
    k0_pay4 (F := Ideal) v32 v35 v41 v46 (ix2 r j) = ∑ k, P k * W k j := by
  pointwise [k0_pay4]
  rw [Fin.sum_univ_two_halves 1536 1056 rfl (fun k => P k * W k j), Fin.sum_univ_two_halves 32 1024 rfl (fun k : Fin 1056 => _),
    Fin.sum_univ_two_halves 32 96 rfl (fun x : Fin 128 => _), add_assoc]
  refine congrArg₂ (· + ·) (Finset.sum_congr rfl fun k _ => ?_) ?_
  · rw [hP, h35, dif_pos (show k.val < 1536 from k.isLt)]
  rw [add_comm]
  refine congrArg₂ (· + ·) ?_ (Finset.sum_congr rfl fun k _ => ?_)
  · refine (congrArg₂ (· + ·) (Finset.sum_congr rfl fun k _ => ?_) (Finset.sum_eq_zero fun k _ => ?_)).trans (add_zero _)
    · have := k.isLt
      rw [hP, h46, dif_neg (by dsimp only; omega), dif_neg (by dsimp only; omega), dif_pos (by dsimp only; omega)]
      refine congrArg₂ (· * ·) (congrArg P (Fin.ext ?_)) rfl
      dsimp only; omega
    · have := k.isLt
      rw [hP, dif_neg (by dsimp only; omega), dif_neg (by dsimp only; omega), dif_neg (by dsimp only; omega), zero_mul]
  · have := k.isLt
    rw [hP, h41, dif_neg (by dsimp only; omega), dif_pos (by dsimp only; omega)]
    refine congrArg₂ (· * ·) (congrArg P (Fin.ext ?_)) (congrArg (W · j) (Fin.ext ?_)) <;> dsimp only <;> omega

/-- The gradient of the input at an entry of the block, where the row and its cotangent are numbers. -/
theorem pay1_at (v49 v50 v69 : FVec Ideal S512x1024 .f32) (v70 : FVec Ideal S1x1024 .f32) (r : Fin 512) (j : Fin 1024) (x d : Fin 1024 → ℝ)
    (hx : ∀ k, v50 (ix2 r k) = (x k : EReal)) (hd : ∀ k, v49 (ix2 r k) * v70 (ix2 0 k) = (d k : EReal)) :
    k0_pay1 (F := Ideal) v49 (k0_pay6 v50) (k0_pay7 v50) v69 v70 (ix2 r j)
      = v69 (ix2 r j) + Ideal.rsqrt ((meanSq x : ℝ) : EReal) * ((d j : EReal) - (x j : EReal) * Ideal.rsqrt ((meanSq x : ℝ) : EReal)
        * Ideal.div (∑ k, (d k : EReal) * ((x k : EReal) * Ideal.rsqrt ((meanSq x : ℝ) : EReal))) ((1024 : ℝ) : EReal)) := by
  pointwise [k0_pay1, k0_pay5, k0_pay6, k0_pay7]
  simp only [hx, hd, ofBits_1024, ofBits_eps, meanSq_coe]

/-- What a point adds to the gain's gradient. -/
theorem pay8_at (v50 : FVec Ideal S512x1024 .f32) (v62 : FVec Ideal S1x1024 .f32) (j : Fin 1024) :
    k0_pay8 (F := Ideal) v32 v35 v41 v46 v50 v62 (ix2 0 j)
      = v62 (ix2 0 j) + ∑ r, k0_pay4 (F := Ideal) v32 v35 v41 v46 (ix2 r j) * (v50 (ix2 r j) * Ideal.rsqrt
        (Ideal.div (∑ k, v50 (ix2 r k) * v50 (ix2 r k)) (Ideal.ofBits FTy.f32 0x44800000#32) + Ideal.ofBits FTy.f32 0x358637BD#32)) := by
  pointwise [k0_pay8, k0_pay5, k0_pay6, k0_pay7]

theorem pay3_eq (v3 v5 v9 v11 : FVec Ideal S512x256 .bf16) (v15 v17 v21 v22 v23 : FVec Ideal S512x512 .bf16) (v24 v27 : FVec Ideal S512x128 .bf16)
    (r : Fin 512) (j : Fin 2688) : k0_pay3 (F := Ideal) v3 v5 v9 v11 v15 v17 v21 v22 v23 v24 v27 (ix2 r j)
      = if h : j.val < 256 then v3 (ix2 r ⟨j.val, h⟩) + v5 (ix2 r ⟨j.val, h⟩)
        else if h1 : j.val < 512 then v9 (ix2 r ⟨j.val - 256, by omega⟩) + v11 (ix2 r ⟨j.val - 256, by omega⟩)
        else if h2 : j.val < 1024 then v15 (ix2 r ⟨j.val - 512, by omega⟩) + v17 (ix2 r ⟨j.val - 512, by omega⟩)
        else if h3 : j.val < 1536 then v21 (ix2 r ⟨j.val - 1024, by omega⟩)
        else if h4 : j.val < 2048 then v22 (ix2 r ⟨j.val - 1536, by omega⟩)
        else if h5 : j.val < 2560 then v23 (ix2 r ⟨j.val - 2048, by omega⟩)
        else v24 (ix2 r ⟨j.val - 2560, by omega⟩) + v27 (ix2 r ⟨j.val - 2560, by omega⟩) := by
  pointwise [k0_pay3]
  simp only [Nat.sub_sub, Nat.reduceAdd]
  by_cases h0 : j.val < 256
  · rw [dif_pos (show j.val < 256 by omega), dif_pos h0]
  rw [dif_neg (show ¬j.val < 256 by omega), dif_neg h0]
  by_cases h1 : j.val < 512
  · rw [dif_pos (show j.val - 256 < 256 by omega), dif_pos h1]
  rw [dif_neg (show ¬j.val - 256 < 256 by omega), dif_neg h1]
  by_cases h2 : j.val < 1024
  · rw [dif_pos (show j.val - 512 < 512 by omega), dif_pos h2]
  rw [dif_neg (show ¬j.val - 512 < 512 by omega), dif_neg h2]
  by_cases h3 : j.val < 1536
  · rw [dif_pos (show j.val - 1024 < 512 by omega), dif_pos h3]
  rw [dif_neg (show ¬j.val - 1024 < 512 by omega), dif_neg h3]
  by_cases h4 : j.val < 2048
  · rw [dif_pos (show j.val - 1536 < 512 by omega), dif_pos h4]
  rw [dif_neg (show ¬j.val - 1536 < 512 by omega), dif_neg h4]
  by_cases h5 : j.val < 2560
  · rw [dif_pos (show j.val - 2048 < 512 by omega), dif_pos h5]
  rw [dif_neg (show ¬j.val - 2048 < 512 by omega), dif_neg h5]

theorem pay2_at (j : Fin 1024) : k0_pay2 (F := Ideal) (ix2 0 j) = 0 := by
  pointwise [k0_pay2]

variable (m : (ℓ : Loc nD τ sig) → Buf (Elt Ideal) ℓ) (c : Dev nD) (t : Fin cfg0.N)

/-- The reference's cotangent of the projections at this memory's arguments. -/
abbrev mP : Fin 8192 → Fin 2592 → EReal :=
  dP (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14))

/-- The block of cotangents a point packs: the reference's, in the padded order. -/
theorem pay3_at (r : Fin 512) (k : Fin 2688) :
    k0_pay3 (F := Ideal) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (ix2 r k)
      = if h : k.val < 1536 then mP m c (row t r) ⟨k.val, by omega⟩
        else if h1 : k.val < 2560 then mP m c (row t r) ⟨k.val + 32, by omega⟩
        else if h2 : k.val < 2592 then mP m c (row t r) ⟨k.val - 1024, by omega⟩ else 0 := by
  have at_eq : ∀ {N : ℕ} (x : Fin 8192 → Fin N → EReal) (a b : Fin N), a.val = b.val → x (row t r) a = x (row t r) b :=
    fun x a b h => by rw [Fin.ext h]
  rw [pay3_eq]
  by_cases h0 : k.val < 256
  · rw [dif_pos h0, dif_pos (show k.val < 1536 by omega), blk3, blk4, mP, dP_eq, dif_pos h0]
  rw [dif_neg h0]
  by_cases h1 : k.val < 512
  · rw [dif_pos h1, dif_pos (show k.val < 1536 by omega), blk5, blk6, mP, dP_eq, dif_neg (show ¬k.val < 256 by omega), dif_pos h1]
  rw [dif_neg h1]
  by_cases h2 : k.val < 1024
  · rw [dif_pos h2, dif_pos (show k.val < 1536 by omega), blk7, blk8, mP, dP_eq, dif_neg (show ¬k.val < 256 by omega), dif_neg (show ¬k.val < 512 by omega), dif_pos h2]
  rw [dif_neg h2]
  by_cases h3 : k.val < 1536
  · rw [dif_pos h3, dif_pos (show k.val < 1536 by omega), blk9, mP, dP_eq, dif_neg (show ¬k.val < 256 by omega), dif_neg (show ¬k.val < 512 by omega), dif_neg (show ¬k.val < 1024 by omega), dif_pos h3]
  rw [dif_neg h3]
  rw [dif_neg h3]
  by_cases h4 : k.val < 2048
  · rw [dif_pos h4, dif_pos (show k.val < 2560 by omega), blk10, mP, dP_eq, dif_neg (by dsimp only; omega), dif_neg (by dsimp only; omega), dif_neg (by dsimp only; omega), dif_neg (by dsimp only; omega), dif_neg (by dsimp only; omega), dif_neg (by dsimp only; omega), dif_pos (by dsimp only; omega)]
    exact at_eq (fun a b => m ((c : Thread nD τ).loc main_arg11) (ix2 a b)) _ _ (by dsimp only; omega)
  rw [dif_neg h4]
  by_cases h5 : k.val < 2560
  · rw [dif_pos h5, dif_pos h5, blk11, mP, dP_eq, dif_neg (by dsimp only; omega), dif_neg (by dsimp only; omega), dif_neg (by dsimp only; omega), dif_neg (by dsimp only; omega), dif_neg (by dsimp only; omega), dif_neg (by dsimp only; omega), dif_neg (by dsimp only; omega)]
    exact at_eq (fun a b => m ((c : Thread nD τ).loc main_arg12) (ix2 a b)) _ _ (by dsimp only; omega)
  rw [dif_neg h5, dif_neg h5, blk12, blk13, host12, host13]
  by_cases h6 : k.val < 2576
  · rw [dif_pos (show k.val < 2592 by omega), dif_pos (show k.val - 2560 < 16 by omega), dif_neg (show ¬(16 ≤ k.val - 2560 ∧ k.val - 2560 < 32) by omega),
      add_zero, mP, dP_eq, dif_neg (by dsimp only; omega), dif_neg (by dsimp only; omega), dif_neg (by dsimp only; omega), dif_neg (by dsimp only; omega), dif_pos (by dsimp only; omega)]
    exact at_eq (fun a b => m ((c : Thread nD τ).loc main_arg13) (ix2 a b)) _ _ (by dsimp only; omega)
  rw [dif_neg (show ¬k.val - 2560 < 16 by omega), zero_add]
  by_cases h7 : k.val < 2592
  · rw [dif_pos h7, dif_pos (show 16 ≤ k.val - 2560 ∧ k.val - 2560 < 32 by omega), mP, dP_eq, dif_neg (by dsimp only; omega), dif_neg (by dsimp only; omega), dif_neg (by dsimp only; omega), dif_neg (by dsimp only; omega), dif_neg (by dsimp only; omega), dif_pos (by dsimp only; omega)]
    exact at_eq (fun a b => m ((c : Thread nD τ).loc main_arg14) (ix2 a b)) _ _ (by dsimp only; omega)
  rw [dif_neg h7, dif_neg (show ¬(16 ≤ k.val - 2560 ∧ k.val - 2560 < 32) by omega)]

end Kernel

end Cert.InProj

end
-- ==== Proof.InProj.Final.lean ====
/- The three arrays the call leaves are the reference's: the input's gradient, the packed cotangents, the gain's gradient. -/
module

public import proofs.«01_k».proof.Proof.InProj.Point

@[expose] public section

set_option maxRecDepth 16384

noncomputable section

namespace Cert.InProj

open Idealize.ShloMosaic Idealize.ShloMosaic.TcCoe Idealize.SL.Sem
open Cert.InProjBwdIdeal Cert.InProjBwdIdeal.Gen Cert.Reals
open Cert.InProjRefIdeal.Read (val_main_v66 val_main_v72 val_main_v73)

variable (m : (ℓ : Loc nD τ sig) → Buf (Elt Ideal) ℓ) (c : Dev nD)

/-- The reference's cotangent of the normalised rows at this memory's arguments. -/
def mH (t : Fin 8192) (j : Fin 1024) : EReal := ∑ k, mP m c t k * m ((c : Thread nD τ).loc main_arg2) (ix3 0 j k)

theorem mH_eq (t : Fin 8192) (j : Fin 1024) : mH m c t j = dH (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) t j := rfl

theorem final16 : (dats m 0 c).arrAt 16 cfg0.N = val_main_v72 (F := Ideal) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 16 _ (by decide +kernel) fun t hf y => ?_
  blk_simp
  rw [after0_16]
  have key : (outsAt0 m c t.val t.isLt).2.1 y = k0_pay3 (F := Ideal) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y := by
    by_cases h : t.val % 16 = 0
    · rw [outsAt0_A m c t h]
      frame_out
    · rw [outsAt0_B m c t h]
      frame_out
  rw [key]
  clear key
  obtain ⟨r, j, rfl⟩ : ∃ (r : Fin 512) (j : Fin 2688), y = ix2 r j := ⟨y 0, y 1, eq_ix2 y⟩
  have e : (win0_16.blk t).view.emb (ix2 r j) = ix2 (row t r) j := by blk_ext [row, idx t]
  exact (pay3_at m c t r j).trans ((v72_eq _ _ _ _ _ _ _ _ _ _ _ (row t r) j).symm.trans (congrArg _ e.symm))

/-- The cotangent of the normalised rows a point computes. -/
theorem dh_at (t : Fin cfg0.N) (v35 : FVec Ideal S1536x1024 .bf16) (v41 : FVec Ideal S1024x1024 .bf16) (v46 : FVec Ideal S128x1024 .bf16)
    (h35 : ∀ k j, v35 (ix2 k j) = iblk m c 14 t (ix2 ⟨k.val, by omega⟩ j)) (h41 : ∀ k j, v41 (ix2 k j) = iblk m c 14 t (ix2 ⟨1568 + k.val, by omega⟩ j))
    (h46 : ∀ k j, v46 (ix2 k j) = iblk m c 14 t (ix2 ⟨1536 + k.val, by omega⟩ j)) (r : Fin 512) (j : Fin 1024) :
    k0_pay4 (F := Ideal) (k0_pay3 (F := Ideal) (iblk m c 3 t) (iblk m c 4 t) (iblk m c 5 t) (iblk m c 6 t) (iblk m c 7 t) (iblk m c 8 t)
      (iblk m c 9 t) (iblk m c 10 t) (iblk m c 11 t) (iblk m c 12 t) (iblk m c 13 t)) v35 v41 v46 (ix2 r j) = mH m c (row t r) j :=
  pay4_at _ v35 v41 v46 (mP m c (row t r)) (fun k j => m ((c : Thread nD τ).loc main_arg2) (ix3 0 j k)) r (fun k => pay3_at m c t r k)
    (fun k j => (h35 k j).trans ((blk14 m c t _ j).trans (host14 m c _ j)))
    (fun k j => (h41 k j).trans ((blk14 m c t _ j).trans (host14 m c _ j)))
    (fun k j => (h46 k j).trans ((blk14 m c t _ j).trans (host14 m c _ j))) j

/-- The arguments the gradient of the input is computed from are numbers. -/
structure Nums : Prop where
  x : ∀ i, IsNum (m ((c : Thread nD τ).loc main_arg0) i)
  g : ∀ i, IsNum (m ((c : Thread nD τ).loc main_arg1) i)
  w : ∀ i, IsNum (m ((c : Thread nD τ).loc main_arg2) i)
  d4 : ∀ i, IsNum (m ((c : Thread nD τ).loc main_arg4) i)
  d5 : ∀ i, IsNum (m ((c : Thread nD τ).loc main_arg5) i)
  d6 : ∀ i, IsNum (m ((c : Thread nD τ).loc main_arg6) i)
  d7 : ∀ i, IsNum (m ((c : Thread nD τ).loc main_arg7) i)
  d8 : ∀ i, IsNum (m ((c : Thread nD τ).loc main_arg8) i)
  d9 : ∀ i, IsNum (m ((c : Thread nD τ).loc main_arg9) i)
  d10 : ∀ i, IsNum (m ((c : Thread nD τ).loc main_arg10) i)
  d11 : ∀ i, IsNum (m ((c : Thread nD τ).loc main_arg11) i)
  d12 : ∀ i, IsNum (m ((c : Thread nD τ).loc main_arg12) i)
  d13 : ∀ i, IsNum (m ((c : Thread nD τ).loc main_arg13) i)
  d14 : ∀ i, IsNum (m ((c : Thread nD τ).loc main_arg14) i)

theorem mP_num (h : Nums m c) (t : Fin 8192) (k : Fin 2592) : IsNum (mP m c t k) := by
  exact dP_num _ _ _ _ _ _ _ _ _ _ _ h.d4 h.d5 h.d6 h.d7 h.d8 h.d9 h.d10 h.d11 h.d12 h.d13 h.d14 t k

theorem mH_num (h : Nums m c) (t : Fin 8192) (j : Fin 1024) : IsNum (mH m c t j) :=
  IsNum.sum fun k => (mP_num m c h t k).mul (h.w _)

theorem dx_at (hm : Nums m c) (t : Fin cfg0.N) (v49 : FVec Ideal S512x1024 .f32) (h49 : ∀ r j, v49 (ix2 r j) = mH m c (row t r) j) (r : Fin 512) (j : Fin 1024) :
    k0_pay1 (F := Ideal) v49 (k0_pay6 (iblk m c 0 t)) (k0_pay7 (iblk m c 0 t)) (iblk m c 2 t) (iblk m c 1 t) (ix2 r j)
      = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 (row t r) j) := by
  obtain ⟨x, hx⟩ := exists_fun fun k => hm.x (ix3 0 (row t r) k)
  obtain ⟨d, hd⟩ := exists_fun fun k : Fin 1024 => (mH_num m c hm (row t r) k).mul (hm.g (ix2 0 k))
  refine (pay1_at v49 _ _ _ r j x d (fun k => ?_) (fun k => ?_)).trans ?_
  · exact (blk0 m c t r k).trans ((host0 m c _ k).trans (congrFun hx k))
  · exact (congrArg₂ (· * ·) (h49 r k) (blk1 m c t 0 k)).trans (congrFun hd k)
  · refine Eq.trans ?_ (v66_eq _ _ _ _ _ _ _ _ _ _ _ _ _ _ _ (row t r) j x d (congrFun hx) (congrFun hd)).symm
    exact congrArg (· + _) (blk2 m c t r j)

theorem final15 (hm : Nums m c) : (dats m 0 c).arrAt 15 cfg0.N = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 15 _ (by decide +kernel) fun t hf y => ?_
  blk_simp
  rw [after0_15]
  obtain ⟨r, j, rfl⟩ : ∃ (r : Fin 512) (j : Fin 1024), y = ix2 r j := ⟨y 0, y 1, eq_ix2 y⟩
  have e : ((View.whole main_v6_0).slice (win0_15.rect t)).emb (ix2 r j) = ix2 (row t r) j := by blk_ext [row, idx t]
  refine Eq.trans ?_ (congrArg _ e.symm)
  by_cases h : t.val % 16 = 0
  · rw [outsAt0_A m c t h]
    frame_out
    exact dx_at m c hm t _ (dh_at m c t _ _ _ (fun k j => by pointwise) (fun k j => by pointwise) (fun k j => by pointwise)) r j
  · rw [outsAt0_B m c t h]
    frame_out
    exact dx_at m c hm t _ (dh_at m c t _ _ _ (fun k j => by pointwise) (fun k j => by pointwise) (fun k j => by pointwise)) r j

/-- What a grid point adds to it. -/
theorem dg_at (t : Fin cfg0.N) (v35 : FVec Ideal S1536x1024 .bf16) (v41 : FVec Ideal S1024x1024 .bf16) (v46 : FVec Ideal S128x1024 .bf16)
    (h35 : ∀ k j, v35 (ix2 k j) = iblk m c 14 t (ix2 ⟨k.val, by omega⟩ j)) (h41 : ∀ k j, v41 (ix2 k j) = iblk m c 14 t (ix2 ⟨1568 + k.val, by omega⟩ j))
    (h46 : ∀ k j, v46 (ix2 k j) = iblk m c 14 t (ix2 ⟨1536 + k.val, by omega⟩ j)) (v62 : FVec Ideal S1x1024 .f32) (j : Fin 1024) :
    k0_pay8 (F := Ideal) (k0_pay3 (F := Ideal) (iblk m c 3 t) (iblk m c 4 t) (iblk m c 5 t) (iblk m c 6 t) (iblk m c 7 t) (iblk m c 8 t)
      (iblk m c 9 t) (iblk m c 10 t) (iblk m c 11 t) (iblk m c 12 t) (iblk m c 13 t)) v35 v41 v46 (iblk m c 0 t) v62 (ix2 0 j)
      = v62 (ix2 0 j) + ∑ r : Fin 512, dgRow (m ((c : Thread nD τ).loc main_arg0)) (mH m c) (row t r) j := by
  rw [pay8_at]
  refine congrArg (_ + ·) (Finset.sum_congr rfl fun r _ => ?_)
  rw [dh_at m c t v35 v41 v46 h35 h41 h46]
  have hx : ∀ k, iblk m c 0 t (ix2 r k) = m ((c : Thread nD τ).loc main_arg0) (ix3 0 (row t r) k) := fun k => (blk0 m c t r k).trans (host0 m c _ k)
  simp only [hx]
  rfl

theorem final17 : (dats m 0 c).arrAt 17 cfg0.N = val_main_v73 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_after_last 17 t0_15 (by decide +kernel) _ fun j => ?_
  blk_simp
  obtain ⟨j, rfl⟩ : ∃ (k : Fin 1024), j = ix2 0 k := ⟨j 1, by rw [eq_ix2 j]; exact (ix2_inj ..).2 ⟨Subsingleton.elim _ _, rfl⟩⟩
  rw [after0_17, Pipeline.eq_sum_fin_of_reset_step_apply_last (fun n h => (outsAt0 m c n h).2.2) 16 (fun _ => 0)
    (fun t i => ∑ r : Fin 512, dgRow (m ((c : Thread nD τ).loc main_arg0)) (mH m c) (row t r) (i 1))
    (fun t h i => by
      obtain ⟨k, rfl⟩ : ∃ (k : Fin 1024), i = ix2 0 k := ⟨i 1, by rw [eq_ix2 i]; exact (ix2_inj ..).2 ⟨Subsingleton.elim _ _, rfl⟩⟩
      rw [outsAt0_A m c t h]
      frame_out
      refine (dg_at m c t _ _ _ (fun k j => by pointwise) (fun k j => by pointwise) (fun k j => by pointwise) _ k).trans ?_
      rw [pay2_at]
      rfl)
    (fun t h i => by
      obtain ⟨k, rfl⟩ : ∃ (k : Fin 1024), i = ix2 0 k := ⟨i 1, by rw [eq_ix2 i]; exact (ix2_inj ..).2 ⟨Subsingleton.elim _ _, rfl⟩⟩
      rw [outsAt0_B m c t h]
      frame_out
      exact dg_at m c t _ _ _ (fun k j => by pointwise) (fun k j => by pointwise) (fun k j => by pointwise) _ k)
    (le_of_eq N_0) t0_15 rfl (ix2 0 j), zero_add]
  refine Eq.trans ?_ (v73_eq _ _ _ _ _ _ _ _ _ _ _ _ _ j).symm
  rw [Fin.sum_univ_tiles 16 512 rfl (fun t => _)]
  rfl

end Cert.InProj

end
-- ==== Proof.InProj.Pre.lean ====
/- The precondition of the claim, read as: the arguments are numbers. -/
module

public import proofs.«01_k».proof.Defs
public import proofs.«01_k».proof.Proof.InProj.Final

@[expose] public section

set_option maxRecDepth 16384

noncomputable section

namespace Cert.InProj

open Idealize.ShloMosaic Idealize.ShloMosaic.TcCoe
open Cert.InProjBwdIdeal Cert.Reals

theorem nums_of_pre [Cert.Pre_finite_in_proj.Facts] (m : (ℓ : Loc nD τ sig) → Buf (Elt Ideal) ℓ) (h : Cert.Pre_InProjBwdIdeal_finite_in_proj m) (c : Dev nD) :
    Nums m c := by
  have e := congrFun (h c) (Shape.Idx.first (s := Cert.Pre_finite_in_proj.S_) (by decide))
  simp only [Cert.Pre_finite_in_proj.fn, Cert.Pre_finite_in_proj.fn_part2, Cert.Pre_finite_in_proj.fn_part3, Cert.Pre_finite_in_proj.fn_part4, andi] at e
  obtain ⟨e, e14⟩ := and_one _ _ e
  obtain ⟨e, e13⟩ := and_one _ _ e
  obtain ⟨e, e12⟩ := and_one _ _ e
  obtain ⟨e, e11⟩ := and_one _ _ e
  obtain ⟨e, e10⟩ := and_one _ _ e
  obtain ⟨e, e9⟩ := and_one _ _ e
  obtain ⟨e, e8⟩ := and_one _ _ e
  obtain ⟨e, e7⟩ := and_one _ _ e
  obtain ⟨e, e6⟩ := and_one _ _ e
  obtain ⟨e, e5⟩ := and_one _ _ e
  obtain ⟨e, e4⟩ := and_one _ _ e
  obtain ⟨e, e2⟩ := and_one _ _ e
  obtain ⟨e0, e1⟩ := and_one _ _ e
  have one : ∀ a b : Cert.Pre_finite_in_proj.S_.Idx, a = b := fun a b => funext fun k => k.elim0
  exact ⟨fun i => coe_of_cmp _ (reduce_and _ _ _ _ _ one e0 i),
    fun i => coe_of_cmp _ (reduce_and _ _ _ _ _ one e1 i),
    fun i => coe_of_cmp _ (reduce_and _ _ _ _ _ one e2 i),
    fun i => coe_of_cmp _ (reduce_and _ _ _ _ _ one e4 i),
    fun i => coe_of_cmp _ (reduce_and _ _ _ _ _ one e5 i),
    fun i => coe_of_cmp _ (reduce_and _ _ _ _ _ one e6 i),
    fun i => coe_of_cmp _ (reduce_and _ _ _ _ _ one e7 i),
    fun i => coe_of_cmp _ (reduce_and _ _ _ _ _ one e8 i),
    fun i => coe_of_cmp _ (reduce_and _ _ _ _ _ one e9 i),
    fun i => coe_of_cmp _ (reduce_and _ _ _ _ _ one e10 i),
    fun i => coe_of_cmp _ (reduce_and _ _ _ _ _ one e11 i),
    fun i => coe_of_cmp _ (reduce_and _ _ _ _ _ one e12 i),
    fun i => coe_of_cmp _ (reduce_and _ _ _ _ _ one e13 i),
    fun i => coe_of_cmp _ (reduce_and _ _ _ _ _ one e14 i)⟩

end Cert.InProj

end
-- ==== Proof.InProj.RefRun.lean ====
/- The reference's run, its results stated as the read module's values of the arguments. -/
module

public import proofs.«01_k».proof.Proof.Gen.InProjRefIdeal.Run
public import proofs.«01_k».proof.Proof.Gen.InProjRefIdeal.Read

@[expose] public section

set_option maxRecDepth 16384

noncomputable section

namespace Cert.InProj

open Idealize.ShloMosaic Idealize.ShloMosaic.TcCoe Idealize.SL.Sem
open Cert.InProjRefIdeal Cert.InProjRefIdeal.Read

theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v66) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v72) = val_main_v72 (F := Ideal) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v73) = val_main_v73 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c).1.trans (val_main_v66_eq m c), (h c).2.1.trans (val_main_v72_eq m c),
    (h c).2.2.1.trans (val_main_v73_eq (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))), (h c).2.2.2⟩)
    (Cert.InProjRefIdeal.Value.run (F := Ideal) m ρ)

end Cert.InProj

end
-- ==== Proof.Rows.lean ====
/- Rows of numbers under the normalisations and gates of the step: the real functions that the calls compute row by row. -/
module

public import proofs.«01_k».proof.Proof.Reals
public import Mathlib.Analysis.SpecialFunctions.Exp
public import Mathlib.Analysis.SpecialFunctions.Trigonometric.Basic

@[expose] public section

noncomputable section

namespace Cert.Rows

open Idealize.ShloMosaic Cert.Reals
open scoped BigOperators

/-- The reciprocal root mean square of a row. -/
def root {n : ℕ} (x : Fin n → ℝ) : ℝ := (Real.sqrt (meanSq x))⁻¹

/-- The normalised row. -/
def unit {n : ℕ} (x : Fin n → ℝ) (j : Fin n) : ℝ := x j * root x

/-- The pull-back of the normalisation of the row `x` at the cotangent `d`. -/
def pull {n : ℕ} (x d : Fin n → ℝ) (j : Fin n) : ℝ := root x * (d j - unit x j * ((∑ k, d k * unit x k) / 1024))

/-- The logistic function. -/
def sig (z : ℝ) : ℝ := 1 / (1 + Real.exp (-z))

/-- The derivative of `z * sig z`. -/
def dswish (z : ℝ) : ℝ := sig z * (1 + z * (1 - sig z))

/-- The logistic function by the hyperbolic tangent of half the argument. -/
theorem half_tanh (z : ℝ) : 1 / 2 + 1 / 2 * Real.tanh (1 / 2 * z) = sig z := by
  have h : Real.exp (-z) = Real.exp (-(1 / 2 * z)) * Real.exp (-(1 / 2 * z)) := by rw [← Real.exp_add]; ring_nf
  have e : Real.exp (1 / 2 * z) * Real.exp (-(1 / 2 * z)) = 1 := by rw [← Real.exp_add]; simp
  have p := Real.exp_pos (1 / 2 * z)
  have q := Real.exp_pos (-(1 / 2 * z))
  rw [sig, h, Real.tanh_eq_sinh_div_cosh, Real.sinh_eq, Real.cosh_eq]
  generalize Real.exp (1 / 2 * z) = a at *
  generalize Real.exp (-(1 / 2 * z)) = b at *
  have hb : b = a⁻¹ := (eq_inv_of_mul_eq_one_right e)
  subst hb
  field_simp
  ring

theorem one_add_exp_ne (z : ℝ) : 1 + Real.exp z ≠ 0 := by positivity

/-- The pull-back of a normalisation as the chain rule through the mean of squares and the reciprocal root writes it. -/
theorem pull_chain {n : ℕ} (x d : Fin n → ℝ) (j : Fin n) :
    d j * root x + x j * ((∑ k, x k * d k) * (-(1 / 2) * (root x / meanSq x)) / 1024)
      + (∑ k, x k * d k) * (-(1 / 2) * (root x / meanSq x)) / 1024 * x j = pull x d j := by
  have hq := meanSq_pos x
  have hs : Real.sqrt (meanSq x) * Real.sqrt (meanSq x) = meanSq x := Real.mul_self_sqrt hq.le
  have hs0 : Real.sqrt (meanSq x) ≠ 0 := (Real.sqrt_pos.mpr hq).ne'
  have e : ∑ k, d k * (x k * (Real.sqrt (meanSq x))⁻¹) = (∑ k, x k * d k) * (Real.sqrt (meanSq x))⁻¹ := by
    rw [Finset.sum_mul]
    exact Finset.sum_congr rfl fun k _ => by ring
  simp only [pull, unit, root, e]
  generalize Real.sqrt (meanSq x) = s at *
  rw [← hs]
  field_simp
  ring

theorem ofBits_half : Ideal.ofBits .f32 0x3F000000#32 = ((1 / 2 : ℝ) : EReal) := by
  simp only [Ideal.ofBits, Ideal.ieee]
  simp
  rw [← EReal.coe_mul]
  norm_num

theorem ofBits_one : Ideal.ofBits .f32 0x3F800000#32 = ((1 : ℝ) : EReal) := by
  simp only [Ideal.ofBits, Ideal.ieee]
  simp
  rw [← EReal.coe_mul]
  norm_num

theorem ofBits_two : Ideal.ofBits .f32 0x40000000#32 = ((2 : ℝ) : EReal) := by
  simp only [Ideal.ofBits, Ideal.ieee]
  simp
  rw [← EReal.coe_mul]
  norm_num

theorem ofBits_inv_1024 : Ideal.ofBits .f32 0x3A800000#32 = ((1 / 1024 : ℝ) : EReal) := by
  simp only [Ideal.ofBits, Ideal.ieee]
  simp
  rw [← EReal.coe_mul]
  norm_num

theorem div_1024 (x : ℝ) : Ideal.div (x : EReal) ((1024 : ℝ) : EReal) = ((x / 1024 : ℝ) : EReal) := div_coe (by norm_num) x

theorem rsqrt_meanSq {n : ℕ} (x : Fin n → ℝ) : Ideal.rsqrt (((∑ k, x k * x k) / 1024 + eps : ℝ) : EReal) = ((root x : ℝ) : EReal) :=
  rsqrt_coe (meanSq_pos x)

theorem sig_coe (z : ℝ) : Ideal.div ((1 : ℝ) : EReal) ((1 + Real.exp (-z) : ℝ) : EReal) = ((sig z : ℝ) : EReal) :=
  div_coe (one_add_exp_ne (-z)) 1

end Cert.Rows

end
-- ==== Proof.Ffn.Spec.lean ====
/- The channel mixer, the last norm and the loss of one token, and the pull-back of the loss, over the reals. -/
module

public import proofs.«01_k».proof.Proof.Rows

@[expose] public section

noncomputable section

namespace Cert.Ffn

open Cert.Reals Cert.Rows
open scoped BigOperators

/-- The weights: the two gains and the three matrices. -/
structure Par where
  g2 : Fin 1024 → ℝ
  gf : Fin 1024 → ℝ
  wg : Fin 1024 → Fin 2816 → ℝ
  wu : Fin 1024 → Fin 2816 → ℝ
  wd : Fin 2816 → Fin 1024 → ℝ

variable (P : Par) (x y : Fin 1024 → ℝ)

def hid (j : Fin 1024) : ℝ := unit x j * P.g2 j
def gate (n : Fin 2816) : ℝ := ∑ j, hid P x j * P.wg j n
def up (n : Fin 2816) : ℝ := ∑ j, hid P x j * P.wu j n
def swish (n : Fin 2816) : ℝ := gate P x n * sig (gate P x n)
def act (n : Fin 2816) : ℝ := swish P x n * up P x n
def out (j : Fin 1024) : ℝ := x j + ∑ n, act P x n * P.wd n j
def err (j : Fin 1024) : ℝ := unit (out P x) j * P.gf j - y j
def dy (j : Fin 1024) : ℝ := err P x y j * (1 / 1024)
def dout (j : Fin 1024) : ℝ := pull (out P x) (fun k => dy P x y k * P.gf k) j
def dact (n : Fin 2816) : ℝ := ∑ j, dout P x y j * P.wd n j
def dgate (n : Fin 2816) : ℝ := dact P x y n * up P x n * dswish (gate P x n)
def dup (n : Fin 2816) : ℝ := dact P x y n * swish P x n
def dhid (j : Fin 1024) : ℝ := (∑ n, dgate P x y n * P.wg j n) + ∑ n, dup P x y n * P.wu j n
def dx (j : Fin 1024) : ℝ := dout P x y j + pull x (fun k => dhid P x y k * P.g2 k) j
def loss : ℝ := (∑ j, err P x y j * err P x y j) / 1024

end Cert.Ffn

end
-- ==== Proof.Ffn.Point.lean ====
/- What one grid point of the call computes from rows of numbers: the rows' real functions. -/
module

public import proofs.«01_k».proof.Proof.Gen.FfnIdeal.Skeleton
public import proofs.«01_k».proof.Proof.Ffn.Spec
public import Idealize.ShloMosaic.Lib.Pointwise

@[expose] public section

set_option maxRecDepth 16384

noncomputable section

namespace Cert.Ffn

open Idealize.ShloMosaic Idealize.ShloMosaic.TcCoe Idealize.SL.Sem
open Cert.FfnIdeal Cert.FfnIdeal.Gen Cert.Reals Cert.Rows

variable (P : Par) (X Y : Fin 256 → Fin 1024 → ℝ)
  {v3 v60 : FVec Ideal S256x1024 .f32} {v4 v5 : FVec Ideal S1x1024 .f32} {v21 v24 v44 : FVec Ideal S2816x1024 .bf16}
  (h3 : ∀ r j, v3 (ix2 r j) = (X r j : EReal)) (h4 : ∀ j, v4 (ix2 0 j) = (P.g2 j : EReal)) (h5 : ∀ j, v5 (ix2 0 j) = (P.gf j : EReal))
  (h21 : ∀ n j, v21 (ix2 n j) = (P.wg j n : EReal)) (h24 : ∀ n j, v24 (ix2 n j) = (P.wu j n : EReal))
  (h44 : ∀ n j, v44 (ix2 n j) = (P.wd n j : EReal)) (h60 : ∀ r j, v60 (ix2 r j) = (Y r j : EReal))

include h3 in
theorem pay8_at (r : Fin 256) : k0_pay8 (F := Ideal) v3 (ix2 r 0) = (root (X r) : EReal) := by
  pointwise [k0_pay8]
  simp only [h3, ofBits_1024, ofBits_eps, ← EReal.coe_mul, coe_sum, div_1024, ← EReal.coe_add, rsqrt_meanSq]

include h3 in
theorem pay9_at (r : Fin 256) (j : Fin 1024) : k0_pay9 (F := Ideal) v3 (ix2 r j) = (unit (X r) j : EReal) := by
  pointwise [k0_pay9]
  simp only [pay8_at X h3, h3, ← EReal.coe_mul, unit]

include h3 h4 in
theorem pay10_at (r : Fin 256) (j : Fin 1024) : k0_pay10 (F := Ideal) v3 v4 (ix2 r j) = (hid P (X r) j : EReal) := by
  pointwise [k0_pay10]
  simp only [pay9_at X h3, h4, ← EReal.coe_mul, hid]

include h3 h4 h21 in
theorem pay11_at (r : Fin 256) (n : Fin 2816) : k0_pay11 (F := Ideal) v3 v4 v21 (ix2 r n) = (gate P (X r) n : EReal) := by
  pointwise [k0_pay11]
  simp only [pay10_at P X h3 h4, h21, ← EReal.coe_mul, coe_sum, gate]

include h3 h4 h24 in
theorem pay12_at (r : Fin 256) (n : Fin 2816) : k0_pay12 (F := Ideal) v3 v4 v24 (ix2 r n) = (up P (X r) n : EReal) := by
  pointwise [k0_pay12]
  simp only [pay10_at P X h3 h4, h24, ← EReal.coe_mul, coe_sum, up]

include h3 h4 h21 in
theorem pay13_at (r : Fin 256) (n : Fin 2816) : k0_pay13 (F := Ideal) v3 v4 v21 (ix2 r n) = (sig (gate P (X r) n) : EReal) := by
  pointwise [k0_pay13]
  simp only [pay11_at P X h3 h4 h21, ofBits_half, ← EReal.coe_mul, Ideal.tanh_coe, ← EReal.coe_add, half_tanh]

include h3 h4 h21 in
theorem pay14_at (r : Fin 256) (n : Fin 2816) : k0_pay14 (F := Ideal) v3 v4 v21 (ix2 r n) = (swish P (X r) n : EReal) := by
  pointwise [k0_pay14]
  simp only [pay11_at P X h3 h4 h21, pay13_at P X h3 h4 h21, ← EReal.coe_mul, swish]

variable {v26 v34 v23 v33 v40 : FVec Ideal S256x2816 .f32} {v6 : FVec Ideal S1x1024 .f32}
  (h23 : ∀ r n, v23 (ix2 r n) = (gate P (X r) n : EReal)) (h33 : ∀ r n, v33 (ix2 r n) = (sig (gate P (X r) n) : EReal))
  (h26 : ∀ r n, v26 (ix2 r n) = (up P (X r) n : EReal)) (h34 : ∀ r n, v34 (ix2 r n) = (swish P (X r) n : EReal))
  (h40 : ∀ r n, v40 (ix2 r n) = (dswish (gate P (X r) n) : EReal)) (h6 : ∀ j, v6 (ix2 0 j) = (P.gf j : EReal))

include h23 h33 in
theorem pay15_at (r : Fin 256) (n : Fin 2816) : k0_pay15 v23 v33 (ix2 r n) = (dswish (gate P (X r) n) : EReal) := by
  pointwise [k0_pay15]
  simp only [h23, h33, ← EReal.coe_one, ← EReal.coe_mul, ← EReal.coe_add, ← EReal.coe_sub, dswish]

include h26 h34 in
theorem pay16_at (r : Fin 256) (n : Fin 2816) : k0_pay16 v26 v34 (ix2 r n) = (act P (X r) n : EReal) := by
  pointwise [k0_pay16]
  simp only [h26, h34, ← EReal.coe_mul, act]

include h3 h26 h34 h44 in
theorem pay17_at (r : Fin 256) (j : Fin 1024) : k0_pay17 v3 v26 v34 v44 (ix2 r j) = (out P (X r) j : EReal) := by
  pointwise [k0_pay17]
  simp only [pay16_at P X h26 h34, h3, h44, ← EReal.coe_mul, coe_sum, ← EReal.coe_add, out]

include h3 h26 h34 h44 in
theorem pay18_at (r : Fin 256) : k0_pay18 v3 v26 v34 v44 (ix2 r 0) = (root (out P (X r)) : EReal) := by
  pointwise [k0_pay18]
  simp only [pay17_at P X h3 h44 h26 h34, ofBits_1024, ofBits_eps, ← EReal.coe_mul, coe_sum, div_1024, ← EReal.coe_add, rsqrt_meanSq]

include h3 h26 h34 h44 in
theorem pay19_at (r : Fin 256) (j : Fin 1024) : k0_pay19 v3 v26 v34 v44 (ix2 r j) = (unit (out P (X r)) j : EReal) := by
  pointwise [k0_pay19]
  simp only [pay17_at P X h3 h44 h26 h34, pay18_at P X h3 h44 h26 h34, ← EReal.coe_mul, unit]

include h3 h26 h34 h44 h6 h60 in
theorem pay20_at (r : Fin 256) (j : Fin 1024) : k0_pay20 v3 v6 v26 v34 v44 v60 (ix2 r j) = (err P (X r) (Y r) j : EReal) := by
  pointwise [k0_pay20]
  simp only [pay19_at P X h3 h44 h26 h34, h6, h60, ← EReal.coe_mul, ← EReal.coe_sub, err]

include h3 h26 h34 h44 h6 h60 in
theorem pay21_at (v62 : FVec Ideal S8x128 .f32) (a : Fin 8) (b : Fin 128) : k0_pay21 v3 v6 v26 v34 v44 v60 v62 (ix2 a b)
    = v62 (ix2 a b) + ((1 / 2 * ∑ r, loss P (X r) (Y r) : ℝ) : EReal) := by
  pointwise [k0_pay21]
  simp only [pay20_at P X Y h3 h44 h60 h26 h34 h6, ofBits_1024, ofBits_half, ← EReal.coe_mul, coe_sum, div_1024, loss,
    Finset.univ_unique, Finset.sum_singleton]

variable {v55 : FVec Ideal S256x1 .f32} {v57 v61 : FVec Ideal S256x1024 .f32} {v100 : FVec Ideal S2816x1024 .bf16}
  (h55 : ∀ r, v55 (ix2 r 0) = (root (out P (X r)) : EReal)) (h57 : ∀ r j, v57 (ix2 r j) = (unit (out P (X r)) j : EReal))
  (h61 : ∀ r j, v61 (ix2 r j) = (err P (X r) (Y r) j : EReal)) (h100 : ∀ n j, v100 (ix2 n j) = (P.wd n j : EReal))

include h61 in
theorem pay22_at (r : Fin 256) (j : Fin 1024) : k0_pay22 v61 (ix2 r j) = (dy P (X r) (Y r) j : EReal) := by
  pointwise [k0_pay22]
  simp only [h61, ofBits_inv_1024, ← EReal.coe_mul, dy]

include h57 h61 in
theorem pay23_at (v79 : FVec Ideal S1x1024 .f32) (j : Fin 1024) : k0_pay23 v57 v61 v79 (ix2 0 j)
    = v79 (ix2 0 j) + ((∑ r, dy P (X r) (Y r) j * unit (out P (X r)) j : ℝ) : EReal) := by
  pointwise [k0_pay23]
  simp only [pay22_at P X Y h61, h57, ← EReal.coe_mul, coe_sum]

include h6 h55 h57 h61 in
theorem pay24_at (r : Fin 256) (j : Fin 1024) : k0_pay24 v6 v55 v57 v61 (ix2 r j) = (dout P (X r) (Y r) j : EReal) := by
  pointwise [k0_pay24]
  simp only [pay22_at P X Y h61, h6, h55, h57, ofBits_1024, ← EReal.coe_mul, coe_sum, div_1024, ← EReal.coe_sub, dout, pull]

include h6 h55 h57 h61 in
theorem pay25_at (r : Fin 256) (j : Fin 1024) : k0_pay25 v6 v55 v57 v61 (ix2 r j) = (dout P (X r) (Y r) j : EReal) := by
  pointwise [k0_pay25]
  simp only [pay24_at P X Y h6 h55 h57 h61]

include h6 h55 h57 h61 h100 in
theorem pay26_at (r : Fin 256) (n : Fin 2816) : k0_pay26 v6 v55 v57 v61 v100 (ix2 r n) = (dact P (X r) (Y r) n : EReal) := by
  pointwise [k0_pay26]
  simp only [pay25_at P X Y h6 h55 h57 h61, h100, ← EReal.coe_mul, coe_sum, dact]

include h6 h26 h40 h55 h57 h61 h100 in
theorem pay27_at (r : Fin 256) (n : Fin 2816) : k0_pay27 v6 v26 v40 v55 v57 v61 v100 (ix2 r n) = (dgate P (X r) (Y r) n : EReal) := by
  pointwise [k0_pay27]
  simp only [pay26_at P X Y h6 h55 h57 h61 h100, h26, h40, ← EReal.coe_mul, dgate]

include h6 h34 h55 h57 h61 h100 in
theorem pay28_at (r : Fin 256) (n : Fin 2816) : k0_pay28 v6 v34 v55 v57 v61 v100 (ix2 r n) = (dup P (X r) (Y r) n : EReal) := by
  pointwise [k0_pay28]
  simp only [pay26_at P X Y h6 h55 h57 h61 h100, h34, ← EReal.coe_mul, dup]

variable {v14 : FVec Ideal S256x1 .f32} {v16 v97 : FVec Ideal S256x1024 .f32} {v105 v107 : FVec Ideal S256x2816 .bf16}
  {v110 v113 : FVec Ideal S2816x1024 .bf16}
  (h14 : ∀ r, v14 (ix2 r 0) = (root (X r) : EReal)) (h16 : ∀ r j, v16 (ix2 r j) = (unit (X r) j : EReal))
  (h97 : ∀ r j, v97 (ix2 r j) = (dout P (X r) (Y r) j : EReal)) (h105 : ∀ r n, v105 (ix2 r n) = (dgate P (X r) (Y r) n : EReal))
  (h107 : ∀ r n, v107 (ix2 r n) = (dup P (X r) (Y r) n : EReal)) (h110 : ∀ n j, v110 (ix2 n j) = (P.wg j n : EReal))
  (h113 : ∀ n j, v113 (ix2 n j) = (P.wu j n : EReal))

include h105 h107 h110 h113 in
theorem pay1_at (r : Fin 256) (j : Fin 1024) : k0_pay1 v105 v107 v110 v113 (ix2 r j) = (dhid P (X r) (Y r) j : EReal) := by
  pointwise [k0_pay1]
  simp only [h105, h107, h110, h113, ← EReal.coe_mul, coe_sum, ← EReal.coe_add, dhid]

include h16 h105 h107 h110 h113 in
theorem pay2_at (v117 : FVec Ideal S1x1024 .f32) (j : Fin 1024) : k0_pay2 v16 v105 v107 v110 v113 v117 (ix2 0 j)
    = v117 (ix2 0 j) + ((∑ r, dhid P (X r) (Y r) j * unit (X r) j : ℝ) : EReal) := by
  pointwise [k0_pay2]
  simp only [pay1_at P X Y h105 h107 h110 h113, h16, ← EReal.coe_mul, coe_sum]

include h4 h14 h16 h97 h105 h107 h110 h113 in
theorem pay3_at (r : Fin 256) (j : Fin 1024) : k0_pay3 v4 v14 v16 v97 v105 v107 v110 v113 (ix2 r j) = (dx P (X r) (Y r) j : EReal) := by
  pointwise [k0_pay3]
  simp only [pay1_at P X Y h105 h107 h110 h113, h4, h14, h16, h97, ofBits_1024, ← EReal.coe_mul, coe_sum, div_1024, ← EReal.coe_sub,
    ← EReal.coe_add, dx, pull]

theorem pay4_at (a : Fin 8) (b : Fin 128) : k0_pay4 (F := Ideal) (ix2 a b) = 0 := by
  pointwise [k0_pay4]

theorem pay5_at (j : Fin 1024) : k0_pay5 (F := Ideal) (ix2 0 j) = 0 := by
  pointwise [k0_pay5]

theorem pay6_at (j : Fin 1024) : k0_pay6 (F := Ideal) (ix2 0 j) = 0 := by
  pointwise [k0_pay6]

include h5 in
theorem pay7_at (j : Fin 1024) : k0_pay7 (F := Ideal) v5 (ix2 0 j) = (P.gf j : EReal) := by
  pointwise [k0_pay7]
  exact h5 j

end Cert.Ffn

end
-- ==== Proof.Ffn.Blocks.lean ====
/- The input blocks of the call's grid points, read at an index: the rows of the arguments a point works on. -/
module

public import proofs.«01_k».proof.Proof.Gen.FfnIdeal.Value
public import proofs.«01_k».proof.Proof.Ffn.Point
public import Idealize.ShloMosaic.Lib.Pipeline.ValueKit
public import Idealize.ShloMosaic.Lib.Claim

@[expose] public section

set_option maxRecDepth 16384

noncomputable section

namespace Cert.Ffn

open Idealize.ShloMosaic Idealize.ShloMosaic.TcCoe Idealize.SL.Sem
open Cert.FfnIdeal Cert.FfnIdeal.Gen Cert.Reals Cert.Rows

theorem idx : ∀ t : Fin cfg0.N,
    win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![0, 0] ∧ win0_14.index t = ![0, 0] ∧ win0_15.index t = ![0, 0] :=
  (by decide +kernel : ∀ t : Fin grid0.N, _)

/-- The row of the whole arrays that is row `r` of point `t`'s blocks. -/
def row (t : Fin cfg0.N) (r : Fin 256) : Fin 8192 := ⟨t.val * 256 + r.val, by have h : t.val < 32 := t.isLt; omega⟩

variable (m : (ℓ : Loc nD τ sig) → Buf (Elt Ideal) ℓ) (c : Dev nD) (t : Fin cfg0.N)

/-- The call's arguments are the rows and weights of these numbers. -/
structure Nums (P : Par) (X Y : Fin 8192 → Fin 1024 → ℝ) : Prop where
  h0 : ∀ t j, m ((c : Thread nD τ).loc main_arg0) (ix2 t j) = (X t j : EReal)
  h1 : ∀ t j, m ((c : Thread nD τ).loc main_arg1) (ix2 t j) = (Y t j : EReal)
  h2 : ∀ j, m ((c : Thread nD τ).loc main_arg2) (ix2 0 j) = (P.g2 j : EReal)
  h3 : ∀ j, m ((c : Thread nD τ).loc main_arg3) (ix1 j) = (P.gf j : EReal)
  h4 : ∀ j n, m ((c : Thread nD τ).loc main_arg4) (ix3 0 j n) = (P.wg j n : EReal)
  h5 : ∀ j n, m ((c : Thread nD τ).loc main_arg5) (ix3 0 j n) = (P.wu j n : EReal)
  h6 : ∀ n j, m ((c : Thread nD τ).loc main_arg6) (ix3 0 n j) = (P.wd n j : EReal)

theorem host3 (j : Fin 1024) : V m c main_v0 (ix2 0 j) = m ((c : Thread nD τ).loc main_arg3) (ix1 j) := by
  simp only [V, hostOps0]
  entry_read
  pointwise

theorem host4 (n : Fin 2816) (j : Fin 1024) : V m c main_v3 (ix2 n j) = m ((c : Thread nD τ).loc main_arg4) (ix3 0 j n) := by
  simp only [V, hostOps0]
  entry_read
  pointwise

theorem host5 (n : Fin 2816) (j : Fin 1024) : V m c main_v6 (ix2 n j) = m ((c : Thread nD τ).loc main_arg5) (ix3 0 j n) := by
  simp only [V, hostOps0]
  entry_read
  pointwise

theorem host6 (n : Fin 2816) (j : Fin 1024) : V m c main_v8 (ix2 n j) = m ((c : Thread nD τ).loc main_arg6) (ix3 0 n j) := by
  simp only [V, hostOps0]
  entry_read
  pointwise

theorem raw0 (r : Fin 256) (l : Fin 1024) : iblk m c 0 t (ix2 r l) = m ((c : Thread nD τ).loc main_arg0) (ix2 (row t r) l) := by
  blk_point [iblk, row, idx t]

theorem raw1 (r : Fin 256) (l : Fin 1024) : iblk m c 1 t (ix2 r l) = m ((c : Thread nD τ).loc main_arg1) (ix2 (row t r) l) := by
  blk_point [iblk, row, idx t]

theorem raw2 (r : Fin 1) (l : Fin 1024) : iblk m c 2 t (ix2 r l) = m ((c : Thread nD τ).loc main_arg2) (ix2 r l) := by
  blk_point [iblk, row, idx t]

theorem raw3 (r : Fin 1) (l : Fin 1024) : iblk m c 3 t (ix2 r l) = V m c main_v0 (ix2 r l) := by
  blk_point [iblk, row, idx t]

theorem raw4 (n : Fin 2816) (l : Fin 1024) : iblk m c 4 t (ix2 n l) = V m c main_v3 (ix2 n l) := by
  blk_point [iblk, row, idx t]

theorem raw5 (n : Fin 2816) (l : Fin 1024) : iblk m c 5 t (ix2 n l) = V m c main_v6 (ix2 n l) := by
  blk_point [iblk, row, idx t]

theorem raw6 (n : Fin 2816) (l : Fin 1024) : iblk m c 6 t (ix2 n l) = V m c main_v8 (ix2 n l) := by
  blk_point [iblk, row, idx t]

variable {m c} {P : Par} {X Y : Fin 8192 → Fin 1024 → ℝ} (H : Nums m c P X Y)

include H

theorem b0 (r : Fin 256) (l : Fin 1024) : iblk m c 0 t (ix2 r l) = (X (row t r) l : EReal) := (raw0 m c t r l).trans (H.h0 _ _)
theorem b1 (r : Fin 256) (l : Fin 1024) : iblk m c 1 t (ix2 r l) = (Y (row t r) l : EReal) := (raw1 m c t r l).trans (H.h1 _ _)
theorem b2 (l : Fin 1024) : iblk m c 2 t (ix2 0 l) = (P.g2 l : EReal) := (raw2 m c t 0 l).trans (H.h2 _)
theorem b3 (l : Fin 1024) : iblk m c 3 t (ix2 0 l) = (P.gf l : EReal) := (raw3 m c t 0 l).trans ((host3 m c l).trans (H.h3 _))
theorem b4 (n : Fin 2816) (l : Fin 1024) : iblk m c 4 t (ix2 n l) = (P.wg l n : EReal) := (raw4 m c t n l).trans ((host4 m c n l).trans (H.h4 _ _))
theorem b5 (n : Fin 2816) (l : Fin 1024) : iblk m c 5 t (ix2 n l) = (P.wu l n : EReal) := (raw5 m c t n l).trans ((host5 m c n l).trans (H.h5 _ _))
theorem b6 (n : Fin 2816) (l : Fin 1024) : iblk m c 6 t (ix2 n l) = (P.wd n l : EReal) := (raw6 m c t n l).trans ((host6 m c n l).trans (H.h6 _ _))

end Cert.Ffn

end
-- ==== Proof.Ffn.Pre.lean ====
/- The precondition of the claim, read as: the arguments are rows and weights of numbers. -/
module

public import proofs.«01_k».proof.Defs
public import proofs.«01_k».proof.Proof.Finite
public import proofs.«01_k».proof.Proof.Ffn.Blocks

@[expose] public section

set_option maxRecDepth 16384

noncomputable section

namespace Cert.Ffn

open Idealize.ShloMosaic Idealize.ShloMosaic.TcCoe
open Cert.FfnIdeal Cert.Reals

theorem nums_of_pre [Cert.Pre_finite_ffn.Facts] (m : (ℓ : Loc nD τ sig) → Buf (Elt Ideal) ℓ) (h : Cert.Pre_FfnIdeal_finite_ffn m) (c : Dev nD) :
    ∃ P X Y, Nums m c P X Y := by
  have e := congrFun (h c) (Shape.Idx.first (s := Cert.Pre_finite_ffn.S_) (by decide))
  simp only [Cert.Pre_finite_ffn.fn, Cert.Pre_finite_ffn.fn_part1, andi] at e
  obtain ⟨e, e6⟩ := and_one _ _ e
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  have one : ∀ a b : Cert.Pre_finite_ffn.S_.Idx, a = b := fun a b => funext fun k => k.elim0
  choose f0 g0 using fun i => coe_of_cmp _ (reduce_and _ _ _ _ _ one e0 i)
  choose f1 g1 using fun i => coe_of_cmp _ (reduce_and _ _ _ _ _ one e1 i)
  choose f2 g2 using fun i => coe_of_cmp _ (reduce_and _ _ _ _ _ one e2 i)
  choose f3 g3 using fun i => coe_of_cmp _ (reduce_and _ _ _ _ _ one e3 i)
  choose f4 g4 using fun i => coe_of_cmp _ (reduce_and _ _ _ _ _ one e4 i)
  choose f5 g5 using fun i => coe_of_cmp _ (reduce_and _ _ _ _ _ one e5 i)
  choose f6 g6 using fun i => coe_of_cmp _ (reduce_and _ _ _ _ _ one e6 i)
  exact ⟨⟨fun j => f2 (ix2 0 j), fun j => f3 (ix1 j), fun j n => f4 (ix3 0 j n), fun j n => f5 (ix3 0 j n), fun n j => f6 (ix3 0 n j)⟩,
    fun t j => f0 (ix2 t j), fun t j => f1 (ix2 t j), fun _ _ => g0 _, fun _ _ => g1 _, fun _ => g2 _, fun _ => g3 _, fun _ _ => g4 _,
    fun _ _ => g5 _, fun _ _ => g6 _⟩

end Cert.Ffn

end
-- ==== Proof.Ffn.RefRun.lean ====
/- The reference's run, its results stated as the read module's values of the arguments. -/
module

public import proofs.«01_k».proof.Proof.Gen.FfnRefIdeal.Run
public import proofs.«01_k».proof.Proof.Gen.FfnRefIdeal.Read

@[expose] public section

set_option maxRecDepth 16384

noncomputable section

namespace Cert.Ffn

open Idealize.ShloMosaic Idealize.ShloMosaic.TcCoe Idealize.SL.Sem
open Idealize.ShloMosaic.StableHlo Cert.FfnRefIdeal Cert.FfnRefIdeal.Read

set_option maxHeartbeats 1000000 in
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v104) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v105) = val_main_v105 (F := Ideal) (m ((c.tc : Thread nD τ).loc main_arg0)) (m ((c.tc : Thread nD τ).loc main_arg2))
      ∧ r.2.mem ((c.tc : Thread nD τ).loc main_v106) = val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v107) = val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v108) = val_main_v108 (F := Ideal) (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_v109) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v111) = val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v112) = val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (val_main_v104_eq (launchContents m c)),
    (h c).2.1.trans (val_main_v105_eq (launchContents m c)),
    (h c).2.2.1.trans (val_main_v106_eq (launchContents m c)),
    (h c).2.2.2.1.trans (val_main_v107_eq (launchContents m c)),
    (h c).2.2.2.2.1.trans (val_main_v108_eq (launchContents m c)),
    (h c).2.2.2.2.2.1.trans (val_main_v109_eq (launchContents m c)),
    (h c).2.2.2.2.2.2.1.trans (val_main_v110_eq (launchContents m c)),
    (h c).2.2.2.2.2.2.2.1.trans (val_main_v111_eq (launchContents m c)),
    (h c).2.2.2.2.2.2.2.2.1.trans (val_main_v112_eq (launchContents m c)),
    (h c).2.2.2.2.2.2.2.2.2⟩)
    (Cert.FfnRefIdeal.Value.run (F := Ideal) m ρ)

end Cert.Ffn

end
-- ==== Proof.Ffn.Ref.lean ====
/- The reference's values of the call at rows of numbers: the rows' real functions. -/
module

public import proofs.«01_k».proof.Proof.Gen.FfnRefIdeal.Read
public import proofs.«01_k».proof.Proof.Ffn.Spec
public import Idealize.ShloMosaic.Lib.Pointwise

@[expose] public section

set_option maxRecDepth 16384

noncomputable section

namespace Cert.Ffn.Ref

open Idealize.ShloMosaic Idealize.ShloMosaic.TcCoe Idealize.SL.Sem
open Cert.FfnRefIdeal Cert.FfnRefIdeal.Gen Cert.FfnRefIdeal.Read Cert.Reals Cert.Rows

variable {P : Par} {X Y : Fin 8192 → Fin 1024 → ℝ}
  {x0 x1 : FVec Ideal S8192x1024 .f32} {x2 : FVec Ideal S1x1024 .f32} {x3 : FVec Ideal S1024 .f32}
  {x4 x5 : FVec Ideal S1x1024x2816 .f32} {x6 : FVec Ideal S1x2816x1024 .f32}
  (h0 : ∀ t j, x0 (ix2 t j) = (X t j : EReal)) (h1 : ∀ t j, x1 (ix2 t j) = (Y t j : EReal)) (h2 : ∀ j, x2 (ix2 0 j) = (P.g2 j : EReal))
  (h3 : ∀ j, x3 (ix1 j) = (P.gf j : EReal)) (h4 : ∀ j n, x4 (ix3 0 j n) = (P.wg j n : EReal))
  (h5 : ∀ j n, x5 (ix3 0 j n) = (P.wu j n : EReal)) (h6 : ∀ n j, x6 (ix3 0 n j) = (P.wd n j : EReal))

include h0 in
theorem v7_at (t : Fin 8192) : val_main_v7 (F := Ideal) x0 (ix2 t 0) = ((meanSq (X t) : ℝ) : EReal) := by
  pointwise [val_main_v7, val_main_v6, val_main_v5, val_main_v4, val_main_v3, val_main_v2, val_main_v1, val_main_cst, val_main_cst_0, val_main_cst_1]
  simp only [h0, ofBits_1024, ofBits_eps, div_1024, ← EReal.coe_mul, coe_sum, ← EReal.coe_add, ← EReal.coe_sub, Finset.univ_unique,
    Finset.sum_singleton, Fin.default_eq_zero]
  rfl

include h0 in
theorem v8_at (t : Fin 8192) : val_main_v8 (F := Ideal) x0 (ix2 t 0) = ((root (X t) : ℝ) : EReal) := by
  pointwise [val_main_v8]
  simp only [v7_at h0, rsqrt_coe (meanSq_pos _), ← EReal.coe_mul, coe_sum, ← EReal.coe_add, ← EReal.coe_sub, Finset.univ_unique,
    Finset.sum_singleton, Fin.default_eq_zero]
  rfl

include h0 in
theorem v13_at (t : Fin 8192) (j : Fin 1024) : val_main_v13 (F := Ideal) x0 (ix2 t j) = ((unit (X t) j : ℝ) : EReal) := by
  pointwise [val_main_v13, val_main_v12]
  simp only [v8_at h0, h0, unit, ← EReal.coe_mul, coe_sum, ← EReal.coe_add, ← EReal.coe_sub, Finset.univ_unique, Finset.sum_singleton,
    Fin.default_eq_zero]

include h0 h2 in
theorem v16_at (t : Fin 8192) (j : Fin 1024) : val_main_v16 (F := Ideal) x0 x2 (ix2 t j) = ((hid P (X t) j : ℝ) : EReal) := by
  pointwise [val_main_v16, val_main_v15, val_main_v14, val_main_v0]
  simp only [v13_at h0, h2, hid, ← EReal.coe_mul, coe_sum, ← EReal.coe_add, ← EReal.coe_sub, Finset.univ_unique, Finset.sum_singleton,
    Fin.default_eq_zero]

include h0 h2 h4 in
theorem v18_at (t : Fin 8192) (n : Fin 2816) : val_main_v18 (F := Ideal) x0 x2 x4 (ix2 t n) = ((gate P (X t) n : ℝ) : EReal) := by
  pointwise [val_main_v18, val_main_v17]
  simp only [v16_at h0 h2, h4, gate, ← EReal.coe_mul, coe_sum, ← EReal.coe_add, ← EReal.coe_sub, Finset.univ_unique, Finset.sum_singleton,
    Fin.default_eq_zero]

include h0 h2 h5 in
theorem v20_at (t : Fin 8192) (n : Fin 2816) : val_main_v20 (F := Ideal) x0 x2 x5 (ix2 t n) = ((up P (X t) n : ℝ) : EReal) := by
  pointwise [val_main_v20, val_main_v19]
  simp only [v16_at h0 h2, h5, up, ← EReal.coe_mul, coe_sum, ← EReal.coe_add, ← EReal.coe_sub, Finset.univ_unique, Finset.sum_singleton,
    Fin.default_eq_zero]

include h0 h2 h4 in
theorem v21_2_at (t : Fin 8192) (n : Fin 2816) : val_main_v21_2 (F := Ideal) x0 x2 x4 (ix2 t n) = ((sig (gate P (X t) n) : ℝ) : EReal) := by
  pointwise [val_main_v21_2, val_main_call0_v4, val_main_call0_v3, val_main_call0_v2, val_main_call0_v1, val_main_call0_v0, val_main_call0_cst, val_main_call0_cst_0]
  simp only [v18_at h0 h2 h4, ← EReal.coe_neg, Ideal.exp_coe, ← EReal.coe_one, sig_coe, ← EReal.coe_mul, coe_sum, ← EReal.coe_add, ← EReal.coe_sub,
    Finset.univ_unique, Finset.sum_singleton, Fin.default_eq_zero]

include h0 h2 h4 in
theorem v21_1_at (t : Fin 8192) (n : Fin 2816) : val_main_v21_1 (F := Ideal) x0 x2 x4 (ix2 t n) = ((sig (gate P (X t) n) * (1 - sig (gate P (X t) n)) : ℝ) : EReal) := by
  pointwise [val_main_v21_1, val_main_call0_v7, val_main_call0_v6, val_main_call0_cst_1]
  simp only [v21_2_at h0 h2 h4, ← EReal.coe_one, ← EReal.coe_mul, coe_sum, ← EReal.coe_add, ← EReal.coe_sub, Finset.univ_unique,
    Finset.sum_singleton, Fin.default_eq_zero]

include h0 h2 h4 in
theorem v21_0_at (t : Fin 8192) (n : Fin 2816) : val_main_v21_0 (F := Ideal) x0 x2 x4 (ix2 t n) = ((swish P (X t) n : ℝ) : EReal) := by
  pointwise [val_main_v21_0]
  simp only [v21_2_at h0 h2 h4, v18_at h0 h2 h4, swish, ← EReal.coe_mul, coe_sum, ← EReal.coe_add, ← EReal.coe_sub, Finset.univ_unique,
    Finset.sum_singleton, Fin.default_eq_zero]

include h0 h2 h4 h5 in
theorem v22_at (t : Fin 8192) (n : Fin 2816) : val_main_v22 (F := Ideal) x0 x2 x4 x5 (ix2 t n) = ((act P (X t) n : ℝ) : EReal) := by
  pointwise [val_main_v22]
  simp only [v21_0_at h0 h2 h4, v20_at h0 h2 h5, act, ← EReal.coe_mul, coe_sum, ← EReal.coe_add, ← EReal.coe_sub, Finset.univ_unique,
    Finset.sum_singleton, Fin.default_eq_zero]

include h0 h2 h4 h5 h6 in
theorem v25_at (t : Fin 8192) (j : Fin 1024) : val_main_v25 (F := Ideal) x0 x2 x4 x5 x6 (ix2 t j) = ((out P (X t) j : ℝ) : EReal) := by
  pointwise [val_main_v25, val_main_v24, val_main_v23]
  simp only [v22_at h0 h2 h4 h5, h0, h6, out, ← EReal.coe_mul, coe_sum, ← EReal.coe_add, ← EReal.coe_sub, Finset.univ_unique, Finset.sum_singleton,
    Fin.default_eq_zero]

include h0 h2 h4 h5 h6 in
theorem v32_at (t : Fin 8192) : val_main_v32 (F := Ideal) x0 x2 x4 x5 x6 (ix2 t 0) = ((meanSq (out P (X t)) : ℝ) : EReal) := by
  pointwise [val_main_v32, val_main_v31, val_main_v30, val_main_v29, val_main_v28, val_main_v27, val_main_v26, val_main_cst_3, val_main_cst_4, val_main_cst_5]
  simp only [v25_at h0 h2 h4 h5 h6, ofBits_1024, ofBits_eps, div_1024, ← EReal.coe_mul, coe_sum, ← EReal.coe_add, ← EReal.coe_sub,
    Finset.univ_unique, Finset.sum_singleton, Fin.default_eq_zero]
  rfl

include h0 h2 h4 h5 h6 in
theorem v33_at (t : Fin 8192) : val_main_v33 (F := Ideal) x0 x2 x4 x5 x6 (ix2 t 0) = ((root (out P (X t)) : ℝ) : EReal) := by
  pointwise [val_main_v33]
  simp only [v32_at h0 h2 h4 h5 h6, rsqrt_coe (meanSq_pos _), ← EReal.coe_mul, coe_sum, ← EReal.coe_add, ← EReal.coe_sub, Finset.univ_unique,
    Finset.sum_singleton, Fin.default_eq_zero]
  rfl

include h0 h2 h4 h5 h6 in
theorem v38_at (t : Fin 8192) (j : Fin 1024) : val_main_v38 (F := Ideal) x0 x2 x4 x5 x6 (ix2 t j) = ((unit (out P (X t)) j : ℝ) : EReal) := by
  pointwise [val_main_v38, val_main_v37]
  simp only [v33_at h0 h2 h4 h5 h6, v25_at h0 h2 h4 h5 h6, unit, ← EReal.coe_mul, coe_sum, ← EReal.coe_add, ← EReal.coe_sub, Finset.univ_unique,
    Finset.sum_singleton, Fin.default_eq_zero]

include h0 h1 h2 h3 h4 h5 h6 in
theorem v42_at (t : Fin 8192) (j : Fin 1024) : val_main_v42 (F := Ideal) x0 x1 x2 x3 x4 x5 x6 (ix2 t j) = ((err P (X t) (Y t) j : ℝ) : EReal) := by
  pointwise [val_main_v42, val_main_v41, val_main_v40, val_main_v39]
  simp only [v38_at h0 h2 h4 h5 h6, h3, h1, err, ← EReal.coe_mul, coe_sum, ← EReal.coe_add, ← EReal.coe_sub, Finset.univ_unique,
    Finset.sum_singleton, Fin.default_eq_zero]

include h0 h1 h2 h3 h4 h5 h6 in
theorem v56_at (t : Fin 8192) (j : Fin 1024) : val_main_v56 (F := Ideal) x0 x1 x2 x3 x4 x5 x6 (ix2 t j) = ((dy P (X t) (Y t) j : ℝ) : EReal) := by
  pointwise [val_main_v56, val_main_v55, val_main_v54, val_main_v53, val_main_v52, val_main_v51, val_main_v45, val_main_v44, val_main_cst_12, val_main_cst_13, val_main_cst_14, val_main_cst_7]
  simp only [v42_at h0 h1 h2 h3 h4 h5 h6, ofBits_half, ofBits_one, ofBits_1024, ofBits_two, ← EReal.coe_one, div_1024, ← EReal.coe_mul, coe_sum,
    ← EReal.coe_add, ← EReal.coe_sub, Finset.univ_unique, Finset.sum_singleton, Fin.default_eq_zero]
  refine congrArg (fun y : ℝ => (y : EReal)) ?_
  rw [dy]
  ring

include h0 h1 h2 h3 h4 h5 h6 in
theorem v61_at (t : Fin 8192) (j : Fin 1024) : val_main_v61 (F := Ideal) x0 x1 x2 x3 x4 x5 x6 (ix2 t j) = ((dy P (X t) (Y t) j * P.gf j : ℝ) : EReal) := by
  pointwise [val_main_v61, val_main_v60, val_main_v39]
  simp only [v56_at h0 h1 h2 h3 h4 h5 h6, h3, ← EReal.coe_mul, coe_sum, ← EReal.coe_add, ← EReal.coe_sub, Finset.univ_unique, Finset.sum_singleton,
    Fin.default_eq_zero]

include h0 h2 h4 h5 h6 in
theorem v36_at (t : Fin 8192) : val_main_v36 (F := Ideal) x0 x2 x4 x5 x6 (ix2 t 0) = ((-(1 / 2) * (root (out P (X t)) / meanSq (out P (X t))) : ℝ) : EReal) := by
  pointwise [val_main_v36, val_main_v35, val_main_v34, val_main_cst_6]
  simp only [v33_at h0 h2 h4 h5 h6, v32_at h0 h2 h4 h5 h6, ofBits_neg_half, div_coe (meanSq_pos _).ne', ← EReal.coe_mul, coe_sum, ← EReal.coe_add,
    ← EReal.coe_sub, Finset.univ_unique, Finset.sum_singleton, Fin.default_eq_zero]

include h0 h1 h2 h3 h4 h5 h6 in
theorem v76_at (t : Fin 8192) (j : Fin 1024) : val_main_v76 (F := Ideal) x0 x1 x2 x3 x4 x5 x6 (ix2 t j) = ((dout P (X t) (Y t) j : ℝ) : EReal) := by
  pointwise [val_main_v76, val_main_v75, val_main_v74, val_main_v73, val_main_v72, val_main_v71, val_main_v70, val_main_v69, val_main_v68, val_main_v67, val_main_v66, val_main_v65, val_main_v64, val_main_v63, val_main_cst_17, val_main_cst_18, val_main_cst_19]
  simp only [v61_at h0 h1 h2 h3 h4 h5 h6, v25_at h0 h2 h4 h5 h6, v33_at h0 h2 h4 h5 h6, v36_at h0 h2 h4 h5 h6, ofBits_1024, div_1024,
    pull_chain (out P (X t)) (fun k => dy P (X t) (Y t) k * P.gf k) j, dout, ← EReal.coe_mul, coe_sum, ← EReal.coe_add, ← EReal.coe_sub, Finset.univ_unique, Finset.sum_singleton, Fin.default_eq_zero]

include h0 h1 h2 h3 h4 h5 h6 in
theorem v77_at (t : Fin 8192) (n : Fin 2816) : val_main_v77 (F := Ideal) x0 x1 x2 x3 x4 x5 x6 (ix2 t n) = ((dact P (X t) (Y t) n : ℝ) : EReal) := by
  pointwise [val_main_v77, val_main_v23]
  simp only [v76_at h0 h1 h2 h3 h4 h5 h6, h6, dact, ← EReal.coe_mul, coe_sum, ← EReal.coe_add, ← EReal.coe_sub, Finset.univ_unique,
    Finset.sum_singleton, Fin.default_eq_zero]

include h0 h1 h2 h3 h4 h5 h6 in
theorem v78_at (t : Fin 8192) (n : Fin 2816) : val_main_v78 (F := Ideal) x0 x1 x2 x3 x4 x5 x6 (ix2 t n) = ((dup P (X t) (Y t) n : ℝ) : EReal) := by
  pointwise [val_main_v78]
  simp only [v21_0_at h0 h2 h4, v77_at h0 h1 h2 h3 h4 h5 h6, dup, ← EReal.coe_mul, coe_sum, ← EReal.coe_add, ← EReal.coe_sub, Finset.univ_unique,
    Finset.sum_singleton, Fin.default_eq_zero]
  rw [mul_comm]

include h0 h1 h2 h3 h4 h5 h6 in
theorem v80_at (t : Fin 8192) (n : Fin 2816) : val_main_v80 (F := Ideal) x0 x1 x2 x3 x4 x5 x6 (ix2 t n) = ((dgate P (X t) (Y t) n : ℝ) : EReal) := by
  pointwise [val_main_v80, val_main_call1_v2, val_main_call1_v1, val_main_call1_v0, val_main_v79]
  simp only [v77_at h0 h1 h2 h3 h4 h5 h6, v20_at h0 h2 h5, v21_2_at h0 h2 h4, v21_1_at h0 h2 h4, v18_at h0 h2 h4, ← EReal.coe_mul, coe_sum,
    ← EReal.coe_add, ← EReal.coe_sub, Finset.univ_unique, Finset.sum_singleton, Fin.default_eq_zero]
  refine congrArg (fun y : ℝ => (y : EReal)) ?_
  rw [dgate, dswish]
  ring

include h0 h1 h2 h3 h4 h5 h6 in
theorem v83_at (t : Fin 8192) (j : Fin 1024) : val_main_v83 (F := Ideal) x0 x1 x2 x3 x4 x5 x6 (ix2 t j) = ((dhid P (X t) (Y t) j : ℝ) : EReal) := by
  pointwise [val_main_v83, val_main_v82, val_main_v81, val_main_v19, val_main_v17]
  simp only [v78_at h0 h1 h2 h3 h4 h5 h6, v80_at h0 h1 h2 h3 h4 h5 h6, h4, h5, dhid, ← EReal.coe_mul, coe_sum, ← EReal.coe_add, ← EReal.coe_sub,
    Finset.univ_unique, Finset.sum_singleton, Fin.default_eq_zero]
  rw [add_comm]

include h0 h1 h2 h3 h4 h5 h6 in
theorem v88_at (t : Fin 8192) (j : Fin 1024) : val_main_v88 (F := Ideal) x0 x1 x2 x3 x4 x5 x6 (ix2 t j) = ((dhid P (X t) (Y t) j * P.g2 j : ℝ) : EReal) := by
  pointwise [val_main_v88, val_main_v87, val_main_v14, val_main_v0]
  simp only [v83_at h0 h1 h2 h3 h4 h5 h6, h2, ← EReal.coe_mul, coe_sum, ← EReal.coe_add, ← EReal.coe_sub, Finset.univ_unique, Finset.sum_singleton,
    Fin.default_eq_zero]

include h0 in
theorem v11_at (t : Fin 8192) : val_main_v11 (F := Ideal) x0 (ix2 t 0) = ((-(1 / 2) * (root (X t) / meanSq (X t)) : ℝ) : EReal) := by
  pointwise [val_main_v11, val_main_v10, val_main_v9, val_main_cst_2]
  simp only [v8_at h0, v7_at h0, ofBits_neg_half, div_coe (meanSq_pos _).ne', ← EReal.coe_mul, coe_sum, ← EReal.coe_add, ← EReal.coe_sub,
    Finset.univ_unique, Finset.sum_singleton, Fin.default_eq_zero]

include h0 h1 h2 h3 h4 h5 h6 in
theorem v104_at (t : Fin 8192) (j : Fin 1024) : val_main_v104 (F := Ideal) x0 x1 x2 x3 x4 x5 x6 (ix2 t j) = ((dx P (X t) (Y t) j : ℝ) : EReal) := by
  pointwise [val_main_v104, val_main_v103, val_main_v102, val_main_v101, val_main_v100, val_main_v99, val_main_v98, val_main_v97, val_main_v96, val_main_v95, val_main_v94, val_main_v93, val_main_v92, val_main_v91, val_main_v90, val_main_cst_22, val_main_cst_23, val_main_cst_24]
  simp only [v88_at h0 h1 h2 h3 h4 h5 h6, v76_at h0 h1 h2 h3 h4 h5 h6, v8_at h0, v11_at h0, h0, ofBits_1024, div_1024,
    pull_chain (X t) (fun k => dhid P (X t) (Y t) k * P.g2 k) j, dx, ← EReal.coe_mul, coe_sum, ← EReal.coe_add, ← EReal.coe_sub, Finset.univ_unique, Finset.sum_singleton, Fin.default_eq_zero]

include h0 h2 in
theorem v105_at (t : Fin 8192) (j : Fin 1024) : val_main_v105 (F := Ideal) x0 x2 (ix2 t j) = ((hid P (X t) j : ℝ) : EReal) := by
  pointwise [val_main_v105]
  simp only [v16_at h0 h2, ← EReal.coe_mul, coe_sum, ← EReal.coe_add, ← EReal.coe_sub, Finset.univ_unique, Finset.sum_singleton, Fin.default_eq_zero]

include h0 h1 h2 h3 h4 h5 h6 in
theorem v106_at (t : Fin 8192) (n : Fin 2816) : val_main_v106 (F := Ideal) x0 x1 x2 x3 x4 x5 x6 (ix2 t n) = ((dgate P (X t) (Y t) n : ℝ) : EReal) := by
  pointwise [val_main_v106]
  simp only [v80_at h0 h1 h2 h3 h4 h5 h6, ← EReal.coe_mul, coe_sum, ← EReal.coe_add, ← EReal.coe_sub, Finset.univ_unique, Finset.sum_singleton,
    Fin.default_eq_zero]

include h0 h1 h2 h3 h4 h5 h6 in
theorem v107_at (t : Fin 8192) (n : Fin 2816) : val_main_v107 (F := Ideal) x0 x1 x2 x3 x4 x5 x6 (ix2 t n) = ((dup P (X t) (Y t) n : ℝ) : EReal) := by
  pointwise [val_main_v107]
  simp only [v78_at h0 h1 h2 h3 h4 h5 h6, ← EReal.coe_mul, coe_sum, ← EReal.coe_add, ← EReal.coe_sub, Finset.univ_unique, Finset.sum_singleton,
    Fin.default_eq_zero]

include h0 h2 h4 h5 in
theorem v108_at (t : Fin 8192) (n : Fin 2816) : val_main_v108 (F := Ideal) x0 x2 x4 x5 (ix2 t n) = ((act P (X t) n : ℝ) : EReal) := by
  pointwise [val_main_v108]
  simp only [v22_at h0 h2 h4 h5, ← EReal.coe_mul, coe_sum, ← EReal.coe_add, ← EReal.coe_sub, Finset.univ_unique, Finset.sum_singleton,
    Fin.default_eq_zero]

include h0 h1 h2 h3 h4 h5 h6 in
theorem v109_at (t : Fin 8192) (j : Fin 1024) : val_main_v109 (F := Ideal) x0 x1 x2 x3 x4 x5 x6 (ix2 t j) = ((dout P (X t) (Y t) j : ℝ) : EReal) := by
  pointwise [val_main_v109]
  simp only [v76_at h0 h1 h2 h3 h4 h5 h6, ← EReal.coe_mul, coe_sum, ← EReal.coe_add, ← EReal.coe_sub, Finset.univ_unique, Finset.sum_singleton,
    Fin.default_eq_zero]

include h0 h1 h2 h3 h4 h5 h6 in
theorem v110_at (a : Fin 8) (b : Fin 128) : val_main_v110 (F := Ideal) x0 x1 x2 x3 x4 x5 x6 (ix2 a b) = ((1 / 2 * ∑ t, loss P (X t) (Y t) : ℝ) : EReal) := by
  pointwise [val_main_v110, val_main_v50, val_main_v49, val_main_v48, val_main_v47, val_main_v46, val_main_v43, val_main_cst_8, val_main_cst_9, val_main_cst_10, val_main_cst_11]
  simp only [v42_at h0 h1 h2 h3 h4 h5 h6, ofBits_half, ofBits_1024, div_1024, loss, ← EReal.coe_mul, coe_sum, ← EReal.coe_add, ← EReal.coe_sub,
    Finset.univ_unique, Finset.sum_singleton, Fin.default_eq_zero]

include h0 h1 h2 h3 h4 h5 h6 in
theorem v111_at (j : Fin 1024) : val_main_v111 (F := Ideal) x0 x1 x2 x3 x4 x5 x6 (ix2 0 j) = ((∑ t, dy P (X t) (Y t) j * unit (out P (X t)) j : ℝ) : EReal) := by
  pointwise [val_main_v111, val_main_v62, val_main_v59, val_main_v58, val_main_v57, val_main_cst_15, val_main_cst_16]
  simp only [v56_at h0 h1 h2 h3 h4 h5 h6, v38_at h0 h2 h4 h5 h6, ← EReal.coe_mul, coe_sum, ← EReal.coe_add, ← EReal.coe_sub, Finset.univ_unique,
    Finset.sum_singleton, Fin.default_eq_zero]
  exact congrArg (fun y : ℝ => (y : EReal)) (Finset.sum_congr rfl fun t _ => mul_comm _ _)

include h0 h1 h2 h3 h4 h5 h6 in
theorem v112_at (j : Fin 1024) : val_main_v112 (F := Ideal) x0 x1 x2 x3 x4 x5 x6 (ix2 0 j) = ((∑ t, dhid P (X t) (Y t) j * unit (X t) j : ℝ) : EReal) := by
  pointwise [val_main_v112, val_main_v89, val_main_v86, val_main_v85, val_main_v84, val_main_cst_20, val_main_cst_21]
  simp only [v83_at h0 h1 h2 h3 h4 h5 h6, v13_at h0, ← EReal.coe_mul, coe_sum, ← EReal.coe_add, ← EReal.coe_sub, Finset.univ_unique,
    Finset.sum_singleton, Fin.default_eq_zero]
  exact congrArg (fun y : ℝ => (y : EReal)) (Finset.sum_congr rfl fun t _ => mul_comm _ _)

end Cert.Ffn.Ref

end
-- ==== Proof.Ffn.Final.lean ====
/- The nine arrays the call leaves, at arguments that are numbers: the rows' real functions, and their sums over all tokens. -/
module

public import proofs.«01_k».proof.Proof.Ffn.Blocks

@[expose] public section

set_option maxRecDepth 16384

noncomputable section

namespace Cert.Ffn

open Idealize.ShloMosaic Idealize.ShloMosaic.TcCoe Idealize.SL.Sem
open Cert.FfnIdeal Cert.FfnIdeal.Gen Cert.Reals Cert.Rows

variable {m : (ℓ : Loc nD τ sig) → Buf (Elt Ideal) ℓ} {c : Dev nD} {P : Par} {X Y : Fin 8192 → Fin 1024 → ℝ} (H : Nums m c P X Y)
  (t : Fin cfg0.N)

/-- The last grid point. -/
abbrev last : Fin cfg0.N := ⟨31, by decide +kernel⟩

include H

/-! What a grid point computes before it writes, at the point's blocks. -/

theorem pt8 (r : Fin 256) : k0_pay8 (F := Ideal) (iblk m c 0 t) (ix2 r 0) = (root (X (row t r)) : EReal) :=
  pay8_at (fun r => X (row t r)) (b0 t H) r
theorem pt9 (r : Fin 256) (j : Fin 1024) : k0_pay9 (F := Ideal) (iblk m c 0 t) (ix2 r j) = (unit (X (row t r)) j : EReal) :=
  pay9_at (fun r => X (row t r)) (b0 t H) r j
theorem pt11 (r : Fin 256) (n : Fin 2816) :
    k0_pay11 (F := Ideal) (iblk m c 0 t) (iblk m c 2 t) (iblk m c 4 t) (ix2 r n) = (gate P (X (row t r)) n : EReal) :=
  pay11_at P (fun r => X (row t r)) (b0 t H) (b2 t H) (b4 t H) r n
theorem pt12 (r : Fin 256) (n : Fin 2816) :
    k0_pay12 (F := Ideal) (iblk m c 0 t) (iblk m c 2 t) (iblk m c 5 t) (ix2 r n) = (up P (X (row t r)) n : EReal) :=
  pay12_at P (fun r => X (row t r)) (b0 t H) (b2 t H) (b5 t H) r n
theorem pt13 (r : Fin 256) (n : Fin 2816) :
    k0_pay13 (F := Ideal) (iblk m c 0 t) (iblk m c 2 t) (iblk m c 4 t) (ix2 r n) = (sig (gate P (X (row t r)) n) : EReal) :=
  pay13_at P (fun r => X (row t r)) (b0 t H) (b2 t H) (b4 t H) r n
theorem pt14 (r : Fin 256) (n : Fin 2816) :
    k0_pay14 (F := Ideal) (iblk m c 0 t) (iblk m c 2 t) (iblk m c 4 t) (ix2 r n) = (swish P (X (row t r)) n : EReal) :=
  pay14_at P (fun r => X (row t r)) (b0 t H) (b2 t H) (b4 t H) r n

theorem final8 (z : FVec Ideal S8192x1024 .bf16) (hz : ∀ t j, z (ix2 t j) = ((hid P (X t) j : ℝ) : EReal)) :
    (dats m 0 c).arrAt 8 cfg0.N = z := by
  refine (dats m 0 c).arrAt_eq_of_covers 8 _ (by decide +kernel) fun t hf y => ?_
  blk_simp
  rw [after0_8]
  obtain ⟨r, j, rfl⟩ : ∃ (r : Fin 256) (j : Fin 1024), y = ix2 r j := ⟨y 0, y 1, eq_ix2 y⟩
  have e : ((View.whole main_v9_1).slice (win0_8.rect t)).emb (ix2 r j) = ix2 (row t r) j := by blk_ext [row, idx t]
  refine Eq.trans ?_ (congrArg _ e.symm)
  rw [hz]
  by_cases h : t.val % 32 = 0
  · rw [outsAt0_A m c t h]
    frame_out
    exact pay10_at P (fun r => X (row t r)) (b0 t H) (b2 t H) r j
  · rw [outsAt0_B m c t h]
    frame_out
    exact pay10_at P (fun r => X (row t r)) (b0 t H) (b2 t H) r j

theorem final11 (z : FVec Ideal S8192x2816 .bf16) (hz : ∀ t n, z (ix2 t n) = ((act P (X t) n : ℝ) : EReal)) :
    (dats m 0 c).arrAt 11 cfg0.N = z := by
  refine (dats m 0 c).arrAt_eq_of_covers 11 _ (by decide +kernel) fun t hf y => ?_
  blk_simp
  rw [after0_11]
  obtain ⟨r, n, rfl⟩ : ∃ (r : Fin 256) (n : Fin 2816), y = ix2 r n := ⟨y 0, y 1, eq_ix2 y⟩
  have e : ((View.whole main_v9_4).slice (win0_11.rect t)).emb (ix2 r n) = ix2 (row t r) n := by blk_ext [row, idx t]
  refine Eq.trans ?_ (congrArg _ e.symm)
  rw [hz]
  by_cases h : t.val % 32 = 0
  · rw [outsAt0_A m c t h]
    frame_out
    exact pay16_at P (fun r => X (row t r)) (pt12 H t) (pt14 H t) r n
  · rw [outsAt0_B m c t h]
    frame_out
    exact pay16_at P (fun r => X (row t r)) (pt12 H t) (pt14 H t) r n

theorem pt7 (j : Fin 1024) : k0_pay7 (F := Ideal) (iblk m c 3 t) (ix2 0 j) = (P.gf j : EReal) := pay7_at P (b3 t H) j
theorem pt15 (r : Fin 256) (n : Fin 2816) :
    k0_pay15 (F := Ideal) (k0_pay11 (iblk m c 0 t) (iblk m c 2 t) (iblk m c 4 t)) (k0_pay13 (iblk m c 0 t) (iblk m c 2 t) (iblk m c 4 t)) (ix2 r n)
      = (dswish (gate P (X (row t r)) n) : EReal) :=
  pay15_at P (fun r => X (row t r)) (pt11 H t) (pt13 H t) r n
theorem pt18 (r : Fin 256) :
    k0_pay18 (F := Ideal) (iblk m c 0 t) (k0_pay12 (iblk m c 0 t) (iblk m c 2 t) (iblk m c 5 t)) (k0_pay14 (iblk m c 0 t) (iblk m c 2 t) (iblk m c 4 t))
      (iblk m c 6 t) (ix2 r 0) = (root (out P (X (row t r))) : EReal) :=
  pay18_at P (fun r => X (row t r)) (b0 t H) (b6 t H) (pt12 H t) (pt14 H t) r
theorem pt19 (r : Fin 256) (j : Fin 1024) :
    k0_pay19 (F := Ideal) (iblk m c 0 t) (k0_pay12 (iblk m c 0 t) (iblk m c 2 t) (iblk m c 5 t)) (k0_pay14 (iblk m c 0 t) (iblk m c 2 t) (iblk m c 4 t))
      (iblk m c 6 t) (ix2 r j) = (unit (out P (X (row t r))) j : EReal) :=
  pay19_at P (fun r => X (row t r)) (b0 t H) (b6 t H) (pt12 H t) (pt14 H t) r j
theorem pt20 (r : Fin 256) (j : Fin 1024) :
    k0_pay20 (F := Ideal) (iblk m c 0 t) (k0_pay7 (iblk m c 3 t)) (k0_pay12 (iblk m c 0 t) (iblk m c 2 t) (iblk m c 5 t))
      (k0_pay14 (iblk m c 0 t) (iblk m c 2 t) (iblk m c 4 t)) (iblk m c 6 t) (iblk m c 1 t) (ix2 r j) = (err P (X (row t r)) (Y (row t r)) j : EReal) :=
  pay20_at P (fun r => X (row t r)) (fun r => Y (row t r)) (b0 t H) (b6 t H) (b1 t H) (pt12 H t) (pt14 H t) (pt7 H t) r j

theorem final12 (z : FVec Ideal S8192x1024 .bf16) (hz : ∀ t j, z (ix2 t j) = ((dout P (X t) (Y t) j : ℝ) : EReal)) :
    (dats m 0 c).arrAt 12 cfg0.N = z := by
  refine (dats m 0 c).arrAt_eq_of_covers 12 _ (by decide +kernel) fun t hf y => ?_
  blk_simp
  rw [after0_12]
  obtain ⟨r, j, rfl⟩ : ∃ (r : Fin 256) (j : Fin 1024), y = ix2 r j := ⟨y 0, y 1, eq_ix2 y⟩
  have e : ((View.whole main_v9_5).slice (win0_12.rect t)).emb (ix2 r j) = ix2 (row t r) j := by blk_ext [row, idx t]
  refine Eq.trans ?_ (congrArg _ e.symm)
  rw [hz]
  by_cases h : t.val % 32 = 0
  · rw [outsAt0_A m c t h]
    frame_out
    exact pay25_at P (fun r => X (row t r)) (fun r => Y (row t r)) (pt7 H t) (pt18 H t) (pt19 H t) (pt20 H t) r j
  · rw [outsAt0_B m c t h]
    frame_out
    exact pay25_at P (fun r => X (row t r)) (fun r => Y (row t r)) (pt7 H t) (pt18 H t) (pt19 H t) (pt20 H t) r j

theorem final9 (z : FVec Ideal S8192x2816 .bf16) (hz : ∀ t n, z (ix2 t n) = ((dgate P (X t) (Y t) n : ℝ) : EReal)) :
    (dats m 0 c).arrAt 9 cfg0.N = z := by
  refine (dats m 0 c).arrAt_eq_of_covers 9 _ (by decide +kernel) fun t hf y => ?_
  blk_simp
  rw [after0_9]
  obtain ⟨r, n, rfl⟩ : ∃ (r : Fin 256) (n : Fin 2816), y = ix2 r n := ⟨y 0, y 1, eq_ix2 y⟩
  have e : ((View.whole main_v9_2).slice (win0_9.rect t)).emb (ix2 r n) = ix2 (row t r) n := by blk_ext [row, idx t]
  refine Eq.trans ?_ (congrArg _ e.symm)
  rw [hz]
  by_cases h : t.val % 32 = 0
  · rw [outsAt0_A m c t h]
    frame_out
    exact pay27_at P (fun r => X (row t r)) (fun r => Y (row t r)) (pt12 H t) (pt15 H t) (pt7 H t) (pt18 H t) (pt19 H t) (pt20 H t) (b6 t H) r n
  · rw [outsAt0_B m c t h]
    frame_out
    exact pay27_at P (fun r => X (row t r)) (fun r => Y (row t r)) (pt12 H t) (pt15 H t) (pt7 H t) (pt18 H t) (pt19 H t) (pt20 H t) (b6 t H) r n

theorem final10 (z : FVec Ideal S8192x2816 .bf16) (hz : ∀ t n, z (ix2 t n) = ((dup P (X t) (Y t) n : ℝ) : EReal)) :
    (dats m 0 c).arrAt 10 cfg0.N = z := by
  refine (dats m 0 c).arrAt_eq_of_covers 10 _ (by decide +kernel) fun t hf y => ?_
  blk_simp
  rw [after0_10]
  obtain ⟨r, n, rfl⟩ : ∃ (r : Fin 256) (n : Fin 2816), y = ix2 r n := ⟨y 0, y 1, eq_ix2 y⟩
  have e : ((View.whole main_v9_3).slice (win0_10.rect t)).emb (ix2 r n) = ix2 (row t r) n := by blk_ext [row, idx t]
  refine Eq.trans ?_ (congrArg _ e.symm)
  rw [hz]
  by_cases h : t.val % 32 = 0
  · rw [outsAt0_A m c t h]
    frame_out
    exact pay28_at P (fun r => X (row t r)) (fun r => Y (row t r)) (pt14 H t) (pt7 H t) (pt18 H t) (pt19 H t) (pt20 H t) (b6 t H) r n
  · rw [outsAt0_B m c t h]
    frame_out
    exact pay28_at P (fun r => X (row t r)) (fun r => Y (row t r)) (pt14 H t) (pt7 H t) (pt18 H t) (pt19 H t) (pt20 H t) (b6 t H) r n

theorem final7 (z : FVec Ideal S8192x1024 .f32) (hz : ∀ t j, z (ix2 t j) = ((dx P (X t) (Y t) j : ℝ) : EReal)) :
    (dats m 0 c).arrAt 7 cfg0.N = z := by
  refine (dats m 0 c).arrAt_eq_of_covers 7 _ (by decide +kernel) fun t hf y => ?_
  blk_simp
  rw [after0_7]
  obtain ⟨r, j, rfl⟩ : ∃ (r : Fin 256) (j : Fin 1024), y = ix2 r j := ⟨y 0, y 1, eq_ix2 y⟩
  have e : ((View.whole main_v9_0).slice (win0_7.rect t)).emb (ix2 r j) = ix2 (row t r) j := by blk_ext [row, idx t]
  refine Eq.trans ?_ (congrArg _ e.symm)
  rw [hz]
  by_cases h : t.val % 32 = 0
  · rw [outsAt0_A m c t h]
    frame_out
    exact pay3_at P (fun r => X (row t r)) (fun r => Y (row t r)) (b2 t H) (pt8 H t) (pt9 H t)
      (pay24_at P (fun r => X (row t r)) (fun r => Y (row t r)) (pt7 H t) (pt18 H t) (pt19 H t) (pt20 H t))
      (pay27_at P (fun r => X (row t r)) (fun r => Y (row t r)) (pt12 H t) (pt15 H t) (pt7 H t) (pt18 H t) (pt19 H t) (pt20 H t) (b6 t H))
      (pay28_at P (fun r => X (row t r)) (fun r => Y (row t r)) (pt14 H t) (pt7 H t) (pt18 H t) (pt19 H t) (pt20 H t) (b6 t H)) (b4 t H) (b5 t H) r j
  · rw [outsAt0_B m c t h]
    frame_out
    exact pay3_at P (fun r => X (row t r)) (fun r => Y (row t r)) (b2 t H) (pt8 H t) (pt9 H t)
      (pay24_at P (fun r => X (row t r)) (fun r => Y (row t r)) (pt7 H t) (pt18 H t) (pt19 H t) (pt20 H t))
      (pay27_at P (fun r => X (row t r)) (fun r => Y (row t r)) (pt12 H t) (pt15 H t) (pt7 H t) (pt18 H t) (pt19 H t) (pt20 H t) (b6 t H))
      (pay28_at P (fun r => X (row t r)) (fun r => Y (row t r)) (pt14 H t) (pt7 H t) (pt18 H t) (pt19 H t) (pt20 H t) (b6 t H)) (b4 t H) (b5 t H) r j

theorem final14 (z : FVec Ideal S1x1024 .f32) (hz : ∀ j, z (ix2 0 j) = ((∑ t, dy P (X t) (Y t) j * unit (out P (X t)) j : ℝ) : EReal)) :
    (dats m 0 c).arrAt 14 cfg0.N = z := by
  refine (dats m 0 c).arrAt_eq_of_after_last 14 last (by decide +kernel) _ fun j => ?_
  blk_simp
  obtain ⟨j, rfl⟩ : ∃ (k : Fin 1024), j = ix2 0 k := ⟨j 1, by rw [eq_ix2 j]; exact (ix2_inj ..).2 ⟨Subsingleton.elim _ _, rfl⟩⟩
  rw [after0_14, Pipeline.eq_sum_fin_of_reset_step_apply_last (fun n h => (outsAt0 m c n h).2.2.2.2.2.2.2.1) 32 (fun _ => 0)
    (fun t i => ((∑ r : Fin 256, dy P (X (row t r)) (Y (row t r)) (i 1) * unit (out P (X (row t r))) (i 1) : ℝ) : EReal))
    (fun t h i => by
      obtain ⟨k, rfl⟩ : ∃ (k : Fin 1024), i = ix2 0 k := ⟨i 1, by rw [eq_ix2 i]; exact (ix2_inj ..).2 ⟨Subsingleton.elim _ _, rfl⟩⟩
      rw [outsAt0_A m c t h]
      frame_out
      refine (pay23_at P (fun r => X (row t r)) (fun r => Y (row t r)) (pt19 H t) (pt20 H t) _ k).trans ?_
      rw [pay5_at]
      rfl)
    (fun t h i => by
      obtain ⟨k, rfl⟩ : ∃ (k : Fin 1024), i = ix2 0 k := ⟨i 1, by rw [eq_ix2 i]; exact (ix2_inj ..).2 ⟨Subsingleton.elim _ _, rfl⟩⟩
      rw [outsAt0_B m c t h]
      frame_out
      exact pay23_at P (fun r => X (row t r)) (fun r => Y (row t r)) (pt19 H t) (pt20 H t) _ k)
    (le_of_eq N_0) last rfl (ix2 0 j), zero_add]
  refine Eq.trans ?_ (hz j).symm
  rw [coe_sum, Fin.sum_univ_tiles 32 256 rfl (fun t => _)]
  rfl

theorem final15 (z : FVec Ideal S1x1024 .f32) (hz : ∀ j, z (ix2 0 j) = ((∑ t, dhid P (X t) (Y t) j * unit (X t) j : ℝ) : EReal)) :
    (dats m 0 c).arrAt 15 cfg0.N = z := by
  refine (dats m 0 c).arrAt_eq_of_after_last 15 last (by decide +kernel) _ fun j => ?_
  blk_simp
  obtain ⟨j, rfl⟩ : ∃ (k : Fin 1024), j = ix2 0 k := ⟨j 1, by rw [eq_ix2 j]; exact (ix2_inj ..).2 ⟨Subsingleton.elim _ _, rfl⟩⟩
  rw [after0_15, Pipeline.eq_sum_fin_of_reset_step_apply_last (fun n h => (outsAt0 m c n h).2.2.2.2.2.2.2.2) 32 (fun _ => 0)
    (fun t i => ((∑ r : Fin 256, dhid P (X (row t r)) (Y (row t r)) (i 1) * unit (X (row t r)) (i 1) : ℝ) : EReal))
    (fun t h i => by
      obtain ⟨k, rfl⟩ : ∃ (k : Fin 1024), i = ix2 0 k := ⟨i 1, by rw [eq_ix2 i]; exact (ix2_inj ..).2 ⟨Subsingleton.elim _ _, rfl⟩⟩
      rw [outsAt0_A m c t h]
      frame_out
      refine (pay2_at P (fun r => X (row t r)) (fun r => Y (row t r)) (pt9 H t)
        (pay27_at P (fun r => X (row t r)) (fun r => Y (row t r)) (pt12 H t) (pt15 H t) (pt7 H t) (pt18 H t) (pt19 H t) (pt20 H t) (b6 t H))
        (pay28_at P (fun r => X (row t r)) (fun r => Y (row t r)) (pt14 H t) (pt7 H t) (pt18 H t) (pt19 H t) (pt20 H t) (b6 t H)) (b4 t H) (b5 t H) _ k).trans ?_
      rw [pay6_at]
      rfl)
    (fun t h i => by
      obtain ⟨k, rfl⟩ : ∃ (k : Fin 1024), i = ix2 0 k := ⟨i 1, by rw [eq_ix2 i]; exact (ix2_inj ..).2 ⟨Subsingleton.elim _ _, rfl⟩⟩
      rw [outsAt0_B m c t h]
      frame_out
      exact pay2_at P (fun r => X (row t r)) (fun r => Y (row t r)) (pt9 H t)
        (pay27_at P (fun r => X (row t r)) (fun r => Y (row t r)) (pt12 H t) (pt15 H t) (pt7 H t) (pt18 H t) (pt19 H t) (pt20 H t) (b6 t H))
        (pay28_at P (fun r => X (row t r)) (fun r => Y (row t r)) (pt14 H t) (pt7 H t) (pt18 H t) (pt19 H t) (pt20 H t) (b6 t H)) (b4 t H) (b5 t H) _ k)
    (le_of_eq N_0) last rfl (ix2 0 j), zero_add]
  refine Eq.trans ?_ (hz j).symm
  rw [coe_sum, Fin.sum_univ_tiles 32 256 rfl (fun t => _)]
  rfl

theorem final13 (z : FVec Ideal S8x128 .f32) (hz : ∀ a b, z (ix2 a b) = ((1 / 2 * ∑ t, loss P (X t) (Y t) : ℝ) : EReal)) :
    (dats m 0 c).arrAt 13 cfg0.N = z := by
  refine (dats m 0 c).arrAt_eq_of_after_last 13 last (by decide +kernel) _ fun j => ?_
  blk_simp
  obtain ⟨a, b, rfl⟩ : ∃ (a : Fin 8) (b : Fin 128), j = ix2 a b := ⟨j 0, j 1, eq_ix2 j⟩
  rw [after0_13, Pipeline.eq_sum_fin_of_reset_step_apply_last (fun n h => (outsAt0 m c n h).2.2.2.2.2.2.1) 32 (fun _ => 0)
    (fun t i => ((1 / 2 * ∑ r : Fin 256, loss P (X (row t r)) (Y (row t r)) : ℝ) : EReal))
    (fun t h i => by
      obtain ⟨a, b, rfl⟩ : ∃ (a : Fin 8) (b : Fin 128), i = ix2 a b := ⟨i 0, i 1, eq_ix2 i⟩
      rw [outsAt0_A m c t h]
      frame_out
      refine (pay21_at P (fun r => X (row t r)) (fun r => Y (row t r)) (b0 t H) (b6 t H) (b1 t H) (pt12 H t) (pt14 H t) (pt7 H t) _ a b).trans ?_
      rw [pay4_at])
    (fun t h i => by
      obtain ⟨a, b, rfl⟩ : ∃ (a : Fin 8) (b : Fin 128), i = ix2 a b := ⟨i 0, i 1, eq_ix2 i⟩
      rw [outsAt0_B m c t h]
      frame_out
      exact pay21_at P (fun r => X (row t r)) (fun r => Y (row t r)) (b0 t H) (b6 t H) (b1 t H) (pt12 H t) (pt14 H t) (pt7 H t) _ a b)
    (le_of_eq N_0) last rfl (ix2 a b), zero_add]
  refine Eq.trans ?_ (hz a b).symm
  rw [coe_sum, ← Finset.mul_sum, Fin.sum_univ_tiles 32 256 rfl (fun t => _)]
  rfl

end Cert.Ffn

end
-- ==== Proof.Mix.Run.lean ====
/- The statement both of the body's runs share: from the staging buffers at the inputs' blocks, the four row outputs and the two scratch
   buffers at anything and the six accumulators as `w17` to `w22` say, the body ends with every buffer at the pieces it stored. -/
module

public import proofs.«01_k».proof.Proof.Gen.MixIdeal.Frame.Runs

@[expose] public section

set_option maxRecDepth 16384

noncomputable section

namespace Cert.MixBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal Cert.MixIdeal.Gen

variable {F : FTy → Type} [FloatOps F] [Named F]

/-- A run of the body: the pieces stored into each output and scratch buffer, and the triple that they are. -/
abbrev Run (c : Dev nD) (i : grid0.Coords) (arg1 : Memref sig .tc .vmem S512x1024 .f32) (harg1 : arg1.IsWhole) (arg2 : Memref sig .tc .vmem S512x1024 .bf16) (harg2 : arg2.IsWhole) (arg3 :
    Memref sig .tc .vmem S512x512 .f32) (harg3 : arg3.IsWhole) (arg4 : Memref sig .tc .vmem S512x512 .f32) (harg4 : arg4.IsWhole) (arg5 : Memref sig
    .tc .vmem S512x512 .bf16) (harg5 : arg5.IsWhole) (arg6 : Memref sig .tc .vmem S512x512 .bf16) (harg6 : arg6.IsWhole) (arg7 : Memref sig .tc .vmem
    S512x512 .bf16) (harg7 : arg7.IsWhole) (arg8 : Memref sig .tc .vmem S1x512 .f32) (harg8 : arg8.IsWhole) (arg9 : Memref sig .tc .vmem S1x512 .f32)
    (harg9 : arg9.IsWhole) (arg10 : Memref sig .tc .vmem S1x512 .f32) (harg10 : arg10.IsWhole) (arg11 : Memref sig .tc .vmem S4x128x128 .f32) (harg11
    : arg11.IsWhole) (arg12 : Memref sig .tc .vmem S4x128x1 .f32) (harg12 : arg12.IsWhole) (arg13 : Memref sig .tc .vmem S1024x1024 .bf16) (harg13 :
    arg13.IsWhole) (arg14 : Memref sig .tc .vmem S512x512 .bf16) (harg14 : arg14.IsWhole) (arg15 : Memref sig .tc .vmem S512x512 .bf16) (harg15 :
    arg15.IsWhole) (arg16 : Memref sig .tc .vmem S512x512 .bf16) (harg16 : arg16.IsWhole) (arg17 : Memref sig .tc .vmem S512x512 .bf16) (harg17 :
    arg17.IsWhole) (arg18 : Memref sig .tc .vmem S1024x1024 .f32) (harg18 : arg18.IsWhole) (arg19 : Memref sig .tc .vmem S1x512 .f32) (harg19 :
    arg19.IsWhole) (arg20 : Memref sig .tc .vmem S1x512 .f32) (harg20 : arg20.IsWhole) (arg21 : Memref sig .tc .vmem S1x512 .f32) (harg21 :
    arg21.IsWhole) (arg22 : Memref sig .tc .vmem S4x128x128 .f32) (harg22 : arg22.IsWhole) (arg23 : Memref sig .tc .vmem S4x128x1 .f32) (harg23 :
    arg23.IsWhole) (arg24 : Memref sig .tc .vmem S512x512 .f32) (harg24 : arg24.IsWhole) (arg25 : Memref sig .tc .vmem S512x512 .f32) (harg25 :
    arg25.IsWhole)
    (x0 : Vec F S512x1024 .f32) (x1 : Vec F S512x1024 .bf16) (x2 : Vec F S512x512 .f32) (x3 : Vec F S512x512 .f32) (x4 : Vec F S512x512 .bf16) (x5 : Vec F
    S512x512 .bf16) (x6 : Vec F S512x512 .bf16) (x7 : Vec F S1x512 .f32) (x8 : Vec F S1x512 .f32) (x9 : Vec F S1x512 .f32) (x10 : Vec F S4x128x128
    .f32) (x11 : Vec F S4x128x1 .f32) (x12 : Vec F S1024x1024 .bf16)
    (w17 : sProp (MT nD τ sig Unit (Elt F) ℕ (UR sig nD τ) ℕ)) (w18 : sProp (MT nD τ sig Unit (Elt F) ℕ (UR sig nD τ) ℕ)) (w19 : sProp (MT nD τ sig Unit
    (Elt F) ℕ (UR sig nD τ) ℕ)) (w20 : sProp (MT nD τ sig Unit (Elt F) ℕ (UR sig nD τ) ℕ)) (w21 : sProp (MT nD τ sig Unit (Elt F) ℕ (UR sig nD τ) ℕ))
    (w22 : sProp (MT nD τ sig Unit (Elt F) ℕ (UR sig nD τ) ℕ)) :=
  Σ' (L13 : List (View.Piece (Elt F) S512x512 .bf16)), Σ' (L14 : List (View.Piece (Elt F) S512x512 .bf16)), Σ' (L15 : List (View.Piece (Elt F) S512x512
  .bf16)), Σ' (L16 : List (View.Piece (Elt F) S512x512 .bf16)), Σ' (L17 : List (View.Piece (Elt F) S1024x1024 .f32)), Σ' (L18 : List (View.Piece (Elt
  F) S1x512 .f32)), Σ' (L19 : List (View.Piece (Elt F) S1x512 .f32)), Σ' (L20 : List (View.Piece (Elt F) S1x512 .f32)), Σ' (L21 : List (View.Piece
  (Elt F) S4x128x128 .f32)), Σ' (L22 : List (View.Piece (Elt F) S4x128x1 .f32)), Σ' (L23 : List (View.Piece (Elt F) S512x512 .f32)), { L24 : List
  (View.Piece (Elt F) S512x512 .f32) //
    ∀ (E : Set ℕ) (K : PUnit → sProp (MT nD τ sig Unit (Elt F) ℕ (UR sig nD τ) ℕ)),
      iprop(owns (c : Thread nD τ) arg1 fullShare x0 ∗ owns (c : Thread nD τ) arg2 fullShare x1 ∗ owns (c : Thread nD τ) arg3 fullShare x2 ∗ owns (c : Thread nD
        τ) arg4 fullShare x3 ∗ owns (c : Thread nD τ) arg5 fullShare x4 ∗ owns (c : Thread nD τ) arg6 fullShare x5 ∗ owns (c : Thread nD τ) arg7
        fullShare x6 ∗ owns (c : Thread nD τ) arg8 fullShare x7 ∗ owns (c : Thread nD τ) arg9 fullShare x8 ∗ owns (c : Thread nD τ) arg10 fullShare x9
        ∗ owns (c : Thread nD τ) arg11 fullShare x10 ∗ owns (c : Thread nD τ) arg12 fullShare x11 ∗ owns (c : Thread nD τ) arg13 fullShare x12 ∗ (∃ d,
        owns (c : Thread nD τ) arg14 fullShare d) ∗ (∃ d, owns (c : Thread nD τ) arg15 fullShare d) ∗ (∃ d, owns (c : Thread nD τ) arg16 fullShare d)
        ∗ (∃ d, owns (c : Thread nD τ) arg17 fullShare d) ∗ w17 ∗ w18 ∗ w19 ∗ w20 ∗ w21 ∗ w22 ∗ (∃ d, owns (c : Thread nD τ) arg24 fullShare d) ∗ (∃
        d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD
        τ) arg4 fullShare x3 ∗ owns (c : Thread nD τ) arg5 fullShare x4 ∗ owns (c : Thread nD τ) arg6 fullShare x5 ∗ owns (c : Thread nD τ) arg7
        fullShare x6 ∗ owns (c : Thread nD τ) arg8 fullShare x7 ∗ owns (c : Thread nD τ) arg9 fullShare x8 ∗ owns (c : Thread nD τ) arg10 fullShare x9
        ∗ owns (c : Thread nD τ) arg11 fullShare x10 ∗ owns (c : Thread nD τ) arg12 fullShare x11 ∗ owns (c : Thread nD τ) arg13 fullShare x12 ∗ (∃ f,
        arg14.view.loc (c : Thread nD τ) ↦[arg14.view.set]{fullShare} arg14.view.writes (Elt F) f L13) ∗ (∃ f, arg15.view.loc (c : Thread nD τ)
        ↦[arg15.view.set]{fullShare} arg15.view.writes (Elt F) f L14) ∗ (∃ f, arg16.view.loc (c : Thread nD τ) ↦[arg16.view.set]{fullShare}
        arg16.view.writes (Elt F) f L15) ∗ (∃ f, arg17.view.loc (c : Thread nD τ) ↦[arg17.view.set]{fullShare} arg17.view.writes (Elt F) f L16) ∗ (∃
        f, arg18.view.loc (c : Thread nD τ) ↦[arg18.view.set]{fullShare} arg18.view.writes (Elt F) f L17) ∗ (∃ f, arg19.view.loc (c : Thread nD τ)
        ↦[arg19.view.set]{fullShare} arg19.view.writes (Elt F) f L18) ∗ (∃ f, arg20.view.loc (c : Thread nD τ) ↦[arg20.view.set]{fullShare}
        arg20.view.writes (Elt F) f L19) ∗ (∃ f, arg21.view.loc (c : Thread nD τ) ↦[arg21.view.set]{fullShare} arg21.view.writes (Elt F) f L20) ∗ (∃
        f, arg22.view.loc (c : Thread nD τ) ↦[arg22.view.set]{fullShare} arg22.view.writes (Elt F) f L21) ∗ (∃ f, arg23.view.loc (c : Thread nD τ)
        ↦[arg23.view.set]{fullShare} arg23.view.writes (Elt F) f L22) ∗ (∃ f, arg24.view.loc (c : Thread nD τ) ↦[arg24.view.set]{fullShare}
        arg24.view.writes (Elt F) f L23) ∗ (∃ f, arg25.view.loc (c : Thread nD τ) ↦[arg25.view.set]{fullShare} arg25.view.writes (Elt F) f L24)) -∗ K ⟨⟩))
      ⊢ wp frame (wpE (defs₀ (F := F)) Variants.none c none) E
        (cc0_mix_bwd i arg1 harg1 arg2 harg2 arg3 harg3 arg4 harg4 arg5 harg5 arg6 harg6 arg7 harg7 arg8 harg8 arg9 harg9 arg10 harg10 arg11 harg11 arg12
          harg12 arg13 harg13 arg14 harg14 arg15 harg15 arg16 harg16 arg17 harg17 arg18 harg18 arg19 harg19 arg20 harg20 arg21 harg21 arg22 harg22
          arg23 harg23 arg24 harg24 arg25 harg25) K }

end Cert.MixBwd

end
-- ==== Proof.Mix.RunA.lean ====
/- The body's run at the first grid point, where the accumulators are first set to zero. -/
module

public import proofs.«01_k».proof.Proof.Mix.Run

@[expose] public section

set_option maxRecDepth 16384

noncomputable section

namespace Cert.MixBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal Cert.MixIdeal.Gen

variable {F : FTy → Type} [FloatOps F] [Named F]

set_option maxHeartbeats 8000000 in
def runA (c : Dev nD) (i : grid0.Coords) (arg1 : Memref sig .tc .vmem S512x1024 .f32) (harg1 : arg1.IsWhole) (arg2 : Memref sig .tc .vmem S512x1024 .bf16) (harg2 : arg2.IsWhole) (arg3 :
    Memref sig .tc .vmem S512x512 .f32) (harg3 : arg3.IsWhole) (arg4 : Memref sig .tc .vmem S512x512 .f32) (harg4 : arg4.IsWhole) (arg5 : Memref sig
    .tc .vmem S512x512 .bf16) (harg5 : arg5.IsWhole) (arg6 : Memref sig .tc .vmem S512x512 .bf16) (harg6 : arg6.IsWhole) (arg7 : Memref sig .tc .vmem
    S512x512 .bf16) (harg7 : arg7.IsWhole) (arg8 : Memref sig .tc .vmem S1x512 .f32) (harg8 : arg8.IsWhole) (arg9 : Memref sig .tc .vmem S1x512 .f32)
    (harg9 : arg9.IsWhole) (arg10 : Memref sig .tc .vmem S1x512 .f32) (harg10 : arg10.IsWhole) (arg11 : Memref sig .tc .vmem S4x128x128 .f32) (harg11
    : arg11.IsWhole) (arg12 : Memref sig .tc .vmem S4x128x1 .f32) (harg12 : arg12.IsWhole) (arg13 : Memref sig .tc .vmem S1024x1024 .bf16) (harg13 :
    arg13.IsWhole) (arg14 : Memref sig .tc .vmem S512x512 .bf16) (harg14 : arg14.IsWhole) (arg15 : Memref sig .tc .vmem S512x512 .bf16) (harg15 :
    arg15.IsWhole) (arg16 : Memref sig .tc .vmem S512x512 .bf16) (harg16 : arg16.IsWhole) (arg17 : Memref sig .tc .vmem S512x512 .bf16) (harg17 :
    arg17.IsWhole) (arg18 : Memref sig .tc .vmem S1024x1024 .f32) (harg18 : arg18.IsWhole) (arg19 : Memref sig .tc .vmem S1x512 .f32) (harg19 :
    arg19.IsWhole) (arg20 : Memref sig .tc .vmem S1x512 .f32) (harg20 : arg20.IsWhole) (arg21 : Memref sig .tc .vmem S1x512 .f32) (harg21 :
    arg21.IsWhole) (arg22 : Memref sig .tc .vmem S4x128x128 .f32) (harg22 : arg22.IsWhole) (arg23 : Memref sig .tc .vmem S4x128x1 .f32) (harg23 :
    arg23.IsWhole) (arg24 : Memref sig .tc .vmem S512x512 .f32) (harg24 : arg24.IsWhole) (arg25 : Memref sig .tc .vmem S512x512 .f32) (harg25 :
    arg25.IsWhole)
    (hc0 : cond0_0 i)
    (x0 : Vec F S512x1024 .f32) (x1 : Vec F S512x1024 .bf16) (x2 : Vec F S512x512 .f32) (x3 : Vec F S512x512 .f32) (x4 : Vec F S512x512 .bf16) (x5 : Vec F
    S512x512 .bf16) (x6 : Vec F S512x512 .bf16) (x7 : Vec F S1x512 .f32) (x8 : Vec F S1x512 .f32) (x9 : Vec F S1x512 .f32) (x10 : Vec F S4x128x128
    .f32) (x11 : Vec F S4x128x1 .f32) (x12 : Vec F S1024x1024 .bf16) :
    Run c i arg1 harg1 arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25
      x0 x1 x2 x3 x4 x5 x6 x7 x8 x9 x10 x11 x12
      iprop(∃ d, owns (c : Thread nD τ) arg18 fullShare d) iprop(∃ d, owns (c : Thread nD τ) arg19 fullShare d) iprop(∃ d, owns (c : Thread nD τ) arg20
      fullShare d) iprop(∃ d, owns (c : Thread nD τ) arg21 fullShare d) iprop(∃ d, owns (c : Thread nD τ) arg22 fullShare d) iprop(∃ d, owns (c :
      Thread nD τ) arg23 fullShare d) := by
  unfold Run
  refine ⟨?_, ?_, ?_, ?_, ?_, ?_, ?_, ?_, ?_, ?_, ?_, ?_, fun E K => ?run⟩
  case run =>
    simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8,
      H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -,
      H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22,
      %f22, -, H22⟩, ⟨%d23, %f23, -, H23⟩, ⟨%d24, %f24, -, H24⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hf8; obtain rfl := harg10.eq_unread hf9; obtain rfl := harg11.eq_unread hf10; obtain rfl := harg12.eq_unread hf11
    obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.MixBwd

end
-- ==== Proof.Mix.RunB.lean ====
/- The body's run at every later grid point, where the accumulators hold what the point before left. -/
module

public import proofs.«01_k».proof.Proof.Mix.Run

@[expose] public section

set_option maxRecDepth 16384

noncomputable section

namespace Cert.MixBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal Cert.MixIdeal.Gen

variable {F : FTy → Type} [FloatOps F] [Named F]

set_option maxHeartbeats 8000000 in
def runB (c : Dev nD) (i : grid0.Coords) (arg1 : Memref sig .tc .vmem S512x1024 .f32) (harg1 : arg1.IsWhole) (arg2 : Memref sig .tc .vmem S512x1024 .bf16) (harg2 : arg2.IsWhole) (arg3 :
    Memref sig .tc .vmem S512x512 .f32) (harg3 : arg3.IsWhole) (arg4 : Memref sig .tc .vmem S512x512 .f32) (harg4 : arg4.IsWhole) (arg5 : Memref sig
    .tc .vmem S512x512 .bf16) (harg5 : arg5.IsWhole) (arg6 : Memref sig .tc .vmem S512x512 .bf16) (harg6 : arg6.IsWhole) (arg7 : Memref sig .tc .vmem
    S512x512 .bf16) (harg7 : arg7.IsWhole) (arg8 : Memref sig .tc .vmem S1x512 .f32) (harg8 : arg8.IsWhole) (arg9 : Memref sig .tc .vmem S1x512 .f32)
    (harg9 : arg9.IsWhole) (arg10 : Memref sig .tc .vmem S1x512 .f32) (harg10 : arg10.IsWhole) (arg11 : Memref sig .tc .vmem S4x128x128 .f32) (harg11
    : arg11.IsWhole) (arg12 : Memref sig .tc .vmem S4x128x1 .f32) (harg12 : arg12.IsWhole) (arg13 : Memref sig .tc .vmem S1024x1024 .bf16) (harg13 :
    arg13.IsWhole) (arg14 : Memref sig .tc .vmem S512x512 .bf16) (harg14 : arg14.IsWhole) (arg15 : Memref sig .tc .vmem S512x512 .bf16) (harg15 :
    arg15.IsWhole) (arg16 : Memref sig .tc .vmem S512x512 .bf16) (harg16 : arg16.IsWhole) (arg17 : Memref sig .tc .vmem S512x512 .bf16) (harg17 :
    arg17.IsWhole) (arg18 : Memref sig .tc .vmem S1024x1024 .f32) (harg18 : arg18.IsWhole) (arg19 : Memref sig .tc .vmem S1x512 .f32) (harg19 :
    arg19.IsWhole) (arg20 : Memref sig .tc .vmem S1x512 .f32) (harg20 : arg20.IsWhole) (arg21 : Memref sig .tc .vmem S1x512 .f32) (harg21 :
    arg21.IsWhole) (arg22 : Memref sig .tc .vmem S4x128x128 .f32) (harg22 : arg22.IsWhole) (arg23 : Memref sig .tc .vmem S4x128x1 .f32) (harg23 :
    arg23.IsWhole) (arg24 : Memref sig .tc .vmem S512x512 .f32) (harg24 : arg24.IsWhole) (arg25 : Memref sig .tc .vmem S512x512 .f32) (harg25 :
    arg25.IsWhole)
    (hc0 : ¬cond0_0 i)
    (x0 : Vec F S512x1024 .f32) (x1 : Vec F S512x1024 .bf16) (x2 : Vec F S512x512 .f32) (x3 : Vec F S512x512 .f32) (x4 : Vec F S512x512 .bf16) (x5 : Vec F
    S512x512 .bf16) (x6 : Vec F S512x512 .bf16) (x7 : Vec F S1x512 .f32) (x8 : Vec F S1x512 .f32) (x9 : Vec F S1x512 .f32) (x10 : Vec F S4x128x128
    .f32) (x11 : Vec F S4x128x1 .f32) (x12 : Vec F S1024x1024 .bf16)
    (xo17 : Vec F S1024x1024 .f32) (xo18 : Vec F S1x512 .f32) (xo19 : Vec F S1x512 .f32) (xo20 : Vec F S1x512 .f32) (xo21 : Vec F S4x128x128 .f32) (xo22 :
    Vec F S4x128x1 .f32) :
    Run c i arg1 harg1 arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25
      x0 x1 x2 x3 x4 x5 x6 x7 x8 x9 x10 x11 x12
      (owns (c : Thread nD τ) arg18 fullShare xo17) (owns (c : Thread nD τ) arg19 fullShare xo18) (owns (c : Thread nD τ) arg20 fullShare xo19) (owns (c :
      Thread nD τ) arg21 fullShare xo20) (owns (c : Thread nD τ) arg22 fullShare xo21) (owns (c : Thread nD τ) arg23 fullShare xo22) := by
  unfold Run
  refine ⟨?_, ?_, ?_, ?_, ?_, ?_, ?_, ?_, ?_, ?_, ?_, ?_, fun E K => ?run⟩
  case run =>
    simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8,
      H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -,
      H15⟩, ⟨%d16, %f16, -, H16⟩, ⟨%f17, %hf17, H17⟩, ⟨%f18, %hf18, H18⟩, ⟨%f19, %hf19, H19⟩, ⟨%f20, %hf20, H20⟩, ⟨%f21, %hf21, H21⟩, ⟨%f22, %hf22,
      H22⟩, ⟨%d23, %f23, -, H23⟩, ⟨%d24, %f24, -, H24⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hf8; obtain rfl := harg10.eq_unread hf9; obtain rfl := harg11.eq_unread hf10; obtain rfl := harg12.eq_unread hf11
    obtain rfl := harg13.eq_unread hf12; obtain rfl := harg18.eq_unread hf17; obtain rfl := harg19.eq_unread hf18; obtain rfl := harg20.eq_unread hf19
    obtain rfl := harg21.eq_unread hf20; obtain rfl := harg22.eq_unread hf21; obtain rfl := harg23.eq_unread hf22
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.MixBwd

end
-- ==== Proof.Mix.Frame.lean ====
/- The frame of the call: what the outputs hold after every grid point, the pipeline's proof data, the run, and the arguments left as they were. -/
module

public import proofs.«01_k».proof.Proof.Mix.RunA
public import proofs.«01_k».proof.Proof.Mix.RunB
public import Idealize.ShloMosaic.Lib.Claim

@[expose] public section

set_option maxRecDepth 16384

noncomputable section

namespace Cert.MixBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal Cert.MixIdeal.Gen

variable {F : FTy → Type} [FloatOps F] [Named F]

variable (m : (ℓ : Loc nD τ sig) → Buf (Elt F) ℓ) (ρ : Dev nD → PrngReg)

/-- What the ten output buffers hold. -/
abbrev St (F : FTy → Type) : Type :=
  Vec F S512x512 .bf16 × Vec F S512x512 .bf16 × Vec F S512x512 .bf16 × Vec F S512x512 .bf16 × Vec F S1024x1024 .f32 × Vec F S1x512 .f32 × Vec F S1x512
  .f32 × Vec F S1x512 .f32 × Vec F S4x128x128 .f32 × Vec F S4x128x1 .f32

/-- A run of the body at point `t`. -/
abbrev At (c : Dev nD) (t : Fin cfg0.N) (w17 : sProp (MT nD τ sig Unit (Elt F) ℕ (UR sig nD τ) ℕ)) (w18 : sProp (MT nD τ sig Unit (Elt F) ℕ (UR sig nD τ) ℕ)) (w19 : sProp (MT nD τ sig Unit
    (Elt F) ℕ (UR sig nD τ) ℕ)) (w20 : sProp (MT nD τ sig Unit (Elt F) ℕ (UR sig nD τ) ℕ)) (w21 : sProp (MT nD τ sig Unit (Elt F) ℕ (UR sig nD τ) ℕ))
    (w22 : sProp (MT nD τ sig Unit (Elt F) ℕ (UR sig nD τ) ℕ)) :=
  Run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t)
    (hs0_7 t) (ms0_8 t) (hs0_8 t) (ms0_9 t) (hs0_9 t) (ms0_10 t) (hs0_10 t) (ms0_11 t) (hs0_11 t) (ms0_12 t) (hs0_12 t) (ms0_13 t) (hs0_13 t) (ms0_14
    t) (hs0_14 t) (ms0_15 t) (hs0_15 t) (ms0_16 t) (hs0_16 t) (ms0_17 t) (hs0_17 t) (ms0_18 t) (hs0_18 t) (ms0_19 t) (hs0_19 t) (ms0_20 t) (hs0_20 t)
    (ms0_21 t) (hs0_21 t) (ms0_22 t) (hs0_22 t) scM0_0 (Memref.isWhole_whole _) scM0_1 (Memref.isWhole_whole _)
    (iblk m c 0 t) (iblk m c 1 t) (iblk m c 2 t) (iblk m c 3 t) (X0_4 m c t) (X0_5 m c t) (X0_6 m c t) (iblk m c 7 t) (iblk m c 8 t) (iblk m c 9 t) (iblk
    m c 10 t) (iblk m c 11 t) (iblk m c 12 t)
    w17 w18 w19 w20 w21 w22

/-- The run at a point that starts the sums, and at a point that carries them on. -/
abbrev atA (c : Dev nD) (t : Fin cfg0.N) (h : t.val % 16 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t)
    (hs0_7 t) (ms0_8 t) (hs0_8 t) (ms0_9 t) (hs0_9 t) (ms0_10 t) (hs0_10 t) (ms0_11 t) (hs0_11 t) (ms0_12 t) (hs0_12 t) (ms0_13 t) (hs0_13 t) (ms0_14
    t) (hs0_14 t) (ms0_15 t) (hs0_15 t) (ms0_16 t) (hs0_16 t) (ms0_17 t) (hs0_17 t) (ms0_18 t) (hs0_18 t) (ms0_19 t) (hs0_19 t) (ms0_20 t) (hs0_20 t)
    (ms0_21 t) (hs0_21 t) (ms0_22 t) (hs0_22 t) scM0_0 (Memref.isWhole_whole _) scM0_1 (Memref.isWhole_whole _)
    ((hcond0_0 t).mpr h)
    (iblk m c 0 t) (iblk m c 1 t) (iblk m c 2 t) (iblk m c 3 t) (X0_4 m c t) (X0_5 m c t) (X0_6 m c t) (iblk m c 7 t) (iblk m c 8 t) (iblk m c 9 t) (iblk
    m c 10 t) (iblk m c 11 t) (iblk m c 12 t)
@[inherit_doc atA] abbrev atB (c : Dev nD) (t : Fin cfg0.N) (h : ¬t.val % 16 = 0) (x : St F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t)
    (hs0_7 t) (ms0_8 t) (hs0_8 t) (ms0_9 t) (hs0_9 t) (ms0_10 t) (hs0_10 t) (ms0_11 t) (hs0_11 t) (ms0_12 t) (hs0_12 t) (ms0_13 t) (hs0_13 t) (ms0_14
    t) (hs0_14 t) (ms0_15 t) (hs0_15 t) (ms0_16 t) (hs0_16 t) (ms0_17 t) (hs0_17 t) (ms0_18 t) (hs0_18 t) (ms0_19 t) (hs0_19 t) (ms0_20 t) (hs0_20 t)
    (ms0_21 t) (hs0_21 t) (ms0_22 t) (hs0_22 t) scM0_0 (Memref.isWhole_whole _) scM0_1 (Memref.isWhole_whole _)
    (fun e => h ((hcond0_0 t).mp e))
    (iblk m c 0 t) (iblk m c 1 t) (iblk m c 2 t) (iblk m c 3 t) (X0_4 m c t) (X0_5 m c t) (X0_6 m c t) (iblk m c 7 t) (iblk m c 8 t) (iblk m c 9 t) (iblk
    m c 10 t) (iblk m c 11 t) (iblk m c 12 t)
    x.2.2.2.2.1 x.2.2.2.2.2.1 x.2.2.2.2.2.2.1 x.2.2.2.2.2.2.2.1 x.2.2.2.2.2.2.2.2.1 x.2.2.2.2.2.2.2.2.2

variable {m} {c : Dev nD} {t : Fin cfg0.N} {w17 : sProp (MT nD τ sig Unit (Elt F) ℕ (UR sig nD τ) ℕ)} {w18 : sProp (MT nD τ sig Unit (Elt F) ℕ (UR sig nD τ) ℕ)} {w19 : sProp (MT nD τ sig Unit
  (Elt F) ℕ (UR sig nD τ) ℕ)} {w20 : sProp (MT nD τ sig Unit (Elt F) ℕ (UR sig nD τ) ℕ)} {w21 : sProp (MT nD τ sig Unit (Elt F) ℕ (UR sig nD τ) ℕ)}
  {w22 : sProp (MT nD τ sig Unit (Elt F) ℕ (UR sig nD τ) ℕ)}

/-- What a run leaves in the output buffers: its pieces read back. -/
def outs (R : At m c t w17 w18 w19 w20 w21 w22) : St F :=
  (VO0_13.read (Elt F) (VO0_13.writes (Elt F) VO0_13.junk R.1),
    VO0_14.read (Elt F) (VO0_14.writes (Elt F) VO0_14.junk R.2.1),
    VO0_15.read (Elt F) (VO0_15.writes (Elt F) VO0_15.junk R.2.2.1),
    VO0_16.read (Elt F) (VO0_16.writes (Elt F) VO0_16.junk R.2.2.2.1),
    VO0_17.read (Elt F) (VO0_17.writes (Elt F) VO0_17.junk R.2.2.2.2.1),
    VO0_18.read (Elt F) (VO0_18.writes (Elt F) VO0_18.junk R.2.2.2.2.2.1),
    VO0_19.read (Elt F) (VO0_19.writes (Elt F) VO0_19.junk R.2.2.2.2.2.2.1),
    VO0_20.read (Elt F) (VO0_20.writes (Elt F) VO0_20.junk R.2.2.2.2.2.2.2.1),
    VO0_21.read (Elt F) (VO0_21.writes (Elt F) VO0_21.junk R.2.2.2.2.2.2.2.2.1),
    VO0_22.read (Elt F) (VO0_22.writes (Elt F) VO0_22.junk R.2.2.2.2.2.2.2.2.2.1))

/-- The pieces of every output fill its buffer. -/
def Covers (R : At m c t w17 w18 w19 w20 w21 w22) : Prop :=
  (∀ y, ∃ pc ∈ R.1, y ∈ pc.1.set)
  ∧ (∀ y, ∃ pc ∈ R.2.1, y ∈ pc.1.set)
  ∧ (∀ y, ∃ pc ∈ R.2.2.1, y ∈ pc.1.set)
  ∧ (∀ y, ∃ pc ∈ R.2.2.2.1, y ∈ pc.1.set)
  ∧ (∀ y, ∃ pc ∈ R.2.2.2.2.1, y ∈ pc.1.set)
  ∧ (∀ y, ∃ pc ∈ R.2.2.2.2.2.1, y ∈ pc.1.set)
  ∧ (∀ y, ∃ pc ∈ R.2.2.2.2.2.2.1, y ∈ pc.1.set)
  ∧ (∀ y, ∃ pc ∈ R.2.2.2.2.2.2.2.1, y ∈ pc.1.set)
  ∧ (∀ y, ∃ pc ∈ R.2.2.2.2.2.2.2.2.1, y ∈ pc.1.set)
  ∧ (∀ y, ∃ pc ∈ R.2.2.2.2.2.2.2.2.2.1, y ∈ pc.1.set)

theorem coversA (h : t.val % 16 = 0) : Covers (atA m c t h) :=
  ⟨fun y => View.cover_of_tiledL _ S512x512.size (by sl_kernel_rfl) y,
    fun y => View.cover_of_tiledL _ S512x512.size (by sl_kernel_rfl) y,
    fun y => View.cover_of_tiledL _ S512x512.size (by sl_kernel_rfl) y,
    fun y => View.cover_of_tiledL _ S512x512.size (by sl_kernel_rfl) y,
    fun y => View.cover_of_tiledL _ S1024x1024.size (by sl_kernel_rfl) y,
    fun y => View.cover_of_tiledL _ S1x512.size (by sl_kernel_rfl) y,
    fun y => View.cover_of_tiledL _ S1x512.size (by sl_kernel_rfl) y,
    fun y => View.cover_of_tiledL _ S1x512.size (by sl_kernel_rfl) y,
    fun y => View.cover_of_tiledL _ S4x128x128.size (by sl_kernel_rfl) y,
    fun y => View.cover_of_tiledL _ S4x128x1.size (by sl_kernel_rfl) y⟩

theorem coversB (h : ¬t.val % 16 = 0) (x : St F) : Covers (atB m c t h x) :=
  ⟨fun y => View.cover_of_tiledL _ S512x512.size (by sl_kernel_rfl) y,
    fun y => View.cover_of_tiledL _ S512x512.size (by sl_kernel_rfl) y,
    fun y => View.cover_of_tiledL _ S512x512.size (by sl_kernel_rfl) y,
    fun y => View.cover_of_tiledL _ S512x512.size (by sl_kernel_rfl) y,
    fun y => View.cover_of_tiledL _ S1024x1024.size (by sl_kernel_rfl) y,
    fun y => View.cover_of_tiledL _ S1x512.size (by sl_kernel_rfl) y,
    fun y => View.cover_of_tiledL _ S1x512.size (by sl_kernel_rfl) y,
    fun y => View.cover_of_tiledL _ S1x512.size (by sl_kernel_rfl) y,
    fun y => View.cover_of_tiledL _ ![1, 128, 128] (by sl_kernel_rfl) y,
    fun y => View.cover_of_tiledL _ ![1, 128, 1] (by sl_kernel_rfl) y⟩

variable (m)

/-- What the output buffers hold after the body at position `n`: the body run there, over what the position before left. -/
def outsAt (c : Dev nD) : (n : ℕ) → n < cfg0.N → St F
  | 0, hn => outs (atA m c ⟨0, hn⟩ (Nat.zero_mod _))
  | n + 1, hn =>
    if h0 : (n + 1) % 16 = 0 then outs (atA m c ⟨n + 1, hn⟩ h0)
    else outs (atB m c ⟨n + 1, hn⟩ h0 (outsAt c n (Nat.lt_of_succ_lt hn)))

theorem outsAt_A (c : Dev nD) (t : Fin cfg0.N) (h0 : t.val % 16 = 0) : outsAt m c t.val t.isLt = outs (atA m c t h0) := by
  obtain ⟨n, hn⟩ := t
  cases n with
  | zero => exact rfl
  | succ n => exact (dif_pos h0).trans rfl

theorem outsAt_B (c : Dev nD) (t : Fin cfg0.N) (h0 : ¬t.val % 16 = 0) :
    outsAt m c t.val t.isLt = outs (atB m c t h0 (outsAt m c (t.val - 1) (Nat.lt_of_le_of_lt (Nat.sub_le _ _) t.isLt))) := by
  obtain ⟨n, hn⟩ := t
  cases n with
  | zero => exact absurd (Nat.zero_mod _) h0
  | succ n => exact (dif_neg h0).trans rfl

/-- The pipeline's proof data: an input's buffer at its block, an output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt m c t.val t.isLt).1
    | ⟨14, _⟩ => (outsAt m c t.val t.isLt).2.1
    | ⟨15, _⟩ => (outsAt m c t.val t.isLt).2.2.1
    | ⟨16, _⟩ => (outsAt m c t.val t.isLt).2.2.2.1
    | ⟨17, _⟩ => (outsAt m c t.val t.isLt).2.2.2.2.1
    | ⟨18, _⟩ => (outsAt m c t.val t.isLt).2.2.2.2.2.1
    | ⟨19, _⟩ => (outsAt m c t.val t.isLt).2.2.2.2.2.2.1
    | ⟨20, _⟩ => (outsAt m c t.val t.isLt).2.2.2.2.2.2.2.1
    | ⟨21, _⟩ => (outsAt m c t.val t.isLt).2.2.2.2.2.2.2.2.1
    | ⟨22, _⟩ => (outsAt m c t.val t.isLt).2.2.2.2.2.2.2.2.2
    | ⟨_ + 23, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = X0_4 m c t := by dsimp only [dats]
theorem after5 (c : Dev nD) (t : Fin cfg0.N) : (dats m 0 c).after 5 t = X0_5 m c t := by dsimp only [dats]
theorem after6 (c : Dev nD) (t : Fin cfg0.N) : (dats m 0 c).after 6 t = X0_6 m c t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = (outsAt m c t.val t.isLt).1 := by dsimp only [dats]
theorem after14 (c : Dev nD) (t : Fin cfg0.N) : (dats m 0 c).after 14 t = (outsAt m c t.val t.isLt).2.1 := by dsimp only [dats]
theorem after15 (c : Dev nD) (t : Fin cfg0.N) : (dats m 0 c).after 15 t = (outsAt m c t.val t.isLt).2.2.1 := by dsimp only [dats]
theorem after16 (c : Dev nD) (t : Fin cfg0.N) : (dats m 0 c).after 16 t = (outsAt m c t.val t.isLt).2.2.2.1 := by dsimp only [dats]
theorem after17 (c : Dev nD) (t : Fin cfg0.N) : (dats m 0 c).after 17 t = (outsAt m c t.val t.isLt).2.2.2.2.1 := by dsimp only [dats]
theorem after18 (c : Dev nD) (t : Fin cfg0.N) : (dats m 0 c).after 18 t = (outsAt m c t.val t.isLt).2.2.2.2.2.1 := by dsimp only [dats]
theorem after19 (c : Dev nD) (t : Fin cfg0.N) : (dats m 0 c).after 19 t = (outsAt m c t.val t.isLt).2.2.2.2.2.2.1 := by dsimp only [dats]
theorem after20 (c : Dev nD) (t : Fin cfg0.N) : (dats m 0 c).after 20 t = (outsAt m c t.val t.isLt).2.2.2.2.2.2.2.1 := by dsimp only [dats]
theorem after21 (c : Dev nD) (t : Fin cfg0.N) : (dats m 0 c).after 21 t = (outsAt m c t.val t.isLt).2.2.2.2.2.2.2.2.1 := by dsimp only [dats]
theorem after22 (c : Dev nD) (t : Fin cfg0.N) : (dats m 0 c).after 22 t = (outsAt m c t.val t.isLt).2.2.2.2.2.2.2.2.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = X0_4 m c t :=
  before0_4_of m (dats m 0 c) (A_eq m c 4) (after4 m c) t d
theorem before5 (c : Dev nD) (t : Fin cfg0.N) (d) : (dats m 0 c).before 5 t d = X0_5 m c t :=
  before0_5_of m (dats m 0 c) (A_eq m c 5) (after5 m c) t d
theorem before6 (c : Dev nD) (t : Fin cfg0.N) (d) : (dats m 0 c).before 6 t d = X0_6 m c t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-! An accumulator's buffer, at a point that carries the sums on, holds what the point before left: it was not written back between. -/

theorem before17 (c : Dev nD) (t : Fin cfg0.N) (h0 : ¬t.val % 16 = 0) (d) :
    (dats m 0 c).before 17 t d = (outsAt m c (t.val - 1) (Nat.lt_of_le_of_lt (Nat.sub_le _ _) t.isLt)).2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
theorem before18 (c : Dev nD) (t : Fin cfg0.N) (h0 : ¬t.val % 16 = 0) (d) :
    (dats m 0 c).before 18 t d = (outsAt m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
theorem before19 (c : Dev nD) (t : Fin cfg0.N) (h0 : ¬t.val % 16 = 0) (d) :
    (dats m 0 c).before 19 t d = (outsAt m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]
theorem before20 (c : Dev nD) (t : Fin cfg0.N) (h0 : ¬t.val % 16 = 0) (d) :
    (dats m 0 c).before 20 t d = (outsAt m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
theorem before21 (c : Dev nD) (t : Fin cfg0.N) (h0 : ¬t.val % 16 = 0) (d) :
    (dats m 0 c).before 21 t d = (outsAt m c (t.val - 1) (Nat.lt_of_le_of_lt (Nat.sub_le _ _) t.isLt)).2.2.2.2.2.2.2.2.1 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]
theorem before22 (c : Dev nD) (t : Fin cfg0.N) (h0 : ¬t.val % 16 = 0) (d) :
    (dats m 0 c).before 22 t d = (outsAt m c (t.val - 1) (Nat.lt_of_le_of_lt (Nat.sub_le _ _) t.isLt)).2.2.2.2.2.2.2.2.2 := by
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  dsimp only [dats]

variable {m}

set_option maxHeartbeats 2000000 in
/-- The body at a point, by any run of it whose pieces fill the outputs: the scratch buffers are taken and given back, nothing is owed. -/
theorem body_of (R : At m c t w17 w18 w19 w20 w21 w22) (hR : Covers R) :
    (iprop(iprop(iprop((∃ d, owns (c : Thread nD τ) scM0_0 fullShare d) ∗ (∃ d, owns (c : Thread nD τ) scM0_1 fullShare d)) ∗ (∃ r, prngReg c r)) ∗ (dats m 0 c).owesAt () t.castSucc
      ∗ owns (c : Thread nD τ) (ms0_0 t) fullShare (iblk m c 0 t) ∗ owns (c : Thread nD τ) (ms0_1 t) fullShare (iblk m c 1 t) ∗ owns (c : Thread nD τ) (ms0_2
        t) fullShare (iblk m c 2 t) ∗ owns (c : Thread nD τ) (ms0_3 t) fullShare (iblk m c 3 t) ∗ owns (c : Thread nD τ) (ms0_4 t) fullShare (X0_4 m c
        t) ∗ owns (c : Thread nD τ) (ms0_5 t) fullShare (X0_5 m c t) ∗ owns (c : Thread nD τ) (ms0_6 t) fullShare (X0_6 m c t) ∗ owns (c : Thread nD
        τ) (ms0_7 t) fullShare (iblk m c 7 t) ∗ owns (c : Thread nD τ) (ms0_8 t) fullShare (iblk m c 8 t) ∗ owns (c : Thread nD τ) (ms0_9 t) fullShare
        (iblk m c 9 t) ∗ owns (c : Thread nD τ) (ms0_10 t) fullShare (iblk m c 10 t) ∗ owns (c : Thread nD τ) (ms0_11 t) fullShare (iblk m c 11 t) ∗
        owns (c : Thread nD τ) (ms0_12 t) fullShare (iblk m c 12 t)
      ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)
      ∗ w17 ∗ w18 ∗ w19 ∗ w20 ∗ w21 ∗ w22) : sProp (MT nD τ sig Unit (Elt F) ℕ (UR sig nD τ) ℕ))
    ⊢ wp frame (wpE (defs₀ (F := F)) Variants.none c none) Set.univ (bodyAt0 t) (fun _ => iprop(iprop(iprop((∃ d, owns (c : Thread nD τ) scM0_0 fullShare d) ∗ (∃ d, owns (c : Thread nD τ) scM0_1 fullShare d)) ∗ (∃ r, prngReg c r)) ∗ (dats m 0 c).owesAt () t.castSucc
      ∗ owns (c : Thread nD τ) (ms0_0 t) fullShare (iblk m c 0 t) ∗ owns (c : Thread nD τ) (ms0_1 t) fullShare (iblk m c 1 t) ∗ owns (c : Thread nD τ) (ms0_2
        t) fullShare (iblk m c 2 t) ∗ owns (c : Thread nD τ) (ms0_3 t) fullShare (iblk m c 3 t) ∗ owns (c : Thread nD τ) (ms0_4 t) fullShare (X0_4 m c
        t) ∗ owns (c : Thread nD τ) (ms0_5 t) fullShare (X0_5 m c t) ∗ owns (c : Thread nD τ) (ms0_6 t) fullShare (X0_6 m c t) ∗ owns (c : Thread nD
        τ) (ms0_7 t) fullShare (iblk m c 7 t) ∗ owns (c : Thread nD τ) (ms0_8 t) fullShare (iblk m c 8 t) ∗ owns (c : Thread nD τ) (ms0_9 t) fullShare
        (iblk m c 9 t) ∗ owns (c : Thread nD τ) (ms0_10 t) fullShare (iblk m c 10 t) ∗ owns (c : Thread nD τ) (ms0_11 t) fullShare (iblk m c 11 t) ∗
        owns (c : Thread nD τ) (ms0_12 t) fullShare (iblk m c 12 t)
      ∗ owns (c : Thread nD τ) (ms0_13 t) fullShare (outs R).1 ∗ owns (c : Thread nD τ) (ms0_14 t) fullShare (outs R).2.1 ∗ owns (c : Thread nD τ) (ms0_15 t)
        fullShare (outs R).2.2.1 ∗ owns (c : Thread nD τ) (ms0_16 t) fullShare (outs R).2.2.2.1 ∗ owns (c : Thread nD τ) (ms0_17 t) fullShare (outs
        R).2.2.2.2.1 ∗ owns (c : Thread nD τ) (ms0_18 t) fullShare (outs R).2.2.2.2.2.1 ∗ owns (c : Thread nD τ) (ms0_19 t) fullShare (outs
        R).2.2.2.2.2.2.1 ∗ owns (c : Thread nD τ) (ms0_20 t) fullShare (outs R).2.2.2.2.2.2.2.1 ∗ owns (c : Thread nD τ) (ms0_21 t) fullShare (outs
        R).2.2.2.2.2.2.2.2.1 ∗ owns (c : Thread nD τ) (ms0_22 t) fullShare (outs R).2.2.2.2.2.2.2.2.2)) := by
  obtain ⟨c13, c14, c15, c16, c17, c18, c19, c20, c21, c22⟩ := hR
  unfold bodyAt0 outs; dsimp only
  iintro ⟨⟨⟨HS0, HS1⟩, Hg⟩, Ho, H0, H1, H2, H3, H4, H5, H6, H7, H8, H9, H10, H11, H12, H13, H14, H15, H16, H17, H18, H19, H20, H21, H22⟩
  iapply (R.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩,
    ⟨%e20, H20⟩, ⟨%e21, H21⟩, ⟨%e22, H22⟩, ⟨%e23, HS0⟩, ⟨%e24, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ c13
  isplitl [H14]
  · unfold owns; iexists _; isplitr
    swap; · iexact H14
    ipureintro; exact View.read_writes_of_cover _ _ _ _ _ c14
  isplitl [H15]
  · unfold owns; iexists _; isplitr
    swap; · iexact H15
    ipureintro; exact View.read_writes_of_cover _ _ _ _ _ c15
  isplitl [H16]
  · unfold owns; iexists _; isplitr
    swap; · iexact H16
    ipureintro; exact View.read_writes_of_cover _ _ _ _ _ c16
  isplitl [H17]
  · unfold owns; iexists _; isplitr
    swap; · iexact H17
    ipureintro; exact View.read_writes_of_cover _ _ _ _ _ c17
  isplitl [H18]
  · unfold owns; iexists _; isplitr
    swap; · iexact H18
    ipureintro; exact View.read_writes_of_cover _ _ _ _ _ c18
  isplitl [H19]
  · unfold owns; iexists _; isplitr
    swap; · iexact H19
    ipureintro; exact View.read_writes_of_cover _ _ _ _ _ c19
  isplitl [H20]
  · unfold owns; iexists _; isplitr
    swap; · iexact H20
    ipureintro; exact View.read_writes_of_cover _ _ _ _ _ c20
  isplitl [H21]
  · unfold owns; iexists _; isplitr
    swap; · iexact H21
    ipureintro; exact View.read_writes_of_cover _ _ _ _ _ c21
  unfold owns; iexists _; isplitr
  swap; · iexact H22
  ipureintro; exact View.read_writes_of_cover _ _ _ _ _ c22

variable (m)

/-- What the body is called with at point `t`, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before
      1 t d)) ∗ (∃ d, owns (c : Thread nD τ) (ms0_2 t) fullShare ((dats m 0 c).before 2 t d)) ∗ (∃ d, owns (c : Thread nD τ) (ms0_3 t) fullShare
      ((dats m 0 c).before 3 t d)) ∗ (∃ d, owns (c : Thread nD τ) (ms0_4 t) fullShare ((dats m 0 c).before 4 t d)) ∗ (∃ d, owns (c : Thread nD τ)
      (ms0_5 t) fullShare ((dats m 0 c).before 5 t d)) ∗ (∃ d, owns (c : Thread nD τ) (ms0_6 t) fullShare ((dats m 0 c).before 6 t d)) ∗ (∃ d, owns (c
      : Thread nD τ) (ms0_7 t) fullShare ((dats m 0 c).before 7 t d)) ∗ (∃ d, owns (c : Thread nD τ) (ms0_8 t) fullShare ((dats m 0 c).before 8 t d))
      ∗ (∃ d, owns (c : Thread nD τ) (ms0_9 t) fullShare ((dats m 0 c).before 9 t d)) ∗ (∃ d, owns (c : Thread nD τ) (ms0_10 t) fullShare ((dats m 0
      c).before 10 t d)) ∗ (∃ d, owns (c : Thread nD τ) (ms0_11 t) fullShare ((dats m 0 c).before 11 t d)) ∗ (∃ d, owns (c : Thread nD τ) (ms0_12 t)
      fullShare ((dats m 0 c).before 12 t d)) ∗ (∃ d, owns (c : Thread nD τ) (ms0_13 t) fullShare ((dats m 0 c).before 13 t d)) ∗ (∃ d, owns (c :
      Thread nD τ) (ms0_14 t) fullShare ((dats m 0 c).before 14 t d)) ∗ (∃ d, owns (c : Thread nD τ) (ms0_15 t) fullShare ((dats m 0 c).before 15 t
      d)) ∗ (∃ d, owns (c : Thread nD τ) (ms0_16 t) fullShare ((dats m 0 c).before 16 t d)) ∗ (∃ d, owns (c : Thread nD τ) (ms0_17 t) fullShare ((dats
      m 0 c).before 17 t d)) ∗ (∃ d, owns (c : Thread nD τ) (ms0_18 t) fullShare ((dats m 0 c).before 18 t d)) ∗ (∃ d, owns (c : Thread nD τ) (ms0_19
      t) fullShare ((dats m 0 c).before 19 t d)) ∗ (∃ d, owns (c : Thread nD τ) (ms0_20 t) fullShare ((dats m 0 c).before 20 t d)) ∗ (∃ d, owns (c :
      Thread nD τ) (ms0_21 t) fullShare ((dats m 0 c).before 21 t d)) ∗ (∃ d, owns (c : Thread nD τ) (ms0_22 t) fullShare ((dats m 0 c).before 22 t
      d)))
@[inherit_doc bodyPre] def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c :
      Thread nD τ) (ms0_2 t) fullShare ((dats m 0 c).after 2 t) ∗ owns (c : Thread nD τ) (ms0_3 t) fullShare ((dats m 0 c).after 3 t) ∗ owns (c :
      Thread nD τ) (ms0_4 t) fullShare ((dats m 0 c).after 4 t) ∗ owns (c : Thread nD τ) (ms0_5 t) fullShare ((dats m 0 c).after 5 t) ∗ owns (c :
      Thread nD τ) (ms0_6 t) fullShare ((dats m 0 c).after 6 t) ∗ owns (c : Thread nD τ) (ms0_7 t) fullShare ((dats m 0 c).after 7 t) ∗ owns (c :
      Thread nD τ) (ms0_8 t) fullShare ((dats m 0 c).after 8 t) ∗ owns (c : Thread nD τ) (ms0_9 t) fullShare ((dats m 0 c).after 9 t) ∗ owns (c :
      Thread nD τ) (ms0_10 t) fullShare ((dats m 0 c).after 10 t) ∗ owns (c : Thread nD τ) (ms0_11 t) fullShare ((dats m 0 c).after 11 t) ∗ owns (c :
      Thread nD τ) (ms0_12 t) fullShare ((dats m 0 c).after 12 t) ∗ owns (c : Thread nD τ) (ms0_13 t) fullShare ((dats m 0 c).after 13 t) ∗ owns (c :
      Thread nD τ) (ms0_14 t) fullShare ((dats m 0 c).after 14 t) ∗ owns (c : Thread nD τ) (ms0_15 t) fullShare ((dats m 0 c).after 15 t) ∗ owns (c :
      Thread nD τ) (ms0_16 t) fullShare ((dats m 0 c).after 16 t) ∗ owns (c : Thread nD τ) (ms0_17 t) fullShare ((dats m 0 c).after 17 t) ∗ owns (c :
      Thread nD τ) (ms0_18 t) fullShare ((dats m 0 c).after 18 t) ∗ owns (c : Thread nD τ) (ms0_19 t) fullShare ((dats m 0 c).after 19 t) ∗ owns (c :
      Thread nD τ) (ms0_20 t) fullShare ((dats m 0 c).after 20 t) ∗ owns (c : Thread nD τ) (ms0_21 t) fullShare ((dats m 0 c).after 21 t) ∗ owns (c :
      Thread nD τ) (ms0_22 t) fullShare ((dats m 0 c).after 22 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16,
    after17, after18, after19, after20, after21, after22]
  rw [show (dats m 0 c).Φ t.castSucc = Pipeline.ΦA spec0 c from rfl, PhiA0_eq]
  by_cases h0 : t.val % 16 = 0
  · rw [outsAt_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
      ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply (body_of (atA m c t h0) (coversA h0))
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22
  · rw [outsAt_B m c t h0]
    simp only [before17 m c t h0, before18 m c t h0, before19 m c t h0, before20 m c t h0, before21 m c t h0, before22 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
      ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply (body_of (atB m c t h0 _) (coversB h0 _))
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexact H17
    isplitl [H18]; · iexact H18
    isplitl [H19]; · iexact H19
    isplitl [H20]; · iexact H20
    isplitl [H21]; · iexact H21
    iexact H22

set_option maxHeartbeats 4000000 in
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

set_option backward.isDefEq.respectTransparency.types false in
/-- Every execution ends, with every array of the pipeline as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.MixBwd

end
-- ==== Proof.Mix.BitsFrame.lean ====
/- The call's frame on bits: with each named constant read as its own bits, the named program is the printed one. -/
module

public import proofs.«01_k».proof.Defs
public import proofs.«01_k».proof.Proof.Gen.Mix
public import proofs.«01_k».proof.Proof.Mix.Frame

@[expose] public section

set_option maxRecDepth 16384

noncomputable section

namespace Cert.MixBwd

open Idealize.ShloMosaic Idealize.ShloMosaic.TcCoe Idealize.ShloMosaic.Tactic Idealize.SL.Sem

/-- On bits a named constant is the bits it was printed with. -/
@[reducible] def named_bits : Named Bits := ⟨fun _ _ φ b => FloatOps.ofBits φ b⟩

set_option maxHeartbeats 4000000 in
theorem frame_bits : Cert.quiescent_Mix (hMix := Cert.Mix.Gen.facts) := fun m g _ =>
  cast (by sl_kernel_rfl) (@Cert.MixBwd.frame Bits _ named_bits m g)

end Cert.MixBwd

end
-- ==== Proof.Mix.Results.lean ====
/- The call's run, each result named by the array its blocks leave and each argument as it was. -/
module

public import proofs.«01_k».proof.Proof.Mix.Frame

@[expose] public section

set_option maxRecDepth 16384

noncomputable section

namespace Cert.MixBwd

open Idealize.ShloMosaic Idealize.ShloMosaic.TcCoe Idealize.SL.Sem
open Cert.MixIdeal Cert.MixIdeal.Gen

set_option maxHeartbeats 4000000 in
theorem run_blocks (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
      r.2.mem ((c : Thread nD τ).loc main_v78_0) = (dats m 0 c).arrAt 13 cfg0.N
      ∧ r.2.mem ((c : Thread nD τ).loc main_v78_1) = (dats m 0 c).arrAt 14 cfg0.N
      ∧ r.2.mem ((c : Thread nD τ).loc main_v78_2) = (dats m 0 c).arrAt 15 cfg0.N
      ∧ r.2.mem ((c : Thread nD τ).loc main_v78_3) = (dats m 0 c).arrAt 16 cfg0.N
      ∧ r.2.mem ((c : Thread nD τ).loc main_v78_4) = (dats m 0 c).arrAt 17 cfg0.N
      ∧ r.2.mem ((c : Thread nD τ).loc main_v78_5) = (dats m 0 c).arrAt 18 cfg0.N
      ∧ r.2.mem ((c : Thread nD τ).loc main_v78_6) = (dats m 0 c).arrAt 19 cfg0.N
      ∧ r.2.mem ((c : Thread nD τ).loc main_v78_7) = (dats m 0 c).arrAt 20 cfg0.N
      ∧ r.2.mem ((c : Thread nD τ).loc main_v78_8) = (dats m 0 c).arrAt 21 cfg0.N
      ∧ r.2.mem ((c : Thread nD τ).loc main_v78_9) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 13,
    (h c).1 14,
    (h c).1 15,
    (h c).1 16,
    (h c).1 17,
    (h c).1 18,
    (h c).1 19,
    (h c).1 20,
    (h c).1 21,
    (h c).1 22,
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).2 main_arg3 (Pipeline.mem_restRefs_of main_arg3 (by decide) (by decide))).trans (V_main_arg3 m c),
    ((h c).1 7).trans (((dats m 0 c).arrAt_in 7 rfl _).trans ((A_eq m c 7).trans (V_main_arg4 m c))),
    ((h c).1 8).trans (((dats m 0 c).arrAt_in 8 rfl _).trans ((A_eq m c 8).trans (V_main_arg5 m c))),
    ((h c).1 9).trans (((dats m 0 c).arrAt_in 9 rfl _).trans ((A_eq m c 9).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩)
    (run_main m ρ)

end Cert.MixBwd

end
-- ==== Proof.Mix.Spec.lean ====
/- The two mixers of one layer, token by token and chunk by chunk over the reals, and the pull-back of their output product. -/
module

public import proofs.«01_k».proof.Proof.Rows
public import Mathlib.MeasureTheory.Integral.IntervalIntegral.Basic

@[expose] public section

noncomputable section

namespace Cert.MixBwd

open Idealize.ShloMosaic Cert.Reals Cert.Rows
open scoped BigOperators

/-- The cotangent of the residual, the two directions' states, the three gated columns of the projection, the gains and offsets, the
    spatial weights and biases, and the output matrix. -/
structure Par where
  dx : Fin 8192 → Fin 1024 → ℝ
  of : Fin 8192 → Fin 512 → ℝ
  ob : Fin 8192 → Fin 512 → ℝ
  pg : Fin 8192 → Fin 512 → ℝ
  pu : Fin 8192 → Fin 512 → ℝ
  pv : Fin 8192 → Fin 512 → ℝ
  gg : Fin 512 → ℝ
  lg : Fin 512 → ℝ
  lb : Fin 512 → ℝ
  ws : Fin 4 → Fin 128 → Fin 128 → ℝ
  bs : Fin 4 → Fin 128 → ℝ
  wo : Fin 1024 → Fin 1024 → ℝ

/-- A column of the left half, and of the right half, of the mixers' joined columns. -/
def lo (k : Fin 512) : Fin 1024 := ⟨k.val, by omega⟩
def hi (k : Fin 512) : Fin 1024 := ⟨512 + k.val, by omega⟩
/-- The column `c` of head (or group) `g`; a column's head and its place in the head. -/
def col (g : Fin 4) (c : Fin 128) : Fin 512 := ⟨g.val * 128 + c.val, by omega⟩
def hd (k : Fin 512) : Fin 4 := ⟨k.val / 128, by omega⟩
def ln (k : Fin 512) : Fin 128 := ⟨k.val % 128, by omega⟩
/-- The token `i` of chunk `n`; a token's chunk and its place in the chunk. -/
def tok (n : Fin 64) (i : Fin 128) : Fin 8192 := ⟨n.val * 128 + i.val, by omega⟩
def chk (t : Fin 8192) : Fin 64 := ⟨t.val / 128, by omega⟩
def pos (t : Fin 8192) : Fin 128 := ⟨t.val % 128, by omega⟩

@[simp] theorem hd_col (g : Fin 4) (c : Fin 128) : hd (col g c) = g := Fin.ext (by simp only [hd, col]; omega)
@[simp] theorem ln_col (g : Fin 4) (c : Fin 128) : ln (col g c) = c := Fin.ext (by simp only [ln, col]; omega)
@[simp] theorem col_hd_ln (k : Fin 512) : col (hd k) (ln k) = k := Fin.ext (by simp only [hd, ln, col]; omega)
@[simp] theorem chk_tok (n : Fin 64) (i : Fin 128) : chk (tok n i) = n := Fin.ext (by simp only [chk, tok]; omega)
@[simp] theorem pos_tok (n : Fin 64) (i : Fin 128) : pos (tok n i) = i := Fin.ext (by simp only [pos, tok]; omega)
@[simp] theorem tok_chk_pos (t : Fin 8192) : tok (chk t) (pos t) = t := Fin.ext (by simp only [chk, pos, tok]; omega)

/-- The error function on numbers. -/
def erfR (x : ℝ) : ℝ := 2 / Real.sqrt Real.pi * ∫ t in (0 : ℝ)..x, Real.exp (-(t ^ 2))
/-- The slope of the normal distribution's function at zero, as the printed derivative of the complementary error function has it. -/
def slope : ℝ := 9465531 / 16777216 * (Real.sqrt 2)⁻¹
def cdf (z : ℝ) : ℝ := 1 / 2 * (1 + erfR (z * (Real.sqrt 2)⁻¹))
def gelu (z : ℝ) : ℝ := z * cdf z
def dgelu (z : ℝ) : ℝ := cdf z + z * Real.exp (-(1 / 2) * z * z) * slope
def swish (z : ℝ) : ℝ := z * sig z

variable (P : Par)

def dy (t : Fin 8192) (e : Fin 1024) : ℝ := ∑ j, P.dx t j * P.wo e j
def dya (t : Fin 8192) (k : Fin 512) : ℝ := dy P t (lo k)
def dyb (t : Fin 8192) (k : Fin 512) : ℝ := dy P t (hi k)

/-! The gated state: a normalisation of each head's columns, a gain, a gate. -/

def o (t : Fin 8192) (k : Fin 512) : ℝ := P.of t k + P.ob t k
def msq (t : Fin 8192) (h : Fin 4) : ℝ := (∑ c, o P t (col h c) * o P t (col h c)) / 128 + eps
def hroot (t : Fin 8192) (h : Fin 4) : ℝ := (Real.sqrt (msq P t h))⁻¹
def on (t : Fin 8192) (k : Fin 512) : ℝ := o P t k * hroot P t (hd k)
def sil (t : Fin 8192) (k : Fin 512) : ℝ := swish (P.pg t k)
def ya (t : Fin 8192) (k : Fin 512) : ℝ := on P t k * P.gg k * sil P t k
def don (t : Fin 8192) (k : Fin 512) : ℝ := dya P t k * sil P t k * P.gg k
def inner (t : Fin 8192) (h : Fin 4) : ℝ := (∑ c, don P t (col h c) * on P t (col h c)) / 128
def dO (t : Fin 8192) (k : Fin 512) : ℝ := hroot P t (hd k) * (don P t k - on P t k * inner P t (hd k))
def dpg (t : Fin 8192) (k : Fin 512) : ℝ := dya P t k * on P t k * P.gg k * dswish (P.pg t k)
def dgg (k : Fin 512) : ℝ := ∑ t, dya P t k * sil P t k * on P t k

/-! The spatial gate: a layer norm, a product along each chunk of tokens, a gate. -/

def zu (t : Fin 8192) (k : Fin 512) : ℝ := gelu (P.pu t k)
def zv (t : Fin 8192) (k : Fin 512) : ℝ := gelu (P.pv t k)
def xc (t : Fin 8192) (k : Fin 512) : ℝ := zv P t k - (∑ l, zv P t l) / 512
def var (t : Fin 8192) : ℝ := (∑ k, xc P t k * xc P t k) / 512 + eps
def rs (t : Fin 8192) : ℝ := (Real.sqrt (var P t))⁻¹
def vhat (t : Fin 8192) (k : Fin 512) : ℝ := xc P t k * rs P t
def vln (t : Fin 8192) (k : Fin 512) : ℝ := vhat P t k * P.lg k + P.lb k
def mixs (n : Fin 64) (i : Fin 128) (g : Fin 4) (c : Fin 128) : ℝ := (∑ j, P.ws g i j * vln P (tok n j) (col g c)) + P.bs g i
def s (t : Fin 8192) (k : Fin 512) : ℝ := mixs P (chk t) (pos t) (hd k) (ln k)
def yb (t : Fin 8192) (k : Fin 512) : ℝ := zu P t k * s P t k
def ds (t : Fin 8192) (k : Fin 512) : ℝ := dyb P t k * zu P t k
def dmix (n : Fin 64) (j : Fin 128) (g : Fin 4) (c : Fin 128) : ℝ := ∑ i, P.ws g i j * ds P (tok n i) (col g c)
def dvln (t : Fin 8192) (k : Fin 512) : ℝ := dmix P (chk t) (pos t) (hd k) (ln k)
def dws (g : Fin 4) (i j : Fin 128) : ℝ := ∑ n, ∑ c, ds P (tok n i) (col g c) * vln P (tok n j) (col g c)
def dbs (g : Fin 4) (i : Fin 128) : ℝ := ∑ n, ∑ c, ds P (tok n i) (col g c)
def dpu (t : Fin 8192) (k : Fin 512) : ℝ := dyb P t k * s P t k * dgelu (P.pu t k)
def dlg (k : Fin 512) : ℝ := ∑ t, dvln P t k * vhat P t k
def dlb (k : Fin 512) : ℝ := ∑ t, dvln P t k
def dvh (t : Fin 8192) (k : Fin 512) : ℝ := dvln P t k * P.lg k
def dvc (t : Fin 8192) (k : Fin 512) : ℝ := dvh P t k - (∑ l, dvh P t l) / 512
def dvr (t : Fin 8192) : ℝ := (∑ k, dvh P t k * vhat P t k) / 512
def dzv (t : Fin 8192) (k : Fin 512) : ℝ := rs P t * (dvc P t k - vhat P t k * dvr P t)
def dpv (t : Fin 8192) (k : Fin 512) : ℝ := dzv P t k * dgelu (P.pv t k)

/-- The mixers' joined columns, and the gradient of the output matrix. -/
def yc (t : Fin 8192) (e : Fin 1024) : ℝ := if h : e.val < 512 then ya P t ⟨e.val, h⟩ else yb P t ⟨e.val - 512, by omega⟩
def dwo (e j : Fin 1024) : ℝ := ∑ t, yc P t e * P.dx t j

/-! What the chain rule through the means and the reciprocal root writes. -/

theorem msq_pos (t : Fin 8192) (h : Fin 4) : 0 < msq P t h := by
  have a : 0 ≤ ∑ c, o P t (col h c) * o P t (col h c) := Finset.sum_nonneg fun k _ => mul_self_nonneg _
  have := eps_pos
  unfold msq
  positivity

theorem var_pos (t : Fin 8192) : 0 < var P t := by
  have a : 0 ≤ ∑ k, xc P t k * xc P t k := Finset.sum_nonneg fun k _ => mul_self_nonneg _
  have := eps_pos
  unfold var
  positivity

/-- The chain rule through a mean of squares over `N` entries and the reciprocal of its root. -/
theorem root_chain {n : ℕ} (x d : Fin n → ℝ) (a b q N : ℝ) (hq : 0 < q) :
    b * (Real.sqrt q)⁻¹ + a * ((∑ k, x k * d k) * (-(1 / 2) * ((Real.sqrt q)⁻¹ / q)) / N)
      + (∑ k, x k * d k) * (-(1 / 2) * ((Real.sqrt q)⁻¹ / q)) / N * a
      = (Real.sqrt q)⁻¹ * (b - a * (Real.sqrt q)⁻¹ * ((∑ k, d k * (x k * (Real.sqrt q)⁻¹)) / N)) := by
  have hs : Real.sqrt q * Real.sqrt q = q := Real.mul_self_sqrt hq.le
  have hs0 : Real.sqrt q ≠ 0 := (Real.sqrt_pos.mpr hq).ne'
  have e : ∑ k, d k * (x k * (Real.sqrt q)⁻¹) = (∑ k, x k * d k) * (Real.sqrt q)⁻¹ := by
    rw [Finset.sum_mul]
    exact Finset.sum_congr rfl fun k _ => by ring
  rw [e]
  generalize Real.sqrt q = s at *
  rw [← hs]
  field_simp
  ring

theorem sum_xc (t : Fin 8192) : ∑ k, xc P t k = 0 := by
  simp only [xc, Finset.sum_sub_distrib, Finset.sum_const, Finset.card_univ, Fintype.card_fin, nsmul_eq_mul]
  push_cast
  ring

/-- The pull-back of the centring and the scaling together. -/
theorem ln_chain (t : Fin 8192) (k : Fin 512) :
    rs P t * (dvh P t k - vhat P t k * dvr P t) + (∑ l, -(rs P t * (dvh P t l - vhat P t l * dvr P t))) / 512 = dzv P t k := by
  have e : ∑ l, -(rs P t * (dvh P t l - vhat P t l * dvr P t)) = -(rs P t * ∑ l, dvh P t l) := by
    have h : ∀ l, -(rs P t * (dvh P t l - vhat P t l * dvr P t)) = -(rs P t * dvh P t l) + xc P t l * (rs P t * rs P t * dvr P t) := by
      intro l; rw [vhat]; ring
    simp only [h, Finset.sum_add_distrib, ← Finset.sum_mul, sum_xc, Finset.sum_neg_distrib, ← Finset.mul_sum]
    ring
  rw [e, dzv, dvc]
  ring

/-- Rounding aside, the exact gelu and its derivative as the host writes them with the complementary error function. -/
theorem dgelu_host (z y : ℝ) :
    -(-(9465531 / 8388608) * (1 / 2 * z * y) * Real.exp (-(-z / Real.sqrt 2 * (-z / Real.sqrt 2))) / Real.sqrt 2)
      + 1 / 2 * (y * (1 + erfR (z * (Real.sqrt 2)⁻¹))) = y * dgelu z := by
  have h2 : Real.sqrt 2 * Real.sqrt 2 = 2 := Real.mul_self_sqrt (by norm_num)
  have h0 : Real.sqrt 2 ≠ 0 := by positivity
  have e : -(-z / Real.sqrt 2 * (-z / Real.sqrt 2)) = -(1 / 2) * z * z := by
    rw [div_mul_div_comm, h2]; ring
  rw [e, dgelu, cdf, slope]
  field_simp
  ring

end Cert.MixBwd

end
-- ==== Proof.Mix.Host.lean ====
/- The two joined halves of the projection's columns, and the host's constants, as real functions. -/
module

public import proofs.«01_k».proof.Proof.Mix.Spec
public import Idealize.ShloMosaic.Lib.Pointwise

@[expose] public section

noncomputable section

namespace Cert.MixBwd

open Idealize.ShloMosaic Idealize.SL.Sem
open Cert.Reals Cert.Rows

variable (P : Par)

/-- The sum over the first and the last of four axes. -/
theorem reduce_ends {a b c d : ℕ} (h : (⟨4, ![a, b, c, d]⟩ : Shape).ReducesTo [0, 3] ⟨2, ![b, c]⟩)
    (v : (⟨4, ![a, b, c, d]⟩ : Shape).Idx → EReal) (init : EReal) (i : Fin b) (g : Fin c) :
    Ideal.hostReduceAdd h v init (ix2 i g) = init + ∑ n : Fin a, ∑ k : Fin d, v (ix4 n i g k) := by
  refine congrArg (init + ·) ((Finset.sum_filter_eq_sum_of_fiber _ (fun k : Fin a × Fin d => ix4 k.1 i g k.2)
    (fun _ _ e => Prod.ext (congrFun e 0) (congrFun e 3)) (fun x => ?_) v).trans (by simp only [Fintype.sum_prod_type]))
  constructor
  · intro e
    refine ⟨(x 0, x 3), ?_⟩
    funext q; apply Fin.ext
    match q with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext q
    apply Fin.ext
    match q with
    | ⟨0, _⟩ => rfl
    | ⟨1, _⟩ => rfl

/-- Two rows of 512 columns side by side. -/
def join (a b : Fin 512 → ℝ) (e : Fin 1024) : ℝ := if h : e.val < 512 then a ⟨e.val, h⟩ else b ⟨e.val - 512, by omega⟩
def uv (t : Fin 8192) (e : Fin 1024) : ℝ := join (P.pu t) (P.pv t) e

theorem join_lo (a b : Fin 512 → ℝ) (k : Fin 512) (h : k.val < 1024) : join a b ⟨k.val, h⟩ = a k := dif_pos k.isLt
theorem join_hi (a b : Fin 512 → ℝ) (k : Fin 512) (h : 512 + k.val < 1024) : join a b ⟨512 + k.val, h⟩ = b k := by
  rw [join, dif_neg (Nat.not_lt.mpr (Nat.le_add_right 512 k.val))]
  exact congrArg b (Fin.ext (Nat.add_sub_cancel_left 512 k.val))
theorem uv_lo (t : Fin 8192) (k : Fin 512) (h : k.val < 1024) : uv P t ⟨k.val, h⟩ = P.pu t k := join_lo _ _ k h
theorem uv_hi (t : Fin 8192) (k : Fin 512) (h : 512 + k.val < 1024) : uv P t ⟨512 + k.val, h⟩ = P.pv t k := join_hi _ _ k h

theorem mk_col (g : Fin 4) (c : Fin 128) (h : g.val * 128 + c.val < 512) : (⟨g.val * 128 + c.val, h⟩ : Fin 512) = col g c := rfl
theorem mk_tok (n : Fin 64) (i : Fin 128) (h : n.val * 128 + i.val < 8192) : (⟨n.val * 128 + i.val, h⟩ : Fin 8192) = tok n i := rfl
theorem mk_hd (k : Fin 512) (h : k.val / 128 < 4) : (⟨k.val / 128, h⟩ : Fin 4) = hd k := rfl
theorem mk_ln (k : Fin 512) (h : k.val % 128 < 128) : (⟨k.val % 128, h⟩ : Fin 128) = ln k := rfl
theorem mk_chk (t : Fin 8192) (h : t.val / 128 < 64) : (⟨t.val / 128, h⟩ : Fin 64) = chk t := rfl
theorem mk_pos (t : Fin 8192) (h : t.val % 128 < 128) : (⟨t.val % 128, h⟩ : Fin 128) = pos t := rfl

theorem sqrt_two : Ideal.sqrt ((2 : ℝ) : EReal) = ((Real.sqrt 2 : ℝ) : EReal) := by
  rw [Ideal.sqrt_coe, if_neg (by norm_num)]

theorem div_sqrt_two (x : ℝ) : Ideal.div (x : EReal) ((Real.sqrt 2 : ℝ) : EReal) = ((x / Real.sqrt 2 : ℝ) : EReal) := div_coe (by positivity) x

theorem erfc_at (x : ℝ) : Ideal.erfc ((-x / Real.sqrt 2 : ℝ) : EReal) = ((1 + erfR (x * (Real.sqrt 2)⁻¹) : ℝ) : EReal) := by
  rw [neg_div, EReal.coe_neg, div_eq_mul_inv]
  exact (Ideal.erfc_neg _).trans (by rw [EReal.coe_add]; rfl)

theorem ofBits_128 : Ideal.ofBits .f32 0x43000000#32 = ((128 : ℝ) : EReal) := by
  simp only [Ideal.ofBits, Ideal.ieee]
  simp
  rw [← EReal.coe_mul]
  norm_num

theorem ofBits_512 : Ideal.ofBits .f32 0x44000000#32 = ((512 : ℝ) : EReal) := by
  simp only [Ideal.ofBits, Ideal.ieee]
  simp
  rw [← EReal.coe_mul]
  norm_num

theorem div_128 (x : ℝ) : Ideal.div (x : EReal) ((128 : ℝ) : EReal) = ((x / 128 : ℝ) : EReal) := div_coe (by norm_num) x
theorem div_512 (x : ℝ) : Ideal.div (x : EReal) ((512 : ℝ) : EReal) = ((x / 512 : ℝ) : EReal) := div_coe (by norm_num) x

theorem ofBits_host_slope : Ideal.ofBits .f32 0xBF906EBB#32 = ((-(9465531 / 8388608) : ℝ) : EReal) := by
  simp only [Ideal.ofBits, Ideal.ieee]
  simp
  rw [← EReal.coe_mul]
  norm_num

/-- Token `r` of tile `T`, and the tile's chunk `n`. -/
def row (T : Fin 16) (r : Fin 512) : Fin 8192 := ⟨T.val * 512 + r.val, by omega⟩
def ch (T : Fin 16) (n : Fin 4) : Fin 64 := ⟨T.val * 4 + n.val, by omega⟩

theorem row_tok (T : Fin 16) (n : Fin 4) (i : Fin 128) (h : n.val * 128 + i.val < 512) : row T ⟨n.val * 128 + i.val, h⟩ = tok (ch T n) i :=
  Fin.ext (by simp only [row, tok, ch]; omega)

end Cert.MixBwd

end
-- ==== Proof.Mix.Ref.lean ====
/- The reference's values of the call at rows of numbers: the rows' real functions. -/
module

public import proofs.«01_k».proof.Proof.Gen.MixRefIdeal.Read
public import proofs.«01_k».proof.Proof.Mix.Host
public import Idealize.ShloMosaic.Lib.Pointwise

@[expose] public section

set_option maxRecDepth 16384

noncomputable section

namespace Cert.MixBwd.Ref

open Idealize.ShloMosaic Idealize.ShloMosaic.TcCoe Idealize.SL.Sem
open Cert.MixRefIdeal Cert.MixRefIdeal.Gen Cert.MixRefIdeal.Read Cert.Reals Cert.Rows

variable {P : Par}
  {x0 : FVec Ideal S8192x1024 .f32} {x1 x2 : FVec Ideal S8192x512 .f32} {x3 : FVec Ideal S8192x2592 .bf16}
  {x4 x5 x6 : FVec Ideal S1x512 .f32} {x7 : FVec Ideal S1x4x128x128 .f32} {x8 : FVec Ideal S1x4x128 .f32}
  {x9 : FVec Ideal S1x1024x1024 .f32}
  (h0 : ∀ t j, x0 (ix2 t j) = (P.dx t j : EReal)) (h1 : ∀ t k, x1 (ix2 t k) = (P.of t k : EReal))
  (h2 : ∀ t k, x2 (ix2 t k) = (P.ob t k : EReal))
  (h3 : (∀ t (k : Fin 512) h, x3 (ix2 t ⟨1024 + k.val, h⟩) = (P.pg t k : EReal))
    ∧ ∀ t (e : Fin 1024) h, x3 (ix2 t ⟨1568 + e.val, h⟩) = (uv P t e : EReal))
  (h4 : ∀ k, x4 (ix2 0 k) = (P.gg k : EReal)) (h5 : ∀ k, x5 (ix2 0 k) = (P.lg k : EReal)) (h6 : ∀ k, x6 (ix2 0 k) = (P.lb k : EReal))
  (h7 : ∀ g i j, x7 (ix4 0 g i j) = (P.ws g i j : EReal)) (h8 : ∀ g i, x8 (ix3 0 g i) = (P.bs g i : EReal))
  (h9 : ∀ e j, x9 (ix3 0 e j) = (P.wo e j : EReal))

include h1 h2 in
theorem v1_at (t : Fin 8192) (k : Fin 512) : val_main_v1 (F := Ideal) x1 x2 (ix2 t k) = ((o P t k : ℝ) : EReal) := by
  pointwise [val_main_v1]
  simp only [h1, h2, o, ← EReal.coe_mul, coe_sum, ← EReal.coe_add, ← EReal.coe_sub, Finset.univ_unique, Finset.sum_singleton, Fin.default_eq_zero]

include h1 h2 in
theorem v2_at (t : Fin 8192) (g : Fin 4) (c : Fin 128) : val_main_v2 (F := Ideal) x1 x2 (ix3 t g c) = ((o P t (col g c) : ℝ) : EReal) := by
  pointwise [val_main_v2]
  simp only [v1_at h1 h2, mk_col, ← EReal.coe_mul, coe_sum, ← EReal.coe_add, ← EReal.coe_sub, Finset.univ_unique, Finset.sum_singleton,
    Fin.default_eq_zero]

include h3 in
theorem v3_at (t : Fin 8192) (k : Fin 512) : val_main_v3 (F := Ideal) x3 (ix2 t k) = ((P.pg t k : ℝ) : EReal) := by
  pointwise [val_main_v3, val_main_v0]
  simp only [h3.1, ← EReal.coe_mul, coe_sum, ← EReal.coe_add, ← EReal.coe_sub, Finset.univ_unique, Finset.sum_singleton, Fin.default_eq_zero]

include h3 in
theorem v4_at (t : Fin 8192) (e : Fin 1024) : val_main_v4 (F := Ideal) x3 (ix2 t e) = ((uv P t e : ℝ) : EReal) := by
  pointwise [val_main_v4, val_main_v0]
  simp only [h3.2, ← EReal.coe_mul, coe_sum, ← EReal.coe_add, ← EReal.coe_sub, Finset.univ_unique, Finset.sum_singleton, Fin.default_eq_zero]

include h1 h2 in
theorem v17_at (t : Fin 8192) (g : Fin 4) : val_main_v17 (F := Ideal) x1 x2 (ix3 t g 0) = ((msq P t g : ℝ) : EReal) := by
  pointwise [val_main_v17, val_main_v16, val_main_v15, val_main_v14, val_main_v13, val_main_v12, val_main_v11, val_main_cst, val_main_cst_0, val_main_cst_1]
  simp only [v2_at h1 h2, ofBits_128, ofBits_eps, div_128, ← EReal.coe_mul, coe_sum, ← EReal.coe_add, ← EReal.coe_sub, Finset.univ_unique,
    Finset.sum_singleton, Fin.default_eq_zero]
  rfl

include h1 h2 in
theorem v18_at (t : Fin 8192) (g : Fin 4) : val_main_v18 (F := Ideal) x1 x2 (ix3 t g 0) = ((hroot P t g : ℝ) : EReal) := by
  pointwise [val_main_v18]
  simp only [v17_at h1 h2, rsqrt_coe (msq_pos P _ _), ← EReal.coe_mul, coe_sum, ← EReal.coe_add, ← EReal.coe_sub, Finset.univ_unique,
    Finset.sum_singleton, Fin.default_eq_zero]
  rfl

include h1 h2 in
theorem v21_at (t : Fin 8192) (g : Fin 4) : val_main_v21 (F := Ideal) x1 x2 (ix3 t g 0) = ((-(1 / 2) * (hroot P t g / msq P t g) : ℝ) : EReal) := by
  pointwise [val_main_v21, val_main_v20, val_main_v19, val_main_cst_2]
  simp only [v18_at h1 h2, v17_at h1 h2, ofBits_neg_half, div_coe (msq_pos P _ _).ne', ← EReal.coe_mul, coe_sum, ← EReal.coe_add, ← EReal.coe_sub,
    Finset.univ_unique, Finset.sum_singleton, Fin.default_eq_zero]

include h1 h2 in
theorem v23_at (t : Fin 8192) (g : Fin 4) (c : Fin 128) : val_main_v23 (F := Ideal) x1 x2 (ix3 t g c) = ((on P t (col g c) : ℝ) : EReal) := by
  pointwise [val_main_v23, val_main_v22]
  simp only [v2_at h1 h2, v18_at h1 h2, on, hd_col, ← EReal.coe_mul, coe_sum, ← EReal.coe_add, ← EReal.coe_sub, Finset.univ_unique,
    Finset.sum_singleton, Fin.default_eq_zero]

include h1 h2 in
theorem v24_at (t : Fin 8192) (k : Fin 512) : val_main_v24 (F := Ideal) x1 x2 (ix2 t k) = ((on P t k : ℝ) : EReal) := by
  pointwise [val_main_v24]
  simp only [v23_at h1 h2, mk_hd, mk_ln, col_hd_ln, ← EReal.coe_mul, coe_sum, ← EReal.coe_add, ← EReal.coe_sub, Finset.univ_unique,
    Finset.sum_singleton, Fin.default_eq_zero]

include h1 h2 h4 in
theorem v27_at (t : Fin 8192) (k : Fin 512) : val_main_v27 (F := Ideal) x1 x2 x4 (ix2 t k) = ((on P t k * P.gg k : ℝ) : EReal) := by
  pointwise [val_main_v27, val_main_v26, val_main_v25, val_main_v5]
  simp only [v24_at h1 h2, h4, ← EReal.coe_mul, coe_sum, ← EReal.coe_add, ← EReal.coe_sub, Finset.univ_unique, Finset.sum_singleton,
    Fin.default_eq_zero]

include h3 in
theorem v28_2_at (t : Fin 8192) (k : Fin 512) : val_main_v28_2 (F := Ideal) x3 (ix2 t k) = ((sig (P.pg t k) : ℝ) : EReal) := by
  pointwise [val_main_v28_2, val_main_call0_v4, val_main_call0_v3, val_main_call0_v2, val_main_call0_v1, val_main_call0_v0, val_main_call0_cst, val_main_call0_cst_0]
  simp only [v3_at h3, ← EReal.coe_neg, Ideal.exp_coe, ← EReal.coe_one, sig_coe, ← EReal.coe_mul, coe_sum, ← EReal.coe_add, ← EReal.coe_sub,
    Finset.univ_unique, Finset.sum_singleton, Fin.default_eq_zero]

include h3 in
theorem v28_1_at (t : Fin 8192) (k : Fin 512) : val_main_v28_1 (F := Ideal) x3 (ix2 t k) = ((sig (P.pg t k) * (1 - sig (P.pg t k)) : ℝ) : EReal) := by
  pointwise [val_main_v28_1, val_main_call0_v7, val_main_call0_v6, val_main_call0_cst_1]
  simp only [v28_2_at h3, ← EReal.coe_one, ← EReal.coe_mul, coe_sum, ← EReal.coe_add, ← EReal.coe_sub, Finset.univ_unique, Finset.sum_singleton,
    Fin.default_eq_zero]

include h3 in
theorem v28_0_at (t : Fin 8192) (k : Fin 512) : val_main_v28_0 (F := Ideal) x3 (ix2 t k) = ((sil P t k : ℝ) : EReal) := by
  pointwise [val_main_v28_0]
  simp only [v3_at h3, v28_2_at h3, sil, swish, ← EReal.coe_mul, coe_sum, ← EReal.coe_add, ← EReal.coe_sub, Finset.univ_unique,
    Finset.sum_singleton, Fin.default_eq_zero]

include h1 h2 h3 h4 in
theorem v29_at (t : Fin 8192) (k : Fin 512) : val_main_v29 (F := Ideal) x1 x2 x3 x4 (ix2 t k) = ((ya P t k : ℝ) : EReal) := by
  pointwise [val_main_v29]
  simp only [v27_at h1 h2 h4, v28_0_at h3, ya, ← EReal.coe_mul, coe_sum, ← EReal.coe_add, ← EReal.coe_sub, Finset.univ_unique,
    Finset.sum_singleton, Fin.default_eq_zero]

include h3 in
theorem v31_at (t : Fin 8192) (e : Fin 1024) : val_main_v31 (F := Ideal) x3 (ix2 t e) = ((1 / 2 * uv P t e : ℝ) : EReal) := by
  pointwise [val_main_v31, val_main_v30, val_main_cst_3]
  simp only [v4_at h3, ofBits_half, ← EReal.coe_mul, coe_sum, ← EReal.coe_add, ← EReal.coe_sub, Finset.univ_unique, Finset.sum_singleton,
    Fin.default_eq_zero]

include h3 in
theorem v35_at (t : Fin 8192) (e : Fin 1024) : val_main_v35 (F := Ideal) x3 (ix2 t e) = ((-uv P t e / Real.sqrt 2 : ℝ) : EReal) := by
  pointwise [val_main_v35, val_main_v34, val_main_v33, val_main_v32, val_main_cst_4]
  simp only [v4_at h3, ofBits_two, sqrt_two, ← EReal.coe_neg, div_sqrt_two, ← EReal.coe_mul, coe_sum, ← EReal.coe_add, ← EReal.coe_sub,
    Finset.univ_unique, Finset.sum_singleton, Fin.default_eq_zero]

include h3 in
theorem v36_at (t : Fin 8192) (e : Fin 1024) : val_main_v36 (F := Ideal) x3 (ix2 t e) = ((1 + erfR (uv P t e * (Real.sqrt 2)⁻¹) : ℝ) : EReal) := by
  pointwise [val_main_v36]
  simp only [v35_at h3, erfc_at, ← EReal.coe_mul, coe_sum, ← EReal.coe_add, ← EReal.coe_sub, Finset.univ_unique, Finset.sum_singleton,
    Fin.default_eq_zero]

include h3 in
theorem v39_at (t : Fin 8192) (e : Fin 1024) : val_main_v39 (F := Ideal) x3 (ix2 t e) = ((Real.exp (-(-uv P t e / Real.sqrt 2 * (-uv P t e / Real.sqrt 2))) : ℝ) : EReal) := by
  pointwise [val_main_v39, val_main_v38, val_main_v37]
  simp only [v35_at h3, ← EReal.coe_neg, Ideal.exp_coe, ← EReal.coe_mul, coe_sum, ← EReal.coe_add, ← EReal.coe_sub, Finset.univ_unique,
    Finset.sum_singleton, Fin.default_eq_zero]

include h3 in
theorem v40_at (t : Fin 8192) (e : Fin 1024) : val_main_v40 (F := Ideal) x3 (ix2 t e) = ((gelu (uv P t e) : ℝ) : EReal) := by
  pointwise [val_main_v40]
  simp only [v31_at h3, v36_at h3, ← EReal.coe_mul, coe_sum, ← EReal.coe_add, ← EReal.coe_sub, Finset.univ_unique, Finset.sum_singleton,
    Fin.default_eq_zero]
  refine congrArg (fun y : ℝ => (y : EReal)) ?_
  rw [gelu, cdf]
  ring

include h3 in
theorem v41_at (t : Fin 8192) (k : Fin 512) : val_main_v41 (F := Ideal) x3 (ix2 t k) = ((zu P t k : ℝ) : EReal) := by
  pointwise [val_main_v41]
  simp only [v40_at h3, uv_lo, zu, ← EReal.coe_mul, coe_sum, ← EReal.coe_add, ← EReal.coe_sub, Finset.univ_unique, Finset.sum_singleton,
    Fin.default_eq_zero]

include h3 in
theorem v42_at (t : Fin 8192) (k : Fin 512) : val_main_v42 (F := Ideal) x3 (ix2 t k) = ((zv P t k : ℝ) : EReal) := by
  pointwise [val_main_v42]
  simp only [v40_at h3, uv_hi, zv, ← EReal.coe_mul, coe_sum, ← EReal.coe_add, ← EReal.coe_sub, Finset.univ_unique, Finset.sum_singleton,
    Fin.default_eq_zero]

include h3 in
theorem v48_at (t : Fin 8192) (k : Fin 512) : val_main_v48 (F := Ideal) x3 (ix2 t k) = ((xc P t k : ℝ) : EReal) := by
  pointwise [val_main_v48, val_main_v47, val_main_v46, val_main_v45, val_main_v44, val_main_v43, val_main_cst_5, val_main_cst_6]
  simp only [v42_at h3, ofBits_512, div_512, xc, ← EReal.coe_mul, coe_sum, ← EReal.coe_add, ← EReal.coe_sub, Finset.univ_unique,
    Finset.sum_singleton, Fin.default_eq_zero]

include h3 in
theorem v55_at (t : Fin 8192) : val_main_v55 (F := Ideal) x3 (ix2 t 0) = ((var P t : ℝ) : EReal) := by
  pointwise [val_main_v55, val_main_v54, val_main_v53, val_main_v52, val_main_v51, val_main_v50, val_main_v49, val_main_cst_7, val_main_cst_8, val_main_cst_9]
  simp only [v48_at h3, ofBits_512, div_512, ofBits_eps, ← EReal.coe_mul, coe_sum, ← EReal.coe_add, ← EReal.coe_sub, Finset.univ_unique,
    Finset.sum_singleton, Fin.default_eq_zero]
  rfl

include h3 in
theorem v56_at (t : Fin 8192) : val_main_v56 (F := Ideal) x3 (ix2 t 0) = ((rs P t : ℝ) : EReal) := by
  pointwise [val_main_v56]
  simp only [v55_at h3, rsqrt_coe (var_pos P _), ← EReal.coe_mul, coe_sum, ← EReal.coe_add, ← EReal.coe_sub, Finset.univ_unique,
    Finset.sum_singleton, Fin.default_eq_zero]
  rfl

include h3 in
theorem v59_at (t : Fin 8192) : val_main_v59 (F := Ideal) x3 (ix2 t 0) = ((-(1 / 2) * (rs P t / var P t) : ℝ) : EReal) := by
  pointwise [val_main_v59, val_main_v58, val_main_v57, val_main_cst_10]
  simp only [v56_at h3, v55_at h3, ofBits_neg_half, div_coe (var_pos P _).ne', ← EReal.coe_mul, coe_sum, ← EReal.coe_add, ← EReal.coe_sub,
    Finset.univ_unique, Finset.sum_singleton, Fin.default_eq_zero]

include h3 in
theorem v61_at (t : Fin 8192) (k : Fin 512) : val_main_v61 (F := Ideal) x3 (ix2 t k) = ((vhat P t k : ℝ) : EReal) := by
  pointwise [val_main_v61, val_main_v60]
  simp only [v48_at h3, v56_at h3, vhat, ← EReal.coe_mul, coe_sum, ← EReal.coe_add, ← EReal.coe_sub, Finset.univ_unique, Finset.sum_singleton,
    Fin.default_eq_zero]

include h3 h5 h6 in
theorem v67_at (t : Fin 8192) (k : Fin 512) : val_main_v67 (F := Ideal) x3 x5 x6 (ix2 t k) = ((vln P t k : ℝ) : EReal) := by
  pointwise [val_main_v67, val_main_v66, val_main_v65, val_main_v64, val_main_v63, val_main_v62, val_main_v6, val_main_v7]
  simp only [v61_at h3, h5, h6, vln, ← EReal.coe_mul, coe_sum, ← EReal.coe_add, ← EReal.coe_sub, Finset.univ_unique, Finset.sum_singleton,
    Fin.default_eq_zero]

include h3 h5 h6 in
theorem v68_at (n : Fin 64) (i : Fin 128) (g : Fin 4) (c : Fin 128) : val_main_v68 (F := Ideal) x3 x5 x6 (ix4 n i g c) = ((vln P (tok n i) (col g c) : ℝ) : EReal) := by
  pointwise [val_main_v68]
  simp only [v67_at h3 h5 h6, mk_tok, mk_col, ← EReal.coe_mul, coe_sum, ← EReal.coe_add, ← EReal.coe_sub, Finset.univ_unique, Finset.sum_singleton,
    Fin.default_eq_zero]

include h3 h5 h6 h7 h8 in
theorem v74_at (n : Fin 64) (i : Fin 128) (g : Fin 4) (c : Fin 128) : val_main_v74 (F := Ideal) x3 x5 x6 x7 x8 (ix4 n i g c) = ((mixs P n i g c : ℝ) : EReal) := by
  pointwise [val_main_v74, val_main_v73, val_main_v72, val_main_v71, val_main_v70, val_main_v69, val_main_v9, val_main_v8]
  simp only [v68_at h3 h5 h6, h7, h8, ← EReal.coe_mul, coe_sum, ← EReal.coe_add, ← EReal.coe_sub, Finset.univ_unique, Finset.sum_singleton,
    Fin.default_eq_zero]
  refine congrArg (fun y : ℝ => (y : EReal)) ?_
  rw [mixs]
  simp only [mul_comm]

include h3 h5 h6 h7 h8 in
theorem v75_at (t : Fin 8192) (k : Fin 512) : val_main_v75 (F := Ideal) x3 x5 x6 x7 x8 (ix2 t k) = ((s P t k : ℝ) : EReal) := by
  pointwise [val_main_v75]
  simp only [v74_at h3 h5 h6 h7 h8, s, mk_hd, mk_ln, mk_chk, mk_pos, ← EReal.coe_mul, coe_sum, ← EReal.coe_add, ← EReal.coe_sub,
    Finset.univ_unique, Finset.sum_singleton, Fin.default_eq_zero]

include h3 h5 h6 h7 h8 in
theorem v76_at (t : Fin 8192) (k : Fin 512) : val_main_v76 (F := Ideal) x3 x5 x6 x7 x8 (ix2 t k) = ((yb P t k : ℝ) : EReal) := by
  pointwise [val_main_v76]
  simp only [v41_at h3, v75_at h3 h5 h6 h7 h8, yb, ← EReal.coe_mul, coe_sum, ← EReal.coe_add, ← EReal.coe_sub, Finset.univ_unique,
    Finset.sum_singleton, Fin.default_eq_zero]

include h1 h2 h3 h4 h5 h6 h7 h8 in
theorem v77_at (t : Fin 8192) (e : Fin 1024) : val_main_v77 (F := Ideal) x1 x2 x3 x4 x5 x6 x7 x8 (ix2 t e) = ((yc P t e : ℝ) : EReal) := by
  pointwise [val_main_v77]
  simp only [v29_at h1 h2 h3 h4, v76_at h3 h5 h6 h7 h8, yc, ← EReal.coe_mul, coe_sum, ← EReal.coe_add, ← EReal.coe_sub, Finset.univ_unique,
    Finset.sum_singleton, Fin.default_eq_zero]
  split <;> rfl

include h0 h1 h2 h3 h4 h5 h6 h7 h8 in
theorem v80_at (e j : Fin 1024) : val_main_v80 (F := Ideal) x0 x1 x2 x3 x4 x5 x6 x7 x8 (ix2 e j) = ((dwo P e j : ℝ) : EReal) := by
  pointwise [val_main_v80, val_main_v79]
  simp only [v77_at h1 h2 h3 h4 h5 h6 h7 h8, h0, ← EReal.coe_mul, coe_sum, ← EReal.coe_add, ← EReal.coe_sub, Finset.univ_unique,
    Finset.sum_singleton, Fin.default_eq_zero]
  refine congrArg (fun y : ℝ => (y : EReal)) ?_
  rw [dwo]
  simp only [mul_comm]

include h0 h9 in
theorem v81_at (t : Fin 8192) (e : Fin 1024) : val_main_v81 (F := Ideal) x0 x9 (ix2 t e) = ((dy P t e : ℝ) : EReal) := by
  pointwise [val_main_v81, val_main_v10]
  simp only [h0, h9, dy, ← EReal.coe_mul, coe_sum, ← EReal.coe_add, ← EReal.coe_sub, Finset.univ_unique, Finset.sum_singleton, Fin.default_eq_zero]

include h0 h9 in
theorem v82_at (t : Fin 8192) (k : Fin 512) : val_main_v82 (F := Ideal) x0 x9 (ix2 t k) = ((dya P t k : ℝ) : EReal) := by
  pointwise [val_main_v82]
  simp only [v81_at h0 h9, ← EReal.coe_mul, coe_sum, ← EReal.coe_add, ← EReal.coe_sub, Finset.univ_unique, Finset.sum_singleton, Fin.default_eq_zero]
  rfl

include h0 h9 in
theorem v83_at (t : Fin 8192) (k : Fin 512) : val_main_v83 (F := Ideal) x0 x9 (ix2 t k) = ((dyb P t k : ℝ) : EReal) := by
  pointwise [val_main_v83]
  simp only [v81_at h0 h9, ← EReal.coe_mul, coe_sum, ← EReal.coe_add, ← EReal.coe_sub, Finset.univ_unique, Finset.sum_singleton, Fin.default_eq_zero]
  rfl

include h0 h3 h9 in
theorem v84_at (t : Fin 8192) (k : Fin 512) : val_main_v84 (F := Ideal) x0 x3 x9 (ix2 t k) = ((ds P t k : ℝ) : EReal) := by
  pointwise [val_main_v84]
  simp only [v41_at h3, v83_at h0 h9, ds, ← EReal.coe_mul, coe_sum, ← EReal.coe_add, ← EReal.coe_sub, Finset.univ_unique, Finset.sum_singleton,
    Fin.default_eq_zero]
  rw [mul_comm]

include h0 h3 h5 h6 h7 h8 h9 in
theorem v85_at (t : Fin 8192) (k : Fin 512) : val_main_v85 (F := Ideal) x0 x3 x5 x6 x7 x8 x9 (ix2 t k) = ((dyb P t k * s P t k : ℝ) : EReal) := by
  pointwise [val_main_v85]
  simp only [v83_at h0 h9, v75_at h3 h5 h6 h7 h8, ← EReal.coe_mul, coe_sum, ← EReal.coe_add, ← EReal.coe_sub, Finset.univ_unique,
    Finset.sum_singleton, Fin.default_eq_zero]

include h0 h3 h9 in
theorem v86_at (n : Fin 64) (i : Fin 128) (g : Fin 4) (c : Fin 128) : val_main_v86 (F := Ideal) x0 x3 x9 (ix4 n i g c) = ((ds P (tok n i) (col g c) : ℝ) : EReal) := by
  pointwise [val_main_v86]
  simp only [v84_at h0 h3 h9, mk_tok, mk_col, ← EReal.coe_mul, coe_sum, ← EReal.coe_add, ← EReal.coe_sub, Finset.univ_unique, Finset.sum_singleton,
    Fin.default_eq_zero]

include h0 h3 h9 in
theorem v87_at (i : Fin 128) (g : Fin 4) : val_main_v87 (F := Ideal) x0 x3 x9 (ix2 i g) = ((dbs P g i : ℝ) : EReal) := by
  pointwise [val_main_v87, val_main_cst_11]
  simp only [v86_at h0 h3 h9, reduce_ends, zero_add, dbs, ← EReal.coe_mul, coe_sum, ← EReal.coe_add, ← EReal.coe_sub, Finset.univ_unique,
    Finset.sum_singleton, Fin.default_eq_zero]

include h0 h3 h9 in
theorem v89_at (i : Fin 128) (g : Fin 4) : val_main_v89 (F := Ideal) x0 x3 x9 (ix2 i g) = ((dbs P g i : ℝ) : EReal) := by
  pointwise [val_main_v89, val_main_cst_12]
  simp only [reduce_ends, zero_add, ← EReal.coe_mul, coe_sum, ← EReal.coe_add, ← EReal.coe_sub, Finset.univ_unique, Finset.sum_singleton,
    Fin.default_eq_zero]
  rw [val_main_v88_apply, show idx_main_v88 (ix4 0 i g 0) = ix2 i g from funext fun a => Fin.ext (by
    match a with
    | ⟨0, _⟩ => show (((0 * 128 + i.val) * 4 + g.val) * 1 + 0) / 4 = i.val; omega
    | ⟨1, _⟩ => show (((0 * 128 + i.val) * 4 + g.val) * 1 + 0) % 4 = g.val; omega)]
  exact v87_at h0 h3 h9 i g

include h0 h3 h9 in
theorem v173_at (g : Fin 4) (i : Fin 128) : val_main_v173 (F := Ideal) x0 x3 x9 (ix3 g i 0) = ((dbs P g i : ℝ) : EReal) := by
  pointwise [val_main_v173, val_main_v90]
  simp only [v89_at h0 h3 h9, ← EReal.coe_mul, coe_sum, ← EReal.coe_add, ← EReal.coe_sub, Finset.univ_unique, Finset.sum_singleton,
    Fin.default_eq_zero]

include h0 h3 h7 h9 in
theorem v93_at (g : Fin 4) (n : Fin 64) (c : Fin 128) (j : Fin 128) : val_main_v93 (F := Ideal) x0 x3 x7 x9 (ix4 g n c j) = ((dmix P n j g c : ℝ) : EReal) := by
  pointwise [val_main_v93, val_main_v91, val_main_v8]
  simp only [v86_at h0 h3 h9, h7, ← EReal.coe_mul, coe_sum, ← EReal.coe_add, ← EReal.coe_sub, Finset.univ_unique, Finset.sum_singleton,
    Fin.default_eq_zero]
  refine congrArg (fun y : ℝ => (y : EReal)) ?_
  rw [dmix]
  simp only [mul_comm]

include h0 h3 h7 h9 in
theorem v95_at (t : Fin 8192) (k : Fin 512) : val_main_v95 (F := Ideal) x0 x3 x7 x9 (ix2 t k) = ((dvln P t k : ℝ) : EReal) := by
  pointwise [val_main_v95, val_main_v94]
  simp only [v93_at h0 h3 h7 h9, dvln, mk_hd, mk_ln, mk_chk, mk_pos, ← EReal.coe_mul, coe_sum, ← EReal.coe_add, ← EReal.coe_sub,
    Finset.univ_unique, Finset.sum_singleton, Fin.default_eq_zero]

include h0 h3 h5 h6 h9 in
theorem v92_at (g : Fin 4) (i j : Fin 128) : val_main_v92 (F := Ideal) x0 x3 x5 x6 x9 (ix3 g i j) = ((dws P g i j : ℝ) : EReal) := by
  pointwise [val_main_v92, val_main_v91]
  simp only [v86_at h0 h3 h9, v68_at h3 h5 h6, dws, ← EReal.coe_mul, coe_sum, ← EReal.coe_add, ← EReal.coe_sub, Finset.univ_unique,
    Finset.sum_singleton, Fin.default_eq_zero]

include h0 h3 h7 h9 in
theorem v98_at (k : Fin 512) : val_main_v98 (F := Ideal) x0 x3 x7 x9 (ix1 k) = ((dlb P k : ℝ) : EReal) := by
  pointwise [val_main_v98, val_main_v97, val_main_v96, val_main_cst_13, val_main_cst_14]
  simp only [v95_at h0 h3 h7 h9, dlb, ← EReal.coe_mul, coe_sum, ← EReal.coe_add, ← EReal.coe_sub, Finset.univ_unique, Finset.sum_singleton,
    Fin.default_eq_zero]

include h0 h3 h7 h9 in
theorem v104_at (k : Fin 512) : val_main_v104 (F := Ideal) x0 x3 x7 x9 (ix1 k) = ((dlg P k : ℝ) : EReal) := by
  pointwise [val_main_v104, val_main_v101, val_main_v100, val_main_v99, val_main_cst_15, val_main_cst_16]
  simp only [v61_at h3, v95_at h0 h3 h7 h9, ← EReal.coe_mul, coe_sum, ← EReal.coe_add, ← EReal.coe_sub, Finset.univ_unique, Finset.sum_singleton,
    Fin.default_eq_zero]
  refine congrArg (fun y : ℝ => (y : EReal)) ?_
  rw [dlg]
  simp only [mul_comm]

include h0 h3 h5 h7 h9 in
theorem v103_at (t : Fin 8192) (k : Fin 512) : val_main_v103 (F := Ideal) x0 x3 x5 x7 x9 (ix2 t k) = ((dvh P t k : ℝ) : EReal) := by
  pointwise [val_main_v103, val_main_v102, val_main_v62, val_main_v6]
  simp only [v95_at h0 h3 h7 h9, h5, dvh, ← EReal.coe_mul, coe_sum, ← EReal.coe_add, ← EReal.coe_sub, Finset.univ_unique, Finset.sum_singleton,
    Fin.default_eq_zero]

include h0 h3 h5 h7 h9 in
theorem v118_at (t : Fin 8192) (k : Fin 512) : val_main_v118 (F := Ideal) x0 x3 x5 x7 x9 (ix2 t k) = ((rs P t * (dvh P t k - vhat P t k * dvr P t) : ℝ) : EReal) := by
  pointwise [val_main_v118, val_main_v117, val_main_v116, val_main_v115, val_main_v114, val_main_v113, val_main_v112, val_main_v111, val_main_v110, val_main_v109, val_main_v108, val_main_v107, val_main_v106, val_main_v105, val_main_cst_17, val_main_cst_18, val_main_cst_19]
  simp only [v48_at h3, v103_at h0 h3 h5 h7 h9, v56_at h3, v59_at h3, ofBits_512, div_512, ← EReal.coe_mul, coe_sum, ← EReal.coe_add,
    ← EReal.coe_sub, Finset.univ_unique, Finset.sum_singleton, Fin.default_eq_zero]
  refine congrArg (fun y : ℝ => (y : EReal)) ?_
  exact root_chain (xc P t) (dvh P t) (xc P t k) (dvh P t k) (var P t) 512 (var_pos P t)

include h0 h3 h5 h7 h9 in
theorem v126_at (t : Fin 8192) (k : Fin 512) : val_main_v126 (F := Ideal) x0 x3 x5 x7 x9 (ix2 t k) = ((dzv P t k : ℝ) : EReal) := by
  pointwise [val_main_v126, val_main_v125, val_main_v124, val_main_v123, val_main_v122, val_main_v121, val_main_v120, val_main_v119, val_main_cst_20, val_main_cst_21, val_main_cst_22]
  simp only [v118_at h0 h3 h5 h7 h9, ofBits_512, div_512, ← EReal.coe_neg, ← EReal.coe_mul, coe_sum, ← EReal.coe_add, ← EReal.coe_sub,
    Finset.univ_unique, Finset.sum_singleton, Fin.default_eq_zero]
  refine congrArg (fun y : ℝ => (y : EReal)) ?_
  exact ln_chain P t k

include h0 h3 h5 h6 h7 h8 h9 in
theorem v127_at (t : Fin 8192) (e : Fin 1024) : val_main_v127 (F := Ideal) x0 x3 x5 x6 x7 x8 x9 (ix2 t e) = ((join (fun k => dyb P t k * s P t k) (dzv P t) e : ℝ) : EReal) := by
  pointwise [val_main_v127]
  simp only [v85_at h0 h3 h5 h6 h7 h8 h9, v126_at h0 h3 h5 h7 h9, join, ← EReal.coe_mul, coe_sum, ← EReal.coe_add, ← EReal.coe_sub,
    Finset.univ_unique, Finset.sum_singleton, Fin.default_eq_zero]
  split <;> rfl

include h0 h3 h5 h6 h7 h8 h9 in
theorem v138_at (t : Fin 8192) (e : Fin 1024) : val_main_v138 (F := Ideal) x0 x3 x5 x6 x7 x8 x9 (ix2 t e) = ((join (fun k => dyb P t k * s P t k) (dzv P t) e * dgelu (uv P t e) : ℝ) : EReal) := by
  pointwise [val_main_v138, val_main_v137, val_main_v136, val_main_v135, val_main_v134, val_main_v133, val_main_v132, val_main_v131, val_main_v130, val_main_v129, val_main_v128, val_main_v33, val_main_cst_4, val_main_cst_23, val_main_cst_24]
  simp only [v31_at h3, v127_at h0 h3 h5 h6 h7 h8 h9, v36_at h3, v39_at h3, ofBits_two, sqrt_two, ofBits_host_slope, div_sqrt_two, ofBits_half,
    ← EReal.coe_neg, ← EReal.coe_mul, coe_sum, ← EReal.coe_add, ← EReal.coe_sub, Finset.univ_unique, Finset.sum_singleton, Fin.default_eq_zero]
  refine congrArg (fun y : ℝ => (y : EReal)) ?_
  exact dgelu_host (uv P t e) _

include h0 h3 h9 in
theorem v140_at (t : Fin 8192) (k : Fin 512) : val_main_v140 (F := Ideal) x0 x3 x9 (ix2 t k) = ((dya P t k * sil P t k : ℝ) : EReal) := by
  pointwise [val_main_v140]
  simp only [v82_at h0 h9, v28_0_at h3, ← EReal.coe_mul, coe_sum, ← EReal.coe_add, ← EReal.coe_sub, Finset.univ_unique, Finset.sum_singleton,
    Fin.default_eq_zero]

include h0 h1 h2 h3 h4 h9 in
theorem v141_at (t : Fin 8192) (k : Fin 512) : val_main_v141 (F := Ideal) x0 x1 x2 x3 x4 x9 (ix2 t k) = ((dpg P t k : ℝ) : EReal) := by
  pointwise [val_main_v141, val_main_call1_v2, val_main_call1_v1, val_main_call1_v0, val_main_v139]
  simp only [v27_at h1 h2 h4, v82_at h0 h9, v28_2_at h3, v28_1_at h3, v3_at h3, ← EReal.coe_mul, coe_sum, ← EReal.coe_add, ← EReal.coe_sub,
    Finset.univ_unique, Finset.sum_singleton, Fin.default_eq_zero]
  refine congrArg (fun y : ℝ => (y : EReal)) ?_
  rw [dpg, dswish]
  ring

include h0 h1 h2 h3 h9 in
theorem v147_at (k : Fin 512) : val_main_v147 (F := Ideal) x0 x1 x2 x3 x9 (ix1 k) = ((dgg P k : ℝ) : EReal) := by
  pointwise [val_main_v147, val_main_v144, val_main_v143, val_main_v142, val_main_cst_25, val_main_cst_26]
  simp only [v24_at h1 h2, v140_at h0 h3 h9, ← EReal.coe_mul, coe_sum, ← EReal.coe_add, ← EReal.coe_sub, Finset.univ_unique, Finset.sum_singleton,
    Fin.default_eq_zero]
  refine congrArg (fun y : ℝ => (y : EReal)) ?_
  rw [dgg]
  simp only [mul_comm]

include h0 h3 h4 h9 in
theorem v146_at (t : Fin 8192) (k : Fin 512) : val_main_v146 (F := Ideal) x0 x3 x4 x9 (ix2 t k) = ((don P t k : ℝ) : EReal) := by
  pointwise [val_main_v146, val_main_v145, val_main_v25, val_main_v5]
  simp only [v140_at h0 h3 h9, h4, don, ← EReal.coe_mul, coe_sum, ← EReal.coe_add, ← EReal.coe_sub, Finset.univ_unique, Finset.sum_singleton,
    Fin.default_eq_zero]

include h0 h3 h4 h9 in
theorem v148_at (t : Fin 8192) (g : Fin 4) (c : Fin 128) : val_main_v148 (F := Ideal) x0 x3 x4 x9 (ix3 t g c) = ((don P t (col g c) : ℝ) : EReal) := by
  pointwise [val_main_v148]
  simp only [v146_at h0 h3 h4 h9, mk_col, ← EReal.coe_mul, coe_sum, ← EReal.coe_add, ← EReal.coe_sub, Finset.univ_unique, Finset.sum_singleton,
    Fin.default_eq_zero]

include h0 h1 h2 h3 h4 h9 in
theorem v162_at (t : Fin 8192) (g : Fin 4) (c : Fin 128) : val_main_v162 (F := Ideal) x0 x1 x2 x3 x4 x9 (ix3 t g c) = ((dO P t (col g c) : ℝ) : EReal) := by
  pointwise [val_main_v162, val_main_v161, val_main_v160, val_main_v159, val_main_v158, val_main_v157, val_main_v156, val_main_v155, val_main_v154, val_main_v153, val_main_v152, val_main_v151, val_main_v150, val_main_v149, val_main_cst_27, val_main_cst_28, val_main_cst_29]
  simp only [v2_at h1 h2, v148_at h0 h3 h4 h9, v18_at h1 h2, v21_at h1 h2, ofBits_128, div_128, ← EReal.coe_mul, coe_sum, ← EReal.coe_add,
    ← EReal.coe_sub, Finset.univ_unique, Finset.sum_singleton, Fin.default_eq_zero]
  refine congrArg (fun y : ℝ => (y : EReal)) ?_
  exact (root_chain (fun c => o P t (col g c)) (fun c => don P t (col g c)) (o P t (col g c)) (don P t (col g c)) (msq P t g) 128
    (msq_pos P t g)).trans (by simp only [dO, inner, on, hroot, hd_col])

include h0 h1 h2 h3 h4 h9 in
theorem v164_at (t : Fin 8192) (k : Fin 512) : val_main_v164 (F := Ideal) x0 x1 x2 x3 x4 x9 (ix2 t k) = ((dO P t k : ℝ) : EReal) := by
  pointwise [val_main_v164, val_main_v163]
  simp only [v162_at h0 h1 h2 h3 h4 h9, mk_hd, mk_ln, col_hd_ln, ← EReal.coe_mul, coe_sum, ← EReal.coe_add, ← EReal.coe_sub, Finset.univ_unique,
    Finset.sum_singleton, Fin.default_eq_zero]

include h0 h1 h2 h3 h4 h9 in
theorem v165_at (t : Fin 8192) (k : Fin 512) : val_main_v165 (F := Ideal) x0 x1 x2 x3 x4 x9 (ix2 t k) = ((dpg P t k : ℝ) : EReal) := by
  pointwise [val_main_v165]
  simp only [v141_at h0 h1 h2 h3 h4 h9, ← EReal.coe_mul, coe_sum, ← EReal.coe_add, ← EReal.coe_sub, Finset.univ_unique, Finset.sum_singleton,
    Fin.default_eq_zero]

include h0 h3 h5 h6 h7 h8 h9 in
theorem v167_at (t : Fin 8192) (k : Fin 512) : val_main_v167 (F := Ideal) x0 x3 x5 x6 x7 x8 x9 (ix2 t k) = ((dpu P t k : ℝ) : EReal) := by
  pointwise [val_main_v167, val_main_v166]
  simp only [v138_at h0 h3 h5 h6 h7 h8 h9, uv_lo, join_lo, dpu, ← EReal.coe_mul, coe_sum, ← EReal.coe_add, ← EReal.coe_sub, Finset.univ_unique,
    Finset.sum_singleton, Fin.default_eq_zero]

include h0 h3 h5 h6 h7 h8 h9 in
theorem v169_at (t : Fin 8192) (k : Fin 512) : val_main_v169 (F := Ideal) x0 x3 x5 x6 x7 x8 x9 (ix2 t k) = ((dpv P t k : ℝ) : EReal) := by
  pointwise [val_main_v169, val_main_v168]
  simp only [v138_at h0 h3 h5 h6 h7 h8 h9, uv_hi, join_hi, dpv, ← EReal.coe_mul, coe_sum, ← EReal.coe_add, ← EReal.coe_sub, Finset.univ_unique,
    Finset.sum_singleton, Fin.default_eq_zero]

include h0 h1 h2 h3 h9 in
theorem v170_at (k : Fin 512) : val_main_v170 (F := Ideal) x0 x1 x2 x3 x9 (ix2 0 k) = ((dgg P k : ℝ) : EReal) := by
  pointwise [val_main_v170]
  simp only [v147_at h0 h1 h2 h3 h9, ← EReal.coe_mul, coe_sum, ← EReal.coe_add, ← EReal.coe_sub, Finset.univ_unique, Finset.sum_singleton,
    Fin.default_eq_zero]

include h0 h3 h7 h9 in
theorem v171_at (k : Fin 512) : val_main_v171 (F := Ideal) x0 x3 x7 x9 (ix2 0 k) = ((dlg P k : ℝ) : EReal) := by
  pointwise [val_main_v171]
  simp only [v104_at h0 h3 h7 h9, ← EReal.coe_mul, coe_sum, ← EReal.coe_add, ← EReal.coe_sub, Finset.univ_unique, Finset.sum_singleton,
    Fin.default_eq_zero]

include h0 h3 h7 h9 in
theorem v172_at (k : Fin 512) : val_main_v172 (F := Ideal) x0 x3 x7 x9 (ix2 0 k) = ((dlb P k : ℝ) : EReal) := by
  pointwise [val_main_v172]
  simp only [v98_at h0 h3 h7 h9, ← EReal.coe_mul, coe_sum, ← EReal.coe_add, ← EReal.coe_sub, Finset.univ_unique, Finset.sum_singleton,
    Fin.default_eq_zero]

end Cert.MixBwd.Ref

end
-- ==== Proof.Mix.Point.lean ====
/- What one grid point of the call computes from its tile of 512 tokens, four chunks of 128: the tokens' real functions. -/
module

public import proofs.«01_k».proof.Proof.Gen.MixIdeal.Skeleton
public import proofs.«01_k».proof.Proof.Mix.Host

@[expose] public section

set_option maxRecDepth 16384

noncomputable section

namespace Cert.MixBwd

open Idealize.ShloMosaic Idealize.ShloMosaic.TcCoe Idealize.SL.Sem
open Cert.MixIdeal Cert.MixIdeal.Gen Cert.Reals Cert.Rows

theorem erf_at (x : ℝ) : FloatOps.erf (F := Ideal) (φ := .f32) (x : EReal) = ((erfR x : ℝ) : EReal) := rfl

theorem half_root (b : BitVec 32) : Named.named (F := Ideal) (φ := .f32) κ "half_root" b = (((Real.sqrt 2)⁻¹ : ℝ) : EReal) := rfl
theorem normal_slope (b : BitVec 32) : Named.named (F := Ideal) (φ := .f32) κ "normal_slope" b = ((slope : ℝ) : EReal) := rfl

/-- Four blocks of columns side by side: each column is its head's. -/
theorem join_at {A B C D : FVec Ideal S512x128 .f32} (f : Fin 512 → Fin 4 → Fin 128 → ℝ)
    (hA : ∀ r c, A (ix2 r c) = (f r 0 c : EReal)) (hB : ∀ r c, B (ix2 r c) = (f r 1 c : EReal))
    (hC : ∀ r c, C (ix2 r c) = (f r 2 c : EReal)) (hD : ∀ r c, D (ix2 r c) = (f r 3 c : EReal)) (r k : Fin 512) :
    concatenate S512x512 1 [⟨S512x128, A⟩, ⟨S512x128, B⟩, ⟨S512x128, C⟩, ⟨S512x128, D⟩]
      concatenates_S512x128_S512x128_S512x128_S512x128_S512x512_d1 (ix2 r k) = (f r (hd k) (ln k) : EReal) := by
  pointwise []
  have hk := k.isLt
  have e : ∀ (g : Fin 4) (c : Fin 128), k.val = g.val * 128 + c.val → hd k = g ∧ ln k = c := fun g c h =>
    ⟨Fin.ext (by simp only [hd]; omega), Fin.ext (by simp only [ln]; omega)⟩
  simp only [Nat.sub_sub, Nat.reduceAdd]
  by_cases h0 : k.val < 128
  · rw [dif_pos h0]; obtain ⟨a, b⟩ := e 0 ⟨k.val, h0⟩ (by simp); rw [a, b]; exact hA _ _
  by_cases h1 : k.val < 256
  · rw [dif_neg h0, dif_pos (by omega)]; obtain ⟨a, b⟩ := e 1 ⟨k.val - 128, by omega⟩ (by simp; omega); rw [a, b]; exact hB _ _
  by_cases h2 : k.val < 384
  · rw [dif_neg h0, dif_neg (by omega), dif_pos (by omega)]
    obtain ⟨a, b⟩ := e 2 ⟨k.val - 256, by omega⟩ (by simp; omega); rw [a, b]; exact hC _ _
  rw [dif_neg h0, dif_neg (by omega), dif_neg (by omega)]
  obtain ⟨a, b⟩ := e 3 ⟨k.val - 384, by omega⟩ (by simp; omega); rw [a, b]; exact hD _ _

theorem col_zero (c : Fin 128) (h : c.val < 512) : (⟨c.val, h⟩ : Fin 512) = col 0 c := Fin.ext (by simp [col])

variable (P : Par) (T : Fin 16)

  {v3 : FVec Ideal S512x1024 .f32}
  {v5 : FVec Ideal S1024x1024 .bf16}
  {v10 : FVec Ideal S512x1024 .bf16}
  {v17 v18 v19 v15 v16 v72 v73 v76 v81 v90 v102 v149 v157 v165 v167 v181 v197 v595 v600 v621 v627 : FVec Ideal S512x512 .f32}
  {v30 v32 v33 v34 v110 v117 v124 v125 : FVec Ideal S512x128 .f32}
  {v74 v144 v147 : FVec Ideal S512x512 .bf16}
  {v91 v198 v201 : FVec Ideal S1x512 .f32}
  {v195 : FVec Ideal S512x1 .f32}
  (h3 : ∀ r j, v3 (ix2 r j) = ((P.dx (row T r) j : ℝ) : EReal)) (h5 : ∀ e j, v5 (ix2 e j) = ((P.wo e j : ℝ) : EReal))
  (h10 : ∀ r e, v10 (ix2 r e) = ((yc P (row T r) e : ℝ) : EReal)) (h17 : ∀ r k, v17 (ix2 r k) = ((P.of (row T r) k : ℝ) : EReal))
  (h18 : ∀ r k, v18 (ix2 r k) = ((P.ob (row T r) k : ℝ) : EReal)) (h19 : ∀ r k, v19 (ix2 r k) = ((o P (row T r) k : ℝ) : EReal))
  (h30 : ∀ r c, v30 (ix2 r c) = ((on P (row T r) (col 0 c) : ℝ) : EReal)) (h32 : ∀ r c, v32 (ix2 r c) = ((hroot P (row T r) 0 : ℝ) : EReal))
  (h33 : ∀ r c, v33 (ix2 r c) = ((o P (row T r) (col 1 c) : ℝ) : EReal))
  (h34 : ∀ r c, v34 (ix2 r c) = ((o P (row T r) (col 1 c) * o P (row T r) (col 1 c) : ℝ) : EReal))
  (h15 : ∀ r k, v15 (ix2 r k) = ((dya P (row T r) k : ℝ) : EReal)) (h16 : ∀ r k, v16 (ix2 r k) = ((dyb P (row T r) k : ℝ) : EReal))
  (h72 : ∀ r k, v72 (ix2 r k) = ((on P (row T r) k : ℝ) : EReal)) (h73 : ∀ r k, v73 (ix2 r k) = ((hroot P (row T r) (hd k) : ℝ) : EReal))
  (h74 : ∀ r k, v74 (ix2 r k) = ((P.pg (row T r) k : ℝ) : EReal)) (h76 : ∀ r k, v76 (ix2 r k) = ((P.pg (row T r) k : ℝ) : EReal))
  (h81 : ∀ r k, v81 (ix2 r k) = ((1 / 2 * Real.tanh (1 / 2 * P.pg (row T r) k) : ℝ) : EReal))
  (h90 : ∀ r k, v90 (ix2 r k) = ((dswish (P.pg (row T r) k) : ℝ) : EReal)) (h91 : ∀ k, v91 (ix2 0 k) = ((P.gg k : ℝ) : EReal))
  (h102 : ∀ r k, v102 (ix2 r k) = ((don P (row T r) k : ℝ) : EReal)) (h110 : ∀ r c, v110 (ix2 r c) = ((inner P (row T r) 0 : ℝ) : EReal))
  (h117 : ∀ r c, v117 (ix2 r c) = ((inner P (row T r) 1 : ℝ) : EReal)) (h124 : ∀ r c, v124 (ix2 r c) = ((inner P (row T r) 2 : ℝ) : EReal))
  (h125 : ∀ r c, v125 (ix2 r c) = ((don P (row T r) (col 3 c) * on P (row T r) (col 3 c) : ℝ) : EReal))
  (h144 : ∀ r k, v144 (ix2 r k) = ((P.pu (row T r) k : ℝ) : EReal)) (h147 : ∀ r k, v147 (ix2 r k) = ((P.pv (row T r) k : ℝ) : EReal))
  (h149 : ∀ r k, v149 (ix2 r k) = ((P.pv (row T r) k : ℝ) : EReal)) (h157 : ∀ r k, v157 (ix2 r k) = ((zu P (row T r) k : ℝ) : EReal))
  (h165 : ∀ r k, v165 (ix2 r k) = ((dgelu (P.pu (row T r) k) : ℝ) : EReal))
  (h167 : ∀ r k, v167 (ix2 r k) = ((P.pv (row T r) k * (Real.sqrt 2)⁻¹ : ℝ) : EReal))
  (h181 : ∀ r k, v181 (ix2 r k) = ((dgelu (P.pv (row T r) k) : ℝ) : EReal)) (h195 : ∀ r, v195 (ix2 r 0) = ((rs P (row T r) : ℝ) : EReal))
  (h197 : ∀ r k, v197 (ix2 r k) = ((vhat P (row T r) k : ℝ) : EReal)) (h198 : ∀ k, v198 (ix2 0 k) = ((P.lg k : ℝ) : EReal))
  (h201 : ∀ k, v201 (ix2 0 k) = ((P.lb k : ℝ) : EReal)) (h595 : ∀ r k, v595 (ix2 r k) = ((s P (row T r) k : ℝ) : EReal))
  (h600 : ∀ r k, v600 (ix2 r k) = ((dvln P (row T r) k : ℝ) : EReal)) (h621 : ∀ r k, v621 (ix2 r k) = ((dvc P (row T r) k : ℝ) : EReal))
  (h627 : ∀ r k, v627 (ix2 r k) = ((dvr P (row T r) : ℝ) : EReal))

include h3 in
theorem pay8_at (r : Fin 512) (j : Fin 1024) : k0_pay8 (F := Ideal) v3 (ix2 r j) = ((P.dx (row T r) j : ℝ) : EReal) := by
  pointwise [k0_pay8]
  simp only [h3, ← EReal.coe_mul, coe_sum, ← EReal.coe_add, ← EReal.coe_sub, Finset.univ_unique, Finset.sum_singleton, Fin.default_eq_zero]

include h3 h5 in
theorem pay9_at (r : Fin 512) (e : Fin 1024) : k0_pay9 (F := Ideal) v3 v5 (ix2 r e) = ((dy P (row T r) e : ℝ) : EReal) := by
  pointwise [k0_pay9]
  simp only [pay8_at P T h3, h3, h5, dy, ← EReal.coe_mul, coe_sum, ← EReal.coe_add, ← EReal.coe_sub, Finset.univ_unique, Finset.sum_singleton,
    Fin.default_eq_zero]

include h3 h10 in
theorem pay10_at (v8 : FVec Ideal S1024x1024 .f32) (e : Fin 1024) (j : Fin 1024) :
    k0_pay10 (F := Ideal) v3 v8 v10 (ix2 e j)
      = v8 (ix2 e j) + ((∑ r, yc P (row T r) e * P.dx (row T r) j : ℝ) : EReal) := by
  pointwise [k0_pay10]
  simp only [pay8_at P T h3, h3, h10, ← EReal.coe_mul, coe_sum, ← EReal.coe_add, ← EReal.coe_sub, Finset.univ_unique, Finset.sum_singleton,
    Fin.default_eq_zero]

include h3 h5 in
theorem pay11_at (r : Fin 512) (k : Fin 512) : k0_pay11 (F := Ideal) v3 v5 (ix2 r k) = ((dya P (row T r) k : ℝ) : EReal) := by
  pointwise [k0_pay11]
  simp only [pay9_at P T h3 h5, h3, h5, dya, ← EReal.coe_mul, coe_sum, ← EReal.coe_add, ← EReal.coe_sub, Finset.univ_unique, Finset.sum_singleton,
    Fin.default_eq_zero]
  rfl

include h3 h5 in
theorem pay12_at (r : Fin 512) (k : Fin 512) : k0_pay12 (F := Ideal) v3 v5 (ix2 r k) = ((dyb P (row T r) k : ℝ) : EReal) := by
  pointwise [k0_pay12]
  simp only [pay9_at P T h3 h5, h3, h5, dyb, ← EReal.coe_mul, coe_sum, ← EReal.coe_add, ← EReal.coe_sub, Finset.univ_unique, Finset.sum_singleton,
    Fin.default_eq_zero]
  rfl

include h17 h18 in
theorem pay13_at (r : Fin 512) (k : Fin 512) : k0_pay13 (F := Ideal) v17 v18 (ix2 r k) = ((o P (row T r) k : ℝ) : EReal) := by
  pointwise [k0_pay13]
  simp only [h17, h18, o, ← EReal.coe_mul, coe_sum, ← EReal.coe_add, ← EReal.coe_sub, Finset.univ_unique, Finset.sum_singleton, Fin.default_eq_zero]

include h17 h18 in
theorem pay14_at (r : Fin 512) (c : Fin 128) : k0_pay14 (F := Ideal) v17 v18 (ix2 r c) = ((o P (row T r) (col 0 c) : ℝ) : EReal) := by
  pointwise [k0_pay14]
  simp only [pay13_at P T h17 h18, h17, h18, col_zero, ← EReal.coe_mul, coe_sum, ← EReal.coe_add, ← EReal.coe_sub, Finset.univ_unique,
    Finset.sum_singleton, Fin.default_eq_zero]

include h17 h18 in
theorem pay15_at (r : Fin 512) : k0_pay15 (F := Ideal) v17 v18 (ix2 r 0) = ((hroot P (row T r) 0 : ℝ) : EReal) := by
  pointwise [k0_pay15]
  simp only [pay14_at P T h17 h18, h17, h18, ofBits_128, ofBits_eps, div_128, ← EReal.coe_mul, coe_sum, ← EReal.coe_add, ← EReal.coe_sub,
    Finset.univ_unique, Finset.sum_singleton, Fin.default_eq_zero]
  exact rsqrt_coe (msq_pos P _ 0)

include h17 h18 in
theorem pay16_at (r : Fin 512) (c : Fin 128) : k0_pay16 (F := Ideal) v17 v18 (ix2 r c) = ((on P (row T r) (col 0 c) : ℝ) : EReal) := by
  pointwise [k0_pay16]
  simp only [pay14_at P T h17 h18, pay15_at P T h17 h18, h17, h18, on, hd_col, ← EReal.coe_mul, coe_sum, ← EReal.coe_add, ← EReal.coe_sub,
    Finset.univ_unique, Finset.sum_singleton, Fin.default_eq_zero]

include h17 h18 in
theorem pay17_at (r : Fin 512) (c : Fin 128) : k0_pay17 (F := Ideal) v17 v18 (ix2 r c) = ((hroot P (row T r) 0 : ℝ) : EReal) := by
  pointwise [k0_pay17]
  simp only [pay15_at P T h17 h18, h17, h18, ← EReal.coe_mul, coe_sum, ← EReal.coe_add, ← EReal.coe_sub, Finset.univ_unique, Finset.sum_singleton,
    Fin.default_eq_zero]

include h17 h18 in
theorem pay18_at (r : Fin 512) (c : Fin 128) : k0_pay18 (F := Ideal) v17 v18 (ix2 r c) = ((o P (row T r) (col 1 c) : ℝ) : EReal) := by
  pointwise [k0_pay18]
  simp only [pay13_at P T h17 h18, h17, h18, ← EReal.coe_mul, coe_sum, ← EReal.coe_add, ← EReal.coe_sub, Finset.univ_unique, Finset.sum_singleton,
    Fin.default_eq_zero]
  rfl

include h17 h18 in
theorem pay19_at (r : Fin 512) (c : Fin 128) :
    k0_pay19 (F := Ideal) v17 v18 (ix2 r c)
      = ((o P (row T r) (col 1 c) * o P (row T r) (col 1 c) : ℝ) : EReal) := by
  pointwise [k0_pay19]
  simp only [pay18_at P T h17 h18, h17, h18, ← EReal.coe_mul, coe_sum, ← EReal.coe_add, ← EReal.coe_sub, Finset.univ_unique, Finset.sum_singleton,
    Fin.default_eq_zero]

include h34 in
theorem pay20_at (r : Fin 512) : k0_pay20 (F := Ideal) v34 (ix2 r 0) = ((hroot P (row T r) 1 : ℝ) : EReal) := by
  pointwise [k0_pay20]
  simp only [h34, ofBits_128, ofBits_eps, div_128, ← EReal.coe_mul, coe_sum, ← EReal.coe_add, ← EReal.coe_sub, Finset.univ_unique,
    Finset.sum_singleton, Fin.default_eq_zero]
  exact rsqrt_coe (msq_pos P _ 1)

include h19 in
theorem pay21_at (r : Fin 512) (c : Fin 128) : k0_pay21 (F := Ideal) v19 (ix2 r c) = ((o P (row T r) (col 2 c) : ℝ) : EReal) := by
  pointwise [k0_pay21]
  simp only [h19, ← EReal.coe_mul, coe_sum, ← EReal.coe_add, ← EReal.coe_sub, Finset.univ_unique, Finset.sum_singleton, Fin.default_eq_zero]
  rfl

include h19 in
theorem pay22_at (r : Fin 512) : k0_pay22 (F := Ideal) v19 (ix2 r 0) = ((hroot P (row T r) 2 : ℝ) : EReal) := by
  pointwise [k0_pay22]
  simp only [pay21_at P T h19, h19, ofBits_128, ofBits_eps, div_128, ← EReal.coe_mul, coe_sum, ← EReal.coe_add, ← EReal.coe_sub, Finset.univ_unique,
    Finset.sum_singleton, Fin.default_eq_zero]
  exact rsqrt_coe (msq_pos P _ 2)

include h19 in
theorem pay23_at (r : Fin 512) (c : Fin 128) : k0_pay23 (F := Ideal) v19 (ix2 r c) = ((o P (row T r) (col 3 c) : ℝ) : EReal) := by
  pointwise [k0_pay23]
  simp only [h19, ← EReal.coe_mul, coe_sum, ← EReal.coe_add, ← EReal.coe_sub, Finset.univ_unique, Finset.sum_singleton, Fin.default_eq_zero]
  rfl

include h19 in
theorem pay24_at (r : Fin 512) : k0_pay24 (F := Ideal) v19 (ix2 r 0) = ((hroot P (row T r) 3 : ℝ) : EReal) := by
  pointwise [k0_pay24]
  simp only [pay23_at P T h19, h19, ofBits_128, ofBits_eps, div_128, ← EReal.coe_mul, coe_sum, ← EReal.coe_add, ← EReal.coe_sub, Finset.univ_unique,
    Finset.sum_singleton, Fin.default_eq_zero]
  exact rsqrt_coe (msq_pos P _ 3)

include h19 h30 h33 h34 in
theorem pay25_at (r k : Fin 512) :
    k0_pay25 (F := Ideal) v19 v30 v33 v34 (ix2 r k)
      = ((on P (row T r) k : ℝ) : EReal) := by
  refine (join_at (fun r g c => on P (row T r) (col g c)) ?_ ?_ ?_ ?_ r k).trans (by simp only [col_hd_ln])
  · intro r c; exact h30 r c
  · intro r c; pointwise []; simp only [h33, pay20_at P T h34, ← EReal.coe_mul, on, hd_col]
  · intro r c; pointwise []; simp only [pay21_at P T h19, pay22_at P T h19, ← EReal.coe_mul, on, hd_col]
  · intro r c; pointwise []; simp only [pay23_at P T h19, pay24_at P T h19, ← EReal.coe_mul, on, hd_col]

include h19 h32 h34 in
theorem pay26_at (r k : Fin 512) :
    k0_pay26 (F := Ideal) v19 v32 v34 (ix2 r k)
      = ((hroot P (row T r) (hd k) : ℝ) : EReal) := by
  refine (join_at (fun r g c => hroot P (row T r) g) ?_ ?_ ?_ ?_ r k)
  · intro r c; exact h32 r c
  · intro r c; pointwise []; exact pay20_at P T h34 r
  · intro r c; pointwise []; exact pay22_at P T h19 r
  · intro r c; pointwise []; exact pay24_at P T h19 r

include h74 in
theorem pay27_at (r : Fin 512) (k : Fin 512) : k0_pay27 (F := Ideal) v74 (ix2 r k) = ((P.pg (row T r) k : ℝ) : EReal) := by
  pointwise [k0_pay27]
  simp only [h74, ← EReal.coe_mul, coe_sum, ← EReal.coe_add, ← EReal.coe_sub, Finset.univ_unique, Finset.sum_singleton, Fin.default_eq_zero]

include h74 in
theorem pay28_at (r : Fin 512) (k : Fin 512) :
    k0_pay28 (F := Ideal) v74 (ix2 r k)
      = ((1 / 2 * Real.tanh (1 / 2 * P.pg (row T r) k) : ℝ) : EReal) := by
  pointwise [k0_pay28]
  simp only [pay27_at P T h74, h74, ofBits_half, Ideal.tanh_coe, ← EReal.coe_mul, coe_sum, ← EReal.coe_add, ← EReal.coe_sub, Finset.univ_unique,
    Finset.sum_singleton, Fin.default_eq_zero]

include h81 in
theorem pay29_at (r : Fin 512) (k : Fin 512) :
    k0_pay29 (F := Ideal) v81 (Ideal.ofBits .f32 0x3F000000#32) (ix2 r k)
      = ((sig (P.pg (row T r) k) : ℝ) : EReal) := by
  pointwise [k0_pay29]
  simp only [h81, ofBits_half, half_tanh, ← EReal.coe_mul, coe_sum, ← EReal.coe_add, ← EReal.coe_sub, Finset.univ_unique, Finset.sum_singleton,
    Fin.default_eq_zero]

include h76 h81 in
theorem pay30_at (r : Fin 512) (k : Fin 512) :
    k0_pay30 (F := Ideal) v76 v81 (Ideal.ofBits .f32 0x3F000000#32) (ix2 r k)
      = ((sil P (row T r) k : ℝ) : EReal) := by
  pointwise [k0_pay30]
  simp only [pay29_at P T h81, h76, h81, sil, swish, ← EReal.coe_mul, coe_sum, ← EReal.coe_add, ← EReal.coe_sub, Finset.univ_unique,
    Finset.sum_singleton, Fin.default_eq_zero]

include h76 h81 in
theorem pay31_at (r : Fin 512) (k : Fin 512) :
    k0_pay31 (F := Ideal) v76 v81 (Ideal.ofBits .f32 0x3F000000#32) (ix2 r k)
      = ((dswish (P.pg (row T r) k) : ℝ) : EReal) := by
  pointwise [k0_pay31]
  simp only [pay29_at P T h81, h76, h81, ← EReal.coe_one, dswish, ← EReal.coe_mul, coe_sum, ← EReal.coe_add, ← EReal.coe_sub, Finset.univ_unique,
    Finset.sum_singleton, Fin.default_eq_zero]

include h15 h72 h76 h81 in
theorem pay32_at (v92 : FVec Ideal S1x512 .f32) (k : Fin 512) :
    k0_pay32 (F := Ideal) v15 v72 v76 v81 (Ideal.ofBits .f32 0x3F000000#32) v92 (ix2 0 k)
      = v92 (ix2 0 k) + ((∑ r, dya P (row T r) k * sil P (row T r) k * on P (row T r) k : ℝ) : EReal) := by
  pointwise [k0_pay32]
  simp only [pay30_at P T h76 h81, h15, h72, h76, h81, ← EReal.coe_mul, coe_sum, ← EReal.coe_add, ← EReal.coe_sub, Finset.univ_unique,
    Finset.sum_singleton, Fin.default_eq_zero]

include h15 h76 h81 h91 in
theorem pay33_at (r : Fin 512) (k : Fin 512) :
    k0_pay33 (F := Ideal) v15 v76 v81 (Ideal.ofBits .f32 0x3F000000#32) v91 (ix2 r k)
      = ((don P (row T r) k : ℝ) : EReal) := by
  pointwise [k0_pay33]
  simp only [pay30_at P T h76 h81, h15, h76, h81, h91, don, ← EReal.coe_mul, coe_sum, ← EReal.coe_add, ← EReal.coe_sub, Finset.univ_unique,
    Finset.sum_singleton, Fin.default_eq_zero]

include h15 h72 h76 h81 h91 in
theorem pay34_at (r : Fin 512) (k : Fin 512) :
    k0_pay34 (F := Ideal) v15 v72 v76 v81 (Ideal.ofBits .f32 0x3F000000#32) v91 (ix2 r k)
      = ((don P (row T r) k * on P (row T r) k : ℝ) : EReal) := by
  pointwise [k0_pay34]
  simp only [pay33_at P T h15 h76 h81 h91, h15, h72, h76, h81, h91, ← EReal.coe_mul, coe_sum, ← EReal.coe_add, ← EReal.coe_sub, Finset.univ_unique,
    Finset.sum_singleton, Fin.default_eq_zero]

include h15 h72 h76 h81 h91 in
theorem pay35_at (r : Fin 512) (c : Fin 128) :
    k0_pay35 (F := Ideal) v15 v72 v76 v81 (Ideal.ofBits .f32 0x3F000000#32) v91 (ix2 r c)
      = ((inner P (row T r) 0 : ℝ) : EReal) := by
  pointwise [k0_pay35]
  simp only [ofBits_128]
  exact (congrArg (fun x : EReal => Ideal.div x ((128 : ℝ) : EReal)) ((Finset.sum_congr rfl fun c _ =>
    pay34_at P T h15 h72 h76 h81 h91 r ⟨c.val, by omega⟩).trans (coe_sum _ _))).trans (by simp only [div_128, inner, col_zero])

include h15 h72 h76 h81 h91 in
theorem pay36_at (r : Fin 512) (c : Fin 128) :
    k0_pay36 (F := Ideal) v15 v72 v76 v81 (Ideal.ofBits .f32 0x3F000000#32) v91 (ix2 r c)
      = ((inner P (row T r) 1 : ℝ) : EReal) := by
  pointwise [k0_pay36]
  simp only [ofBits_128]
  exact (congrArg (fun x : EReal => Ideal.div x ((128 : ℝ) : EReal)) ((Finset.sum_congr rfl fun c _ =>
    pay34_at P T h15 h72 h76 h81 h91 r (col 1 c)).trans (coe_sum _ _))).trans (div_128 _)

include h15 h72 h76 h81 h91 in
theorem pay37_at (r : Fin 512) (c : Fin 128) :
    k0_pay37 (F := Ideal) v15 v72 v76 v81 (Ideal.ofBits .f32 0x3F000000#32) v91 (ix2 r c)
      = ((inner P (row T r) 2 : ℝ) : EReal) := by
  pointwise [k0_pay37]
  simp only [ofBits_128]
  exact (congrArg (fun x : EReal => Ideal.div x ((128 : ℝ) : EReal)) ((Finset.sum_congr rfl fun c _ =>
    pay34_at P T h15 h72 h76 h81 h91 r (col 2 c)).trans (coe_sum _ _))).trans (div_128 _)

include h15 h72 h76 h81 h91 in
theorem pay38_at (r : Fin 512) (c : Fin 128) :
    k0_pay38 (F := Ideal) v15 v72 v76 v81 (Ideal.ofBits .f32 0x3F000000#32) v91 (ix2 r c)
      = ((don P (row T r) (col 3 c) * on P (row T r) (col 3 c) : ℝ) : EReal) := by
  pointwise [k0_pay38]
  exact pay34_at P T h15 h72 h76 h81 h91 r (col 3 c)

include h72 h73 h102 h110 h117 h124 h125 in
theorem pay39_at (r k : Fin 512) : k0_pay39 (F := Ideal) v72 v73 v102 v110 v117 v124 v125 (ix2 r k) = ((dO P (row T r) k : ℝ) : EReal) := by
  show v73 (ix2 r k) * (v102 (ix2 r k) - v72 (ix2 r k) * concatenate S512x512 1 [_, _, _, _] _ (ix2 r k)) = _
  rw [join_at (fun r g _ => inner P (row T r) g) h110 h117 h124 (fun r c => ?_) r k]
  · simp only [h72, h73, h102, ← EReal.coe_mul, ← EReal.coe_sub, dO]
  pointwise []
  simp only [h125, ofBits_128, coe_sum, div_128, inner]

include h15 h72 h90 h91 in
theorem pay40_at (r : Fin 512) (k : Fin 512) : k0_pay40 (F := Ideal) v15 v72 v90 v91 (ix2 r k) = ((dpg P (row T r) k : ℝ) : EReal) := by
  pointwise [k0_pay40]
  simp only [h15, h72, h90, h91, dpg, ← EReal.coe_mul, coe_sum, ← EReal.coe_add, ← EReal.coe_sub, Finset.univ_unique, Finset.sum_singleton,
    Fin.default_eq_zero]

include h144 in
theorem pay41_at (r : Fin 512) (k : Fin 512) : k0_pay41 (F := Ideal) v144 (ix2 r k) = ((P.pu (row T r) k : ℝ) : EReal) := by
  pointwise [k0_pay41]
  simp only [h144, ← EReal.coe_mul, coe_sum, ← EReal.coe_add, ← EReal.coe_sub, Finset.univ_unique, Finset.sum_singleton, Fin.default_eq_zero]

include h147 in
theorem pay42_at (r : Fin 512) (k : Fin 512) : k0_pay42 (F := Ideal) v147 (ix2 r k) = ((P.pv (row T r) k : ℝ) : EReal) := by
  pointwise [k0_pay42]
  simp only [h147, ← EReal.coe_mul, coe_sum, ← EReal.coe_add, ← EReal.coe_sub, Finset.univ_unique, Finset.sum_singleton, Fin.default_eq_zero]

include h144 in
theorem pay43_at (r : Fin 512) (k : Fin 512) : k0_pay43 (F := Ideal) v144 (ix2 r k) = ((cdf (P.pu (row T r) k) : ℝ) : EReal) := by
  pointwise [k0_pay43]
  simp only [pay41_at P T h144, h144, ofBits_half, half_root, normal_slope, erf_at, ← EReal.coe_one, ofBits_neg_half, Ideal.exp_coe, cdf,
    ← EReal.coe_mul, coe_sum, ← EReal.coe_add, ← EReal.coe_sub, Finset.univ_unique, Finset.sum_singleton, Fin.default_eq_zero]

include h144 in
theorem pay44_at (r : Fin 512) (k : Fin 512) : k0_pay44 (F := Ideal) v144 (ix2 r k) = ((zu P (row T r) k : ℝ) : EReal) := by
  pointwise [k0_pay44]
  simp only [pay41_at P T h144, pay43_at P T h144, h144, zu, gelu, ← EReal.coe_mul, coe_sum, ← EReal.coe_add, ← EReal.coe_sub, Finset.univ_unique,
    Finset.sum_singleton, Fin.default_eq_zero]

include h144 in
theorem pay45_at (r : Fin 512) (k : Fin 512) : k0_pay45 (F := Ideal) v144 (ix2 r k) = ((dgelu (P.pu (row T r) k) : ℝ) : EReal) := by
  pointwise [k0_pay45]
  simp only [pay41_at P T h144, pay43_at P T h144, h144, ofBits_half, half_root, normal_slope, erf_at, ← EReal.coe_one, ofBits_neg_half,
    Ideal.exp_coe, dgelu, ← EReal.coe_mul, coe_sum, ← EReal.coe_add, ← EReal.coe_sub, Finset.univ_unique, Finset.sum_singleton, Fin.default_eq_zero]

include h147 in
theorem pay46_at (r : Fin 512) (k : Fin 512) :
    k0_pay46 (F := Ideal) v147 (ix2 r k)
      = ((P.pv (row T r) k * (Real.sqrt 2)⁻¹ : ℝ) : EReal) := by
  pointwise [k0_pay46]
  simp only [pay42_at P T h147, h147, half_root, ← EReal.coe_mul, coe_sum, ← EReal.coe_add, ← EReal.coe_sub, Finset.univ_unique,
    Finset.sum_singleton, Fin.default_eq_zero]

include h167 in
theorem pay47_at (r : Fin 512) (k : Fin 512) : k0_pay47 (F := Ideal) v167 (ix2 r k) = ((cdf (P.pv (row T r) k) : ℝ) : EReal) := by
  pointwise [k0_pay47]
  simp only [h167, ofBits_half, half_root, normal_slope, erf_at, ← EReal.coe_one, ofBits_neg_half, Ideal.exp_coe, cdf, ← EReal.coe_mul, coe_sum,
    ← EReal.coe_add, ← EReal.coe_sub, Finset.univ_unique, Finset.sum_singleton, Fin.default_eq_zero]

include h149 h167 in
theorem pay48_at (r : Fin 512) (k : Fin 512) : k0_pay48 (F := Ideal) v149 v167 (ix2 r k) = ((dgelu (P.pv (row T r) k) : ℝ) : EReal) := by
  pointwise [k0_pay48]
  simp only [pay47_at P T h167, h149, h167, ofBits_half, half_root, normal_slope, erf_at, ← EReal.coe_one, ofBits_neg_half, Ideal.exp_coe, dgelu,
    ← EReal.coe_mul, coe_sum, ← EReal.coe_add, ← EReal.coe_sub, Finset.univ_unique, Finset.sum_singleton, Fin.default_eq_zero]

include h149 h167 in
theorem pay49_at (r : Fin 512) (k : Fin 512) : k0_pay49 (F := Ideal) v149 v167 (ix2 r k) = ((xc P (row T r) k : ℝ) : EReal) := by
  pointwise [k0_pay49]
  simp only [pay47_at P T h167, h149, h167, ofBits_512, div_512, xc, zv, gelu, ← EReal.coe_mul, coe_sum, ← EReal.coe_add, ← EReal.coe_sub,
    Finset.univ_unique, Finset.sum_singleton, Fin.default_eq_zero]

include h149 h167 in
theorem pay50_at (r : Fin 512) : k0_pay50 (F := Ideal) v149 v167 (ix2 r 0) = ((rs P (row T r) : ℝ) : EReal) := by
  pointwise [k0_pay50]
  simp only [pay49_at P T h149 h167, h149, h167, ofBits_512, div_512, ofBits_eps, ← EReal.coe_mul, coe_sum, ← EReal.coe_add, ← EReal.coe_sub,
    Finset.univ_unique, Finset.sum_singleton, Fin.default_eq_zero]
  exact rsqrt_coe (var_pos P _)

include h149 h167 in
theorem pay51_at (r : Fin 512) (k : Fin 512) : k0_pay51 (F := Ideal) v149 v167 (ix2 r k) = ((vhat P (row T r) k : ℝ) : EReal) := by
  pointwise [k0_pay51]
  simp only [pay49_at P T h149 h167, pay50_at P T h149 h167, h149, h167, vhat, ← EReal.coe_mul, coe_sum, ← EReal.coe_add, ← EReal.coe_sub,
    Finset.univ_unique, Finset.sum_singleton, Fin.default_eq_zero]

include h149 h167 h198 h201 in
theorem pay52_at (r : Fin 512) (k : Fin 512) :
    k0_pay52 (F := Ideal) v149 v167 v198 v201 (ix2 r k)
      = ((vln P (row T r) k : ℝ) : EReal) := by
  pointwise [k0_pay52]
  simp only [pay51_at P T h149 h167, h149, h167, h198, h201, vln, ← EReal.coe_mul, coe_sum, ← EReal.coe_add, ← EReal.coe_sub, Finset.univ_unique,
    Finset.sum_singleton, Fin.default_eq_zero]

include h16 h157 in
theorem pay53_at (r : Fin 512) (k : Fin 512) : k0_pay53 (F := Ideal) v16 v157 (ix2 r k) = ((ds P (row T r) k : ℝ) : EReal) := by
  pointwise [k0_pay53]
  simp only [h16, h157, ds, ← EReal.coe_mul, coe_sum, ← EReal.coe_add, ← EReal.coe_sub, Finset.univ_unique, Finset.sum_singleton, Fin.default_eq_zero]

include h16 h157 in
theorem pay54_at (r : Fin 512) (k : Fin 512) : k0_pay54 (F := Ideal) v16 v157 (ix2 r k) = ((ds P (row T r) k : ℝ) : EReal) := by
  pointwise [k0_pay54]
  simp only [pay53_at P T h16 h157, h16, h157, ← EReal.coe_mul, coe_sum, ← EReal.coe_add, ← EReal.coe_sub, Finset.univ_unique, Finset.sum_singleton,
    Fin.default_eq_zero]

include h16 h165 h595 in
theorem pay191_at (r : Fin 512) (k : Fin 512) : k0_pay191 (F := Ideal) v16 v165 v595 (ix2 r k) = ((dpu P (row T r) k : ℝ) : EReal) := by
  pointwise [k0_pay191]
  simp only [h16, h165, h595, dpu, ← EReal.coe_mul, coe_sum, ← EReal.coe_add, ← EReal.coe_sub, Finset.univ_unique, Finset.sum_singleton,
    Fin.default_eq_zero]

include h197 h600 in
theorem pay192_at (v601 : FVec Ideal S1x512 .f32) (k : Fin 512) :
    k0_pay192 (F := Ideal) v197 v600 v601 (ix2 0 k)
      = v601 (ix2 0 k) + ((∑ r, dvln P (row T r) k * vhat P (row T r) k : ℝ) : EReal) := by
  pointwise [k0_pay192]
  simp only [h197, h600, ← EReal.coe_mul, coe_sum, ← EReal.coe_add, ← EReal.coe_sub, Finset.univ_unique, Finset.sum_singleton, Fin.default_eq_zero]

include h600 in
theorem pay193_at (v608 : FVec Ideal S1x512 .f32) (k : Fin 512) :
    k0_pay193 (F := Ideal) v600 v608 (ix2 0 k)
      = v608 (ix2 0 k) + ((∑ r, dvln P (row T r) k : ℝ) : EReal) := by
  pointwise [k0_pay193]
  simp only [h600, ← EReal.coe_mul, coe_sum, ← EReal.coe_add, ← EReal.coe_sub, Finset.univ_unique, Finset.sum_singleton, Fin.default_eq_zero]

include h198 h600 in
theorem pay194_at (r : Fin 512) (k : Fin 512) : k0_pay194 (F := Ideal) v198 v600 (ix2 r k) = ((dvh P (row T r) k : ℝ) : EReal) := by
  pointwise [k0_pay194]
  simp only [h198, h600, dvh, ← EReal.coe_mul, coe_sum, ← EReal.coe_add, ← EReal.coe_sub, Finset.univ_unique, Finset.sum_singleton,
    Fin.default_eq_zero]

include h198 h600 in
theorem pay195_at (r : Fin 512) (k : Fin 512) : k0_pay195 (F := Ideal) v198 v600 (ix2 r k) = ((dvc P (row T r) k : ℝ) : EReal) := by
  pointwise [k0_pay195]
  simp only [pay194_at P T h198 h600, h198, h600, ofBits_512, div_512, dvc, ← EReal.coe_mul, coe_sum, ← EReal.coe_add, ← EReal.coe_sub,
    Finset.univ_unique, Finset.sum_singleton, Fin.default_eq_zero]

include h197 h198 h600 in
theorem pay196_at (r : Fin 512) (k : Fin 512) : k0_pay196 (F := Ideal) v197 v198 v600 (ix2 r k) = ((dvr P (row T r) : ℝ) : EReal) := by
  pointwise [k0_pay196]
  simp only [pay194_at P T h198 h600, h197, h198, h600, ofBits_512, div_512, dvr, ← EReal.coe_mul, coe_sum, ← EReal.coe_add, ← EReal.coe_sub,
    Finset.univ_unique, Finset.sum_singleton, Fin.default_eq_zero]

include h181 h195 h197 h621 h627 in
theorem pay1_at (r : Fin 512) (k : Fin 512) :
    k0_pay1 (F := Ideal) v181 v195 v197 v621 v627 (ix2 r k)
      = ((dpv P (row T r) k : ℝ) : EReal) := by
  pointwise [k0_pay1]
  simp only [h181, h195, h197, h621, h627, dpv, dzv, ← EReal.coe_mul, coe_sum, ← EReal.coe_add, ← EReal.coe_sub, Finset.univ_unique,
    Finset.sum_singleton, Fin.default_eq_zero]

/-! The blocks of one chunk and one group: 128 tokens by 128 columns. -/

section
variable {P T}
variable {f : Fin 8192 → Fin 512 → ℝ} {φ : FTy} {v : FVec Ideal S512x512 φ} {w : FVec Ideal S1x128x128 .f32} {b : FVec Ideal S1x128x1 .f32}

/-- A block of a tile's values is the chunk's tokens and the group's columns. -/
theorem cut_at (hv : ∀ r k, v (ix2 r k) = ((f (row T r) k : ℝ) : EReal)) (n g : Fin 4)
    (h : S512x512.Slices ![n.val * 128, g.val * 128] S128x128) (i c : Fin 128) :
    extractStridedSlice S128x128 ![n.val * 128, g.val * 128] v h (ix2 i c) = ((f (tok (ch T n) i) (col g c) : ℝ) : EReal) := by
  rw [← row_tok T n i (by omega), show col g c = ⟨g.val * 128 + c.val, by omega⟩ from rfl, ← hv]
  exact congrArg v (funext fun a => Fin.ext (by fin_cases a <;> rfl))

theorem cut_ix (hv : ∀ r k, v (ix2 r k) = ((f (row T r) k : ℝ) : EReal)) (n g : Fin 4) (i c : Fin 128)
    (h : n.val * 128 + i.val < 512) (h' : g.val * 128 + c.val < 512) :
    v (ix2 ⟨n.val * 128 + i.val, h⟩ ⟨g.val * 128 + c.val, h'⟩) = ((f (tok (ch T n) i) (col g c) : ℝ) : EReal) := by
  rw [← row_tok T n i h]
  exact hv _ _

/-- What a group's mixing stores for one chunk. -/
theorem mix_at {v : FVec Ideal S512x512 .bf16} (hv : ∀ r k, v (ix2 r k) = ((vln P (row T r) k : ℝ) : EReal)) (n g : Fin 4)
    (hw : ∀ i j, w (ix3 0 i j) = ((P.ws g i j : ℝ) : EReal)) (hb : ∀ i, b (ix3 0 i 0) = ((P.bs g i : ℝ) : EReal))
    (h : S512x512.Slices ![n.val * 128, g.val * 128] S128x128) (i c : Fin 128) :
    addf (matmul dot_S128x128_S128x128_S128x128_1_0_0_1_n_n none (truncf .bf16 (shapeCast S128x128 w shapeCasts_S1x128x128_S128x128) bitsLt_bf16_f32)
        (extractStridedSlice S128x128 ![n.val * 128, g.val * 128] v h) (constant (F := Ideal) S128x128 .f32 0x00000000#32))
      (broadcastTo S128x128 (shapeCast S128x1 b shapeCasts_S1x128x1_S128x1) broadcasts_S128x1_S128x128) (ix2 i c)
      = ((mixs P (ch T n) i g c : ℝ) : EReal) := by
  pointwise
  have hx := fun j => cut_ix hv n g j c (by omega) (by omega)
  simp only [hw, hb]
  refine (congrArg (fun x : EReal => x + ((P.bs g i : ℝ) : EReal)) (Finset.sum_congr rfl fun j _ =>
    congrArg (fun x : EReal => ((P.ws g i j : ℝ) : EReal) * x) (hx j))).trans ?_
  simp only [← EReal.coe_mul, coe_sum, ← EReal.coe_add, mixs]

/-- The mixing's pull-back for one chunk. -/
theorem unmix_at {v : FVec Ideal S512x512 .bf16} (hv : ∀ r k, v (ix2 r k) = ((ds P (row T r) k : ℝ) : EReal)) (n g : Fin 4)
    (hw : ∀ i j, w (ix3 0 i j) = ((P.ws g i j : ℝ) : EReal)) (h : S512x512.Slices ![n.val * 128, g.val * 128] S128x128) (i c : Fin 128) :
    matmul dot_S128x128_S128x128_S128x128_0_0_1_1_n_n none (truncf .bf16 (shapeCast S128x128 w shapeCasts_S1x128x128_S128x128) bitsLt_bf16_f32)
        (extractStridedSlice S128x128 ![n.val * 128, g.val * 128] v h) (constant (F := Ideal) S128x128 .f32 0x00000000#32) (ix2 i c)
      = ((dmix P (ch T n) i g c : ℝ) : EReal) := by
  pointwise
  simp only [hw]
  refine (Finset.sum_congr rfl fun j _ => congrArg (fun x : EReal => ((P.ws g j i : ℝ) : EReal) * x) (cut_ix hv n g j c (by omega) (by omega))).trans ?_
  simp only [← EReal.coe_mul, coe_sum, dmix]

/-- A chunk's part of the gradient of a group's spatial weights. -/
theorem outer_at {v u : FVec Ideal S512x512 .bf16} (hv : ∀ r k, v (ix2 r k) = ((ds P (row T r) k : ℝ) : EReal))
    (hu : ∀ r k, u (ix2 r k) = ((vln P (row T r) k : ℝ) : EReal)) (n g : Fin 4)
    (h h' : S512x512.Slices ![n.val * 128, g.val * 128] S128x128) (i j : Fin 128) :
    matmul dot_S128x128_S128x128_S128x128_1_1_0_0_n_n none (extractStridedSlice S128x128 ![n.val * 128, g.val * 128] v h)
        (extractStridedSlice S128x128 ![n.val * 128, g.val * 128] u h') (constant (F := Ideal) S128x128 .f32 0x00000000#32) (ix2 i j)
      = ((∑ c, ds P (tok (ch T n) i) (col g c) * vln P (tok (ch T n) j) (col g c) : ℝ) : EReal) := by
  pointwise
  refine (Finset.sum_congr rfl fun c _ => congrArg₂ (fun x y : EReal => x * y) (cut_ix hv n g i c (by omega) (by omega))
    (cut_ix hu n g j c (by omega) (by omega))).trans ?_
  simp only [← EReal.coe_mul, coe_sum]

/-- A chunk's part of the gradient of a group's biases. -/
theorem line_at {v : FVec Ideal S512x512 .f32} (hv : ∀ r k, v (ix2 r k) = ((ds P (row T r) k : ℝ) : EReal)) (n g : Fin 4)
    (h : S512x512.Slices ![n.val * 128, g.val * 128] S128x128) (i : Fin 128) :
    multiReduction .add [1] S128 (extractStridedSlice S128x128 ![n.val * 128, g.val * 128] v h) 0x00000000#32 reduces_S128x128_S128 (.inl rfl) rfl (ix1 i)
      = ((∑ c, ds P (tok (ch T n) i) (col g c) : ℝ) : EReal) := by
  pointwise
  exact (Finset.sum_congr rfl fun c _ => cut_ix hv n g i c (by omega) (by omega)).trans (coe_sum _ _)

end

end Cert.MixBwd

end
-- ==== Proof.Mix.Tile.lean ====
/- One tile from the values loaded for it: each stored value as a function of the loads, and the blocks of the spatial gate. -/
module

public import proofs.«01_k».proof.Proof.Mix.Point
public import Idealize.ShloMosaic.Lib.Pipeline.ValueKit
public import Idealize.ShloMosaic.Lib.Pipeline.ReadBack
public import Idealize.ShloMosaic.Lib.Claim
public import Idealize.ShloMosaic.Lib.Ring

@[expose] public section

set_option maxRecDepth 16384

noncomputable section

namespace Cert.MixBwd

open Idealize.ShloMosaic Idealize.ShloMosaic.TcCoe Idealize.SL.Sem
open Cert.MixIdeal Cert.MixIdeal.Gen Cert.Reals Cert.Rows

/-- A load of a whole buffer, and of one of a buffer's four slabs. -/
theorem ld_whole {s : Shape} {e : EltTy} {M : Memref sig .tc .vmem s e} (h : M.IsWhole) (X : s.Idx → Elt Ideal e) {off : Fin s.rank → ℕ}
    (inb : ∀ a, off a + s.size a ≤ s.size a) (ho : ∀ a, off a = 0) (y : s.Idx) :
    View.readAt (Elt Ideal) M.view (Rect.unit off s.size inb).toLoadRect (h.unread X) y = X y :=
  (congrFun (h.read_unread X) _).trans (congrArg X (funext fun a => Fin.ext (by
    show off a + 1 * (y a).val = _
    rw [ho a, Nat.zero_add, Nat.one_mul])))

theorem ld_slab {a b : ℕ} {e : EltTy} {M : Memref sig .tc .vmem (⟨3, ![4, a, b]⟩ : Shape) e} (h : M.IsWhole)
    (X : (⟨3, ![4, a, b]⟩ : Shape).Idx → Elt Ideal e) (g : Fin 4) (inb) (i : Fin a) (j : Fin b) :
    View.readAt (Elt Ideal) M.view (Rect.unit (s := (⟨3, ![4, a, b]⟩ : Shape)) ![g.val, 0, 0] ((⟨3, ![1, a, b]⟩ : Shape)).size inb).toLoadRect (h.unread X) (ix3 0 i j)
      = X (ix3 g i j) :=
  (congrFun (h.read_unread X) _).trans (congrArg X (funext fun q => Fin.ext (by
    match q with
    | ⟨0, _⟩ => show g.val + 1 * 0 = g.val; omega
    | ⟨1, _⟩ => show 0 + 1 * i.val = i.val; omega
    | ⟨2, _⟩ => show 0 + 1 * j.val = j.val; omega)))

variable {P : Par} {T : Fin 16}

section
variable {x0 : FVec Ideal S512x1024 .f32} {x2 x3 : FVec Ideal S512x512 .f32} {x4 x5 x6 : FVec Ideal S512x512 .bf16} {x7 x8 x9 : FVec Ideal S1x512 .f32}
  {x12 : FVec Ideal S1024x1024 .bf16} {s' d' : FVec Ideal S512x512 .f32}
  (k0 : ∀ r j, x0 (ix2 r j) = ((P.dx (row T r) j : ℝ) : EReal)) (k2 : ∀ r k, x2 (ix2 r k) = ((P.of (row T r) k : ℝ) : EReal))
  (k3 : ∀ r k, x3 (ix2 r k) = ((P.ob (row T r) k : ℝ) : EReal)) (k4 : ∀ r k, x4 (ix2 r k) = ((P.pg (row T r) k : ℝ) : EReal))
  (k5 : ∀ r k, x5 (ix2 r k) = ((P.pu (row T r) k : ℝ) : EReal)) (k6 : ∀ r k, x6 (ix2 r k) = ((P.pv (row T r) k : ℝ) : EReal))
  (k7 : ∀ k, x7 (ix2 0 k) = ((P.gg k : ℝ) : EReal)) (k8 : ∀ k, x8 (ix2 0 k) = ((P.lg k : ℝ) : EReal)) (k9 : ∀ k, x9 (ix2 0 k) = ((P.lb k : ℝ) : EReal))
  (k12 : ∀ e j, x12 (ix2 e j) = ((P.wo e j : ℝ) : EReal))
  (ks : ∀ r k, s' (ix2 r k) = ((s P (row T r) k : ℝ) : EReal)) (kd : ∀ r k, d' (ix2 r k) = ((dvln P (row T r) k : ℝ) : EReal))

/-- The normalised state, from the two directions' states. -/
abbrev tOn (x2 x3 : FVec Ideal S512x512 .f32) : FVec Ideal S512x512 .f32 :=
  k0_pay25 (F := Ideal) (k0_pay13 x2 x3) (k0_pay16 x2 x3) (k0_pay18 x2 x3) (k0_pay19 x2 x3)
/-- The joined columns' cotangent at the gated state, and at the spatial gate. -/
abbrev tA (x0 : FVec Ideal S512x1024 .f32) (x12 : FVec Ideal S1024x1024 .bf16) : FVec Ideal S512x512 .f32 := k0_pay11 (F := Ideal) x0 x12
abbrev tB (x0 : FVec Ideal S512x1024 .f32) (x12 : FVec Ideal S1024x1024 .bf16) : FVec Ideal S512x512 .f32 := k0_pay12 (F := Ideal) x0 x12
/-- The normalised second half, its normalisation's gain and offset applied. -/
abbrev tHat (x6 : FVec Ideal S512x512 .bf16) : FVec Ideal S512x512 .f32 := k0_pay51 (F := Ideal) (k0_pay42 x6) (k0_pay46 x6)
abbrev tV (x6 : FVec Ideal S512x512 .bf16) (x8 x9 : FVec Ideal S1x512 .f32) : FVec Ideal S512x512 .bf16 :=
  k0_pay52 (F := Ideal) (k0_pay42 x6) (k0_pay46 x6) x8 x9
/-- The cotangent of the mixed second half. -/
abbrev tD (x0 : FVec Ideal S512x1024 .f32) (x12 : FVec Ideal S1024x1024 .bf16) (x5 : FVec Ideal S512x512 .bf16) : FVec Ideal S512x512 .bf16 :=
  k0_pay54 (F := Ideal) (tB x0 x12) (k0_pay44 x5)
abbrev tDf (x0 : FVec Ideal S512x1024 .f32) (x12 : FVec Ideal S1024x1024 .bf16) (x5 : FVec Ideal S512x512 .bf16) : FVec Ideal S512x512 .f32 :=
  k0_pay53 (F := Ideal) (tB x0 x12) (k0_pay44 x5)

include k2 k3 in
theorem tOn_at (r k : Fin 512) : tOn x2 x3 (ix2 r k) = ((on P (row T r) k : ℝ) : EReal) :=
  pay25_at P T (pay13_at P T k2 k3) (pay16_at P T k2 k3) (pay18_at P T k2 k3) (pay19_at P T k2 k3) r k

include k6 k8 k9 in
theorem tV_at (r k : Fin 512) : tV x6 x8 x9 (ix2 r k) = ((vln P (row T r) k : ℝ) : EReal) :=
  pay52_at P T (pay42_at P T k6) (pay46_at P T k6) k8 k9 r k

include k6 in
theorem tHat_at (r k : Fin 512) : tHat x6 (ix2 r k) = ((vhat P (row T r) k : ℝ) : EReal) :=
  pay51_at P T (pay42_at P T k6) (pay46_at P T k6) r k

include k0 k12 k5 in
theorem tD_at (r k : Fin 512) : tD x0 x12 x5 (ix2 r k) = ((ds P (row T r) k : ℝ) : EReal) :=
  pay54_at P T (pay12_at P T k0 k12) (pay44_at P T k5) r k

include k0 k12 k5 in
theorem tDf_at (r k : Fin 512) : tDf x0 x12 x5 (ix2 r k) = ((ds P (row T r) k : ℝ) : EReal) :=
  pay53_at P T (pay12_at P T k0 k12) (pay44_at P T k5) r k

/-- One half. -/
abbrev half : EReal := Ideal.ofBits .f32 0x3F000000#32

include k0 k2 k3 k4 k7 k12 in
theorem tO_at (r k : Fin 512) :
    k0_pay39 (F := Ideal) (tOn x2 x3) (k0_pay26 (k0_pay13 x2 x3) (k0_pay17 x2 x3) (k0_pay19 x2 x3)) (k0_pay33 (tA x0 x12) (k0_pay27 x4) (k0_pay28 x4) half x7)
      (k0_pay35 (tA x0 x12) (tOn x2 x3) (k0_pay27 x4) (k0_pay28 x4) half x7) (k0_pay36 (tA x0 x12) (tOn x2 x3) (k0_pay27 x4) (k0_pay28 x4) half x7)
      (k0_pay37 (tA x0 x12) (tOn x2 x3) (k0_pay27 x4) (k0_pay28 x4) half x7) (k0_pay38 (tA x0 x12) (tOn x2 x3) (k0_pay27 x4) (k0_pay28 x4) half x7)
      (ix2 r k) = ((dO P (row T r) k : ℝ) : EReal) :=
  have a := pay11_at P T k0 k12
  have o := tOn_at k2 k3
  have p := pay27_at P T k4
  have q := pay28_at P T k4
  pay39_at P T o (pay26_at P T (pay13_at P T k2 k3) (pay17_at P T k2 k3) (pay19_at P T k2 k3)) (pay33_at P T a p q k7) (pay35_at P T a o p q k7)
    (pay36_at P T a o p q k7) (pay37_at P T a o p q k7) (pay38_at P T a o p q k7) r k

include k0 k2 k3 k4 k7 k12 in
theorem tPg_at (r k : Fin 512) :
    k0_pay40 (F := Ideal) (tA x0 x12) (tOn x2 x3) (k0_pay31 (k0_pay27 x4) (k0_pay28 x4) half) x7 (ix2 r k) = ((dpg P (row T r) k : ℝ) : EReal) :=
  pay40_at P T (pay11_at P T k0 k12) (tOn_at k2 k3) (pay31_at P T (pay27_at P T k4) (pay28_at P T k4)) k7 r k

include k0 k2 k3 k4 k12 in
theorem tGg_at (old : FVec Ideal S1x512 .f32) (k : Fin 512) :
    k0_pay32 (F := Ideal) (tA x0 x12) (tOn x2 x3) (k0_pay27 x4) (k0_pay28 x4) half old (ix2 0 k)
      = old (ix2 0 k) + ((∑ r, dya P (row T r) k * sil P (row T r) k * on P (row T r) k : ℝ) : EReal) :=
  pay32_at P T (pay11_at P T k0 k12) (tOn_at k2 k3) (pay27_at P T k4) (pay28_at P T k4) old k

include k0 k5 k12 ks in
theorem tPu_at (r k : Fin 512) : k0_pay191 (F := Ideal) (tB x0 x12) (k0_pay45 x5) s' (ix2 r k) = ((dpu P (row T r) k : ℝ) : EReal) :=
  pay191_at P T (pay12_at P T k0 k12) (pay45_at P T k5) ks r k

include k6 k8 kd in
theorem tPv_at (r k : Fin 512) :
    k0_pay1 (F := Ideal) (k0_pay48 (k0_pay42 x6) (k0_pay46 x6)) (k0_pay50 (k0_pay42 x6) (k0_pay46 x6)) (tHat x6) (k0_pay195 x8 d') (k0_pay196 (tHat x6) x8 d')
      (ix2 r k) = ((dpv P (row T r) k : ℝ) : EReal) :=
  have p := pay42_at P T k6
  have q := pay46_at P T k6
  pay1_at P T (pay48_at P T p q) (pay50_at P T p q) (tHat_at k6) (pay195_at P T k8 kd) (pay196_at P T (tHat_at k6) k8 kd) r k

include k6 kd in
theorem tLg_at (old : FVec Ideal S1x512 .f32) (k : Fin 512) :
    k0_pay192 (F := Ideal) (tHat x6) d' old (ix2 0 k) = old (ix2 0 k) + ((∑ r, dvln P (row T r) k * vhat P (row T r) k : ℝ) : EReal) :=
  pay192_at P T (tHat_at k6) kd old k

end

/-! The blocks: 128 tokens of one chunk by 128 columns of one group. -/

/-- A tile's values, an index at a time. -/
def tile (T : Fin 16) (f : Fin 8192 → Fin 512 → ℝ) (y : S512x512.Idx) : EReal := ((f (row T (y 0)) (y 1) : ℝ) : EReal)

theorem tile_emb (f : Fin 8192 → Fin 512 → ℝ) (n g : Fin 4) (inb) (i c : Fin 128) :
    tile T f ((Rect.unit (s := S512x512) ![n.val * 128, g.val * 128] S128x128.size inb).emb (ix2 i c)) = ((f (tok (ch T n) i) (col g c) : ℝ) : EReal) := by
  unfold tile
  rw [← row_tok T n i (by omega)]
  refine congrArg (fun x : ℝ => (x : EReal)) (congrArg₂ f (congrArg (row T) (Fin.ext ?_)) (Fin.ext ?_))
  · show n.val * 128 + 1 * i.val = n.val * 128 + i.val; omega
  · show g.val * 128 + 1 * c.val = g.val * 128 + c.val; omega

theorem s_col (n : Fin 64) (i : Fin 128) (g : Fin 4) (c : Fin 128) : s P (tok n i) (col g c) = mixs P n i g c := by
  simp only [s, chk_tok, pos_tok, hd_col, ln_col]
theorem dvln_col (n : Fin 64) (i : Fin 128) (g : Fin 4) (c : Fin 128) : dvln P (tok n i) (col g c) = dmix P n i g c := by
  simp only [dvln, chk_tok, pos_tok, hd_col, ln_col]

/-- The blocks lie in the tile. -/
theorem cut_ok : ∀ n g : Fin 4, S512x512.Slices ![n.val * 128, g.val * 128] S128x128 := by decide
theorem inb_ok : ∀ (n g : Fin 4) (a : Fin S512x512.rank), (![n.val * 128, g.val * 128] : Fin 2 → ℕ) a + S128x128.size a ≤ S512x512.size a := by decide

/-- A reshape to the same sizes changes nothing. -/
theorem cast_self (v : FVec Ideal S128x128 .f32) (h) (y : S128x128.Idx) : shapeCast S128x128 v h y = v y := by
  obtain ⟨i, j, rfl⟩ : ∃ (i j : Fin 128), y = ix2 i j := ⟨y 0, y 1, eq_ix2 y⟩
  pointwise

section
variable {w : FVec Ideal S1x128x128 .f32} {b : FVec Ideal S1x128x1 .f32} {v : FVec Ideal S512x512 .bf16} (n g : Fin 4)

theorem mixPiece (hv : ∀ r k, v (ix2 r k) = ((vln P (row T r) k : ℝ) : EReal))
    (hw : ∀ i j, w (ix3 0 i j) = ((P.ws g i j : ℝ) : EReal)) (hb : ∀ i, b (ix3 0 i 0) = ((P.bs g i : ℝ) : EReal))
    (h : S512x512.Slices ![n.val * 128, g.val * 128] S128x128) (inb) (y : S128x128.Idx) :
    shapeCast S128x128 (addf (matmul dot_S128x128_S128x128_S128x128_1_0_0_1_n_n none (truncf .bf16 (shapeCast S128x128 w shapeCasts_S1x128x128_S128x128) bitsLt_bf16_f32)
        (extractStridedSlice S128x128 ![n.val * 128, g.val * 128] v h) (constant (F := Ideal) S128x128 .f32 0x00000000#32))
      (broadcastTo S128x128 (shapeCast S128x1 b shapeCasts_S1x128x1_S128x1) broadcasts_S128x1_S128x128)) shapeCasts_S128x128_S128x128 y
      = tile T (s P) ((Rect.unit (s := S512x512) ![n.val * 128, g.val * 128] S128x128.size inb).emb y) := by
  obtain ⟨i, c, rfl⟩ : ∃ (i c : Fin 128), y = ix2 i c := ⟨y 0, y 1, eq_ix2 y⟩
  rw [cast_self, mix_at hv n g hw hb h, tile_emb, s_col]

theorem unmixPiece (hv : ∀ r k, v (ix2 r k) = ((ds P (row T r) k : ℝ) : EReal))
    (hw : ∀ i j, w (ix3 0 i j) = ((P.ws g i j : ℝ) : EReal)) (h : S512x512.Slices ![n.val * 128, g.val * 128] S128x128) (inb) (y : S128x128.Idx) :
    shapeCast S128x128 (matmul dot_S128x128_S128x128_S128x128_0_0_1_1_n_n none (truncf .bf16 (shapeCast S128x128 w shapeCasts_S1x128x128_S128x128) bitsLt_bf16_f32)
        (extractStridedSlice S128x128 ![n.val * 128, g.val * 128] v h) (constant (F := Ideal) S128x128 .f32 0x00000000#32)) shapeCasts_S128x128_S128x128 y
      = tile T (dvln P) ((Rect.unit (s := S512x512) ![n.val * 128, g.val * 128] S128x128.size inb).emb y) := by
  obtain ⟨i, c, rfl⟩ : ∃ (i c : Fin 128), y = ix2 i c := ⟨y 0, y 1, eq_ix2 y⟩
  rw [cast_self, unmix_at hv n g hw h, tile_emb, dvln_col]

end

/-- A tile's part of the spatial weights' gradient, and of the spatial biases'. -/
def part (P : Par) (T : Fin 16) (g : Fin 4) (i j : Fin 128) : ℝ := ∑ n, ∑ c, ds P (tok (ch T n) i) (col g c) * vln P (tok (ch T n) j) (col g c)
def line (P : Par) (T : Fin 16) (g : Fin 4) (i : Fin 128) : ℝ := ∑ n, ∑ c, ds P (tok (ch T n) i) (col g c)

/-- The four chunks' products added to what is there. -/
theorem outerPiece (g : Fin 4) {b0 b1 b2 b3 : FVec Ideal S128x128 .f32} (old : FVec Ideal S1x128x128 .f32)
    (h0 : ∀ i j, b0 (ix2 i j) = ((∑ c, ds P (tok (ch T 0) i) (col g c) * vln P (tok (ch T 0) j) (col g c) : ℝ) : EReal))
    (h1 : ∀ i j, b1 (ix2 i j) = ((∑ c, ds P (tok (ch T 1) i) (col g c) * vln P (tok (ch T 1) j) (col g c) : ℝ) : EReal))
    (h2 : ∀ i j, b2 (ix2 i j) = ((∑ c, ds P (tok (ch T 2) i) (col g c) * vln P (tok (ch T 2) j) (col g c) : ℝ) : EReal))
    (h3 : ∀ i j, b3 (ix2 i j) = ((∑ c, ds P (tok (ch T 3) i) (col g c) * vln P (tok (ch T 3) j) (col g c) : ℝ) : EReal)) (i j : Fin 128) :
    k0_pay173 (F := Ideal) b0 b1 b2 b3 old (ix3 0 i j) = old (ix3 0 i j) + ((part P T g i j : ℝ) : EReal) := by
  pointwise [k0_pay173]
  simp only [h0, h1, h2, h3, ← EReal.coe_add, part, Fin.sum_univ_four]

/-- A column of sums made of the rows of one block. -/
theorem lineCol {v : FVec Ideal S512x512 .f32} (hv : ∀ r k, v (ix2 r k) = ((ds P (row T r) k : ℝ) : EReal)) (n g : Fin 4)
    (h : S512x512.Slices ![n.val * 128, g.val * 128] S128x128) (i : Fin 128) :
    shapeCast S128x1 (multiReduction .add [1] S128 (extractStridedSlice S128x128 ![n.val * 128, g.val * 128] v h) 0x00000000#32 reduces_S128x128_S128 (.inl rfl) rfl)
      shapeCasts_S128_S128x1 (ix2 i 0) = ((∑ c, ds P (tok (ch T n) i) (col g c) : ℝ) : EReal) :=
  by
    pointwise
    exact (Finset.sum_congr rfl fun c _ => cut_ix hv n g i c (by omega) (by omega)).trans (coe_sum _ _)

section
variable {w0 w1 w2 w3 : FVec Ideal S1x128x128 .f32} {b0 b1 b2 b3 : FVec Ideal S1x128x1 .f32} {v d : FVec Ideal S512x512 .bf16}
  (hv : ∀ r k, v (ix2 r k) = ((vln P (row T r) k : ℝ) : EReal)) (hd : ∀ r k, d (ix2 r k) = ((ds P (row T r) k : ℝ) : EReal))
  (h0 : ∀ i j, w0 (ix3 0 i j) = ((P.ws 0 i j : ℝ) : EReal)) (h1 : ∀ i j, w1 (ix3 0 i j) = ((P.ws 1 i j : ℝ) : EReal))
  (h2 : ∀ i j, w2 (ix3 0 i j) = ((P.ws 2 i j : ℝ) : EReal)) (h3 : ∀ i j, w3 (ix3 0 i j) = ((P.ws 3 i j : ℝ) : EReal))
  (g0 : ∀ i, b0 (ix3 0 i 0) = ((P.bs 0 i : ℝ) : EReal)) (g1 : ∀ i, b1 (ix3 0 i 0) = ((P.bs 1 i : ℝ) : EReal))
  (g2 : ∀ i, b2 (ix3 0 i 0) = ((P.bs 2 i : ℝ) : EReal)) (g3 : ∀ i, b3 (ix3 0 i 0) = ((P.bs 3 i : ℝ) : EReal))

theorem pieces_cons {s : Shape} {e : EltTy} {G : s.Idx → Elt Ideal e} {p : View.Piece (Elt Ideal) s e} {L : List (View.Piece (Elt Ideal) s e)}
    (h : ∀ x : p.1.shape.Idx, p.2 x = G (p.1.emb x)) (hL : View.PiecesOf G L) : View.PiecesOf G (p :: L) := ⟨h, hL⟩

include hv h0 h1 h2 h3 g0 g1 g2 g3 in
/-- The sixteen blocks of the mixed second half, the last stored first. -/
theorem mixes : View.PiecesOf (Val := Elt Ideal) (e := .f32) (tile T (s P))
    [⟨Rect.unit ![384, 384] S128x128.size inb_S512x512_S128x128_384_384, k0_pay171 (k0_pay106 (k0_pay58 w3) (k0_pay74 v)) b3⟩,
      ⟨Rect.unit ![256, 384] S128x128.size inb_S512x512_S128x128_256_384, k0_pay169 (k0_pay168 (k0_pay105 (k0_pay58 w3) (k0_pay73 v)) b3)⟩,
      ⟨Rect.unit ![128, 384] S128x128.size inb_S512x512_S128x128_128_384, k0_pay166 (k0_pay104 (k0_pay58 w3) (k0_pay72 v)) b3⟩,
      ⟨Rect.unit ![0, 384] S128x128.size inb_S512x512_S128x128_0_384, k0_pay164 (k0_pay103 (k0_pay58 w3) (k0_pay71 v)) b3⟩,
      ⟨Rect.unit ![384, 256] S128x128.size inb_S512x512_S128x128_384_256, k0_pay162 (k0_pay161 (k0_pay102 (k0_pay57 w2) (k0_pay70 v)) b2)⟩,
      ⟨Rect.unit ![256, 256] S128x128.size inb_S512x512_S128x128_256_256, k0_pay159 (k0_pay101 (k0_pay57 w2) (k0_pay69 v)) b2⟩,
      ⟨Rect.unit ![128, 256] S128x128.size inb_S512x512_S128x128_128_256, k0_pay157 (k0_pay100 (k0_pay57 w2) (k0_pay68 v)) b2⟩,
      ⟨Rect.unit ![0, 256] S128x128.size inb_S512x512_S128x128_0_256, k0_pay155 (k0_pay99 (k0_pay57 w2) (k0_pay67 v)) b2⟩,
      ⟨Rect.unit ![384, 128] S128x128.size inb_S512x512_S128x128_384_128, k0_pay153 (k0_pay98 (k0_pay56 w1) (k0_pay66 v)) b1⟩,
      ⟨Rect.unit ![256, 128] S128x128.size inb_S512x512_S128x128_256_128, k0_pay151 (k0_pay97 (k0_pay56 w1) (k0_pay65 v)) b1⟩,
      ⟨Rect.unit ![128, 128] S128x128.size inb_S512x512_S128x128_128_128, k0_pay149 (k0_pay96 v w1) b1⟩,
      ⟨Rect.unit ![0, 128] S128x128.size inb_S512x512_S128x128_0_128, k0_pay147 (k0_pay95 v w1) b1⟩,
      ⟨Rect.unit ![384, 0] S128x128.size inb_S512x512_S128x128_384_0, k0_pay145 (k0_pay94 v (k0_pay55 w0)) b0⟩,
      ⟨Rect.unit ![256, 0] S128x128.size inb_S512x512_S128x128_256_0, k0_pay143 (k0_pay93 v (k0_pay55 w0)) b0⟩,
      ⟨Rect.unit ![128, 0] S128x128.size inb_S512x512_S128x128_128_0, k0_pay141 (k0_pay92 v (k0_pay55 w0)) b0⟩,
      ⟨Rect.unit ![0, 0] S128x128.size inb_S512x512_S128x128_0_0, k0_pay139 (k0_pay91 v (k0_pay55 w0)) b0⟩] :=
  pieces_cons (mixPiece 3 3 hv h3 g3 (cut_ok _ _) (inb_ok _ _)) <| pieces_cons (mixPiece 2 3 hv h3 g3 (cut_ok _ _) (inb_ok _ _)) <| pieces_cons (mixPiece 1 3 hv h3 g3 (cut_ok _ _) (inb_ok _ _)) <| pieces_cons (mixPiece 0 3 hv h3 g3 (cut_ok _ _) (inb_ok _ _)) <|
  pieces_cons (mixPiece 3 2 hv h2 g2 (cut_ok _ _) (inb_ok _ _)) <| pieces_cons (mixPiece 2 2 hv h2 g2 (cut_ok _ _) (inb_ok _ _)) <| pieces_cons (mixPiece 1 2 hv h2 g2 (cut_ok _ _) (inb_ok _ _)) <| pieces_cons (mixPiece 0 2 hv h2 g2 (cut_ok _ _) (inb_ok _ _)) <|
  pieces_cons (mixPiece 3 1 hv h1 g1 (cut_ok _ _) (inb_ok _ _)) <| pieces_cons (mixPiece 2 1 hv h1 g1 (cut_ok _ _) (inb_ok _ _)) <| pieces_cons (mixPiece 1 1 hv h1 g1 (cut_ok _ _) (inb_ok _ _)) <| pieces_cons (mixPiece 0 1 hv h1 g1 (cut_ok _ _) (inb_ok _ _)) <|
  pieces_cons (mixPiece 3 0 hv h0 g0 (cut_ok _ _) (inb_ok _ _)) <| pieces_cons (mixPiece 2 0 hv h0 g0 (cut_ok _ _) (inb_ok _ _)) <| pieces_cons (mixPiece 1 0 hv h0 g0 (cut_ok _ _) (inb_ok _ _)) <| pieces_cons (mixPiece 0 0 hv h0 g0 (cut_ok _ _) (inb_ok _ _)) <|
  trivial

include hd h0 h1 h2 h3 in
/-- The sixteen blocks of the cotangent before the mixing. -/
theorem unmixes : View.PiecesOf (Val := Elt Ideal) (e := .f32) (tile T (dvln P))
    [⟨Rect.unit ![384, 384] S128x128.size inb_S512x512_S128x128_384_384, k0_pay172 (k0_pay138 (k0_pay58 w3) (k0_pay90 d))⟩,
      ⟨Rect.unit ![256, 384] S128x128.size inb_S512x512_S128x128_256_384, k0_pay170 (k0_pay137 (k0_pay58 w3) (k0_pay89 d))⟩,
      ⟨Rect.unit ![128, 384] S128x128.size inb_S512x512_S128x128_128_384, k0_pay167 (k0_pay136 (k0_pay58 w3) (k0_pay88 d))⟩,
      ⟨Rect.unit ![0, 384] S128x128.size inb_S512x512_S128x128_0_384, k0_pay165 (k0_pay135 (k0_pay58 w3) (k0_pay87 d))⟩,
      ⟨Rect.unit ![384, 256] S128x128.size inb_S512x512_S128x128_384_256, k0_pay163 (k0_pay134 (k0_pay57 w2) (k0_pay86 d))⟩,
      ⟨Rect.unit ![256, 256] S128x128.size inb_S512x512_S128x128_256_256, k0_pay160 (k0_pay133 (k0_pay57 w2) (k0_pay85 d))⟩,
      ⟨Rect.unit ![128, 256] S128x128.size inb_S512x512_S128x128_128_256, k0_pay158 (k0_pay132 (k0_pay57 w2) (k0_pay84 d))⟩,
      ⟨Rect.unit ![0, 256] S128x128.size inb_S512x512_S128x128_0_256, k0_pay156 (k0_pay131 (k0_pay57 w2) (k0_pay83 d))⟩,
      ⟨Rect.unit ![384, 128] S128x128.size inb_S512x512_S128x128_384_128, k0_pay154 (k0_pay130 (k0_pay56 w1) (k0_pay82 d))⟩,
      ⟨Rect.unit ![256, 128] S128x128.size inb_S512x512_S128x128_256_128, k0_pay152 (k0_pay129 (k0_pay56 w1) (k0_pay81 d))⟩,
      ⟨Rect.unit ![128, 128] S128x128.size inb_S512x512_S128x128_128_128, k0_pay150 (k0_pay128 (k0_pay56 w1) (k0_pay80 d))⟩,
      ⟨Rect.unit ![0, 128] S128x128.size inb_S512x512_S128x128_0_128, k0_pay148 (k0_pay127 (k0_pay56 w1) (k0_pay79 d))⟩,
      ⟨Rect.unit ![384, 0] S128x128.size inb_S512x512_S128x128_384_0, k0_pay146 (k0_pay126 (k0_pay55 w0) (k0_pay78 d))⟩,
      ⟨Rect.unit ![256, 0] S128x128.size inb_S512x512_S128x128_256_0, k0_pay144 (k0_pay125 (k0_pay55 w0) (k0_pay77 d))⟩,
      ⟨Rect.unit ![128, 0] S128x128.size inb_S512x512_S128x128_128_0, k0_pay142 (k0_pay124 (k0_pay55 w0) (k0_pay76 d))⟩,
      ⟨Rect.unit ![0, 0] S128x128.size inb_S512x512_S128x128_0_0, k0_pay140 (k0_pay123 (k0_pay55 w0) (k0_pay75 d))⟩] :=
  pieces_cons (unmixPiece 3 3 hd h3 (cut_ok _ _) (inb_ok _ _)) <| pieces_cons (unmixPiece 2 3 hd h3 (cut_ok _ _) (inb_ok _ _)) <| pieces_cons (unmixPiece 1 3 hd h3 (cut_ok _ _) (inb_ok _ _)) <| pieces_cons (unmixPiece 0 3 hd h3 (cut_ok _ _) (inb_ok _ _)) <|
  pieces_cons (unmixPiece 3 2 hd h2 (cut_ok _ _) (inb_ok _ _)) <| pieces_cons (unmixPiece 2 2 hd h2 (cut_ok _ _) (inb_ok _ _)) <| pieces_cons (unmixPiece 1 2 hd h2 (cut_ok _ _) (inb_ok _ _)) <| pieces_cons (unmixPiece 0 2 hd h2 (cut_ok _ _) (inb_ok _ _)) <|
  pieces_cons (unmixPiece 3 1 hd h1 (cut_ok _ _) (inb_ok _ _)) <| pieces_cons (unmixPiece 2 1 hd h1 (cut_ok _ _) (inb_ok _ _)) <| pieces_cons (unmixPiece 1 1 hd h1 (cut_ok _ _) (inb_ok _ _)) <| pieces_cons (unmixPiece 0 1 hd h1 (cut_ok _ _) (inb_ok _ _)) <|
  pieces_cons (unmixPiece 3 0 hd h0 (cut_ok _ _) (inb_ok _ _)) <| pieces_cons (unmixPiece 2 0 hd h0 (cut_ok _ _) (inb_ok _ _)) <| pieces_cons (unmixPiece 1 0 hd h0 (cut_ok _ _) (inb_ok _ _)) <| pieces_cons (unmixPiece 0 0 hd h0 (cut_ok _ _) (inb_ok _ _)) <|
  trivial

end

/-- Blocks that fill a buffer, read back whole. -/
theorem scratch {M : Memref sig .tc .vmem S512x512 .f32} {L : List (View.Piece (Elt Ideal) S512x512 .f32)} {f : Fin 8192 → Fin 512 → ℝ}
    (hp : View.PiecesOf (tile T f) L) (hc : View.Piece.tiledL L S128x128.size = true) (inb) (r k : Fin 512) :
    M.view.readCov L (Rect.unit (s := S512x512) ![0, 0] S512x512.size inb).toLoadRect (ix2 r k) = ((f (row T r) k : ℝ) : EReal) := by
  rw [View.readCov_eq_canon']
  have e : (Rect.unit (s := S512x512) ![0, 0] S512x512.size inb).toLoadRect.idx (ix2 r k) = ix2 r k := funext fun a => Fin.ext (by
    match a with
    | ⟨0, _⟩ => show 0 + 1 * r.val = r.val; omega
    | ⟨1, _⟩ => show 0 + 1 * k.val = k.val; omega)
  show View.canon L (_) = _
  rw [e]
  have := View.canon_append_of_piecesOf (tile T f) [] L hp (ix2 r k) (View.cover_of_tiledL L S128x128.size hc _)
  rw [List.append_nil] at this
  exact this

/-- A slab of a buffer of four. -/
theorem slabPiece {a b : ℕ} {w : (⟨3, ![1, a, b]⟩ : Shape).Idx → EReal} {G : (⟨3, ![4, a, b]⟩ : Shape).Idx → EReal} (g : Fin 4) (inb)
    (h : ∀ i j, w (ix3 0 i j) = G (ix3 g i j)) (y : (⟨3, ![1, a, b]⟩ : Shape).Idx) :
    w y = G ((Rect.unit (s := (⟨3, ![4, a, b]⟩ : Shape)) ![g.val, 0, 0] ((⟨3, ![1, a, b]⟩ : Shape)).size inb).emb y) := by
  obtain ⟨i, j, rfl⟩ : ∃ (i : Fin a) (j : Fin b), y = ix3 0 i j := ⟨y 1, y 2, funext fun q => by
    match q with
    | ⟨0, _⟩ => exact Subsingleton.elim (α := Fin 1) _ _
    | ⟨1, _⟩ => rfl
    | ⟨2, _⟩ => rfl⟩
  refine (h i j).trans (congrArg G (funext fun q => Fin.ext ?_))
  match q with
  | ⟨0, _⟩ => show g.val = g.val + 1 * 0; omega
  | ⟨1, _⟩ => show i.val = 0 + 1 * i.val; omega
  | ⟨2, _⟩ => show j.val = 0 + 1 * j.val; omega

/-- Under stores elsewhere a filled buffer still reads the fill. -/
theorem fill_old {s : Shape} {M : Memref sig .tc .vmem s .f32} {off : Fin s.rank → ℕ} (inb : ∀ a, off a + s.size a ≤ s.size a) {Z : s.Idx → EReal}
    (hZ : ∀ y, Z y = 0) (B : Rect s) (ho : ∀ a, off a = 0) (x) :
    M.view.readCov (Val := Elt Ideal) [⟨Rect.unit off s.size inb, Z⟩] B.toLoadRect x = (0 : EReal) := by
  rw [View.readCov_fill (Val := Elt Ideal) (e := .f32) M.view inb Z [] B ho]
  exact hZ _

theorem skip_old {s : Shape} {M : Memref sig .tc .vmem s .f32} {r : Rect s} {w : r.shape.Idx → EReal} {L : List (View.Piece (Elt Ideal) s .f32)}
    {B : LoadRect s} {x} {z : EReal} (h : LoadRect.disj r B = true) (e : M.view.readCov (Val := Elt Ideal) L B x = z) :
    M.view.readCov (Val := Elt Ideal) (⟨r, w⟩ :: L) B x = z :=
  (congrFun (View.readCov_skip M.view r w L B h) x).trans e

/-- The zeros that the sums start from. -/
theorem zero2 (y) : k0_pay2 (F := Ideal) y = 0 := by rw [eq_ix2 y]; pointwise [k0_pay2]
theorem zero3 (y) : k0_pay3 (F := Ideal) y = 0 := by rw [eq_ix2 y]; pointwise [k0_pay3]
theorem zero4 (y) : k0_pay4 (F := Ideal) y = 0 := by rw [eq_ix2 y]; pointwise [k0_pay4]
theorem zero5 (y) : k0_pay5 (F := Ideal) y = 0 := by rw [eq_ix2 y]; pointwise [k0_pay5]
theorem zero6 (y) : k0_pay6 (F := Ideal) y = 0 := by rw [eq_ix3 y]; pointwise [k0_pay6]
theorem zero7 (y) : k0_pay7 (F := Ideal) y = 0 := by rw [eq_ix3 y]; pointwise [k0_pay7]

/-- The four chunks' sums of rows added to what is there. -/
theorem linePiece (g : Fin 4) {a0 a1 a2 a3 : FVec Ideal S128x1 .f32} (old : FVec Ideal S1x128x1 .f32)
    (h0 : ∀ i, a0 (ix2 i 0) = ((∑ c, ds P (tok (ch T 0) i) (col g c) : ℝ) : EReal)) (h1 : ∀ i, a1 (ix2 i 0) = ((∑ c, ds P (tok (ch T 1) i) (col g c) : ℝ) : EReal))
    (h2 : ∀ i, a2 (ix2 i 0) = ((∑ c, ds P (tok (ch T 2) i) (col g c) : ℝ) : EReal)) (h3 : ∀ i, a3 (ix2 i 0) = ((∑ c, ds P (tok (ch T 3) i) (col g c) : ℝ) : EReal))
    (i : Fin 128) :
    shapeCast S1x128x1 (addf (shapeCast S128x1 old shapeCasts_S1x128x1_S128x1)
      (addf (addf (addf (addf (broadcast S128x1 (Scalar.ofBits (F := Ideal) .f32 0x00000000#32)) a0) a1) a2) a3)) shapeCasts_S128x1_S1x128x1 (ix3 0 i 0)
      = old (ix3 0 i 0) + ((line P T g i : ℝ) : EReal) := by
  pointwise
  simp only [h0, h1, h2, h3, ← EReal.coe_add, line, Fin.sum_univ_four]

end Cert.MixBwd

end
-- ==== Proof.Mix.Words.lean ====
/- What the body's run stores at a grid point: each output's pieces, their values read off the loads. -/
module

public import proofs.«01_k».proof.Proof.Mix.Frame
public import proofs.«01_k».proof.Proof.Mix.Tile

@[expose] public section

set_option maxRecDepth 16384

noncomputable section

namespace Cert.MixBwd

open Idealize.ShloMosaic Idealize.ShloMosaic.TcCoe Idealize.ShloMosaic.Tactic Idealize.SL.Sem
open Cert.MixIdeal Cert.MixIdeal.Gen Cert.Reals Cert.Rows

variable {m : (ℓ : Loc nD τ sig) → Buf (Elt Ideal) ℓ} {c : Dev nD} (t : Fin cfg0.N)

/-- The blocks of point `t` hold the numbers of tile `T`. -/
structure Loads (m : (ℓ : Loc nD τ sig) → Buf (Elt Ideal) ℓ) (c : Dev nD) (t : Fin cfg0.N) (P : Par) (T : Fin 16) : Prop where
  k0 : ∀ r j, iblk m c 0 t (ix2 r j) = ((P.dx (row T r) j : ℝ) : EReal)
  k1 : ∀ r e, iblk m c 1 t (ix2 r e) = ((yc P (row T r) e : ℝ) : EReal)
  k2 : ∀ r k, iblk m c 2 t (ix2 r k) = ((P.of (row T r) k : ℝ) : EReal)
  k3 : ∀ r k, iblk m c 3 t (ix2 r k) = ((P.ob (row T r) k : ℝ) : EReal)
  k4 : ∀ r k, X0_4 m c t (ix2 r k) = ((P.pg (row T r) k : ℝ) : EReal)
  k5 : ∀ r k, X0_5 m c t (ix2 r k) = ((P.pu (row T r) k : ℝ) : EReal)
  k6 : ∀ r k, X0_6 m c t (ix2 r k) = ((P.pv (row T r) k : ℝ) : EReal)
  k7 : ∀ k, iblk m c 7 t (ix2 0 k) = ((P.gg k : ℝ) : EReal)
  k8 : ∀ k, iblk m c 8 t (ix2 0 k) = ((P.lg k : ℝ) : EReal)
  k9 : ∀ k, iblk m c 9 t (ix2 0 k) = ((P.lb k : ℝ) : EReal)
  k10 : ∀ g i j, iblk m c 10 t (ix3 g i j) = ((P.ws g i j : ℝ) : EReal)
  k11 : ∀ g i, iblk m c 11 t (ix3 g i 0) = ((P.bs g i : ℝ) : EReal)
  k12 : ∀ e j, iblk m c 12 t (ix2 e j) = ((P.wo e j : ℝ) : EReal)

variable {t}
variable {P : Par} {T : Fin 16} (K : Loads m c t P T)
include K

theorem Loads.l0 {M : Memref sig .tc .vmem S512x1024 .f32} (h : M.IsWhole) (inb) (r : Fin 512) (k : Fin 1024) :
    View.readAt (Elt Ideal) M.view (Rect.unit (s := S512x1024) ![0, 0] S512x1024.size inb).toLoadRect (h.unread (iblk m c 0 t)) (ix2 r k) = ((P.dx (row T r) k : ℝ) : EReal) :=
  (ld_whole h _ inb (by decide) _).trans (K.k0 r k)
theorem Loads.l1 {M : Memref sig .tc .vmem S512x1024 .bf16} (h : M.IsWhole) (inb) (r : Fin 512) (k : Fin 1024) :
    View.readAt (Elt Ideal) M.view (Rect.unit (s := S512x1024) ![0, 0] S512x1024.size inb).toLoadRect (h.unread (iblk m c 1 t)) (ix2 r k) = ((yc P (row T r) k : ℝ) : EReal) :=
  (ld_whole h _ inb (by decide) _).trans (K.k1 r k)
theorem Loads.l2 {M : Memref sig .tc .vmem S512x512 .f32} (h : M.IsWhole) (inb) (r : Fin 512) (k : Fin 512) :
    View.readAt (Elt Ideal) M.view (Rect.unit (s := S512x512) ![0, 0] S512x512.size inb).toLoadRect (h.unread (iblk m c 2 t)) (ix2 r k) = ((P.of (row T r) k : ℝ) : EReal) :=
  (ld_whole h _ inb (by decide) _).trans (K.k2 r k)
theorem Loads.l3 {M : Memref sig .tc .vmem S512x512 .f32} (h : M.IsWhole) (inb) (r : Fin 512) (k : Fin 512) :
    View.readAt (Elt Ideal) M.view (Rect.unit (s := S512x512) ![0, 0] S512x512.size inb).toLoadRect (h.unread (iblk m c 3 t)) (ix2 r k) = ((P.ob (row T r) k : ℝ) : EReal) :=
  (ld_whole h _ inb (by decide) _).trans (K.k3 r k)
theorem Loads.l4 {M : Memref sig .tc .vmem S512x512 .bf16} (h : M.IsWhole) (inb) (r : Fin 512) (k : Fin 512) :
    View.readAt (Elt Ideal) M.view (Rect.unit (s := S512x512) ![0, 0] S512x512.size inb).toLoadRect (h.unread (X0_4 m c t)) (ix2 r k) = ((P.pg (row T r) k : ℝ) : EReal) :=
  (ld_whole h _ inb (by decide) _).trans (K.k4 r k)
theorem Loads.l5 {M : Memref sig .tc .vmem S512x512 .bf16} (h : M.IsWhole) (inb) (r : Fin 512) (k : Fin 512) :
    View.readAt (Elt Ideal) M.view (Rect.unit (s := S512x512) ![0, 0] S512x512.size inb).toLoadRect (h.unread (X0_5 m c t)) (ix2 r k) = ((P.pu (row T r) k : ℝ) : EReal) :=
  (ld_whole h _ inb (by decide) _).trans (K.k5 r k)
theorem Loads.l6 {M : Memref sig .tc .vmem S512x512 .bf16} (h : M.IsWhole) (inb) (r : Fin 512) (k : Fin 512) :
    View.readAt (Elt Ideal) M.view (Rect.unit (s := S512x512) ![0, 0] S512x512.size inb).toLoadRect (h.unread (X0_6 m c t)) (ix2 r k) = ((P.pv (row T r) k : ℝ) : EReal) :=
  (ld_whole h _ inb (by decide) _).trans (K.k6 r k)
theorem Loads.l7 {M : Memref sig .tc .vmem S1x512 .f32} (h : M.IsWhole) (inb) (k : Fin 512) :
    View.readAt (Elt Ideal) M.view (Rect.unit (s := S1x512) ![0, 0] S1x512.size inb).toLoadRect (h.unread (iblk m c 7 t)) (ix2 0 k) = ((P.gg k : ℝ) : EReal) :=
  (ld_whole h _ inb (by decide) _).trans (K.k7 k)
theorem Loads.l8 {M : Memref sig .tc .vmem S1x512 .f32} (h : M.IsWhole) (inb) (k : Fin 512) :
    View.readAt (Elt Ideal) M.view (Rect.unit (s := S1x512) ![0, 0] S1x512.size inb).toLoadRect (h.unread (iblk m c 8 t)) (ix2 0 k) = ((P.lg k : ℝ) : EReal) :=
  (ld_whole h _ inb (by decide) _).trans (K.k8 k)
theorem Loads.l9 {M : Memref sig .tc .vmem S1x512 .f32} (h : M.IsWhole) (inb) (k : Fin 512) :
    View.readAt (Elt Ideal) M.view (Rect.unit (s := S1x512) ![0, 0] S1x512.size inb).toLoadRect (h.unread (iblk m c 9 t)) (ix2 0 k) = ((P.lb k : ℝ) : EReal) :=
  (ld_whole h _ inb (by decide) _).trans (K.k9 k)
theorem Loads.l12 {M : Memref sig .tc .vmem S1024x1024 .bf16} (h : M.IsWhole) (inb) (r : Fin 1024) (k : Fin 1024) :
    View.readAt (Elt Ideal) M.view (Rect.unit (s := S1024x1024) ![0, 0] S1024x1024.size inb).toLoadRect (h.unread (iblk m c 12 t)) (ix2 r k) = ((P.wo r k : ℝ) : EReal) :=
  (ld_whole h _ inb (by decide) _).trans (K.k12 r k)
theorem Loads.w (g : Fin 4) {M : Memref sig .tc .vmem S4x128x128 .f32} (h : M.IsWhole) (inb) (i j : Fin 128) :
    View.readAt (Elt Ideal) M.view (Rect.unit (s := S4x128x128) ![g.val, 0, 0] S1x128x128.size inb).toLoadRect (h.unread (iblk m c 10 t)) (ix3 0 i j)
      = ((P.ws g i j : ℝ) : EReal) := (ld_slab h _ g inb i j).trans (K.k10 g i j)
theorem Loads.b (g : Fin 4) {M : Memref sig .tc .vmem S4x128x1 .f32} (h : M.IsWhole) (inb) (i : Fin 128) :
    View.readAt (Elt Ideal) M.view (Rect.unit (s := S4x128x1) ![g.val, 0, 0] S1x128x1.size inb).toLoadRect (h.unread (iblk m c 11 t)) (ix3 0 i 0)
      = ((P.bs g i : ℝ) : EReal) := (ld_slab h _ g inb i 0).trans (K.k11 g i)

theorem words13A (h : t.val % 16 = 0) : ∃ v L, (atA m c t h).1 = ⟨Rect.unit ![0, 0] S512x512.size inb_S512x512_S512x512_0_0, v⟩ :: L
    ∧ ∀ r k, v (ix2 r k) = ((dO P (row T r) k : ℝ) : EReal) :=
  ⟨_, _, rfl, fun r k => tO_at (K.l0 _ _) (K.l2 _ _) (K.l3 _ _) (K.l4 _ _) (K.l7 _ _) (K.l12 _ _) r k⟩

theorem words13B (h : ¬t.val % 16 = 0) (x : St Ideal) : ∃ v L, (atB m c t h x).1 = ⟨Rect.unit ![0, 0] S512x512.size inb_S512x512_S512x512_0_0, v⟩ :: L
    ∧ ∀ r k, v (ix2 r k) = ((dO P (row T r) k : ℝ) : EReal) :=
  ⟨_, _, rfl, fun r k => tO_at (K.l0 _ _) (K.l2 _ _) (K.l3 _ _) (K.l4 _ _) (K.l7 _ _) (K.l12 _ _) r k⟩

theorem words14A (h : t.val % 16 = 0) : ∃ v L, (atA m c t h).2.1 = ⟨Rect.unit ![0, 0] S512x512.size inb_S512x512_S512x512_0_0, v⟩ :: L
    ∧ ∀ r k, v (ix2 r k) = ((dpg P (row T r) k : ℝ) : EReal) :=
  ⟨_, _, rfl, fun r k => tPg_at (K.l0 _ _) (K.l2 _ _) (K.l3 _ _) (K.l4 _ _) (K.l7 _ _) (K.l12 _ _) r k⟩

theorem words14B (h : ¬t.val % 16 = 0) (x : St Ideal) : ∃ v L, (atB m c t h x).2.1 = ⟨Rect.unit ![0, 0] S512x512.size inb_S512x512_S512x512_0_0, v⟩ :: L
    ∧ ∀ r k, v (ix2 r k) = ((dpg P (row T r) k : ℝ) : EReal) :=
  ⟨_, _, rfl, fun r k => tPg_at (K.l0 _ _) (K.l2 _ _) (K.l3 _ _) (K.l4 _ _) (K.l7 _ _) (K.l12 _ _) r k⟩

theorem words15A (h : t.val % 16 = 0) : ∃ v L, (atA m c t h).2.2.1 = ⟨Rect.unit ![0, 0] S512x512.size inb_S512x512_S512x512_0_0, v⟩ :: L
    ∧ ∀ r k, v (ix2 r k) = ((dpu P (row T r) k : ℝ) : EReal) :=
  ⟨_, _, rfl, fun r k => tPu_at (K.l0 _ _) (K.l5 _ _) (K.l12 _ _)
    (scratch (mixes (tV_at (K.l6 _ _) (K.l8 _ _) (K.l9 _ _)) (K.w 0 _ _) (K.w 1 _ _) (K.w 2 _ _) (K.w 3 _ _) (K.b 0 _ _) (K.b 1 _ _) (K.b 2 _ _) (K.b 3 _ _))
      (by sl_kernel_rfl) _) r k⟩

theorem words15B (h : ¬t.val % 16 = 0) (x : St Ideal) : ∃ v L, (atB m c t h x).2.2.1 = ⟨Rect.unit ![0, 0] S512x512.size inb_S512x512_S512x512_0_0, v⟩ :: L
    ∧ ∀ r k, v (ix2 r k) = ((dpu P (row T r) k : ℝ) : EReal) :=
  ⟨_, _, rfl, fun r k => tPu_at (K.l0 _ _) (K.l5 _ _) (K.l12 _ _)
    (scratch (mixes (tV_at (K.l6 _ _) (K.l8 _ _) (K.l9 _ _)) (K.w 0 _ _) (K.w 1 _ _) (K.w 2 _ _) (K.w 3 _ _) (K.b 0 _ _) (K.b 1 _ _) (K.b 2 _ _) (K.b 3 _ _))
      (by sl_kernel_rfl) _) r k⟩

theorem words16A (h : t.val % 16 = 0) : ∃ v L, (atA m c t h).2.2.2.1 = ⟨Rect.unit ![0, 0] ![512, 512] inb_S512x512_S512x512_0_0, v⟩ :: L
    ∧ ∀ r k, v (ix2 r k) = ((dpv P (row T r) k : ℝ) : EReal) :=
  ⟨_, _, rfl, fun r k => tPv_at (K.l6 _ _) (K.l8 _ _)
    (scratch (unmixes (tD_at (K.l0 _ _) (K.l5 _ _) (K.l12 _ _)) (K.w 0 _ _) (K.w 1 _ _) (K.w 2 _ _) (K.w 3 _ _)) (by sl_kernel_rfl) _) r k⟩

theorem words16B (h : ¬t.val % 16 = 0) (x : St Ideal) : ∃ v L, (atB m c t h x).2.2.2.1 = ⟨Rect.unit ![0, 0] ![512, 512] inb_S512x512_S512x512_0_0, v⟩ :: L
    ∧ ∀ r k, v (ix2 r k) = ((dpv P (row T r) k : ℝ) : EReal) :=
  ⟨_, _, rfl, fun r k => tPv_at (K.l6 _ _) (K.l8 _ _)
    (scratch (unmixes (tD_at (K.l0 _ _) (K.l5 _ _) (K.l12 _ _)) (K.w 0 _ _) (K.w 1 _ _) (K.w 2 _ _) (K.w 3 _ _)) (by sl_kernel_rfl) _) r k⟩

theorem words17A (h : t.val % 16 = 0) : ∃ v L, (atA m c t h).2.2.2.2.1 = ⟨Rect.unit ![0, 0] S1024x1024.size inb_S1024x1024_S1024x1024_0_0, v⟩ :: L
    ∧ ∀ e j, v (ix2 e j) = 0 + ((∑ r, yc P (row T r) e * P.dx (row T r) j : ℝ) : EReal) :=
  ⟨_, _, rfl, fun e j => (pay10_at P T (K.l0 _ _) (K.l1 _ _) _ e j).trans (congrArg (· + _)
    (fill_old _ zero2 _ (by decide) _))⟩

theorem words17B (h : ¬t.val % 16 = 0) (x : St Ideal) : ∃ v L, (atB m c t h x).2.2.2.2.1 = ⟨Rect.unit ![0, 0] S1024x1024.size inb_S1024x1024_S1024x1024_0_0, v⟩ :: L
    ∧ ∀ e j, v (ix2 e j) = x.2.2.2.2.1 (ix2 e j) + ((∑ r, yc P (row T r) e * P.dx (row T r) j : ℝ) : EReal) :=
  ⟨_, _, rfl, fun e j => (pay10_at P T (K.l0 _ _) (K.l1 _ _) _ e j).trans (congrArg (· + _)
    (ld_whole _ _ _ (by decide) _))⟩

theorem words18A (h : t.val % 16 = 0) : ∃ v L, (atA m c t h).2.2.2.2.2.1 = ⟨Rect.unit ![0, 0] S1x512.size inb_S1x512_S1x512_0_0, v⟩ :: L
    ∧ ∀ k, v (ix2 0 k) = 0 + ((∑ r, dya P (row T r) k * sil P (row T r) k * on P (row T r) k : ℝ) : EReal) :=
  ⟨_, _, rfl, fun k => (tGg_at (K.l0 _ _) (K.l2 _ _) (K.l3 _ _) (K.l4 _ _) (K.l12 _ _) _ k).trans (congrArg (· + _)
    (fill_old _ zero3 _ (by decide) _))⟩

theorem words18B (h : ¬t.val % 16 = 0) (x : St Ideal) : ∃ v L, (atB m c t h x).2.2.2.2.2.1 = ⟨Rect.unit ![0, 0] S1x512.size inb_S1x512_S1x512_0_0, v⟩ :: L
    ∧ ∀ k, v (ix2 0 k) = x.2.2.2.2.2.1 (ix2 0 k) + ((∑ r, dya P (row T r) k * sil P (row T r) k * on P (row T r) k : ℝ) : EReal) :=
  ⟨_, _, rfl, fun k => (tGg_at (K.l0 _ _) (K.l2 _ _) (K.l3 _ _) (K.l4 _ _) (K.l12 _ _) _ k).trans (congrArg (· + _)
    (ld_whole _ _ _ (by decide) _))⟩

theorem words19A (h : t.val % 16 = 0) : ∃ v L, (atA m c t h).2.2.2.2.2.2.1 = ⟨Rect.unit ![0, 0] S1x512.size inb_S1x512_S1x512_0_0, v⟩ :: L
    ∧ ∀ k, v (ix2 0 k) = 0 + ((∑ r, dvln P (row T r) k * vhat P (row T r) k : ℝ) : EReal) :=
  ⟨_, _, rfl, fun k => (tLg_at (K.l6 _ _)
    (scratch (unmixes (tD_at (K.l0 _ _) (K.l5 _ _) (K.l12 _ _)) (K.w 0 _ _) (K.w 1 _ _) (K.w 2 _ _) (K.w 3 _ _)) (by sl_kernel_rfl) _) _ k).trans (congrArg (· + _)
    (fill_old _ zero4 _ (by decide) _))⟩

theorem words19B (h : ¬t.val % 16 = 0) (x : St Ideal) : ∃ v L, (atB m c t h x).2.2.2.2.2.2.1 = ⟨Rect.unit ![0, 0] S1x512.size inb_S1x512_S1x512_0_0, v⟩ :: L
    ∧ ∀ k, v (ix2 0 k) = x.2.2.2.2.2.2.1 (ix2 0 k) + ((∑ r, dvln P (row T r) k * vhat P (row T r) k : ℝ) : EReal) :=
  ⟨_, _, rfl, fun k => (tLg_at (K.l6 _ _)
    (scratch (unmixes (tD_at (K.l0 _ _) (K.l5 _ _) (K.l12 _ _)) (K.w 0 _ _) (K.w 1 _ _) (K.w 2 _ _) (K.w 3 _ _)) (by sl_kernel_rfl) _) _ k).trans (congrArg (· + _)
    (ld_whole _ _ _ (by decide) _))⟩

theorem words20A (h : t.val % 16 = 0) : ∃ v L, (atA m c t h).2.2.2.2.2.2.2.1 = ⟨Rect.unit ![0, 0] S1x512.size inb_S1x512_S1x512_0_0, v⟩ :: L
    ∧ ∀ k, v (ix2 0 k) = 0 + ((∑ r, dvln P (row T r) k : ℝ) : EReal) :=
  ⟨_, _, rfl, fun k => (pay193_at P T
    (scratch (unmixes (tD_at (K.l0 _ _) (K.l5 _ _) (K.l12 _ _)) (K.w 0 _ _) (K.w 1 _ _) (K.w 2 _ _) (K.w 3 _ _)) (by sl_kernel_rfl) _) _ k).trans (congrArg (· + _)
    (fill_old _ zero5 _ (by decide) _))⟩

theorem words20B (h : ¬t.val % 16 = 0) (x : St Ideal) : ∃ v L, (atB m c t h x).2.2.2.2.2.2.2.1 = ⟨Rect.unit ![0, 0] S1x512.size inb_S1x512_S1x512_0_0, v⟩ :: L
    ∧ ∀ k, v (ix2 0 k) = x.2.2.2.2.2.2.2.1 (ix2 0 k) + ((∑ r, dvln P (row T r) k : ℝ) : EReal) :=
  ⟨_, _, rfl, fun k => (pay193_at P T
    (scratch (unmixes (tD_at (K.l0 _ _) (K.l5 _ _) (K.l12 _ _)) (K.w 0 _ _) (K.w 1 _ _) (K.w 2 _ _) (K.w 3 _ _)) (by sl_kernel_rfl) _) _ k).trans (congrArg (· + _)
    (ld_whole _ _ _ (by decide) _))⟩

end Cert.MixBwd

end
-- ==== Proof.Mix.Slabs.lean ====
/- What the body's run stores at a grid point in the gradients of the mixing weight and bias, slab by slab. -/
module

public import proofs.«01_k».proof.Proof.Mix.Words

@[expose] public section

set_option maxRecDepth 16384

noncomputable section

namespace Cert.MixBwd

open Idealize.ShloMosaic Idealize.ShloMosaic.TcCoe Idealize.ShloMosaic.Tactic Idealize.SL.Sem
open Cert.MixIdeal Cert.MixIdeal.Gen Cert.Reals Cert.Rows

variable {m : (ℓ : Loc nD τ sig) → Buf (Elt Ideal) ℓ} {c : Dev nD} (t : Fin cfg0.N)

variable {t}
variable {P : Par} {T : Fin 16} (K : Loads m c t P T)
include K

omit K in
/-- A slab of the mixing weight's gradient: what stood there and the point's part. -/
theorem outerSlab (g : Fin 4) (inb) {b0 b1 b2 b3 : FVec Ideal S128x128 .f32} {old : FVec Ideal S1x128x128 .f32} (o : S4x128x128.Idx → EReal)
    (h0 : ∀ i j, b0 (ix2 i j) = ((∑ c, ds P (tok (ch T 0) i) (col g c) * vln P (tok (ch T 0) j) (col g c) : ℝ) : EReal))
    (h1 : ∀ i j, b1 (ix2 i j) = ((∑ c, ds P (tok (ch T 1) i) (col g c) * vln P (tok (ch T 1) j) (col g c) : ℝ) : EReal))
    (h2 : ∀ i j, b2 (ix2 i j) = ((∑ c, ds P (tok (ch T 2) i) (col g c) * vln P (tok (ch T 2) j) (col g c) : ℝ) : EReal))
    (h3 : ∀ i j, b3 (ix2 i j) = ((∑ c, ds P (tok (ch T 3) i) (col g c) * vln P (tok (ch T 3) j) (col g c) : ℝ) : EReal))
    (e : ∀ i j, old (ix3 0 i j) = o (ix3 g i j)) (y : S1x128x128.Idx) :
    k0_pay173 (F := Ideal) b0 b1 b2 b3 old y
      = (fun y : S4x128x128.Idx => o y + ((part P T (y 0) (y 1) (y 2) : ℝ) : EReal)) ((Rect.unit (s := S4x128x128) ![g.val, 0, 0] S1x128x128.size inb).emb y) :=
  slabPiece (G := fun y : S4x128x128.Idx => o y + ((part P T (y 0) (y 1) (y 2) : ℝ) : EReal)) g inb
    (fun i j => (outerPiece g old h0 h1 h2 h3 i j).trans (congrArg (· + _) (e i j))) y

set_option maxHeartbeats 2000000 in
/-- The slabs of the mixing weight's gradient, at a point that starts the sums and at one that carries them on. -/
theorem words21A (h : t.val % 16 = 0) : ∃ L L' : List (View.Piece (Elt Ideal) S4x128x128 .f32), (atA m c t h).2.2.2.2.2.2.2.2.1 = L ++ L' ∧ View.Piece.tiledL L ![1, 128, 128] = true
    ∧ View.PiecesOf (Val := Elt Ideal) (e := .f32) (s := S4x128x128) (fun y => (0 : EReal) + ((part P T (y 0) (y 1) (y 2) : ℝ) : EReal)) L :=
  ⟨[_, _, _, _], [_], rfl, by sl_kernel_rfl, ⟨
    outerSlab 3 inb_S4x128x128_S1x128x128_3_0_0 (old := runA.sl.v561 (F := Ideal) c (ms0_0 t) (hs0_0 t) (ms0_5 t) (hs0_5 t) (ms0_6 t) (hs0_6 t) (ms0_8 t) (hs0_8 t) (ms0_9 t) (hs0_9 t) (ms0_12 t) (hs0_12 t) (ms0_21 t) (iblk m c 0 t) (X0_5 m c t) (X0_6 m c t) (iblk m c 8 t) (iblk m c 9 t) (iblk m c 12 t)) (fun _ => 0)
      (outer_at (tD_at (K.l0 _ _) (K.l5 _ _) (K.l12 _ _)) (tV_at (K.l6 _ _) (K.l8 _ _) (K.l9 _ _)) 0 3 (cut_ok _ _) (cut_ok _ _))
      (outer_at (tD_at (K.l0 _ _) (K.l5 _ _) (K.l12 _ _)) (tV_at (K.l6 _ _) (K.l8 _ _) (K.l9 _ _)) 1 3 (cut_ok _ _) (cut_ok _ _))
      (outer_at (tD_at (K.l0 _ _) (K.l5 _ _) (K.l12 _ _)) (tV_at (K.l6 _ _) (K.l8 _ _) (K.l9 _ _)) 2 3 (cut_ok _ _) (cut_ok _ _))
      (outer_at (tD_at (K.l0 _ _) (K.l5 _ _) (K.l12 _ _)) (tV_at (K.l6 _ _) (K.l8 _ _) (K.l9 _ _)) 3 3 (cut_ok _ _) (cut_ok _ _))
      (fun i j => by exact skip_old (by decide) (skip_old (by decide) (skip_old (by decide) (fill_old _ zero6 _ (by decide) _)))),
    outerSlab 2 inb_S4x128x128_S1x128x128_2_0_0 (old := runA.sl.v527 (F := Ideal) c (ms0_0 t) (hs0_0 t) (ms0_5 t) (hs0_5 t) (ms0_6 t) (hs0_6 t) (ms0_8 t) (hs0_8 t) (ms0_9 t) (hs0_9 t) (ms0_12 t) (hs0_12 t) (ms0_21 t) (iblk m c 0 t) (X0_5 m c t) (X0_6 m c t) (iblk m c 8 t) (iblk m c 9 t) (iblk m c 12 t)) (fun _ => 0)
      (outer_at (tD_at (K.l0 _ _) (K.l5 _ _) (K.l12 _ _)) (tV_at (K.l6 _ _) (K.l8 _ _) (K.l9 _ _)) 0 2 (cut_ok _ _) (cut_ok _ _))
      (outer_at (tD_at (K.l0 _ _) (K.l5 _ _) (K.l12 _ _)) (tV_at (K.l6 _ _) (K.l8 _ _) (K.l9 _ _)) 1 2 (cut_ok _ _) (cut_ok _ _))
      (outer_at (tD_at (K.l0 _ _) (K.l5 _ _) (K.l12 _ _)) (tV_at (K.l6 _ _) (K.l8 _ _) (K.l9 _ _)) 2 2 (cut_ok _ _) (cut_ok _ _))
      (outer_at (tD_at (K.l0 _ _) (K.l5 _ _) (K.l12 _ _)) (tV_at (K.l6 _ _) (K.l8 _ _) (K.l9 _ _)) 3 2 (cut_ok _ _) (cut_ok _ _))
      (fun i j => by exact skip_old (by decide) (skip_old (by decide) (fill_old _ zero6 _ (by decide) _))),
    outerSlab 1 inb_S4x128x128_S1x128x128_1_0_0 (old := runA.sl.v493 (F := Ideal) c (ms0_0 t) (hs0_0 t) (ms0_5 t) (hs0_5 t) (ms0_6 t) (hs0_6 t) (ms0_8 t) (hs0_8 t) (ms0_9 t) (hs0_9 t) (ms0_12 t) (hs0_12 t) (ms0_21 t) (iblk m c 0 t) (X0_5 m c t) (X0_6 m c t) (iblk m c 8 t) (iblk m c 9 t) (iblk m c 12 t)) (fun _ => 0)
      (outer_at (tD_at (K.l0 _ _) (K.l5 _ _) (K.l12 _ _)) (tV_at (K.l6 _ _) (K.l8 _ _) (K.l9 _ _)) 0 1 (cut_ok _ _) (cut_ok _ _))
      (outer_at (tD_at (K.l0 _ _) (K.l5 _ _) (K.l12 _ _)) (tV_at (K.l6 _ _) (K.l8 _ _) (K.l9 _ _)) 1 1 (cut_ok _ _) (cut_ok _ _))
      (outer_at (tD_at (K.l0 _ _) (K.l5 _ _) (K.l12 _ _)) (tV_at (K.l6 _ _) (K.l8 _ _) (K.l9 _ _)) 2 1 (cut_ok _ _) (cut_ok _ _))
      (outer_at (tD_at (K.l0 _ _) (K.l5 _ _) (K.l12 _ _)) (tV_at (K.l6 _ _) (K.l8 _ _) (K.l9 _ _)) 3 1 (cut_ok _ _) (cut_ok _ _))
      (fun i j => by exact skip_old (by decide) (fill_old _ zero6 _ (by decide) _)),
    outerSlab 0 inb_S4x128x128_S1x128x128_0_0_0 (old := runA.sl.v459 (F := Ideal) c (ms0_21 t)) (fun _ => 0)
      (outer_at (tD_at (K.l0 _ _) (K.l5 _ _) (K.l12 _ _)) (tV_at (K.l6 _ _) (K.l8 _ _) (K.l9 _ _)) 0 0 (cut_ok _ _) (cut_ok _ _))
      (outer_at (tD_at (K.l0 _ _) (K.l5 _ _) (K.l12 _ _)) (tV_at (K.l6 _ _) (K.l8 _ _) (K.l9 _ _)) 1 0 (cut_ok _ _) (cut_ok _ _))
      (outer_at (tD_at (K.l0 _ _) (K.l5 _ _) (K.l12 _ _)) (tV_at (K.l6 _ _) (K.l8 _ _) (K.l9 _ _)) 2 0 (cut_ok _ _) (cut_ok _ _))
      (outer_at (tD_at (K.l0 _ _) (K.l5 _ _) (K.l12 _ _)) (tV_at (K.l6 _ _) (K.l8 _ _) (K.l9 _ _)) 3 0 (cut_ok _ _) (cut_ok _ _))
      (fun i j => by exact fill_old _ zero6 _ (by decide) _), trivial⟩⟩

set_option maxHeartbeats 2000000 in
theorem words21B (h : ¬t.val % 16 = 0) (x : St Ideal) : ∃ L L' : List (View.Piece (Elt Ideal) S4x128x128 .f32), (atB m c t h x).2.2.2.2.2.2.2.2.1 = L ++ L' ∧ View.Piece.tiledL L ![1, 128, 128] = true
    ∧ View.PiecesOf (Val := Elt Ideal) (e := .f32) (s := S4x128x128) (fun y => x.2.2.2.2.2.2.2.2.1 y + ((part P T (y 0) (y 1) (y 2) : ℝ) : EReal)) L :=
  ⟨[_, _, _, _], [], rfl, by sl_kernel_rfl, ⟨
    outerSlab 3 inb_S4x128x128_S1x128x128_3_0_0 (old := View.readAt (Elt Ideal) (ms0_21 t).view (Rect.unit (s := S4x128x128) ![3, 0, 0] S1x128x128.size inb_S4x128x128_S1x128x128_3_0_0).toLoadRect ((hs0_21 t).unread x.2.2.2.2.2.2.2.2.1)) x.2.2.2.2.2.2.2.2.1
      (outer_at (tD_at (K.l0 _ _) (K.l5 _ _) (K.l12 _ _)) (tV_at (K.l6 _ _) (K.l8 _ _) (K.l9 _ _)) 0 3 (cut_ok _ _) (cut_ok _ _))
      (outer_at (tD_at (K.l0 _ _) (K.l5 _ _) (K.l12 _ _)) (tV_at (K.l6 _ _) (K.l8 _ _) (K.l9 _ _)) 1 3 (cut_ok _ _) (cut_ok _ _))
      (outer_at (tD_at (K.l0 _ _) (K.l5 _ _) (K.l12 _ _)) (tV_at (K.l6 _ _) (K.l8 _ _) (K.l9 _ _)) 2 3 (cut_ok _ _) (cut_ok _ _))
      (outer_at (tD_at (K.l0 _ _) (K.l5 _ _) (K.l12 _ _)) (tV_at (K.l6 _ _) (K.l8 _ _) (K.l9 _ _)) 3 3 (cut_ok _ _) (cut_ok _ _))
      (fun i j => ld_slab (hs0_21 t) x.2.2.2.2.2.2.2.2.1 3 _ i j),
    outerSlab 2 inb_S4x128x128_S1x128x128_2_0_0 (old := View.readAt (Elt Ideal) (ms0_21 t).view (Rect.unit (s := S4x128x128) ![2, 0, 0] S1x128x128.size inb_S4x128x128_S1x128x128_2_0_0).toLoadRect ((hs0_21 t).unread x.2.2.2.2.2.2.2.2.1)) x.2.2.2.2.2.2.2.2.1
      (outer_at (tD_at (K.l0 _ _) (K.l5 _ _) (K.l12 _ _)) (tV_at (K.l6 _ _) (K.l8 _ _) (K.l9 _ _)) 0 2 (cut_ok _ _) (cut_ok _ _))
      (outer_at (tD_at (K.l0 _ _) (K.l5 _ _) (K.l12 _ _)) (tV_at (K.l6 _ _) (K.l8 _ _) (K.l9 _ _)) 1 2 (cut_ok _ _) (cut_ok _ _))
      (outer_at (tD_at (K.l0 _ _) (K.l5 _ _) (K.l12 _ _)) (tV_at (K.l6 _ _) (K.l8 _ _) (K.l9 _ _)) 2 2 (cut_ok _ _) (cut_ok _ _))
      (outer_at (tD_at (K.l0 _ _) (K.l5 _ _) (K.l12 _ _)) (tV_at (K.l6 _ _) (K.l8 _ _) (K.l9 _ _)) 3 2 (cut_ok _ _) (cut_ok _ _))
      (fun i j => ld_slab (hs0_21 t) x.2.2.2.2.2.2.2.2.1 2 _ i j),
    outerSlab 1 inb_S4x128x128_S1x128x128_1_0_0 (old := View.readAt (Elt Ideal) (ms0_21 t).view (Rect.unit (s := S4x128x128) ![1, 0, 0] S1x128x128.size inb_S4x128x128_S1x128x128_1_0_0).toLoadRect ((hs0_21 t).unread x.2.2.2.2.2.2.2.2.1)) x.2.2.2.2.2.2.2.2.1
      (outer_at (tD_at (K.l0 _ _) (K.l5 _ _) (K.l12 _ _)) (tV_at (K.l6 _ _) (K.l8 _ _) (K.l9 _ _)) 0 1 (cut_ok _ _) (cut_ok _ _))
      (outer_at (tD_at (K.l0 _ _) (K.l5 _ _) (K.l12 _ _)) (tV_at (K.l6 _ _) (K.l8 _ _) (K.l9 _ _)) 1 1 (cut_ok _ _) (cut_ok _ _))
      (outer_at (tD_at (K.l0 _ _) (K.l5 _ _) (K.l12 _ _)) (tV_at (K.l6 _ _) (K.l8 _ _) (K.l9 _ _)) 2 1 (cut_ok _ _) (cut_ok _ _))
      (outer_at (tD_at (K.l0 _ _) (K.l5 _ _) (K.l12 _ _)) (tV_at (K.l6 _ _) (K.l8 _ _) (K.l9 _ _)) 3 1 (cut_ok _ _) (cut_ok _ _))
      (fun i j => ld_slab (hs0_21 t) x.2.2.2.2.2.2.2.2.1 1 _ i j),
    outerSlab 0 inb_S4x128x128_S1x128x128_0_0_0 (old := View.readAt (Elt Ideal) (ms0_21 t).view (Rect.unit (s := S4x128x128) ![0, 0, 0] S1x128x128.size inb_S4x128x128_S1x128x128_0_0_0).toLoadRect ((hs0_21 t).unread x.2.2.2.2.2.2.2.2.1)) x.2.2.2.2.2.2.2.2.1
      (outer_at (tD_at (K.l0 _ _) (K.l5 _ _) (K.l12 _ _)) (tV_at (K.l6 _ _) (K.l8 _ _) (K.l9 _ _)) 0 0 (cut_ok _ _) (cut_ok _ _))
      (outer_at (tD_at (K.l0 _ _) (K.l5 _ _) (K.l12 _ _)) (tV_at (K.l6 _ _) (K.l8 _ _) (K.l9 _ _)) 1 0 (cut_ok _ _) (cut_ok _ _))
      (outer_at (tD_at (K.l0 _ _) (K.l5 _ _) (K.l12 _ _)) (tV_at (K.l6 _ _) (K.l8 _ _) (K.l9 _ _)) 2 0 (cut_ok _ _) (cut_ok _ _))
      (outer_at (tD_at (K.l0 _ _) (K.l5 _ _) (K.l12 _ _)) (tV_at (K.l6 _ _) (K.l8 _ _) (K.l9 _ _)) 3 0 (cut_ok _ _) (cut_ok _ _))
      (fun i j => ld_slab (hs0_21 t) x.2.2.2.2.2.2.2.2.1 0 _ i j), trivial⟩⟩

omit K in
/-- A slab of the bias's gradient: what stood there and the point's sums. -/
theorem lineSlab (g : Fin 4) (inb) {a0 a1 a2 a3 : FVec Ideal S128x1 .f32} {old : FVec Ideal S1x128x1 .f32} (o : S4x128x1.Idx → EReal)
    (h0 : ∀ i, a0 (ix2 i 0) = ((∑ c, ds P (tok (ch T 0) i) (col g c) : ℝ) : EReal)) (h1 : ∀ i, a1 (ix2 i 0) = ((∑ c, ds P (tok (ch T 1) i) (col g c) : ℝ) : EReal))
    (h2 : ∀ i, a2 (ix2 i 0) = ((∑ c, ds P (tok (ch T 2) i) (col g c) : ℝ) : EReal)) (h3 : ∀ i, a3 (ix2 i 0) = ((∑ c, ds P (tok (ch T 3) i) (col g c) : ℝ) : EReal))
    (e : ∀ i, old (ix3 0 i 0) = o (ix3 g i 0)) (y : S1x128x1.Idx) :
    shapeCast S1x128x1 (addf (shapeCast S128x1 old shapeCasts_S1x128x1_S128x1)
      (addf (addf (addf (addf (broadcast S128x1 (Scalar.ofBits (F := Ideal) .f32 0x00000000#32)) a0) a1) a2) a3)) shapeCasts_S128x1_S1x128x1 y
      = (fun y : S4x128x1.Idx => o y + ((line P T (y 0) (y 1) : ℝ) : EReal)) ((Rect.unit (s := S4x128x1) ![g.val, 0, 0] S1x128x1.size inb).emb y) :=
  slabPiece (G := fun y : S4x128x1.Idx => o y + ((line P T (y 0) (y 1) : ℝ) : EReal)) g inb (fun i j => by
    obtain rfl : j = 0 := Subsingleton.elim _ _
    exact (linePiece g old h0 h1 h2 h3 i).trans (congrArg (· + _) (e i))) y

set_option maxHeartbeats 2000000 in
theorem words22A (h : t.val % 16 = 0) : ∃ L L' : List (View.Piece (Elt Ideal) S4x128x1 .f32), (atA m c t h).2.2.2.2.2.2.2.2.2.1 = L ++ L' ∧ View.Piece.tiledL L ![1, 128, 1] = true
    ∧ View.PiecesOf (Val := Elt Ideal) (e := .f32) (s := S4x128x1) (fun y => (0 : EReal) + ((line P T (y 0) (y 1) : ℝ) : EReal)) L :=
  ⟨[_, _, _, _], [_], rfl, by sl_kernel_rfl, ⟨
    lineSlab 3 inb_S4x128x1_S1x128x1_3_0_0 (old := runA.sl.v572 c (ms0_0 t) (hs0_0 t) (ms0_5 t) (hs0_5 t) (ms0_12 t) (hs0_12 t) (ms0_22 t) (iblk m c 0 t) (X0_5 m c t) (iblk m c 12 t)) (fun _ => 0) (lineCol (tDf_at (K.l0 _ _) (K.l5 _ _) (K.l12 _ _)) 0 3 (cut_ok _ _)) (lineCol (tDf_at (K.l0 _ _) (K.l5 _ _) (K.l12 _ _)) 1 3 (cut_ok _ _)) (lineCol (tDf_at (K.l0 _ _) (K.l5 _ _) (K.l12 _ _)) 2 3 (cut_ok _ _)) (lineCol (tDf_at (K.l0 _ _) (K.l5 _ _) (K.l12 _ _)) 3 3 (cut_ok _ _)) (fun i => by exact skip_old (by decide) (skip_old (by decide) (skip_old (by decide) (fill_old _ zero7 _ (by decide) _)))),
    lineSlab 2 inb_S4x128x1_S1x128x1_2_0_0 (old := runA.sl.v538 c (ms0_0 t) (hs0_0 t) (ms0_5 t) (hs0_5 t) (ms0_12 t) (hs0_12 t) (ms0_22 t) (iblk m c 0 t) (X0_5 m c t) (iblk m c 12 t)) (fun _ => 0) (lineCol (tDf_at (K.l0 _ _) (K.l5 _ _) (K.l12 _ _)) 0 2 (cut_ok _ _)) (lineCol (tDf_at (K.l0 _ _) (K.l5 _ _) (K.l12 _ _)) 1 2 (cut_ok _ _)) (lineCol (tDf_at (K.l0 _ _) (K.l5 _ _) (K.l12 _ _)) 2 2 (cut_ok _ _)) (lineCol (tDf_at (K.l0 _ _) (K.l5 _ _) (K.l12 _ _)) 3 2 (cut_ok _ _)) (fun i => by exact skip_old (by decide) (skip_old (by decide) (fill_old _ zero7 _ (by decide) _))),
    lineSlab 1 inb_S4x128x1_S1x128x1_1_0_0 (old := runA.sl.v504 c (ms0_0 t) (hs0_0 t) (ms0_5 t) (hs0_5 t) (ms0_12 t) (hs0_12 t) (ms0_22 t) (iblk m c 0 t) (X0_5 m c t) (iblk m c 12 t)) (fun _ => 0) (lineCol (tDf_at (K.l0 _ _) (K.l5 _ _) (K.l12 _ _)) 0 1 (cut_ok _ _)) (lineCol (tDf_at (K.l0 _ _) (K.l5 _ _) (K.l12 _ _)) 1 1 (cut_ok _ _)) (lineCol (tDf_at (K.l0 _ _) (K.l5 _ _) (K.l12 _ _)) 2 1 (cut_ok _ _)) (lineCol (tDf_at (K.l0 _ _) (K.l5 _ _) (K.l12 _ _)) 3 1 (cut_ok _ _)) (fun i => by exact skip_old (by decide) (fill_old _ zero7 _ (by decide) _)),
    lineSlab 0 inb_S4x128x1_S1x128x1_0_0_0 (old := runA.sl.v470 (F := Ideal) c (ms0_22 t)) (fun _ => 0) (lineCol (tDf_at (K.l0 _ _) (K.l5 _ _) (K.l12 _ _)) 0 0 (cut_ok _ _)) (lineCol (tDf_at (K.l0 _ _) (K.l5 _ _) (K.l12 _ _)) 1 0 (cut_ok _ _)) (lineCol (tDf_at (K.l0 _ _) (K.l5 _ _) (K.l12 _ _)) 2 0 (cut_ok _ _)) (lineCol (tDf_at (K.l0 _ _) (K.l5 _ _) (K.l12 _ _)) 3 0 (cut_ok _ _)) (fun i => by exact fill_old _ zero7 _ (by decide) _), trivial⟩⟩

set_option maxHeartbeats 2000000 in
theorem words22B (h : ¬t.val % 16 = 0) (x : St Ideal) : ∃ L L' : List (View.Piece (Elt Ideal) S4x128x1 .f32), (atB m c t h x).2.2.2.2.2.2.2.2.2.1 = L ++ L' ∧ View.Piece.tiledL L ![1, 128, 1] = true
    ∧ View.PiecesOf (Val := Elt Ideal) (e := .f32) (s := S4x128x1) (fun y => x.2.2.2.2.2.2.2.2.2 y + ((line P T (y 0) (y 1) : ℝ) : EReal)) L :=
  ⟨[_, _, _, _], [], rfl, by sl_kernel_rfl, ⟨
    lineSlab 3 inb_S4x128x1_S1x128x1_3_0_0 (old := View.readAt (Elt Ideal) (ms0_22 t).view (Rect.unit (s := S4x128x1) ![3, 0, 0] S1x128x1.size inb_S4x128x1_S1x128x1_3_0_0).toLoadRect ((hs0_22 t).unread x.2.2.2.2.2.2.2.2.2)) x.2.2.2.2.2.2.2.2.2 (lineCol (tDf_at (K.l0 _ _) (K.l5 _ _) (K.l12 _ _)) 0 3 (cut_ok _ _)) (lineCol (tDf_at (K.l0 _ _) (K.l5 _ _) (K.l12 _ _)) 1 3 (cut_ok _ _)) (lineCol (tDf_at (K.l0 _ _) (K.l5 _ _) (K.l12 _ _)) 2 3 (cut_ok _ _)) (lineCol (tDf_at (K.l0 _ _) (K.l5 _ _) (K.l12 _ _)) 3 3 (cut_ok _ _)) (fun i => ld_slab (hs0_22 t) x.2.2.2.2.2.2.2.2.2 3 _ i 0),
    lineSlab 2 inb_S4x128x1_S1x128x1_2_0_0 (old := View.readAt (Elt Ideal) (ms0_22 t).view (Rect.unit (s := S4x128x1) ![2, 0, 0] S1x128x1.size inb_S4x128x1_S1x128x1_2_0_0).toLoadRect ((hs0_22 t).unread x.2.2.2.2.2.2.2.2.2)) x.2.2.2.2.2.2.2.2.2 (lineCol (tDf_at (K.l0 _ _) (K.l5 _ _) (K.l12 _ _)) 0 2 (cut_ok _ _)) (lineCol (tDf_at (K.l0 _ _) (K.l5 _ _) (K.l12 _ _)) 1 2 (cut_ok _ _)) (lineCol (tDf_at (K.l0 _ _) (K.l5 _ _) (K.l12 _ _)) 2 2 (cut_ok _ _)) (lineCol (tDf_at (K.l0 _ _) (K.l5 _ _) (K.l12 _ _)) 3 2 (cut_ok _ _)) (fun i => ld_slab (hs0_22 t) x.2.2.2.2.2.2.2.2.2 2 _ i 0),
    lineSlab 1 inb_S4x128x1_S1x128x1_1_0_0 (old := View.readAt (Elt Ideal) (ms0_22 t).view (Rect.unit (s := S4x128x1) ![1, 0, 0] S1x128x1.size inb_S4x128x1_S1x128x1_1_0_0).toLoadRect ((hs0_22 t).unread x.2.2.2.2.2.2.2.2.2)) x.2.2.2.2.2.2.2.2.2 (lineCol (tDf_at (K.l0 _ _) (K.l5 _ _) (K.l12 _ _)) 0 1 (cut_ok _ _)) (lineCol (tDf_at (K.l0 _ _) (K.l5 _ _) (K.l12 _ _)) 1 1 (cut_ok _ _)) (lineCol (tDf_at (K.l0 _ _) (K.l5 _ _) (K.l12 _ _)) 2 1 (cut_ok _ _)) (lineCol (tDf_at (K.l0 _ _) (K.l5 _ _) (K.l12 _ _)) 3 1 (cut_ok _ _)) (fun i => ld_slab (hs0_22 t) x.2.2.2.2.2.2.2.2.2 1 _ i 0),
    lineSlab 0 inb_S4x128x1_S1x128x1_0_0_0 (old := View.readAt (Elt Ideal) (ms0_22 t).view (Rect.unit (s := S4x128x1) ![0, 0, 0] S1x128x1.size inb_S4x128x1_S1x128x1_0_0_0).toLoadRect ((hs0_22 t).unread x.2.2.2.2.2.2.2.2.2)) x.2.2.2.2.2.2.2.2.2 (lineCol (tDf_at (K.l0 _ _) (K.l5 _ _) (K.l12 _ _)) 0 0 (cut_ok _ _)) (lineCol (tDf_at (K.l0 _ _) (K.l5 _ _) (K.l12 _ _)) 1 0 (cut_ok _ _)) (lineCol (tDf_at (K.l0 _ _) (K.l5 _ _) (K.l12 _ _)) 2 0 (cut_ok _ _)) (lineCol (tDf_at (K.l0 _ _) (K.l5 _ _) (K.l12 _ _)) 3 0 (cut_ok _ _)) (fun i => ld_slab (hs0_22 t) x.2.2.2.2.2.2.2.2.2 0 _ i 0), trivial⟩⟩

end Cert.MixBwd

end
-- ==== Proof.Mix.Blocks.lean ====
/- The input blocks of the call's grid points, read at an index: the rows of the arguments a point works on. -/
module

public import proofs.«01_k».proof.Proof.Gen.MixIdeal.Frame.Runs
public import proofs.«01_k».proof.Proof.Mix.Ref
public import Idealize.ShloMosaic.Lib.Pipeline.ValueKit
public import Idealize.ShloMosaic.Lib.Claim

@[expose] public section

set_option maxRecDepth 16384

noncomputable section

namespace Cert.MixBwd

open Idealize.ShloMosaic Idealize.ShloMosaic.TcCoe Idealize.ShloMosaic.Tactic Idealize.SL.Sem
open Cert.MixIdeal Cert.MixIdeal.Gen Cert.Reals Cert.Rows

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 2]
    ∧ win0_5.index t = ![t.val, 3]
    ∧ win0_6.index t = ![t.val, 4]
    ∧ win0_7.index t = ![0, 0]
    ∧ win0_8.index t = ![0, 0]
    ∧ win0_9.index t = ![0, 0]
    ∧ win0_10.index t = ![0, 0, 0]
    ∧ win0_11.index t = ![0, 0, 0]
    ∧ win0_12.index t = ![0, 0]
    ∧ win0_13.index t = ![t.val, 0]
    ∧ win0_14.index t = ![t.val, 0]
    ∧ win0_15.index t = ![t.val, 0]
    ∧ win0_16.index t = ![t.val, 0]
    ∧ win0_17.index t = ![0, 0]
    ∧ win0_18.index t = ![0, 0]
    ∧ win0_19.index t = ![0, 0]
    ∧ win0_20.index t = ![0, 0]
    ∧ win0_21.index t = ![0, 0, 0]
    ∧ win0_22.index t = ![0, 0, 0] :=
  (by decide +kernel : ∀ t : Fin grid0.N, _)

variable (m : (ℓ : Loc nD τ sig) → Buf (Elt Ideal) ℓ) (c : Dev nD) (t : Fin cfg0.N)

/-- The call's arguments are these numbers. -/
structure Nums (P : Par) : Prop where
  h0 : ∀ t j, m ((c : Thread nD τ).loc main_arg0) (ix2 t j) = (P.dx t j : EReal)
  h1 : ∀ t k, m ((c : Thread nD τ).loc main_arg1) (ix2 t k) = (P.of t k : EReal)
  h2 : ∀ t k, m ((c : Thread nD τ).loc main_arg2) (ix2 t k) = (P.ob t k : EReal)
  h3 : (∀ t (k : Fin 512) h, m ((c : Thread nD τ).loc main_arg3) (ix2 t ⟨1024 + k.val, h⟩) = (P.pg t k : EReal))
    ∧ ∀ t (e : Fin 1024) h, m ((c : Thread nD τ).loc main_arg3) (ix2 t ⟨1568 + e.val, h⟩) = (uv P t e : EReal)
  h4 : ∀ k, m ((c : Thread nD τ).loc main_arg4) (ix2 0 k) = (P.gg k : EReal)
  h5 : ∀ k, m ((c : Thread nD τ).loc main_arg5) (ix2 0 k) = (P.lg k : EReal)
  h6 : ∀ k, m ((c : Thread nD τ).loc main_arg6) (ix2 0 k) = (P.lb k : EReal)
  h7 : ∀ g i j, m ((c : Thread nD τ).loc main_arg7) (ix4 0 g i j) = (P.ws g i j : EReal)
  h8 : ∀ g i, m ((c : Thread nD τ).loc main_arg8) (ix3 0 g i) = (P.bs g i : EReal)
  h9 : ∀ e j, m ((c : Thread nD τ).loc main_arg9) (ix3 0 e j) = (P.wo e j : EReal)

/-! The host's lines before the call. -/

set_option maxHeartbeats 4000000 in
/-- The mixers' joined columns, by the same lines that the reference has them by. -/
theorem host1 : V m c main_v71 = Cert.MixRefIdeal.Read.val_main_v77 (F := Ideal)
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) := by
  simp only [V, hostOps0, hostOps0_1, hostOps0_2, List.flatten_cons, List.flatten_nil, List.append_nil, List.cons_append, List.nil_append]
  entry_read
  rfl

set_option maxHeartbeats 4000000 in
theorem host1' (t : Fin 8192) (e : Fin 1024) : V m c main_v72 (ix2 t e) = V m c main_v71 (ix2 t e) := by
  simp only [V, hostOps0, hostOps0_1, hostOps0_2, List.flatten_cons, List.flatten_nil, List.append_nil, List.cons_append, List.nil_append]
  entry_read
  rfl

set_option maxHeartbeats 4000000 in
/-- The projection with its columns reordered and cut. -/
theorem host3 : V m c main_v3 = concatenate S8192x2688 1
    [⟨S8192x1536, extractStridedSlice S8192x1536 ![0, 0] (m ((c : Thread nD τ).loc main_arg3) : FVec Ideal S8192x2592 .bf16) slices_S8192x2592_S8192x1536_0_0⟩,
      ⟨S8192x1024, extractStridedSlice S8192x1024 ![0, 1568] (m ((c : Thread nD τ).loc main_arg3) : FVec Ideal S8192x2592 .bf16) slices_S8192x2592_S8192x1024_0_1568⟩,
      ⟨S8192x128, extractStridedSlice S8192x128 ![0, 1536] (m ((c : Thread nD τ).loc main_arg3) : FVec Ideal S8192x2592 .bf16) slices_S8192x2592_S8192x128_0_1536⟩]
    concatenates_S8192x1536_S8192x1024_S8192x128_S8192x2688_d1 := by
  have k₀ : V m c main_v3 = StableHlo.after (List.flatten [hostOps0.drop 4, hostOps0_1, hostOps0_2])
      (StableHlo.after (hostOps0.take 4) (fun b => m (c, b))) (Proc.devRef .tc main_v3) := by sl_kernel_rfl
  have k : V m c main_v3 = StableHlo.after (hostOps0.take 4) (fun b => m (c, b)) (Proc.devRef .tc main_v3) :=
    k₀.trans <| StableHlo.after_of_forall_not_mem (b := Proc.devRef .tc main_v3) (List.flatten [hostOps0.drop 4, hostOps0_1, hostOps0_2])
      (StableHlo.after (hostOps0.take 4) (fun b => m (c, b)))
      (List.forall_iff_forall_mem.mp (by
        simp only [hostOps0, hostOps0_1, hostOps0_2, List.drop_succ_cons, List.drop_zero, List.flatten_cons, List.flatten_nil, List.append_nil,
          List.cons_append, List.nil_append, List.Forall, StableHlo.nullary_writes, StableHlo.unary_writes, StableHlo.binary_writes,
          StableHlo.reshape_writes, Finset.mem_singleton]
        repeat' apply And.intro
        all_goals first
          | exact StableHlo.devRef_ne_of_ne (by decide)
          | exact fun h => absurd (Finset.mem_singleton.mp h) (StableHlo.devRef_ne_of_ne (by decide))))
  rw [k]
  simp only [hostOps0, List.take_succ_cons, List.take_zero, StableHlo.after_cons, StableHlo.after_nil]
  rw [StableHlo.nary_result]
  have cc : ∀ (a a' : FVec Ideal S8192x1536 .bf16) (b b' : FVec Ideal S8192x1024 .bf16) (d d' : FVec Ideal S8192x128 .bf16), a = a' → b = b' → d = d' →
      concatenate S8192x2688 1 [⟨S8192x1536, a⟩, ⟨S8192x1024, b⟩, ⟨S8192x128, d⟩] concatenates_S8192x1536_S8192x1024_S8192x128_S8192x2688_d1
        = concatenate S8192x2688 1 [⟨S8192x1536, a'⟩, ⟨S8192x1024, b'⟩, ⟨S8192x128, d'⟩] concatenates_S8192x1536_S8192x1024_S8192x128_S8192x2688_d1 := by
    rintro a _ b _ d _ rfl rfl rfl
    rfl
  refine cc _ _ _ _ _ _ ?_ ?_ ?_
  · exact (StableHlo.unary_result_ne (r := main_v0) _ main_v2 _ _ _ _ (by decide)).trans
      ((StableHlo.unary_result_ne (r := main_v0) _ main_v1 _ _ _ _ (by decide)).trans (StableHlo.unary_result _ _ _ _ _ _))
  · exact (StableHlo.unary_result_ne (r := main_v1) _ main_v2 _ _ _ _ (by decide)).trans ((StableHlo.unary_result _ _ _ _ _ _).trans
      (congrArg (extractStridedSlice S8192x1024 ![0, 1568] · slices_S8192x2592_S8192x1024_0_1568)
        (StableHlo.unary_result_ne (r := main_arg3) _ main_v0 _ _ _ _ (by decide))))
  · exact (StableHlo.unary_result _ _ _ _ _ _).trans (congrArg (extractStridedSlice S8192x128 ![0, 1536] · slices_S8192x2592_S8192x128_0_1536)
      ((StableHlo.unary_result_ne (r := main_arg3) _ main_v1 _ _ _ _ (by decide)).trans
        (StableHlo.unary_result_ne (r := main_arg3) _ main_v0 _ _ _ _ (by decide))))

theorem host4 (t : Fin 8192) (k : Fin 512) (h) : V m c main_v3 (ix2 t ⟨1024 + k.val, h⟩) = m ((c : Thread nD τ).loc main_arg3) (ix2 t ⟨1024 + k.val, by omega⟩) := by
  rw [host3]
  pointwise
  rw [dif_pos (by omega)]

theorem host5 (t : Fin 8192) (k : Fin 512) (h) : V m c main_v3 (ix2 t ⟨1536 + k.val, h⟩) = m ((c : Thread nD τ).loc main_arg3) (ix2 t ⟨1568 + (lo k).val, by have := (lo k).isLt; omega⟩) := by
  rw [host3]
  pointwise [lo]
  rw [dif_pos (by omega)]

theorem host6 (t : Fin 8192) (k : Fin 512) (h) : V m c main_v3 (ix2 t ⟨2048 + k.val, h⟩) = m ((c : Thread nD τ).loc main_arg3) (ix2 t ⟨1568 + (hi k).val, by have := (hi k).isLt; omega⟩) := by
  rw [host3]
  pointwise [hi]
  rw [dif_neg (by omega), dif_pos (by omega)]
  simp only [show 2048 + k.val - 1536 = 512 + k.val by omega]

set_option maxHeartbeats 2000000 in
theorem host10 (g : Fin 4) (i j : Fin 128) : V m c main_v73 (ix3 g i j) = m ((c : Thread nD τ).loc main_arg7) (ix4 0 g i j) := by
  simp only [V, hostOps0, hostOps0_1, hostOps0_2, List.flatten_cons, List.flatten_nil, List.append_nil, List.cons_append, List.nil_append]
  entry_read
  pointwise

set_option maxHeartbeats 2000000 in
theorem host11 (g : Fin 4) (i : Fin 128) : V m c main_v75 (ix3 g i 0) = m ((c : Thread nD τ).loc main_arg8) (ix3 0 g i) := by
  simp only [V, hostOps0, hostOps0_1, hostOps0_2, List.flatten_cons, List.flatten_nil, List.append_nil, List.cons_append, List.nil_append]
  entry_read
  pointwise

set_option maxHeartbeats 2000000 in
theorem host12 (e j : Fin 1024) : V m c main_v77 (ix2 e j) = m ((c : Thread nD τ).loc main_arg9) (ix3 0 e j) := by
  simp only [V, hostOps0, hostOps0_1, hostOps0_2, List.flatten_cons, List.flatten_nil, List.append_nil, List.cons_append, List.nil_append]
  entry_read
  pointwise

theorem raw0 (r : Fin 512) (l : Fin 1024) : iblk m c 0 t (ix2 r l) = m ((c : Thread nD τ).loc main_arg0) (ix2 (row t r) l) := by
  blk_point [iblk, row, idx t]

theorem raw1 (r : Fin 512) (l : Fin 1024) : iblk m c 1 t (ix2 r l) = V m c main_v72 (ix2 (row t r) l) := by
  blk_point [iblk, row, idx t]

theorem raw2 (r l : Fin 512) : iblk m c 2 t (ix2 r l) = m ((c : Thread nD τ).loc main_arg1) (ix2 (row t r) l) := by
  blk_point [iblk, row, idx t]

theorem raw3 (r l : Fin 512) : iblk m c 3 t (ix2 r l) = m ((c : Thread nD τ).loc main_arg2) (ix2 (row t r) l) := by
  blk_point [iblk, row, idx t]

theorem raw4 (r k : Fin 512) : X0_4 m c t (ix2 r k) = V m c main_v3 (ix2 (row t r) ⟨1024 + k.val, by omega⟩) := by
  unfold X0_4 Pipeline.Window.fill
  rw [dif_pos (moved0_4 t _)]
  blk_point [iblk, row, idx t]

theorem raw5 (r k : Fin 512) : X0_5 m c t (ix2 r k) = V m c main_v3 (ix2 (row t r) ⟨1536 + k.val, by omega⟩) := by
  unfold X0_5 Pipeline.Window.fill
  rw [dif_pos (moved0_5 t _)]
  blk_point [iblk, row, idx t]

theorem raw6 (r k : Fin 512) : X0_6 m c t (ix2 r k) = V m c main_v3 (ix2 (row t r) ⟨2048 + k.val, by omega⟩) := by
  unfold X0_6 Pipeline.Window.fill
  rw [dif_pos (moved0_6 t _)]
  blk_point [iblk, row, idx t]

theorem raw7 (l : Fin 512) : iblk m c 7 t (ix2 0 l) = m ((c : Thread nD τ).loc main_arg4) (ix2 0 l) := by
  blk_point [iblk, row, idx t]

theorem raw8 (l : Fin 512) : iblk m c 8 t (ix2 0 l) = m ((c : Thread nD τ).loc main_arg5) (ix2 0 l) := by
  blk_point [iblk, row, idx t]

theorem raw9 (l : Fin 512) : iblk m c 9 t (ix2 0 l) = m ((c : Thread nD τ).loc main_arg6) (ix2 0 l) := by
  blk_point [iblk, row, idx t]

theorem raw10 (g : Fin 4) (i j : Fin 128) : iblk m c 10 t (ix3 g i j) = V m c main_v73 (ix3 g i j) := by
  blk_point [iblk, row, idx t]

theorem raw11 (g : Fin 4) (i : Fin 128) : iblk m c 11 t (ix3 g i 0) = V m c main_v75 (ix3 g i 0) := by
  blk_point [iblk, row, idx t]

theorem raw12 (e j : Fin 1024) : iblk m c 12 t (ix2 e j) = V m c main_v77 (ix2 e j) := by
  blk_point [iblk, row, idx t]

variable {m c} {P : Par} (H : Nums m c P)

include H

theorem b0 (r : Fin 512) (l : Fin 1024) : iblk m c 0 t (ix2 r l) = ((P.dx (row t r) l : ℝ) : EReal) := (raw0 m c t r l).trans (H.h0 _ _)
theorem b1 (r : Fin 512) (l : Fin 1024) : iblk m c 1 t (ix2 r l) = ((yc P (row t r) l : ℝ) : EReal) := (raw1 m c t r l).trans ((host1' m c _ _).trans ((congrFun (host1 m c) _).trans (Ref.v77_at H.h1 H.h2 H.h3 H.h4 H.h5 H.h6 H.h7 H.h8 _ _)))
theorem b2 (r l : Fin 512) : iblk m c 2 t (ix2 r l) = ((P.of (row t r) l : ℝ) : EReal) := (raw2 m c t r l).trans (H.h1 _ _)
theorem b3 (r l : Fin 512) : iblk m c 3 t (ix2 r l) = ((P.ob (row t r) l : ℝ) : EReal) := (raw3 m c t r l).trans (H.h2 _ _)
theorem b4 (r l : Fin 512) : X0_4 m c t (ix2 r l) = ((P.pg (row t r) l : ℝ) : EReal) := (raw4 m c t r l).trans ((host4 m c _ _ _).trans (H.h3.1 _ _ _))
theorem b5 (r l : Fin 512) : X0_5 m c t (ix2 r l) = ((P.pu (row t r) l : ℝ) : EReal) := (raw5 m c t r l).trans ((host5 m c _ _ _).trans ((H.h3.2 _ _ _).trans (congrArg _ (uv_lo P _ _ (by omega)))))
theorem b6 (r l : Fin 512) : X0_6 m c t (ix2 r l) = ((P.pv (row t r) l : ℝ) : EReal) := (raw6 m c t r l).trans ((host6 m c _ _ _).trans ((H.h3.2 _ _ _).trans (congrArg _ (uv_hi P _ _ (by omega)))))
theorem b7 (l : Fin 512) : iblk m c 7 t (ix2 0 l) = ((P.gg l : ℝ) : EReal) := (raw7 m c t l).trans (H.h4 _)
theorem b8 (l : Fin 512) : iblk m c 8 t (ix2 0 l) = ((P.lg l : ℝ) : EReal) := (raw8 m c t l).trans (H.h5 _)
theorem b9 (l : Fin 512) : iblk m c 9 t (ix2 0 l) = ((P.lb l : ℝ) : EReal) := (raw9 m c t l).trans (H.h6 _)
theorem b10 (g : Fin 4) (i j : Fin 128) : iblk m c 10 t (ix3 g i j) = ((P.ws g i j : ℝ) : EReal) := (raw10 m c t g i j).trans ((host10 m c g i j).trans (H.h7 _ _ _))
theorem b11 (g : Fin 4) (i : Fin 128) : iblk m c 11 t (ix3 g i 0) = ((P.bs g i : ℝ) : EReal) := (raw11 m c t g i).trans ((host11 m c g i).trans (H.h8 _ _))
theorem b12 (e j : Fin 1024) : iblk m c 12 t (ix2 e j) = ((P.wo e j : ℝ) : EReal) := (raw12 m c t e j).trans ((host12 m c e j).trans (H.h9 _ _))

end Cert.MixBwd

end
-- ==== Proof.Mix.Outs.lean ====
/- What each output buffer reads after a run, from the run's pieces. -/
module

public import proofs.«01_k».proof.Proof.Mix.Slabs
public import proofs.«01_k».proof.Proof.Mix.Blocks

@[expose] public section

set_option maxRecDepth 16384

noncomputable section

namespace Cert.MixBwd

open Idealize.ShloMosaic Idealize.ShloMosaic.TcCoe Idealize.ShloMosaic.Tactic Idealize.SL Idealize.SL.Sem Idealize.SL.BI
open Cert.MixIdeal Cert.MixIdeal.Gen Cert.Reals Cert.Rows

variable {m : (ℓ : Loc nD τ sig) → Buf (Elt Ideal) ℓ} {c : Dev nD} {P : Par} (H : Nums m c P) (t : Fin cfg0.N)

/-- A buffer whose last store fills it reads that store. -/
theorem full_read {S : Shape} {e : EltTy} {v : View sig .tc .vmem S e} {off : Fin S.rank → ℕ} {inb : ∀ a, off a + S.size a ≤ S.size a}
    {w : S.Idx → Elt Ideal e} {R L : List (View.Piece (Elt Ideal) S e)} (e : R = ⟨Rect.unit off S.size inb, w⟩ :: L) (h : ∀ a, off a = 0) (y : S.Idx) :
    v.read (Elt Ideal) (v.writes (Elt Ideal) v.junk R) y = w y := by
  subst e
  exact (View.read_writes_junk_apply_eq_canon v y _).trans (congrFun (View.canon_cons_unit_lit' inb w L h) y)

/-- A buffer whose last stores are blocks that fill it reads what the blocks are blocks of. -/
theorem tiled_read {S : Shape} {e : EltTy} {v : View sig .tc .vmem S e} {R L L' : List (View.Piece (Elt Ideal) S e)} {size : Fin S.rank → ℕ}
    {G : S.Idx → Elt Ideal e} (e : R = L ++ L') (h : View.Piece.tiledL L size = true) (hp : View.PiecesOf G L) (y : S.Idx) :
    v.read (Elt Ideal) (v.writes (Elt Ideal) v.junk R) y = G y := by
  subst e
  exact (View.read_writes_junk_apply_eq_canon v y _).trans (View.canon_append_of_piecesOf G L' L hp y (View.cover_of_tiledL L size h y))

/-! Each output of a run whose pieces are known. -/

section

variable {t}
variable {w17 : sProp (MT nD τ sig Unit (Elt Ideal) ℕ (UR sig nD τ) ℕ)} {w18 : sProp (MT nD τ sig Unit (Elt Ideal) ℕ (UR sig nD τ) ℕ)}
  {w19 : sProp (MT nD τ sig Unit (Elt Ideal) ℕ (UR sig nD τ) ℕ)} {w20 : sProp (MT nD τ sig Unit (Elt Ideal) ℕ (UR sig nD τ) ℕ)}
  {w21 : sProp (MT nD τ sig Unit (Elt Ideal) ℕ (UR sig nD τ) ℕ)} {w22 : sProp (MT nD τ sig Unit (Elt Ideal) ℕ (UR sig nD τ) ℕ)}
  (R : At m c t w17 w18 w19 w20 w21 w22)

theorem outs13_of {f : Fin 512 → Fin 512 → EReal}
    (h : ∃ v L, R.1 = ⟨Rect.unit ![0, 0] S512x512.size inb_S512x512_S512x512_0_0, v⟩ :: L ∧ ∀ (r : Fin 512) (k : Fin 512), v (ix2 r k) = f r k) : ∀ r k, (outs R).1 (ix2 r k) = f r k := by
  obtain ⟨v, L, e, hv⟩ := h
  exact fun r k => (full_read (v := VO0_13) (off := ![0, 0]) e (by decide) _).trans (hv r k)

theorem outs14_of {f : Fin 512 → Fin 512 → EReal}
    (h : ∃ v L, R.2.1 = ⟨Rect.unit ![0, 0] S512x512.size inb_S512x512_S512x512_0_0, v⟩ :: L ∧ ∀ (r : Fin 512) (k : Fin 512), v (ix2 r k) = f r k) : ∀ r k, (outs R).2.1 (ix2 r k) = f r k := by
  obtain ⟨v, L, e, hv⟩ := h
  exact fun r k => (full_read (v := VO0_14) (off := ![0, 0]) e (by decide) _).trans (hv r k)

theorem outs15_of {f : Fin 512 → Fin 512 → EReal}
    (h : ∃ v L, R.2.2.1 = ⟨Rect.unit ![0, 0] S512x512.size inb_S512x512_S512x512_0_0, v⟩ :: L ∧ ∀ (r : Fin 512) (k : Fin 512), v (ix2 r k) = f r k) : ∀ r k, (outs R).2.2.1 (ix2 r k) = f r k := by
  obtain ⟨v, L, e, hv⟩ := h
  exact fun r k => (full_read (v := VO0_15) (off := ![0, 0]) e (by decide) _).trans (hv r k)

theorem outs16_of {f : Fin 512 → Fin 512 → EReal}
    (h : ∃ v L, R.2.2.2.1 = ⟨Rect.unit ![0, 0] ![512, 512] inb_S512x512_S512x512_0_0, v⟩ :: L ∧ ∀ (r : Fin 512) (k : Fin 512), v (ix2 r k) = f r k) : ∀ r k, (outs R).2.2.2.1 (ix2 r k) = f r k := by
  obtain ⟨v, L, e, hv⟩ := h
  exact fun r k => (full_read (v := VO0_16) (off := ![0, 0]) e (by decide) _).trans (hv r k)

theorem outs17_of {f : Fin 1024 → Fin 1024 → EReal}
    (h : ∃ v L, R.2.2.2.2.1 = ⟨Rect.unit ![0, 0] S1024x1024.size inb_S1024x1024_S1024x1024_0_0, v⟩ :: L ∧ ∀ (r : Fin 1024) (k : Fin 1024), v (ix2 r k) = f r k) : ∀ r k, (outs R).2.2.2.2.1 (ix2 r k) = f r k := by
  obtain ⟨v, L, e, hv⟩ := h
  exact fun r k => (full_read (v := VO0_17) (off := ![0, 0]) e (by decide) _).trans (hv r k)

theorem outs18_of {f : Fin 512 → EReal}
    (h : ∃ v L, R.2.2.2.2.2.1 = ⟨Rect.unit ![0, 0] S1x512.size inb_S1x512_S1x512_0_0, v⟩ :: L ∧ ∀ k : Fin 512, v (ix2 0 k) = f k) : ∀ k, (outs R).2.2.2.2.2.1 (ix2 0 k) = f k := by
  obtain ⟨v, L, e, hv⟩ := h
  exact fun k => (full_read (v := VO0_18) (off := ![0, 0]) e (by decide) _).trans (hv k)

theorem outs19_of {f : Fin 512 → EReal}
    (h : ∃ v L, R.2.2.2.2.2.2.1 = ⟨Rect.unit ![0, 0] S1x512.size inb_S1x512_S1x512_0_0, v⟩ :: L ∧ ∀ k : Fin 512, v (ix2 0 k) = f k) : ∀ k, (outs R).2.2.2.2.2.2.1 (ix2 0 k) = f k := by
  obtain ⟨v, L, e, hv⟩ := h
  exact fun k => (full_read (v := VO0_19) (off := ![0, 0]) e (by decide) _).trans (hv k)

theorem outs20_of {f : Fin 512 → EReal}
    (h : ∃ v L, R.2.2.2.2.2.2.2.1 = ⟨Rect.unit ![0, 0] S1x512.size inb_S1x512_S1x512_0_0, v⟩ :: L ∧ ∀ k : Fin 512, v (ix2 0 k) = f k) : ∀ k, (outs R).2.2.2.2.2.2.2.1 (ix2 0 k) = f k := by
  obtain ⟨v, L, e, hv⟩ := h
  exact fun k => (full_read (v := VO0_20) (off := ![0, 0]) e (by decide) _).trans (hv k)

theorem outs21_of {G : S4x128x128.Idx → EReal} (h : ∃ L L' : List (View.Piece (Elt Ideal) S4x128x128 .f32), R.2.2.2.2.2.2.2.2.1 = L ++ L' ∧ View.Piece.tiledL L ![1, 128, 128] = true
    ∧ View.PiecesOf (Val := Elt Ideal) (e := .f32) (s := S4x128x128) G L) : ∀ y, (outs R).2.2.2.2.2.2.2.2.1 y = G y := by
  obtain ⟨L, L', e, ht, hv⟩ := h
  exact fun y => tiled_read (v := VO0_21) e ht hv y

theorem outs22_of {G : S4x128x1.Idx → EReal} (h : ∃ L L' : List (View.Piece (Elt Ideal) S4x128x1 .f32), R.2.2.2.2.2.2.2.2.2.1 = L ++ L' ∧ View.Piece.tiledL L ![1, 128, 1] = true
    ∧ View.PiecesOf (Val := Elt Ideal) (e := .f32) (s := S4x128x1) G L) : ∀ y, (outs R).2.2.2.2.2.2.2.2.2 y = G y := by
  obtain ⟨L, L', e, ht, hv⟩ := h
  exact fun y => tiled_read (v := VO0_22) e ht hv y

end

/-- The last grid point. -/
abbrev last : Fin cfg0.N := ⟨15, by decide +kernel⟩

include H

theorem loads : Loads m c t P t :=
  ⟨b0 t H, b1 t H, b2 t H, b3 t H, b4 t H, b5 t H, b6 t H, b7 t H, b8 t H, b9 t H, b10 t H, b11 t H, b12 t H⟩

end Cert.MixBwd

end
-- ==== Proof.Mix.Final.lean ====
/- The ten arrays the call leaves, at arguments that are numbers: the rows' real functions, and their sums over all tokens. -/
module

public import proofs.«01_k».proof.Proof.Mix.Outs

@[expose] public section

set_option maxRecDepth 16384

noncomputable section

namespace Cert.MixBwd

open Idealize.ShloMosaic Idealize.ShloMosaic.TcCoe Idealize.ShloMosaic.Tactic Idealize.SL Idealize.SL.Sem Idealize.SL.BI
open Cert.MixIdeal Cert.MixIdeal.Gen Cert.Reals Cert.Rows

variable {m : (ℓ : Loc nD τ sig) → Buf (Elt Ideal) ℓ} {c : Dev nD} {P : Par} (H : Nums m c P) (t : Fin cfg0.N)

include H

/-! What the output buffers hold after a grid point. -/

theorem got13 (r k : Fin 512) : (outsAt m c t.val t.isLt).1 (ix2 r k) = ((dO P (row t r) k : ℝ) : EReal) := by
  by_cases h : t.val % 16 = 0
  · rw [outsAt_A m c t h]
    exact outs13_of _ (words13A (loads H t) h) r k
  · rw [outsAt_B m c t h]
    exact outs13_of _ (words13B (loads H t) h _) r k

theorem got14 (r k : Fin 512) : (outsAt m c t.val t.isLt).2.1 (ix2 r k) = ((dpg P (row t r) k : ℝ) : EReal) := by
  by_cases h : t.val % 16 = 0
  · rw [outsAt_A m c t h]
    exact outs14_of _ (words14A (loads H t) h) r k
  · rw [outsAt_B m c t h]
    exact outs14_of _ (words14B (loads H t) h _) r k

theorem got15 (r k : Fin 512) : (outsAt m c t.val t.isLt).2.2.1 (ix2 r k) = ((dpu P (row t r) k : ℝ) : EReal) := by
  by_cases h : t.val % 16 = 0
  · rw [outsAt_A m c t h]
    exact outs15_of _ (words15A (loads H t) h) r k
  · rw [outsAt_B m c t h]
    exact outs15_of _ (words15B (loads H t) h _) r k

theorem got16 (r k : Fin 512) : (outsAt m c t.val t.isLt).2.2.2.1 (ix2 r k) = ((dpv P (row t r) k : ℝ) : EReal) := by
  by_cases h : t.val % 16 = 0
  · rw [outsAt_A m c t h]
    exact outs16_of _ (words16A (loads H t) h) r k
  · rw [outsAt_B m c t h]
    exact outs16_of _ (words16B (loads H t) h _) r k

theorem got17A (h : t.val % 16 = 0) (e j : Fin 1024) : (outsAt m c t.val t.isLt).2.2.2.2.1 (ix2 e j) = 0 + ((∑ r, yc P (row t r) e * P.dx (row t r) j : ℝ) : EReal) := by
  rw [outsAt_A m c t h]
  exact outs17_of _ (words17A (loads H t) h) e j

theorem got17B (h : ¬t.val % 16 = 0) (e j : Fin 1024) :
    (outsAt m c t.val t.isLt).2.2.2.2.1 (ix2 e j) = (outsAt m c (t.val - 1) (Nat.lt_of_le_of_lt (Nat.sub_le _ _) t.isLt)).2.2.2.2.1 (ix2 e j) + ((∑ r, yc P (row t r) e * P.dx (row t r) j : ℝ) : EReal) := by
  rw [outsAt_B m c t h]
  exact outs17_of _ (words17B (loads H t) h _) e j

theorem got18A (h : t.val % 16 = 0) (k : Fin 512) : (outsAt m c t.val t.isLt).2.2.2.2.2.1 (ix2 0 k) = 0 + ((∑ r, dya P (row t r) k * sil P (row t r) k * on P (row t r) k : ℝ) : EReal) := by
  rw [outsAt_A m c t h]
  exact outs18_of _ (words18A (loads H t) h) k

theorem got18B (h : ¬t.val % 16 = 0) (k : Fin 512) :
    (outsAt m c t.val t.isLt).2.2.2.2.2.1 (ix2 0 k) = (outsAt m c (t.val - 1) (Nat.lt_of_le_of_lt (Nat.sub_le _ _) t.isLt)).2.2.2.2.2.1 (ix2 0 k) + ((∑ r, dya P (row t r) k * sil P (row t r) k * on P (row t r) k : ℝ) : EReal) := by
  rw [outsAt_B m c t h]
  exact outs18_of _ (words18B (loads H t) h _) k

theorem got19A (h : t.val % 16 = 0) (k : Fin 512) : (outsAt m c t.val t.isLt).2.2.2.2.2.2.1 (ix2 0 k) = 0 + ((∑ r, dvln P (row t r) k * vhat P (row t r) k : ℝ) : EReal) := by
  rw [outsAt_A m c t h]
  exact outs19_of _ (words19A (loads H t) h) k

theorem got19B (h : ¬t.val % 16 = 0) (k : Fin 512) :
    (outsAt m c t.val t.isLt).2.2.2.2.2.2.1 (ix2 0 k) = (outsAt m c (t.val - 1) (Nat.lt_of_le_of_lt (Nat.sub_le _ _) t.isLt)).2.2.2.2.2.2.1 (ix2 0 k) + ((∑ r, dvln P (row t r) k * vhat P (row t r) k : ℝ) : EReal) := by
  rw [outsAt_B m c t h]
  exact outs19_of _ (words19B (loads H t) h _) k

theorem got20A (h : t.val % 16 = 0) (k : Fin 512) : (outsAt m c t.val t.isLt).2.2.2.2.2.2.2.1 (ix2 0 k) = 0 + ((∑ r, dvln P (row t r) k : ℝ) : EReal) := by
  rw [outsAt_A m c t h]
  exact outs20_of _ (words20A (loads H t) h) k

theorem got20B (h : ¬t.val % 16 = 0) (k : Fin 512) :
    (outsAt m c t.val t.isLt).2.2.2.2.2.2.2.1 (ix2 0 k) = (outsAt m c (t.val - 1) (Nat.lt_of_le_of_lt (Nat.sub_le _ _) t.isLt)).2.2.2.2.2.2.2.1 (ix2 0 k) + ((∑ r, dvln P (row t r) k : ℝ) : EReal) := by
  rw [outsAt_B m c t h]
  exact outs20_of _ (words20B (loads H t) h _) k

theorem got21A (h : t.val % 16 = 0) (y : S4x128x128.Idx) : (outsAt m c t.val t.isLt).2.2.2.2.2.2.2.2.1 (y) = 0 + ((part P t (y 0) (y 1) (y 2) : ℝ) : EReal) := by
  rw [outsAt_A m c t h]
  exact outs21_of _ (words21A (loads H t) h) y

theorem step21 (h : ¬t.val % 16 = 0) (x : St Ideal) (y : S4x128x128.Idx) :
    (outs (atB m c t h x)).2.2.2.2.2.2.2.2.1 y = x.2.2.2.2.2.2.2.2.1 y + ((part P t (y 0) (y 1) (y 2) : ℝ) : EReal) :=
  outs21_of (atB m c t h x) (words21B (loads H t) h x) y

theorem got21B (h : ¬t.val % 16 = 0) (y : S4x128x128.Idx) :
    (outsAt m c t.val t.isLt).2.2.2.2.2.2.2.2.1 y = (outsAt m c (t.val - 1) (Nat.lt_of_le_of_lt (Nat.sub_le _ _) t.isLt)).2.2.2.2.2.2.2.2.1 y + ((part P t (y 0) (y 1) (y 2) : ℝ) : EReal) :=
  (congrArg (fun s => s.2.2.2.2.2.2.2.2.1 y) (outsAt_B m c t h)).trans (step21 H t h _ y)

theorem got22A (h : t.val % 16 = 0) (y : S4x128x1.Idx) : (outsAt m c t.val t.isLt).2.2.2.2.2.2.2.2.2 (y) = 0 + ((line P t (y 0) (y 1) : ℝ) : EReal) := by
  rw [outsAt_A m c t h]
  exact outs22_of _ (words22A (loads H t) h) y

theorem step22 (h : ¬t.val % 16 = 0) (x : St Ideal) (y : S4x128x1.Idx) :
    (outs (atB m c t h x)).2.2.2.2.2.2.2.2.2 y = x.2.2.2.2.2.2.2.2.2 y + ((line P t (y 0) (y 1) : ℝ) : EReal) :=
  outs22_of (atB m c t h x) (words22B (loads H t) h x) y

theorem got22B (h : ¬t.val % 16 = 0) (y : S4x128x1.Idx) :
    (outsAt m c t.val t.isLt).2.2.2.2.2.2.2.2.2 y = (outsAt m c (t.val - 1) (Nat.lt_of_le_of_lt (Nat.sub_le _ _) t.isLt)).2.2.2.2.2.2.2.2.2 y + ((line P t (y 0) (y 1) : ℝ) : EReal) :=
  (congrArg (fun s => s.2.2.2.2.2.2.2.2.2 y) (outsAt_B m c t h)).trans (step22 H t h _ y)

theorem final13 (z : FVec Ideal S8192x512 .bf16) (hz : ∀ t k, z (ix2 t k) = ((dO P t k : ℝ) : EReal)) :
    (dats m 0 c).arrAt 13 cfg0.N = z := by
  refine (dats m 0 c).arrAt_eq_of_covers 13 _ (by decide +kernel) fun t hf y => ?_
  blk_simp
  rw [after13]
  obtain ⟨r, k, rfl⟩ : ∃ (r : Fin 512) (k : Fin 512), y = ix2 r k := ⟨y 0, y 1, eq_ix2 y⟩
  have e : ((View.whole main_v78_0).slice (win0_13.rect t)).emb (ix2 r k) = ix2 (row t r) k := by blk_ext [row, idx t]
  refine Eq.trans ?_ (congrArg _ e.symm)
  rw [hz]
  exact got13 H t r k

theorem final14 (z : FVec Ideal S8192x512 .bf16) (hz : ∀ t k, z (ix2 t k) = ((dpg P t k : ℝ) : EReal)) :
    (dats m 0 c).arrAt 14 cfg0.N = z := by
  refine (dats m 0 c).arrAt_eq_of_covers 14 _ (by decide +kernel) fun t hf y => ?_
  blk_simp
  rw [after14]
  obtain ⟨r, k, rfl⟩ : ∃ (r : Fin 512) (k : Fin 512), y = ix2 r k := ⟨y 0, y 1, eq_ix2 y⟩
  have e : ((View.whole main_v78_1).slice (win0_14.rect t)).emb (ix2 r k) = ix2 (row t r) k := by blk_ext [row, idx t]
  refine Eq.trans ?_ (congrArg _ e.symm)
  rw [hz]
  exact got14 H t r k

theorem final15 (z : FVec Ideal S8192x512 .bf16) (hz : ∀ t k, z (ix2 t k) = ((dpu P t k : ℝ) : EReal)) :
    (dats m 0 c).arrAt 15 cfg0.N = z := by
  refine (dats m 0 c).arrAt_eq_of_covers 15 _ (by decide +kernel) fun t hf y => ?_
  blk_simp
  rw [after15]
  obtain ⟨r, k, rfl⟩ : ∃ (r : Fin 512) (k : Fin 512), y = ix2 r k := ⟨y 0, y 1, eq_ix2 y⟩
  have e : ((View.whole main_v78_2).slice (win0_15.rect t)).emb (ix2 r k) = ix2 (row t r) k := by blk_ext [row, idx t]
  refine Eq.trans ?_ (congrArg _ e.symm)
  rw [hz]
  exact got15 H t r k

theorem final16 (z : FVec Ideal S8192x512 .bf16) (hz : ∀ t k, z (ix2 t k) = ((dpv P t k : ℝ) : EReal)) :
    (dats m 0 c).arrAt 16 cfg0.N = z := by
  refine (dats m 0 c).arrAt_eq_of_covers 16 _ (by decide +kernel) fun t hf y => ?_
  blk_simp
  rw [after16]
  obtain ⟨r, k, rfl⟩ : ∃ (r : Fin 512) (k : Fin 512), y = ix2 r k := ⟨y 0, y 1, eq_ix2 y⟩
  have e : ((View.whole main_v78_3).slice (win0_16.rect t)).emb (ix2 r k) = ix2 (row t r) k := by blk_ext [row, idx t]
  refine Eq.trans ?_ (congrArg _ e.symm)
  rw [hz]
  exact got16 H t r k

theorem final17 (z : FVec Ideal S1024x1024 .f32) (hz : ∀ e j, z (ix2 e j) = ((dwo P e j : ℝ) : EReal)) :
    (dats m 0 c).arrAt 17 cfg0.N = z := by
  refine (dats m 0 c).arrAt_eq_of_after_last 17 last (by decide +kernel) _ fun i => ?_
  blk_simp
  obtain ⟨e, j, rfl⟩ : ∃ (e : Fin 1024) (j : Fin 1024), i = ix2 e j := ⟨i 0, i 1, eq_ix2 i⟩
  rw [after17, Pipeline.eq_sum_fin_of_reset_step_apply_last (fun n h => (outsAt m c n h).2.2.2.2.1) 16 (fun _ => 0)
    (fun t i => ((∑ r : Fin 512, yc P (row t r) (i 0) * P.dx (row t r) (i 1) : ℝ) : EReal))
    (fun t h i => by
      obtain ⟨e, j, rfl⟩ : ∃ (e : Fin 1024) (j : Fin 1024), i = ix2 e j := ⟨i 0, i 1, eq_ix2 i⟩
      exact got17A H t h e j)
    (fun t h i => by
      obtain ⟨e, j, rfl⟩ : ∃ (e : Fin 1024) (j : Fin 1024), i = ix2 e j := ⟨i 0, i 1, eq_ix2 i⟩
      exact got17B H t h e j)
    (le_of_eq N_0) last rfl (ix2 e j), zero_add]
  refine Eq.trans ?_ (hz e j).symm
  rw [coe_sum, dwo, Fin.sum_univ_tiles 16 512 rfl (fun t => _)]
  rfl

theorem final18 (z : FVec Ideal S1x512 .f32) (hz : ∀ k, z (ix2 0 k) = ((dgg P k : ℝ) : EReal)) :
    (dats m 0 c).arrAt 18 cfg0.N = z := by
  refine (dats m 0 c).arrAt_eq_of_after_last 18 last (by decide +kernel) _ fun i => ?_
  blk_simp
  obtain ⟨k, rfl⟩ : ∃ (k : Fin 512), i = ix2 0 k := ⟨i 1, by rw [eq_ix2 i]; exact (ix2_inj ..).2 ⟨Subsingleton.elim _ _, rfl⟩⟩
  rw [after18, Pipeline.eq_sum_fin_of_reset_step_apply_last (fun n h => (outsAt m c n h).2.2.2.2.2.1) 16 (fun _ => 0)
    (fun t i => ((∑ r : Fin 512, dya P (row t r) (i 1) * sil P (row t r) (i 1) * on P (row t r) (i 1) : ℝ) : EReal))
    (fun t h i => by
      obtain ⟨k, rfl⟩ : ∃ (k : Fin 512), i = ix2 0 k := ⟨i 1, by rw [eq_ix2 i]; exact (ix2_inj ..).2 ⟨Subsingleton.elim _ _, rfl⟩⟩
      exact got18A H t h k)
    (fun t h i => by
      obtain ⟨k, rfl⟩ : ∃ (k : Fin 512), i = ix2 0 k := ⟨i 1, by rw [eq_ix2 i]; exact (ix2_inj ..).2 ⟨Subsingleton.elim _ _, rfl⟩⟩
      exact got18B H t h k)
    (le_of_eq N_0) last rfl (ix2 0 k), zero_add]
  refine Eq.trans ?_ (hz k).symm
  rw [coe_sum, dgg, Fin.sum_univ_tiles 16 512 rfl (fun t => _)]
  rfl

theorem final19 (z : FVec Ideal S1x512 .f32) (hz : ∀ k, z (ix2 0 k) = ((dlg P k : ℝ) : EReal)) :
    (dats m 0 c).arrAt 19 cfg0.N = z := by
  refine (dats m 0 c).arrAt_eq_of_after_last 19 last (by decide +kernel) _ fun i => ?_
  blk_simp
  obtain ⟨k, rfl⟩ : ∃ (k : Fin 512), i = ix2 0 k := ⟨i 1, by rw [eq_ix2 i]; exact (ix2_inj ..).2 ⟨Subsingleton.elim _ _, rfl⟩⟩
  rw [after19, Pipeline.eq_sum_fin_of_reset_step_apply_last (fun n h => (outsAt m c n h).2.2.2.2.2.2.1) 16 (fun _ => 0)
    (fun t i => ((∑ r : Fin 512, dvln P (row t r) (i 1) * vhat P (row t r) (i 1) : ℝ) : EReal))
    (fun t h i => by
      obtain ⟨k, rfl⟩ : ∃ (k : Fin 512), i = ix2 0 k := ⟨i 1, by rw [eq_ix2 i]; exact (ix2_inj ..).2 ⟨Subsingleton.elim _ _, rfl⟩⟩
      exact got19A H t h k)
    (fun t h i => by
      obtain ⟨k, rfl⟩ : ∃ (k : Fin 512), i = ix2 0 k := ⟨i 1, by rw [eq_ix2 i]; exact (ix2_inj ..).2 ⟨Subsingleton.elim _ _, rfl⟩⟩
      exact got19B H t h k)
    (le_of_eq N_0) last rfl (ix2 0 k), zero_add]
  refine Eq.trans ?_ (hz k).symm
  rw [coe_sum, dlg, Fin.sum_univ_tiles 16 512 rfl (fun t => _)]
  rfl

theorem final20 (z : FVec Ideal S1x512 .f32) (hz : ∀ k, z (ix2 0 k) = ((dlb P k : ℝ) : EReal)) :
    (dats m 0 c).arrAt 20 cfg0.N = z := by
  refine (dats m 0 c).arrAt_eq_of_after_last 20 last (by decide +kernel) _ fun i => ?_
  blk_simp
  obtain ⟨k, rfl⟩ : ∃ (k : Fin 512), i = ix2 0 k := ⟨i 1, by rw [eq_ix2 i]; exact (ix2_inj ..).2 ⟨Subsingleton.elim _ _, rfl⟩⟩
  rw [after20, Pipeline.eq_sum_fin_of_reset_step_apply_last (fun n h => (outsAt m c n h).2.2.2.2.2.2.2.1) 16 (fun _ => 0)
    (fun t i => ((∑ r : Fin 512, dvln P (row t r) (i 1) : ℝ) : EReal))
    (fun t h i => by
      obtain ⟨k, rfl⟩ : ∃ (k : Fin 512), i = ix2 0 k := ⟨i 1, by rw [eq_ix2 i]; exact (ix2_inj ..).2 ⟨Subsingleton.elim _ _, rfl⟩⟩
      exact got20A H t h k)
    (fun t h i => by
      obtain ⟨k, rfl⟩ : ∃ (k : Fin 512), i = ix2 0 k := ⟨i 1, by rw [eq_ix2 i]; exact (ix2_inj ..).2 ⟨Subsingleton.elim _ _, rfl⟩⟩
      exact got20B H t h k)
    (le_of_eq N_0) last rfl (ix2 0 k), zero_add]
  refine Eq.trans ?_ (hz k).symm
  rw [coe_sum, dlb, Fin.sum_univ_tiles 16 512 rfl (fun t => _)]
  rfl

theorem final21 (z : FVec Ideal S4x128x128 .f32) (hz : ∀ g a b, z (ix3 g a b) = ((dws P g a b : ℝ) : EReal)) :
    (dats m 0 c).arrAt 21 cfg0.N = z := by
  refine (dats m 0 c).arrAt_eq_of_after_last 21 last (by decide +kernel) _ fun i => ?_
  blk_simp
  obtain ⟨g, a, b, rfl⟩ : ∃ (g : Fin 4) (a b : Fin 128), i = ix3 g a b := ⟨i 0, i 1, i 2, eq_ix3 i⟩
  rw [after21, Pipeline.eq_sum_fin_of_reset_step_apply_last (fun n h => (outsAt m c n h).2.2.2.2.2.2.2.2.1) 16 (fun _ => 0)
    (fun t i => ((part P t (i 0) (i 1) (i 2) : ℝ) : EReal))
    (fun t h i => by
      obtain ⟨g, a, b, rfl⟩ : ∃ (g : Fin 4) (a b : Fin 128), i = ix3 g a b := ⟨i 0, i 1, i 2, eq_ix3 i⟩
      exact got21A H t h _)
    (fun t h i => by
      obtain ⟨g, a, b, rfl⟩ : ∃ (g : Fin 4) (a b : Fin 128), i = ix3 g a b := ⟨i 0, i 1, i 2, eq_ix3 i⟩
      exact got21B H t h _)
    (le_of_eq N_0) last rfl (ix3 g a b), zero_add]
  refine Eq.trans ?_ (hz g a b).symm
  rw [coe_sum, dws, Fin.sum_univ_tiles 16 4 rfl (fun t => _)]
  rfl

theorem final22 (z : FVec Ideal S4x128x1 .f32) (hz : ∀ g a, z (ix3 g a 0) = ((dbs P g a : ℝ) : EReal)) :
    (dats m 0 c).arrAt 22 cfg0.N = z := by
  refine (dats m 0 c).arrAt_eq_of_after_last 22 last (by decide +kernel) _ fun i => ?_
  blk_simp
  obtain ⟨g, a, rfl⟩ : ∃ (g : Fin 4) (a : Fin 128), i = ix3 g a 0 := ⟨i 0, i 1, by
      rw [eq_ix3 i]
      exact congrArg (ix3 _ _) (Subsingleton.elim (α := Fin 1) _ _)⟩
  rw [after22, Pipeline.eq_sum_fin_of_reset_step_apply_last (fun n h => (outsAt m c n h).2.2.2.2.2.2.2.2.2) 16 (fun _ => 0)
    (fun t i => ((line P t (i 0) (i 1) : ℝ) : EReal))
    (fun t h i => by
      obtain ⟨g, a, rfl⟩ : ∃ (g : Fin 4) (a : Fin 128), i = ix3 g a 0 := ⟨i 0, i 1, by
          rw [eq_ix3 i]
          exact congrArg (ix3 _ _) (Subsingleton.elim (α := Fin 1) _ _)⟩
      exact got22A H t h _)
    (fun t h i => by
      obtain ⟨g, a, rfl⟩ : ∃ (g : Fin 4) (a : Fin 128), i = ix3 g a 0 := ⟨i 0, i 1, by
          rw [eq_ix3 i]
          exact congrArg (ix3 _ _) (Subsingleton.elim (α := Fin 1) _ _)⟩
      exact got22B H t h _)
    (le_of_eq N_0) last rfl (ix3 g a 0), zero_add]
  refine Eq.trans ?_ (hz g a).symm
  rw [coe_sum, dbs, Fin.sum_univ_tiles 16 4 rfl (fun t => _)]
  rfl

end Cert.MixBwd

end
-- ==== Proof.Mix.Pre.lean ====
/- The precondition of the claim, read as: the arguments are rows and weights of numbers. -/
module

public import proofs.«01_k».proof.Defs
public import proofs.«01_k».proof.Proof.Finite
public import proofs.«01_k».proof.Proof.Mix.Blocks

@[expose] public section

set_option maxRecDepth 16384

noncomputable section

namespace Cert.MixBwd

open Idealize.ShloMosaic Idealize.ShloMosaic.TcCoe
open Cert.MixIdeal Cert.Reals Cert.Rows

theorem nums_of_pre [Cert.Pre_finite_mix.Facts] (m : (ℓ : Loc nD τ sig) → Buf (Elt Ideal) ℓ) (h : Cert.Pre_MixIdeal_finite_mix m) (c : Dev nD) :
    ∃ P, Nums m c P := by
  have e := congrFun (h c) (Shape.Idx.first (s := Cert.Pre_finite_mix.S_) (by decide))
  simp only [Cert.Pre_finite_mix.fn, Cert.Pre_finite_mix.fn_part1, Cert.Pre_finite_mix.fn_part2, andi] at e
  obtain ⟨e, e9⟩ := and_one _ _ e
  obtain ⟨e, e8⟩ := and_one _ _ e
  obtain ⟨e, e7⟩ := and_one _ _ e
  obtain ⟨e, e6⟩ := and_one _ _ e
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  have one : ∀ a b : Cert.Pre_finite_mix.S_.Idx, a = b := fun a b => funext fun k => k.elim0
  choose f0 g0 using fun i => coe_of_cmp _ (reduce_and _ _ _ _ _ one e0 i)
  choose f1 g1 using fun i => coe_of_cmp _ (reduce_and _ _ _ _ _ one e1 i)
  choose f2 g2 using fun i => coe_of_cmp _ (reduce_and _ _ _ _ _ one e2 i)
  choose f3 g3 using fun i => coe_of_cmp _ (reduce_and _ _ _ _ _ one e3 i)
  choose f4 g4 using fun i => coe_of_cmp _ (reduce_and _ _ _ _ _ one e4 i)
  choose f5 g5 using fun i => coe_of_cmp _ (reduce_and _ _ _ _ _ one e5 i)
  choose f6 g6 using fun i => coe_of_cmp _ (reduce_and _ _ _ _ _ one e6 i)
  choose f7 g7 using fun i => coe_of_cmp _ (reduce_and _ _ _ _ _ one e7 i)
  choose f8 g8 using fun i => coe_of_cmp _ (reduce_and _ _ _ _ _ one e8 i)
  choose f9 g9 using fun i => coe_of_cmp _ (reduce_and _ _ _ _ _ one e9 i)
  refine ⟨⟨fun t j => f0 (ix2 t j), fun t k => f1 (ix2 t k), fun t k => f2 (ix2 t k), fun t k => f3 (ix2 t ⟨1024 + k.val, by omega⟩),
      fun t k => f3 (ix2 t ⟨1568 + k.val, by omega⟩), fun t k => f3 (ix2 t ⟨1568 + (512 + k.val), by omega⟩), fun k => f4 (ix2 0 k),
      fun k => f5 (ix2 0 k), fun k => f6 (ix2 0 k), fun g i j => f7 (ix4 0 g i j), fun g i => f8 (ix3 0 g i), fun e j => f9 (ix3 0 e j)⟩,
    fun _ _ => g0 _, fun _ _ => g1 _, fun _ _ => g2 _, ⟨fun _ _ _ => g3 _, fun t e h => (g3 _).trans (congrArg _ ?_)⟩, fun _ => g4 _,
    fun _ => g5 _, fun _ => g6 _, fun _ _ _ => g7 _, fun _ _ => g8 _, fun _ _ => g9 _⟩
  by_cases he : e.val < 512
  · simp only [uv, join, he, dite_true, ↓reduceDIte]
  · simp only [uv, join, he, dite_false, ↓reduceDIte]
    exact congrArg f3 (congrArg (ix2 t) (Fin.ext (by simp only; omega)))

end Cert.MixBwd

end
-- ==== Proof.Mix.RefRun.lean ====
/- The reference's run, its results stated as the read module's values of the arguments. -/
module

public import proofs.«01_k».proof.Proof.Gen.MixRefIdeal.Run
public import proofs.«01_k».proof.Proof.Gen.MixRefIdeal.Read

@[expose] public section

set_option maxRecDepth 16384

noncomputable section

namespace Cert.MixBwd

open Idealize.ShloMosaic Idealize.ShloMosaic.TcCoe Idealize.SL.Sem
open Idealize.ShloMosaic.StableHlo Cert.MixRefIdeal Cert.MixRefIdeal.Read

set_option maxHeartbeats 1000000 in
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v164) = val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9))
      ∧ r.2.mem ((c.tc : Thread nD τ).loc main_v165) = val_main_v165 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9))
      ∧ r.2.mem ((c.tc : Thread nD τ).loc main_v167) = val_main_v167 (F := Ideal) (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v169) = val_main_v169 (F := Ideal) (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v80) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v170) = val_main_v170 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9))
      ∧ r.2.mem ((c.tc : Thread nD τ).loc main_v171) = val_main_v171 (F := Ideal) (m ((c.tc : Thread nD τ).loc main_arg0)) (m ((c.tc : Thread nD τ).loc main_arg3)) (m ((c.tc : Thread nD τ).loc main_arg7)) (m ((c.tc : Thread nD τ).loc main_arg9))
      ∧ r.2.mem ((c.tc : Thread nD τ).loc main_v172) = val_main_v172 (F := Ideal) (m ((c.tc : Thread nD τ).loc main_arg0)) (m ((c.tc : Thread nD τ).loc main_arg3)) (m ((c.tc : Thread nD τ).loc main_arg7)) (m ((c.tc : Thread nD τ).loc main_arg9))
      ∧ r.2.mem ((c.tc : Thread nD τ).loc main_v92) = val_main_v92 (F := Ideal) (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg9))
      ∧ r.2.mem ((c.tc : Thread nD τ).loc main_v173) = val_main_v173 (F := Ideal) (m ((c.tc : Thread nD τ).loc main_arg0)) (m ((c.tc : Thread nD τ).loc main_arg3)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (val_main_v164_eq (launchContents m c)),
    (h c).2.1.trans (val_main_v165_eq (launchContents m c)),
    (h c).2.2.1.trans (val_main_v167_eq (launchContents m c)),
    (h c).2.2.2.1.trans (val_main_v169_eq (launchContents m c)),
    (h c).2.2.2.2.1.trans (val_main_v80_eq (launchContents m c)),
    (h c).2.2.2.2.2.1.trans (val_main_v170_eq (launchContents m c)),
    (h c).2.2.2.2.2.2.1.trans (val_main_v171_eq (launchContents m c)),
    (h c).2.2.2.2.2.2.2.1.trans (val_main_v172_eq (launchContents m c)),
    (h c).2.2.2.2.2.2.2.2.1.trans (val_main_v92_eq (launchContents m c)),
    (h c).2.2.2.2.2.2.2.2.2.1.trans (val_main_v173_eq (launchContents m c)),
    (h c).2.2.2.2.2.2.2.2.2.2⟩)
    (Cert.MixRefIdeal.Value.run (F := Ideal) m ρ)

end Cert.MixBwd

end
-- ==== Proof.MixFwd.Spec.lean ====
/- What the call computes, row by row: functions of the arguments' entries, the infinite ones included. -/
module

public import proofs.«01_k».proof.Proof.Mix.Host

@[expose] public section

noncomputable section

namespace Cert.Joined

open Idealize.ShloMosaic Idealize.SL.Sem
open Cert.Reals Cert.Rows
open Cert.MixBwd (lo hi col hd ln tok chk pos)

/-- The call's arguments. -/
structure Arg where
  x : Fin 8192 → Fin 1024 → EReal
  of : Fin 8192 → Fin 512 → EReal
  ob : Fin 8192 → Fin 512 → EReal
  pg : Fin 8192 → Fin 512 → EReal
  pu : Fin 8192 → Fin 512 → EReal
  pv : Fin 8192 → Fin 512 → EReal
  gg : Fin 512 → EReal
  lg : Fin 512 → EReal
  lb : Fin 512 → EReal
  ws : Fin 4 → Fin 128 → Fin 128 → EReal
  bs : Fin 4 → Fin 128 → EReal
  wo : Fin 1024 → Fin 1024 → EReal

abbrev c128 : EReal := Ideal.ofBits .f32 0x43000000#32
abbrev c512 : EReal := Ideal.ofBits .f32 0x44000000#32
abbrev ceps : EReal := Ideal.ofBits .f32 0x358637BD#32
abbrev chalf : EReal := Ideal.ofBits .f32 0x3F000000#32

def swish (z : EReal) : EReal := z * Ideal.div 1 (1 + Ideal.exp (-z))
def gelu (z : EReal) : EReal := chalf * z * (1 + Ideal.erf (z * (((Real.sqrt 2)⁻¹ : ℝ) : EReal)))

/-- The logistic function by the hyperbolic tangent of half the argument, at the infinities too. -/
theorem swish_tanh (z : EReal) : z * (chalf + chalf * Ideal.tanh (chalf * z)) = swish z := by
  rw [swish, show chalf = ((1 / 2 : ℝ) : EReal) from ofBits_half]
  induction z using EReal.rec with
  | bot =>
    rw [EReal.coe_mul_bot_of_pos (by norm_num), Ideal.tanh_bot, EReal.neg_bot, Ideal.exp_top]
    rw [show ((1 / 2 : ℝ) : EReal) + ((1 / 2 : ℝ) : EReal) * (-1) = 0 from by
      rw [← EReal.coe_one, ← EReal.coe_neg, ← EReal.coe_mul, ← EReal.coe_add]; norm_num]
    rw [show (1 : EReal) + ⊤ = ⊤ from EReal.coe_add_top 1]
    simp [Ideal.div]
  | top =>
    rw [EReal.coe_mul_top_of_pos (by norm_num), Ideal.tanh_top, EReal.neg_top, Ideal.exp_bot, mul_one, add_zero]
    rw [← EReal.coe_add, show (1 / 2 + 1 / 2 : ℝ) = 1 by norm_num, ← EReal.coe_one, div_coe one_ne_zero, div_one]
  | coe z =>
    rw [← EReal.coe_mul, Ideal.tanh_coe, ← EReal.coe_mul, ← EReal.coe_add, half_tanh, ← EReal.coe_neg, Ideal.exp_coe, ← EReal.coe_one, ← EReal.coe_add, sig_coe]

/-- The cumulative normal by the complementary error function. -/
theorem gelu_erfc (z : EReal) : chalf * z * Ideal.erfc (Ideal.div (-z) ((Real.sqrt 2 : ℝ) : EReal)) = gelu z := by
  rw [gelu, Ideal.div_coe (by positivity), EReal.neg_mul, Ideal.erfc_neg, one_div]

variable (A : Arg)

/-! The gated state. -/
def o (t : Fin 8192) (k : Fin 512) : EReal := A.of t k + A.ob t k
def hroot (t : Fin 8192) (h : Fin 4) : EReal := Ideal.rsqrt (Ideal.div (∑ c, o A t (col h c) * o A t (col h c)) c128 + ceps)
def on (t : Fin 8192) (k : Fin 512) : EReal := o A t k * hroot A t (hd k)
def ya (t : Fin 8192) (k : Fin 512) : EReal := on A t k * A.gg k * swish (A.pg t k)

/-! The spatial gate. -/
def zu (t : Fin 8192) (k : Fin 512) : EReal := gelu (A.pu t k)
def zv (t : Fin 8192) (k : Fin 512) : EReal := gelu (A.pv t k)
def xc (t : Fin 8192) (k : Fin 512) : EReal := zv A t k - Ideal.div (∑ l, zv A t l) c512
def rs (t : Fin 8192) : EReal := Ideal.rsqrt (Ideal.div (∑ k, xc A t k * xc A t k) c512 + ceps)
def vln (t : Fin 8192) (k : Fin 512) : EReal := xc A t k * rs A t * A.lg k + A.lb k
def mixs (n : Fin 64) (i : Fin 128) (g : Fin 4) (c : Fin 128) : EReal := (∑ j, A.ws g i j * vln A (tok n j) (col g c)) + A.bs g i
def s (t : Fin 8192) (k : Fin 512) : EReal := mixs A (chk t) (pos t) (hd k) (ln k)
def yb (t : Fin 8192) (k : Fin 512) : EReal := zu A t k * s A t k

/-! The joined columns, and the sum that leaves. -/
def yc (t : Fin 8192) (e : Fin 1024) : EReal := if h : e.val < 512 then ya A t ⟨e.val, h⟩ else yb A t ⟨e.val - 512, by omega⟩
def x1 (t : Fin 8192) (j : Fin 1024) : EReal := A.x t j + ∑ e, yc A t e * A.wo e j

/-- Token `r` of tile `T`, and the tile's chunk `n`. -/
def row (T : Fin 8) (r : Fin 1024) : Fin 8192 := ⟨T.val * 1024 + r.val, by omega⟩
def ch (T : Fin 8) (n : Fin 8) : Fin 64 := ⟨T.val * 8 + n.val, by omega⟩

theorem row_tok (T : Fin 8) (n : Fin 8) (i : Fin 128) (h : n.val * 128 + i.val < 1024) : row T ⟨n.val * 128 + i.val, h⟩ = tok (ch T n) i :=
  Fin.ext (by simp only [row, tok, ch]; omega)

end Cert.Joined

end
-- ==== Proof.MixFwd.Point.lean ====
/- What one grid point of the forward call computes from its tile of 1024 tokens, eight chunks of 128: the rows' functions. -/
module

public import proofs.«01_k».proof.Proof.Gen.MixFwdIdeal.Skeleton
public import proofs.«01_k».proof.Proof.MixFwd.Spec
public import Idealize.ShloMosaic.Lib.Pipeline.ValueKit
public import Idealize.ShloMosaic.Lib.Pipeline.ReadBack
public import Idealize.ShloMosaic.Lib.Claim
public import Idealize.ShloMosaic.Lib.Ring

@[expose] public section

set_option maxRecDepth 16384

noncomputable section

namespace Cert.Joined

open Idealize.ShloMosaic Idealize.ShloMosaic.TcCoe Idealize.SL.Sem
open Cert.MixFwdIdeal Cert.MixFwdIdeal.Gen Cert.Reals Cert.Rows
open Cert.MixBwd (lo hi col hd ln tok chk pos hd_col ln_col col_hd_ln chk_tok pos_tok mk_col)

theorem half_root (b : BitVec 32) : Named.named (F := Ideal) (φ := .f32) κ "half_root" b = (((Real.sqrt 2)⁻¹ : ℝ) : EReal) := rfl

/-- Four blocks of columns side by side: each column is its head's. -/
theorem join_at {A B C D : FVec Ideal S1024x128 .f32} (f : Fin 1024 → Fin 4 → Fin 128 → EReal)
    (hA : ∀ r c, A (ix2 r c) = f r 0 c) (hB : ∀ r c, B (ix2 r c) = f r 1 c)
    (hC : ∀ r c, C (ix2 r c) = f r 2 c) (hD : ∀ r c, D (ix2 r c) = f r 3 c) (r : Fin 1024) (k : Fin 512) :
    concatenate S1024x512 1 [⟨S1024x128, A⟩, ⟨S1024x128, B⟩, ⟨S1024x128, C⟩, ⟨S1024x128, D⟩]
      concatenates_S1024x128_S1024x128_S1024x128_S1024x128_S1024x512_d1 (ix2 r k) = f r (hd k) (ln k) := by
  pointwise []
  have hk := k.isLt
  have e : ∀ (g : Fin 4) (c : Fin 128), k.val = g.val * 128 + c.val → hd k = g ∧ ln k = c := fun g c h =>
    ⟨Fin.ext (by simp only [hd]; omega), Fin.ext (by simp only [ln]; omega)⟩
  simp only [Nat.sub_sub, Nat.reduceAdd]
  by_cases h0 : k.val < 128
  · rw [dif_pos h0]; obtain ⟨a, b⟩ := e 0 ⟨k.val, h0⟩ (by simp); rw [a, b]; exact hA _ _
  by_cases h1 : k.val < 256
  · rw [dif_neg h0, dif_pos (by omega)]; obtain ⟨a, b⟩ := e 1 ⟨k.val - 128, by omega⟩ (by simp; omega); rw [a, b]; exact hB _ _
  by_cases h2 : k.val < 384
  · rw [dif_neg h0, dif_neg (by omega), dif_pos (by omega)]
    obtain ⟨a, b⟩ := e 2 ⟨k.val - 256, by omega⟩ (by simp; omega); rw [a, b]; exact hC _ _
  rw [dif_neg h0, dif_neg (by omega), dif_neg (by omega)]
  obtain ⟨a, b⟩ := e 3 ⟨k.val - 384, by omega⟩ (by simp; omega); rw [a, b]; exact hD _ _

theorem col_zero (c : Fin 128) (h : c.val < 512) : (⟨c.val, h⟩ : Fin 512) = col 0 c := Fin.ext (by simp [col])
theorem col_one (c : Fin 128) (h : 128 + c.val < 512) : (⟨128 + c.val, h⟩ : Fin 512) = col 1 c := Fin.ext (by simp [col])
theorem col_two (c : Fin 128) (h : 256 + c.val < 512) : (⟨256 + c.val, h⟩ : Fin 512) = col 2 c := Fin.ext (by simp [col])
theorem col_three (c : Fin 128) (h : 384 + c.val < 512) : (⟨384 + c.val, h⟩ : Fin 512) = col 3 c := Fin.ext (by simp [col])

variable {A : Arg} {T : Fin 8}
  {v0 v1 v84 : FVec Ideal S1024x512 .f32} {v48 v63 v74 : FVec Ideal S1024x512 .bf16} {v51 v101 v104 : FVec Ideal S1x512 .f32}
  (h0 : ∀ r k, v0 (ix2 r k) = A.of (row T r) k) (h1 : ∀ r k, v1 (ix2 r k) = A.ob (row T r) k)
  (h48 : ∀ r k, v48 (ix2 r k) = A.pg (row T r) k) (h63 : ∀ r k, v63 (ix2 r k) = A.pu (row T r) k) (h74 : ∀ r k, v74 (ix2 r k) = A.pv (row T r) k)
  (h51 : ∀ k, v51 (ix2 0 k) = A.gg k) (h101 : ∀ k, v101 (ix2 0 k) = A.lg k) (h104 : ∀ k, v104 (ix2 0 k) = A.lb k)
  (h84 : ∀ r k, v84 (ix2 r k) = zv A (row T r) k)

include h0 h1 in
theorem pay4_at (r : Fin 1024) (k : Fin 512) : k0_pay4 (F := Ideal) v0 v1 (ix2 r k) = o A (row T r) k := by
  pointwise [k0_pay4]
  rw [h0, h1, o]

include h0 h1 in
theorem pay5_at (r : Fin 1024) (c : Fin 128) : k0_pay5 (F := Ideal) v0 v1 (ix2 r c) = on A (row T r) (col 0 c) := by
  pointwise [k0_pay5]
  simp only [pay4_at h0 h1, col_zero, on, hroot, hd_col]

include h0 h1 in
theorem pay6_at (r : Fin 1024) (c : Fin 128) : k0_pay6 (F := Ideal) v0 v1 (ix2 r c) = on A (row T r) (col 1 c) := by
  pointwise [k0_pay6]
  simp only [pay4_at h0 h1, col_one, on, hroot, hd_col]

include h0 h1 in
theorem pay7_at (r : Fin 1024) (c : Fin 128) : k0_pay7 (F := Ideal) v0 v1 (ix2 r c) = on A (row T r) (col 2 c) := by
  pointwise [k0_pay7]
  simp only [pay4_at h0 h1, col_two, on, hroot, hd_col]

include h0 h1 in
theorem pay8_at (r : Fin 1024) (c : Fin 128) : k0_pay8 (F := Ideal) v0 v1 (ix2 r c) = o A (row T r) (col 3 c) := by
  pointwise [k0_pay8]
  simp only [pay4_at h0 h1, col_three]

include h0 h1 in
theorem pay9_at (r : Fin 1024) :
    k0_pay9 (F := Ideal) v0 v1 (ix2 r 0) = Ideal.div (∑ c, o A (row T r) (col 3 c) * o A (row T r) (col 3 c)) c128 := by
  pointwise [k0_pay9]
  simp only [pay8_at h0 h1]

/-- The gated state, from the loads. -/
abbrev tYa (v0 v1 : FVec Ideal S1024x512 .f32) (v48 : FVec Ideal S1024x512 .bf16) (v51 : FVec Ideal S1x512 .f32) : FVec Ideal S1024x512 .f32 :=
  k0_pay11 (F := Ideal) (k0_pay5 v0 v1) (k0_pay6 v0 v1) (k0_pay7 v0 v1) (k0_pay8 v0 v1) (k0_pay9 v0 v1) k0_pay10 v48 v51

include h0 h1 in
theorem on_at (r : Fin 1024) (k : Fin 512) :
    concatenate S1024x512 1 [⟨S1024x128, k0_pay5 (F := Ideal) v0 v1⟩, ⟨S1024x128, k0_pay6 v0 v1⟩, ⟨S1024x128, k0_pay7 v0 v1⟩,
      ⟨S1024x128, mulf (k0_pay8 v0 v1) (broadcastTo S1024x128 (rsqrt (addf (k0_pay9 v0 v1) k0_pay10)) broadcasts_S1024x1_S1024x128)⟩]
      concatenates_S1024x128_S1024x128_S1024x128_S1024x128_S1024x512_d1 (ix2 r k) = on A (row T r) k := by
  refine (join_at (fun r g c => on A (row T r) (col g c)) (pay5_at h0 h1) (pay6_at h0 h1) (pay7_at h0 h1) ?_ r k).trans (by simp only [col_hd_ln])
  intro r c
  pointwise [k0_pay10]
  simp only [pay8_at h0 h1, pay9_at h0 h1, on, hroot, hd_col]

include h0 h1 h48 h51 in
theorem tYa_at (r : Fin 1024) (k : Fin 512) : tYa v0 v1 v48 v51 (ix2 r k) = ya A (row T r) k := by
  have e := on_at h0 h1 r k
  unfold tYa k0_pay11
  generalize concatenate S1024x512 1 [⟨S1024x128, k0_pay5 (F := Ideal) v0 v1⟩, ⟨S1024x128, k0_pay6 v0 v1⟩, ⟨S1024x128, k0_pay7 v0 v1⟩,
      ⟨S1024x128, mulf (k0_pay8 v0 v1) (broadcastTo S1024x128 (rsqrt (addf (k0_pay9 v0 v1) k0_pay10)) broadcasts_S1024x1_S1024x128)⟩]
      concatenates_S1024x128_S1024x128_S1024x128_S1024x128_S1024x512_d1 = q at e ⊢
  pointwise []
  rw [e, h48, h51, ya, ← swish_tanh]

include h63 in
theorem pay12_at (r : Fin 1024) (k : Fin 512) : k0_pay12 (F := Ideal) v63 (ix2 r k) = zu A (row T r) k := by
  pointwise [k0_pay12]
  rw [h63]
  rfl

include h74 in
theorem pay13_at (r : Fin 1024) (k : Fin 512) : k0_pay13 (F := Ideal) v74 (ix2 r k) = zv A (row T r) k := by
  pointwise [k0_pay13]
  rw [h74]
  rfl

include h84 h101 h104 in
theorem pay14_at (r : Fin 1024) (k : Fin 512) : k0_pay14 (F := Ideal) v84 v101 v104 (ix2 r k) = vln A (row T r) k := by
  pointwise [k0_pay14]
  simp only [h84, h101, h104, vln, rs, xc]

/-! The blocks: 128 tokens of one chunk by 128 columns of one group. -/

/-- A tile's values, an index at a time. -/
def tile (T : Fin 8) (f : Fin 8192 → Fin 512 → EReal) (y : S1024x512.Idx) : EReal := f (row T (y 0)) (y 1)

theorem tile_emb (f : Fin 8192 → Fin 512 → EReal) (n : Fin 8) (g : Fin 4) (inb) (i c : Fin 128) :
    tile T f ((Rect.unit (s := S1024x512) ![n.val * 128, g.val * 128] S128x128.size inb).emb (ix2 i c)) = f (tok (ch T n) i) (col g c) := by
  unfold tile
  rw [← row_tok T n i (by omega)]
  refine congrArg₂ f (congrArg (row T) (Fin.ext ?_)) (Fin.ext ?_)
  · show n.val * 128 + 1 * i.val = n.val * 128 + i.val; omega
  · show g.val * 128 + 1 * c.val = g.val * 128 + c.val; omega

theorem s_col (n : Fin 64) (i : Fin 128) (g : Fin 4) (c : Fin 128) : s A (tok n i) (col g c) = mixs A n i g c := by
  simp only [s, chk_tok, pos_tok, hd_col, ln_col]

/-- The blocks lie in the tile. -/
theorem cut_ok : ∀ (n : Fin 8) (g : Fin 4), S1024x512.Slices ![n.val * 128, g.val * 128] S128x128 := by decide
theorem inb_ok : ∀ (n : Fin 8) (g : Fin 4) (a : Fin S1024x512.rank), (![n.val * 128, g.val * 128] : Fin 2 → ℕ) a + S128x128.size a ≤ S1024x512.size a := by decide

/-- What a group's mixing stores for one chunk. -/
def block (v : FVec Ideal S1024x512 .bf16) (w : FVec Ideal S1x128x128 .f32) (b : FVec Ideal S1x128x1 .f32) (n : Fin 8) (g : Fin 4) : FVec Ideal S128x128 .f32 :=
  shapeCast S128x128 (addf (matmul dot_S128x128_S128x128_S128x128_1_0_0_1_n_n none (truncf .bf16 (shapeCast S128x128 w shapeCasts_S1x128x128_S128x128) bitsLt_bf16_f32)
      (extractStridedSlice S128x128 ![n.val * 128, g.val * 128] v (cut_ok n g)) (constant (F := Ideal) S128x128 .f32 0x00000000#32))
    (broadcastTo S128x128 (shapeCast S128x1 b shapeCasts_S1x128x1_S128x1) broadcasts_S128x1_S128x128)) shapeCasts_S128x128_S128x128

theorem cut_ix {f : Fin 8192 → Fin 512 → EReal} {v : FVec Ideal S1024x512 .bf16} (hv : ∀ r k, v (ix2 r k) = f (row T r) k) (n : Fin 8) (g : Fin 4) (i c : Fin 128)
    (h : n.val * 128 + i.val < 1024) (h' : g.val * 128 + c.val < 512) :
    v (ix2 ⟨n.val * 128 + i.val, h⟩ ⟨g.val * 128 + c.val, h'⟩) = f (tok (ch T n) i) (col g c) := by
  rw [← row_tok T n i h]
  exact hv _ _

theorem block_at {v : FVec Ideal S1024x512 .bf16} {w : FVec Ideal S1x128x128 .f32} {b : FVec Ideal S1x128x1 .f32}
    (hv : ∀ r k, v (ix2 r k) = vln A (row T r) k) (n : Fin 8) (g : Fin 4)
    (hw : ∀ i j, w (ix3 0 i j) = A.ws g i j) (hb : ∀ i, b (ix3 0 i 0) = A.bs g i) (i c : Fin 128) :
    block v w b n g (ix2 i c) = mixs A (ch T n) i g c := by
  unfold block
  pointwise
  have hx := fun j => cut_ix hv n g j c (by omega) (by omega)
  simp only [hw, hb]
  exact congrArg (fun x : EReal => x + A.bs g i) (Finset.sum_congr rfl fun j _ => congrArg (fun x : EReal => A.ws g i j * x) (hx j))

/-- The block with its place, and the blocks' order, the last stored first. -/
def piece (v : FVec Ideal S1024x512 .bf16) (w : Fin 4 → FVec Ideal S1x128x128 .f32) (b : Fin 4 → FVec Ideal S1x128x1 .f32) (p : Fin 8 × Fin 4) :
    View.Piece (Elt Ideal) S1024x512 .f32 :=
  ⟨Rect.unit ![p.1.val * 128, p.2.val * 128] S128x128.size (inb_ok p.1 p.2), block v (w p.2) (b p.2) p.1 p.2⟩

def order : List (Fin 8 × Fin 4) :=
  [(7, 3), (6, 3), (5, 3), (4, 3), (3, 3), (2, 3), (1, 3), (0, 3), (7, 2), (6, 2), (5, 2), (4, 2), (3, 2), (2, 2), (1, 2), (0, 2),
    (7, 1), (6, 1), (5, 1), (4, 1), (3, 1), (2, 1), (1, 1), (0, 1), (7, 0), (6, 0), (5, 0), (4, 0), (3, 0), (2, 0), (1, 0), (0, 0)]

theorem pieces {v : FVec Ideal S1024x512 .bf16} {w : Fin 4 → FVec Ideal S1x128x128 .f32} {b : Fin 4 → FVec Ideal S1x128x1 .f32}
    (hv : ∀ r k, v (ix2 r k) = vln A (row T r) k) (hw : ∀ g i j, w g (ix3 0 i j) = A.ws g i j) (hb : ∀ g i, b g (ix3 0 i 0) = A.bs g i)
    (L : List (Fin 8 × Fin 4)) : View.PiecesOf (Val := Elt Ideal) (e := .f32) (tile T (s A)) (L.map (piece v w b)) := by
  induction L with
  | nil => trivial
  | cons p L ih =>
    refine ⟨fun y => ?_, ih⟩
    obtain ⟨i, c, rfl⟩ : ∃ (i c : Fin 128), y = ix2 i c := ⟨y 0, y 1, eq_ix2 y⟩
    exact (block_at hv p.1 p.2 (hw p.2) (hb p.2) i c).trans ((s_col _ _ _ _).symm.trans (tile_emb (s A) p.1 p.2 (inb_ok p.1 p.2) i c).symm)

/-- The blocks' buffer, read back whole. -/
theorem scratch {M : Memref sig .tc .vmem S1024x512 .f32} {L : List (View.Piece (Elt Ideal) S1024x512 .f32)} {f : Fin 8192 → Fin 512 → EReal}
    (hp : View.PiecesOf (tile T f) L) (hc : View.Piece.tiledL L S128x128.size = true) (inb) (r : Fin 1024) (k : Fin 512) :
    M.view.readCov L (Rect.unit (s := S1024x512) ![0, 0] S1024x512.size inb).toLoadRect (ix2 r k) = f (row T r) k := by
  rw [View.readCov_eq_canon']
  have e : (Rect.unit (s := S1024x512) ![0, 0] S1024x512.size inb).toLoadRect.idx (ix2 r k) = ix2 r k := funext fun a => Fin.ext (by
    match a with
    | ⟨0, _⟩ => show 0 + 1 * r.val = r.val; omega
    | ⟨1, _⟩ => show 0 + 1 * k.val = k.val; omega)
  show View.canon L (_) = _
  rw [e]
  have := View.canon_append_of_piecesOf (tile T f) [] L hp (ix2 r k) (View.cover_of_tiledL L S128x128.size hc _)
  rw [List.append_nil] at this
  exact this

section
variable {v62 v73 v352 : FVec Ideal S1024x512 .f32} {v357 : FVec Ideal S1024x1024 .f32} {v358 : FVec Ideal S1024x1024 .bf16}
  (h62 : ∀ r k, v62 (ix2 r k) = ya A (row T r) k) (h73 : ∀ r k, v73 (ix2 r k) = zu A (row T r) k) (h352 : ∀ r k, v352 (ix2 r k) = s A (row T r) k)
  (h357 : ∀ r j, v357 (ix2 r j) = A.x (row T r) j) (h358 : ∀ e j, v358 (ix2 e j) = A.wo e j)

include h62 h73 h352 in
theorem pay2_at (r e : Fin 1024) : k0_pay2 (F := Ideal) v62 v73 v352 (ix2 r e) = yc A (row T r) e := by
  pointwise [k0_pay2]
  simp only [h62, h73, h352, yc, yb]

include h62 h73 h352 h357 h358 in
theorem pay3_at (r j : Fin 1024) : k0_pay3 (F := Ideal) v62 v73 v352 v357 v358 (ix2 r j) = x1 A (row T r) j := by
  pointwise [k0_pay3]
  simp only [pay2_at h62 h73 h352, h357, h358, x1]

end

end Cert.Joined

end
-- ==== Proof.MixFwd.Ref.lean ====
/- The reference's values of the forward call: the rows' functions. -/
module

public import proofs.«01_k».proof.Proof.Gen.MixFwdRefIdeal.Read
public import proofs.«01_k».proof.Proof.MixFwd.Spec
public import Idealize.ShloMosaic.Lib.Pointwise

@[expose] public section

set_option maxRecDepth 16384

noncomputable section

namespace Cert.Joined.Ref

open Idealize.ShloMosaic Idealize.ShloMosaic.TcCoe Idealize.SL.Sem
open Cert.MixFwdRefIdeal Cert.MixFwdRefIdeal.Gen Cert.MixFwdRefIdeal.Read Cert.Reals Cert.Rows
open Cert.MixBwd (lo hi col hd ln tok chk pos mk_col mk_tok mk_hd mk_ln mk_chk mk_pos hd_col col_hd_ln sqrt_two)

/-- The arguments' entries. -/
def ofArrays (x0 : FVec Ideal S8192x1024 .f32) (x1 x2 : FVec Ideal S8192x512 .f32) (x3 : FVec Ideal S8192x2592 .bf16)
    (x4 x5 x6 : FVec Ideal S1x512 .f32) (x7 : FVec Ideal S1x4x128x128 .f32) (x8 : FVec Ideal S1x4x128 .f32) (x9 : FVec Ideal S1x1024x1024 .f32) : Arg where
  x t j := x0 (ix2 t j)
  of t k := x1 (ix2 t k)
  ob t k := x2 (ix2 t k)
  pg t k := x3 (ix2 t ⟨1024 + k.val, by omega⟩)
  pu t k := x3 (ix2 t ⟨1568 + (lo k).val, by have := (lo k).isLt; omega⟩)
  pv t k := x3 (ix2 t ⟨1568 + (hi k).val, by have := (hi k).isLt; omega⟩)
  gg k := x4 (ix2 0 k)
  lg k := x5 (ix2 0 k)
  lb k := x6 (ix2 0 k)
  ws g i j := x7 (ix4 0 g i j)
  bs g i := x8 (ix3 0 g i)
  wo e j := x9 (ix3 0 e j)

variable (x0 : FVec Ideal S8192x1024 .f32) (x1 x2 : FVec Ideal S8192x512 .f32) (x3 : FVec Ideal S8192x2592 .bf16)
  (x4 x5 x6 : FVec Ideal S1x512 .f32) (x7 : FVec Ideal S1x4x128x128 .f32) (x8 : FVec Ideal S1x4x128 .f32)
  (x9 : FVec Ideal S1x1024x1024 .f32)

theorem v2_at (t : Fin 8192) (g : Fin 4) (c : Fin 128) : val_main_v2 (F := Ideal) x1 x2 (ix3 t g c) = o (ofArrays x0 x1 x2 x3 x4 x5 x6 x7 x8 x9) t (col g c) := by
  pointwise [val_main_v2, val_main_v1]
  simp only [mk_col]
  rfl

theorem v17_at (t : Fin 8192) (g : Fin 4) : val_main_v17 (F := Ideal) x1 x2 (ix3 t g 0) = hroot (ofArrays x0 x1 x2 x3 x4 x5 x6 x7 x8 x9) t g := by
  pointwise [val_main_v17, val_main_v16, val_main_v15, val_main_v14, val_main_v13, val_main_v12, val_main_v11, val_main_v10, val_main_cst, val_main_cst_0, val_main_cst_1]
  simp only [v2_at x0 x1 x2 x3 x4 x5 x6 x7 x8 x9, hroot]

theorem v20_at (t : Fin 8192) (k : Fin 512) : val_main_v20 (F := Ideal) x1 x2 (ix2 t k) = on (ofArrays x0 x1 x2 x3 x4 x5 x6 x7 x8 x9) t k := by
  pointwise [val_main_v20, val_main_v19, val_main_v18]
  simp only [mk_hd, mk_ln, v2_at x0 x1 x2 x3 x4 x5 x6 x7 x8 x9, v17_at x0 x1 x2 x3 x4 x5 x6 x7 x8 x9, col_hd_ln, on]

theorem v24_at (t : Fin 8192) (k : Fin 512) : val_main_v24 (F := Ideal) x3 (ix2 t k) = swish (((ofArrays x0 x1 x2 x3 x4 x5 x6 x7 x8 x9)).pg t k) := by
  pointwise [val_main_v24, val_main_call0_v5, val_main_call0_v4, val_main_call0_v3, val_main_call0_v2, val_main_call0_v1, val_main_call0_v0, val_main_call0_cst, val_main_call0_cst_0, val_main_v3, val_main_v0]
  rfl

theorem v25_at (t : Fin 8192) (k : Fin 512) : val_main_v25 (F := Ideal) x1 x2 x3 x4 (ix2 t k) = ya (ofArrays x0 x1 x2 x3 x4 x5 x6 x7 x8 x9) t k := by
  pointwise [val_main_v25, val_main_v23, val_main_v22, val_main_v21, val_main_v5]
  simp only [v20_at x0 x1 x2 x3 x4 x5 x6 x7 x8 x9, v24_at x0 x1 x2 x3 x4 x5 x6 x7 x8 x9, ya]
  rfl

theorem v33_at (t : Fin 8192) (e : Fin 1024) : val_main_v33 (F := Ideal) x3 (ix2 t e) = gelu (x3 (ix2 t ⟨1568 + e.val, by omega⟩)) := by
  pointwise [val_main_v33, val_main_v32, val_main_v31, val_main_v30, val_main_v29, val_main_v28, val_main_v27, val_main_v26, val_main_cst_2, val_main_cst_3, val_main_v4, val_main_v0]
  rw [ofBits_two, sqrt_two]
  exact gelu_erfc _

theorem v34_at (t : Fin 8192) (k : Fin 512) : val_main_v34 (F := Ideal) x3 (ix2 t k) = zu (ofArrays x0 x1 x2 x3 x4 x5 x6 x7 x8 x9) t k := by
  pointwise [val_main_v34]
  rw [v33_at]
  rfl

theorem v35_at (t : Fin 8192) (k : Fin 512) : val_main_v35 (F := Ideal) x3 (ix2 t k) = zv (ofArrays x0 x1 x2 x3 x4 x5 x6 x7 x8 x9) t k := by
  pointwise [val_main_v35]
  rw [v33_at]
  rfl

theorem v41_at (t : Fin 8192) (k : Fin 512) : val_main_v41 (F := Ideal) x3 (ix2 t k) = xc (ofArrays x0 x1 x2 x3 x4 x5 x6 x7 x8 x9) t k := by
  pointwise [val_main_v41, val_main_v40, val_main_v39, val_main_v38, val_main_v37, val_main_v36, val_main_cst_4, val_main_cst_5]
  simp only [v35_at x0 x1 x2 x3 x4 x5 x6 x7 x8 x9, xc]

theorem v49_at (t : Fin 8192) : val_main_v49 (F := Ideal) x3 (ix2 t 0) = rs (ofArrays x0 x1 x2 x3 x4 x5 x6 x7 x8 x9) t := by
  pointwise [val_main_v49, val_main_v48, val_main_v47, val_main_v46, val_main_v45, val_main_v44, val_main_v43, val_main_v42, val_main_cst_6, val_main_cst_7, val_main_cst_8]
  simp only [v41_at x0 x1 x2 x3 x4 x5 x6 x7 x8 x9, rs]

theorem v57_at (t : Fin 8192) (k : Fin 512) : val_main_v57 (F := Ideal) x3 x5 x6 (ix2 t k) = vln (ofArrays x0 x1 x2 x3 x4 x5 x6 x7 x8 x9) t k := by
  pointwise [val_main_v57, val_main_v56, val_main_v55, val_main_v54, val_main_v53, val_main_v52, val_main_v51, val_main_v50, val_main_v6, val_main_v7]
  simp only [v41_at x0 x1 x2 x3 x4 x5 x6 x7 x8 x9, v49_at x0 x1 x2 x3 x4 x5 x6 x7 x8 x9, vln]
  rfl

theorem v58_at (n : Fin 64) (i : Fin 128) (g : Fin 4) (c : Fin 128) : val_main_v58 (F := Ideal) x3 x5 x6 (ix4 n i g c) = vln (ofArrays x0 x1 x2 x3 x4 x5 x6 x7 x8 x9) (tok n i) (col g c) := by
  pointwise [val_main_v58]
  simp only [v57_at x0 x1 x2 x3 x4 x5 x6 x7 x8 x9, mk_tok, mk_col]

theorem v64_at (n : Fin 64) (i : Fin 128) (g : Fin 4) (c : Fin 128) : val_main_v64 (F := Ideal) x3 x5 x6 x7 x8 (ix4 n i g c) = mixs (ofArrays x0 x1 x2 x3 x4 x5 x6 x7 x8 x9) n i g c := by
  pointwise [val_main_v64, val_main_v63, val_main_v62, val_main_v61, val_main_v60, val_main_v59, val_main_v9, val_main_v8]
  simp only [v58_at x0 x1 x2 x3 x4 x5 x6 x7 x8 x9, mixs]
  exact congrArg (· + _) (Finset.sum_congr rfl fun j _ => mul_comm _ _)

theorem v65_at (t : Fin 8192) (k : Fin 512) : val_main_v65 (F := Ideal) x3 x5 x6 x7 x8 (ix2 t k) = s (ofArrays x0 x1 x2 x3 x4 x5 x6 x7 x8 x9) t k := by
  pointwise [val_main_v65]
  simp only [v64_at x0 x1 x2 x3 x4 x5 x6 x7 x8 x9, s, mk_hd, mk_ln, mk_chk, mk_pos]

theorem v67_at (t : Fin 8192) (e : Fin 1024) : val_main_v67 (F := Ideal) x1 x2 x3 x4 x5 x6 x7 x8 (ix2 t e) = yc (ofArrays x0 x1 x2 x3 x4 x5 x6 x7 x8 x9) t e := by
  pointwise [val_main_v67, val_main_v66]
  simp only [v25_at x0 x1 x2 x3 x4 x5 x6 x7 x8 x9, v34_at x0 x1 x2 x3 x4 x5 x6 x7 x8 x9, v65_at x0 x1 x2 x3 x4 x5 x6 x7 x8 x9, yc, yb]

theorem v70_at (t : Fin 8192) (j : Fin 1024) : val_main_v70 (F := Ideal) x0 x1 x2 x3 x4 x5 x6 x7 x8 x9 (ix2 t j) = Cert.Joined.x1 (ofArrays x0 x1 x2 x3 x4 x5 x6 x7 x8 x9) t j := by
  pointwise [val_main_v70, val_main_v69, val_main_v68]
  simp only [v67_at x0 x1 x2 x3 x4 x5 x6 x7 x8 x9, Cert.Joined.x1]
  rfl

theorem v71_at (t : Fin 8192) (e : Fin 1024) : val_main_v71 (F := Ideal) x1 x2 x3 x4 x5 x6 x7 x8 (ix2 t e) = yc (ofArrays x0 x1 x2 x3 x4 x5 x6 x7 x8 x9) t e := by
  pointwise [val_main_v71]
  rw [v67_at x0 x1 x2 x3 x4 x5 x6 x7 x8 x9]

end Cert.Joined.Ref

end
-- ==== Proof.MixFwd.Blocks.lean ====
/- The input blocks of the forward call's grid points, read at an index: the rows of the arguments a point works on. -/
module

public import proofs.«01_k».proof.Proof.Gen.MixFwdIdeal.Frame.Runs
public import proofs.«01_k».proof.Proof.MixFwd.Ref
public import Idealize.ShloMosaic.Lib.Pipeline.ValueKit
public import Idealize.ShloMosaic.Lib.Claim

@[expose] public section

set_option maxRecDepth 16384

noncomputable section

namespace Cert.Joined

open Idealize.ShloMosaic Idealize.ShloMosaic.TcCoe Idealize.ShloMosaic.Tactic Idealize.SL.Sem
open Cert.MixFwdIdeal Cert.MixFwdIdeal.Gen Cert.Reals Cert.Rows
open Cert.MixBwd (lo hi)

theorem idx : ∀ t : Fin cfg0.N, win0_0.index t = ![t.val, 0]
    ∧ win0_1.index t = ![t.val, 0]
    ∧ win0_2.index t = ![t.val, 0]
    ∧ win0_3.index t = ![t.val, 2]
    ∧ win0_4.index t = ![t.val, 3]
    ∧ win0_5.index t = ![t.val, 4]
    ∧ win0_6.index t = ![0, 0]
    ∧ win0_7.index t = ![0, 0]
    ∧ win0_8.index t = ![0, 0]
    ∧ win0_9.index t = ![0, 0, 0]
    ∧ win0_10.index t = ![0, 0, 0]
    ∧ win0_11.index t = ![0, 0]
    ∧ win0_12.index t = ![t.val, 0]
    ∧ win0_13.index t = ![t.val, 0] :=
  (by decide +kernel : ∀ t : Fin grid0.N, _)

variable (m : (ℓ : Loc nD τ sig) → Buf (Elt Ideal) ℓ) (c : Dev nD) (t : Fin cfg0.N)

/-- The call's arguments. -/
abbrev arg : Arg := Ref.ofArrays (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))

/-! The host's lines before the call. -/

set_option maxHeartbeats 4000000 in
/-- The projection with its columns reordered and cut. -/
theorem host3 : V m c main_v3 = concatenate S8192x2688 1
    [⟨S8192x1536, extractStridedSlice S8192x1536 ![0, 0] (m ((c : Thread nD τ).loc main_arg3) : FVec Ideal S8192x2592 .bf16) slices_S8192x2592_S8192x1536_0_0⟩,
      ⟨S8192x1024, extractStridedSlice S8192x1024 ![0, 1568] (m ((c : Thread nD τ).loc main_arg3) : FVec Ideal S8192x2592 .bf16) slices_S8192x2592_S8192x1024_0_1568⟩,
      ⟨S8192x128, extractStridedSlice S8192x128 ![0, 1536] (m ((c : Thread nD τ).loc main_arg3) : FVec Ideal S8192x2592 .bf16) slices_S8192x2592_S8192x128_0_1536⟩]
    concatenates_S8192x1536_S8192x1024_S8192x128_S8192x2688_d1 := by
  have k₀ : V m c main_v3 = StableHlo.after (hostOps0.drop 4)
      (StableHlo.after (hostOps0.take 4) (fun b => m (c, b))) (Proc.devRef .tc main_v3) := by sl_kernel_rfl
  have k : V m c main_v3 = StableHlo.after (hostOps0.take 4) (fun b => m (c, b)) (Proc.devRef .tc main_v3) :=
    k₀.trans <| StableHlo.after_of_forall_not_mem (b := Proc.devRef .tc main_v3) (hostOps0.drop 4)
      (StableHlo.after (hostOps0.take 4) (fun b => m (c, b)))
      (List.forall_iff_forall_mem.mp (by
        simp only [hostOps0, List.drop_succ_cons, List.drop_zero, List.flatten_cons, List.flatten_nil, List.append_nil,
          List.cons_append, List.nil_append, List.Forall, StableHlo.nullary_writes, StableHlo.unary_writes, StableHlo.binary_writes,
          StableHlo.reshape_writes, Finset.mem_singleton]
        repeat' apply And.intro
        all_goals first
          | exact StableHlo.devRef_ne_of_ne (by decide)
          | exact fun h => absurd (Finset.mem_singleton.mp h) (StableHlo.devRef_ne_of_ne (by decide))))
  rw [k]
  simp only [hostOps0, List.take_succ_cons, List.take_zero, StableHlo.after_cons, StableHlo.after_nil]
  rw [StableHlo.nary_result]
  have cc : ∀ (a a' : FVec Ideal S8192x1536 .bf16) (b b' : FVec Ideal S8192x1024 .bf16) (d d' : FVec Ideal S8192x128 .bf16), a = a' → b = b' → d = d' →
      concatenate S8192x2688 1 [⟨S8192x1536, a⟩, ⟨S8192x1024, b⟩, ⟨S8192x128, d⟩] concatenates_S8192x1536_S8192x1024_S8192x128_S8192x2688_d1
        = concatenate S8192x2688 1 [⟨S8192x1536, a'⟩, ⟨S8192x1024, b'⟩, ⟨S8192x128, d'⟩] concatenates_S8192x1536_S8192x1024_S8192x128_S8192x2688_d1 := by
    rintro a _ b _ d _ rfl rfl rfl
    rfl
  refine cc _ _ _ _ _ _ ?_ ?_ ?_
  · exact (StableHlo.unary_result_ne (r := main_v0) _ main_v2 _ _ _ _ (by decide)).trans
      ((StableHlo.unary_result_ne (r := main_v0) _ main_v1 _ _ _ _ (by decide)).trans (StableHlo.unary_result _ _ _ _ _ _))
  · exact (StableHlo.unary_result_ne (r := main_v1) _ main_v2 _ _ _ _ (by decide)).trans ((StableHlo.unary_result _ _ _ _ _ _).trans
      (congrArg (extractStridedSlice S8192x1024 ![0, 1568] · slices_S8192x2592_S8192x1024_0_1568)
        (StableHlo.unary_result_ne (r := main_arg3) _ main_v0 _ _ _ _ (by decide))))
  · exact (StableHlo.unary_result _ _ _ _ _ _).trans (congrArg (extractStridedSlice S8192x128 ![0, 1536] · slices_S8192x2592_S8192x128_0_1536)
      ((StableHlo.unary_result_ne (r := main_arg3) _ main_v1 _ _ _ _ (by decide)).trans
        (StableHlo.unary_result_ne (r := main_arg3) _ main_v0 _ _ _ _ (by decide))))

theorem host_pg (t : Fin 8192) (k : Fin 512) (h) : V m c main_v3 (ix2 t ⟨1024 + k.val, h⟩) = (arg m c).pg t k := by
  rw [host3]
  pointwise
  rw [dif_pos (by omega)]
  rfl

theorem host_pu (t : Fin 8192) (k : Fin 512) (h) : V m c main_v3 (ix2 t ⟨1536 + k.val, h⟩) = (arg m c).pu t k := by
  rw [host3]
  pointwise
  rw [dif_pos (by omega)]
  rfl

theorem host_pv (t : Fin 8192) (k : Fin 512) (h) : V m c main_v3 (ix2 t ⟨2048 + k.val, h⟩) = (arg m c).pv t k := by
  rw [host3]
  pointwise
  rw [dif_neg (by omega), dif_pos (by omega)]
  simp only [show 2048 + k.val - 1536 = 512 + k.val by omega]
  rfl

set_option maxHeartbeats 2000000 in
theorem host_ws (g : Fin 4) (i j : Fin 128) : V m c main_v4 (ix3 g i j) = (arg m c).ws g i j := by
  simp only [V, hostOps0]
  entry_read
  pointwise
  rfl

set_option maxHeartbeats 2000000 in
theorem host_bs (g : Fin 4) (i : Fin 128) : V m c main_v6 (ix3 g i 0) = (arg m c).bs g i := by
  simp only [V, hostOps0]
  entry_read
  pointwise
  rfl

set_option maxHeartbeats 2000000 in
theorem host_wo (e j : Fin 1024) : V m c main_v8 (ix2 e j) = (arg m c).wo e j := by
  simp only [V, hostOps0]
  entry_read
  pointwise
  rfl

theorem b0 (r : Fin 1024) (l : Fin 1024) : iblk m c 0 t (ix2 r l) = (arg m c).x (row t r) l := by
  show _ = m ((c : Thread nD τ).loc main_arg0) (ix2 (row t r) l)
  blk_point [iblk, row, idx t]

theorem b1 (r : Fin 1024) (l : Fin 512) : iblk m c 1 t (ix2 r l) = (arg m c).of (row t r) l := by
  show _ = m ((c : Thread nD τ).loc main_arg1) (ix2 (row t r) l)
  blk_point [iblk, row, idx t]

theorem b2 (r : Fin 1024) (l : Fin 512) : iblk m c 2 t (ix2 r l) = (arg m c).ob (row t r) l := by
  show _ = m ((c : Thread nD τ).loc main_arg2) (ix2 (row t r) l)
  blk_point [iblk, row, idx t]

theorem raw3 (r : Fin 1024) (k : Fin 512) : X0_3 m c t (ix2 r k) = V m c main_v3 (ix2 (row t r) ⟨1024 + k.val, by omega⟩) := by
  unfold X0_3 Pipeline.Window.fill
  rw [dif_pos (moved0_3 t _)]
  blk_point [iblk, row, idx t]

theorem raw4 (r : Fin 1024) (k : Fin 512) : X0_4 m c t (ix2 r k) = V m c main_v3 (ix2 (row t r) ⟨1536 + k.val, by omega⟩) := by
  unfold X0_4 Pipeline.Window.fill
  rw [dif_pos (moved0_4 t _)]
  blk_point [iblk, row, idx t]

theorem raw5 (r : Fin 1024) (k : Fin 512) : X0_5 m c t (ix2 r k) = V m c main_v3 (ix2 (row t r) ⟨2048 + k.val, by omega⟩) := by
  unfold X0_5 Pipeline.Window.fill
  rw [dif_pos (moved0_5 t _)]
  blk_point [iblk, row, idx t]

theorem b6 (l : Fin 512) : iblk m c 6 t (ix2 0 l) = (arg m c).gg l := by
  show _ = m ((c : Thread nD τ).loc main_arg4) (ix2 0 l)
  blk_point [iblk, row, idx t]

theorem b7 (l : Fin 512) : iblk m c 7 t (ix2 0 l) = (arg m c).lg l := by
  show _ = m ((c : Thread nD τ).loc main_arg5) (ix2 0 l)
  blk_point [iblk, row, idx t]

theorem b8 (l : Fin 512) : iblk m c 8 t (ix2 0 l) = (arg m c).lb l := by
  show _ = m ((c : Thread nD τ).loc main_arg6) (ix2 0 l)
  blk_point [iblk, row, idx t]

theorem raw9 (g : Fin 4) (i j : Fin 128) : iblk m c 9 t (ix3 g i j) = V m c main_v4 (ix3 g i j) := by
  blk_point [iblk, row, idx t]

theorem raw10 (g : Fin 4) (i : Fin 128) : iblk m c 10 t (ix3 g i 0) = V m c main_v6 (ix3 g i 0) := by
  blk_point [iblk, row, idx t]

theorem raw11 (e j : Fin 1024) : iblk m c 11 t (ix2 e j) = V m c main_v8 (ix2 e j) := by
  blk_point [iblk, row, idx t]

theorem b3 (r : Fin 1024) (k : Fin 512) : X0_3 m c t (ix2 r k) = (arg m c).pg (row t r) k := (raw3 m c t r k).trans (host_pg m c _ _ _)
theorem b4 (r : Fin 1024) (k : Fin 512) : X0_4 m c t (ix2 r k) = (arg m c).pu (row t r) k := (raw4 m c t r k).trans (host_pu m c _ _ _)
theorem b5 (r : Fin 1024) (k : Fin 512) : X0_5 m c t (ix2 r k) = (arg m c).pv (row t r) k := (raw5 m c t r k).trans (host_pv m c _ _ _)
theorem b9 (g : Fin 4) (i j : Fin 128) : iblk m c 9 t (ix3 g i j) = (arg m c).ws g i j := (raw9 m c t g i j).trans (host_ws m c g i j)
theorem b10 (g : Fin 4) (i : Fin 128) : iblk m c 10 t (ix3 g i 0) = (arg m c).bs g i := (raw10 m c t g i).trans (host_bs m c g i)
theorem b11 (e j : Fin 1024) : iblk m c 11 t (ix2 e j) = (arg m c).wo e j := (raw11 m c t e j).trans (host_wo m c e j)

end Cert.Joined

end
-- ==== Proof.MixFwd.Words.lean ====
/- What the forward body stores at a grid point: the two results' rows, and the results assembled from the points. -/
module

public import proofs.«01_k».proof.Proof.Gen.MixFwdIdeal.Value
public import proofs.«01_k».proof.Proof.MixFwd.Point
public import proofs.«01_k».proof.Proof.MixFwd.Blocks

@[expose] public section

set_option maxRecDepth 16384

noncomputable section

namespace Cert.Joined

open Idealize.ShloMosaic Idealize.ShloMosaic.TcCoe Idealize.ShloMosaic.Tactic Idealize.SL.Sem
open Cert.MixFwdIdeal Cert.MixFwdIdeal.Gen Cert.Reals Cert.Rows

theorem ld_whole {s : Shape} {e : EltTy} {M : Memref sig .tc .vmem s e} (h : M.IsWhole) (X : s.Idx → Elt Ideal e) {off : Fin s.rank → ℕ}
    (inb : ∀ a, off a + s.size a ≤ s.size a) (ho : ∀ a, off a = 0) (y : s.Idx) :
    View.readAt (Elt Ideal) M.view (Rect.unit off s.size inb).toLoadRect (h.unread X) y = X y :=
  (congrFun (h.read_unread X) _).trans (congrArg X (funext fun a => Fin.ext (by
    show off a + 1 * (y a).val = _
    rw [ho a, Nat.zero_add, Nat.one_mul])))

/-- A group's slab of a buffer of four. -/
abbrev slab {a b : ℕ} {e : EltTy} {M : Memref sig .tc .vmem (⟨3, ![4, a, b]⟩ : Shape) e} (h : M.IsWhole) (X : (⟨3, ![4, a, b]⟩ : Shape).Idx → Elt Ideal e)
    (inb : ∀ (g : Fin 4) (q : Fin 3), (![g.val, 0, 0] : Fin 3 → ℕ) q + (⟨3, ![1, a, b]⟩ : Shape).size q ≤ (⟨3, ![4, a, b]⟩ : Shape).size q) (g : Fin 4) :
    (⟨3, ![1, a, b]⟩ : Shape).Idx → Elt Ideal e :=
  View.readAt (Elt Ideal) M.view (Rect.unit (s := (⟨3, ![4, a, b]⟩ : Shape)) ![g.val, 0, 0] ((⟨3, ![1, a, b]⟩ : Shape)).size (inb g)).toLoadRect (h.unread X)

theorem slab_at {a b : ℕ} {e : EltTy} {M : Memref sig .tc .vmem (⟨3, ![4, a, b]⟩ : Shape) e} (h : M.IsWhole)
    (X : (⟨3, ![4, a, b]⟩ : Shape).Idx → Elt Ideal e) (inb) (g : Fin 4) (i : Fin a) (j : Fin b) : slab h X inb g (ix3 0 i j) = X (ix3 g i j) :=
  (congrFun (h.read_unread X) _).trans (congrArg X (funext fun q => Fin.ext (by
    match q with
    | ⟨0, _⟩ => show g.val + 1 * 0 = g.val; omega
    | ⟨1, _⟩ => show 0 + 1 * i.val = i.val; omega
    | ⟨2, _⟩ => show 0 + 1 * j.val = j.val; omega)))

/-- A buffer whose last store is whole reads what that store wrote. -/
theorem full_read {S : Shape} {e : EltTy} {v : View sig .tc .vmem S e} {off : Fin S.rank → ℕ} {inb : ∀ a, off a + S.size a ≤ S.size a}
    {w : S.Idx → Elt Ideal e} {R L : List (View.Piece (Elt Ideal) S e)} (e : R = ⟨Rect.unit off S.size inb, w⟩ :: L) (h : ∀ a, off a = 0) (y : S.Idx) :
    v.read (Elt Ideal) (v.writes (Elt Ideal) v.junk R) y = w y := by
  subst e
  exact (View.read_writes_junk_apply_eq_canon v y _).trans (congrFun (View.canon_cons_unit_lit' inb w L h) y)

theorem inb_w : ∀ (g : Fin 4) (q : Fin 3), (![g.val, 0, 0] : Fin 3 → ℕ) q + S1x128x128.size q ≤ S4x128x128.size q := by decide
theorem inb_b : ∀ (g : Fin 4) (q : Fin 3), (![g.val, 0, 0] : Fin 3 → ℕ) q + S1x128x1.size q ≤ S4x128x1.size q := by decide

variable (m : (ℓ : Loc nD τ sig) → Buf (Elt Ideal) ℓ) (c : Dev nD) (t : Fin cfg0.N)

/-- The body's run at a point. -/
abbrev runAt := kernelRun0_A (F := Ideal) c (grid0.coords t) (ms0_0 t) (hs0_0 t) (ms0_1 t) (hs0_1 t) (ms0_2 t) (hs0_2 t) (ms0_3 t) (hs0_3 t) (ms0_4 t) (hs0_4 t)
  (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
  (ms0_12 t) (hs0_12 t) (ms0_13 t) (hs0_13 t) scM0_0 (Memref.isWhole_whole _) (iblk m c 0 t) (iblk m c 1 t) (iblk m c 2 t) (X0_3 m c t) (X0_4 m c t) (X0_5 m c t)
  (iblk m c 6 t) (iblk m c 7 t) (iblk m c 8 t) (iblk m c 9 t) (iblk m c 10 t) (iblk m c 11 t)

theorem l1 {M : Memref sig .tc .vmem S1024x512 .f32} (h : M.IsWhole) (inb) (r : Fin 1024) (k : Fin 512) :
    View.readAt (Elt Ideal) M.view (Rect.unit (s := S1024x512) ![0, 0] S1024x512.size inb).toLoadRect (h.unread (iblk m c 1 t)) (ix2 r k) = (arg m c).of (row t r) k :=
  (ld_whole h _ inb (by decide) _).trans (b1 m c t r k)
theorem l2 {M : Memref sig .tc .vmem S1024x512 .f32} (h : M.IsWhole) (inb) (r : Fin 1024) (k : Fin 512) :
    View.readAt (Elt Ideal) M.view (Rect.unit (s := S1024x512) ![0, 0] S1024x512.size inb).toLoadRect (h.unread (iblk m c 2 t)) (ix2 r k) = (arg m c).ob (row t r) k :=
  (ld_whole h _ inb (by decide) _).trans (b2 m c t r k)
theorem l3 {M : Memref sig .tc .vmem S1024x512 .bf16} (h : M.IsWhole) (inb) (r : Fin 1024) (k : Fin 512) :
    View.readAt (Elt Ideal) M.view (Rect.unit (s := S1024x512) ![0, 0] S1024x512.size inb).toLoadRect (h.unread (X0_3 m c t)) (ix2 r k) = (arg m c).pg (row t r) k :=
  (ld_whole h _ inb (by decide) _).trans (b3 m c t r k)
theorem l4 {M : Memref sig .tc .vmem S1024x512 .bf16} (h : M.IsWhole) (inb) (r : Fin 1024) (k : Fin 512) :
    View.readAt (Elt Ideal) M.view (Rect.unit (s := S1024x512) ![0, 0] S1024x512.size inb).toLoadRect (h.unread (X0_4 m c t)) (ix2 r k) = (arg m c).pu (row t r) k :=
  (ld_whole h _ inb (by decide) _).trans (b4 m c t r k)
theorem l5 {M : Memref sig .tc .vmem S1024x512 .bf16} (h : M.IsWhole) (inb) (r : Fin 1024) (k : Fin 512) :
    View.readAt (Elt Ideal) M.view (Rect.unit (s := S1024x512) ![0, 0] S1024x512.size inb).toLoadRect (h.unread (X0_5 m c t)) (ix2 r k) = (arg m c).pv (row t r) k :=
  (ld_whole h _ inb (by decide) _).trans (b5 m c t r k)
theorem l6 {M : Memref sig .tc .vmem S1x512 .f32} (h : M.IsWhole) (inb) (k : Fin 512) :
    View.readAt (Elt Ideal) M.view (Rect.unit (s := S1x512) ![0, 0] S1x512.size inb).toLoadRect (h.unread (iblk m c 6 t)) (ix2 0 k) = (arg m c).gg k :=
  (ld_whole h _ inb (by decide) _).trans (b6 m c t k)
theorem l7 {M : Memref sig .tc .vmem S1x512 .f32} (h : M.IsWhole) (inb) (k : Fin 512) :
    View.readAt (Elt Ideal) M.view (Rect.unit (s := S1x512) ![0, 0] S1x512.size inb).toLoadRect (h.unread (iblk m c 7 t)) (ix2 0 k) = (arg m c).lg k :=
  (ld_whole h _ inb (by decide) _).trans (b7 m c t k)
theorem l8 {M : Memref sig .tc .vmem S1x512 .f32} (h : M.IsWhole) (inb) (k : Fin 512) :
    View.readAt (Elt Ideal) M.view (Rect.unit (s := S1x512) ![0, 0] S1x512.size inb).toLoadRect (h.unread (iblk m c 8 t)) (ix2 0 k) = (arg m c).lb k :=
  (ld_whole h _ inb (by decide) _).trans (b8 m c t k)
theorem l0 {M : Memref sig .tc .vmem S1024x1024 .f32} (h : M.IsWhole) (inb) (r j : Fin 1024) :
    View.readAt (Elt Ideal) M.view (Rect.unit (s := S1024x1024) ![0, 0] S1024x1024.size inb).toLoadRect (h.unread (iblk m c 0 t)) (ix2 r j) = (arg m c).x (row t r) j :=
  (ld_whole h _ inb (by decide) _).trans (b0 m c t r j)
theorem l11 {M : Memref sig .tc .vmem S1024x1024 .bf16} (h : M.IsWhole) (inb) (e j : Fin 1024) :
    View.readAt (Elt Ideal) M.view (Rect.unit (s := S1024x1024) ![0, 0] S1024x1024.size inb).toLoadRect (h.unread (iblk m c 11 t)) (ix2 e j) = (arg m c).wo e j :=
  (ld_whole h _ inb (by decide) _).trans (b11 m c t e j)

/-- The blocks the body has stored when it reads them back. -/
abbrev stored := order.map (piece
    (k0_pay14 (F := Ideal) (k0_pay13 (View.readAt (Elt Ideal) (ms0_5 t).view (Rect.unit (s := S1024x512) ![0, 0] S1024x512.size inb_S1024x512_S1024x512_0_0).toLoadRect ((hs0_5 t).unread (X0_5 m c t))))
      (View.readAt (Elt Ideal) (ms0_7 t).view (Rect.unit (s := S1x512) ![0, 0] S1x512.size inb_S1x512_S1x512_0_0).toLoadRect ((hs0_7 t).unread (iblk m c 7 t)))
      (View.readAt (Elt Ideal) (ms0_8 t).view (Rect.unit (s := S1x512) ![0, 0] S1x512.size inb_S1x512_S1x512_0_0).toLoadRect ((hs0_8 t).unread (iblk m c 8 t))))
    (slab (hs0_9 t) (iblk m c 9 t) inb_w) (slab (hs0_10 t) (iblk m c 10 t) inb_b))

theorem mixed (inb) (r : Fin 1024) (k : Fin 512) :
    scM0_0.view.readCov (stored m c t) (Rect.unit (s := S1024x512) ![0, 0] S1024x512.size inb).toLoadRect (ix2 r k) = s (arg m c) (row t r) k :=
  scratch (pieces (pay14_at (l7 m c t _ _) (l8 m c t _ _) (pay13_at (l5 m c t _ _)))
    (fun g i j => (slab_at (hs0_9 t) _ inb_w g i j).trans (b9 m c t g i j))
    (fun g i => (slab_at (hs0_10 t) _ inb_b g i 0).trans (b10 m c t g i)) order) (by sl_kernel_rfl) inb r k

set_option maxHeartbeats 4000000 in
theorem words12 : ∃ v L, (runAt m c t).1 = ⟨Rect.unit ![0, 0] S1024x1024.size inb_S1024x1024_S1024x1024_0_0, v⟩ :: L
    ∧ ∀ r j, v (ix2 r j) = x1 (arg m c) (row t r) j :=
  ⟨_, _, rfl, fun r j => pay3_at (tYa_at (l1 m c t _ _) (l2 m c t _ _) (l3 m c t _ _) (l6 m c t _ _)) (pay12_at (l4 m c t _ _)) (mixed m c t _)
    (l0 m c t _ _) (l11 m c t _ _) r j⟩

set_option maxHeartbeats 4000000 in
theorem words13 : ∃ v L, (runAt m c t).2.1 = ⟨Rect.unit ![0, 0] S1024x1024.size inb_S1024x1024_S1024x1024_0_0, v⟩ :: L
    ∧ ∀ r e, v (ix2 r e) = yc (arg m c) (row t r) e :=
  ⟨_, _, rfl, fun r e => pay2_at (tYa_at (l1 m c t _ _) (l2 m c t _ _) (l3 m c t _ _) (l6 m c t _ _)) (pay12_at (l4 m c t _ _)) (mixed m c t _) r e⟩

/-- What a list of pieces leaves in a result's staging buffer, when the last is the whole of it. -/
theorem read12 {R : List (View.Piece (Elt Ideal) S1024x1024 .f32)} {f : Fin 1024 → Fin 1024 → EReal}
    (h : ∃ v L, R = ⟨Rect.unit ![0, 0] S1024x1024.size inb_S1024x1024_S1024x1024_0_0, v⟩ :: L ∧ ∀ (r j : Fin 1024), v (ix2 r j) = f r j) (r j : Fin 1024) :
    VO0_12.read (Elt Ideal) (VO0_12.writes (Elt Ideal) VO0_12.junk R) (ix2 r j) = f r j := by
  obtain ⟨v, L, e, hv⟩ := h
  exact (full_read (v := VO0_12) (off := ![0, 0]) e (by decide) _).trans (hv r j)

theorem read13 {R : List (View.Piece (Elt Ideal) S1024x1024 .bf16)} {f : Fin 1024 → Fin 1024 → EReal}
    (h : ∃ v L, R = ⟨Rect.unit ![0, 0] S1024x1024.size inb_S1024x1024_S1024x1024_0_0, v⟩ :: L ∧ ∀ (r j : Fin 1024), v (ix2 r j) = f r j) (r j : Fin 1024) :
    VO0_13.read (Elt Ideal) (VO0_13.writes (Elt Ideal) VO0_13.junk R) (ix2 r j) = f r j := by
  obtain ⟨v, L, e, hv⟩ := h
  exact (full_read (v := VO0_13) (off := ![0, 0]) e (by decide) _).trans (hv r j)

set_option maxHeartbeats 4000000 in
theorem got12 (r j : Fin 1024) : (outsAt0 m c t).1 (ix2 r j) = x1 (arg m c) (row t r) j := by
  unfold outsAt0 out0_A_12
  exact read12 (words12 m c t) r j

set_option maxHeartbeats 4000000 in
theorem got13 (r e : Fin 1024) : (outsAt0 m c t).2 (ix2 r e) = yc (arg m c) (row t r) e := by
  unfold outsAt0 out0_A_13
  exact read13 (words13 m c t) r e

theorem final12 (z : FVec Ideal S8192x1024 .f32) (hz : ∀ t j, z (ix2 t j) = x1 (arg m c) t j) : (dats m 0 c).arrAt 12 cfg0.N = z := by
  refine (dats m 0 c).arrAt_eq_of_covers 12 _ (by decide +kernel) fun t hf y => ?_
  blk_simp
  rw [after0_12]
  obtain ⟨r, k, rfl⟩ : ∃ (r k : Fin 1024), y = ix2 r k := ⟨y 0, y 1, eq_ix2 y⟩
  have e : ((View.whole main_v9_0).slice (win0_12.rect t)).emb (ix2 r k) = ix2 (row t r) k := by blk_ext [row, idx t]
  refine Eq.trans ?_ (congrArg _ e.symm)
  rw [hz]
  exact got12 m c t r k

theorem final13 (z : FVec Ideal S8192x1024 .bf16) (hz : ∀ t e, z (ix2 t e) = yc (arg m c) t e) : (dats m 0 c).arrAt 13 cfg0.N = z := by
  refine (dats m 0 c).arrAt_eq_of_covers 13 _ (by decide +kernel) fun t hf y => ?_
  blk_simp
  rw [after0_13]
  obtain ⟨r, k, rfl⟩ : ∃ (r k : Fin 1024), y = ix2 r k := ⟨y 0, y 1, eq_ix2 y⟩
  have e : ((View.whole main_v9_1).slice (win0_13.rect t)).emb (ix2 r k) = ix2 (row t r) k := by blk_ext [row, idx t]
  refine Eq.trans ?_ (congrArg _ e.symm)
  rw [hz]
  exact got13 m c t r k

end Cert.Joined

end
-- ==== Proof.MixFwd.RefRun.lean ====
/- The reference's run, its results stated as the read module's values of the arguments. -/
module

public import proofs.«01_k».proof.Proof.Gen.MixFwdRefIdeal.Run
public import proofs.«01_k».proof.Proof.Gen.MixFwdRefIdeal.Read

@[expose] public section

set_option maxRecDepth 16384

noncomputable section

namespace Cert.Joined

open Idealize.ShloMosaic Idealize.ShloMosaic.TcCoe Idealize.SL.Sem
open Idealize.ShloMosaic.StableHlo Cert.MixFwdRefIdeal Cert.MixFwdRefIdeal.Read

set_option maxHeartbeats 1000000 in
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70) = val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v71) = val_main_v71 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (val_main_v70_eq m c),
    (h c).2.1.trans (val_main_v71_eq m c),
    (h c).2.2⟩)
    (Cert.MixFwdRefIdeal.Value.run (F := Ideal) m ρ)

end Cert.Joined

end
-- ==== Proof.Norm.RefRun.lean ====
/- The reference's run, its results stated as the read module's values of the arguments. -/
module

public import proofs.«01_k».proof.Proof.Gen.NormRefIdeal.Run
public import proofs.«01_k».proof.Proof.Gen.NormRefIdeal.Read

@[expose] public section

set_option maxRecDepth 16384

noncomputable section

namespace Cert.FirstNorm

open Idealize.ShloMosaic Idealize.ShloMosaic.TcCoe Idealize.SL.Sem
open Idealize.ShloMosaic.StableHlo Cert.NormRefIdeal Cert.NormRefIdeal.Read

theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = val_main_v15 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v15_eq (m ((c.tc : Thread nD τ).loc main_arg0)) (m ((c.tc : Thread nD τ).loc main_arg1))),
    (h c).2⟩)
    (Cert.NormRefIdeal.Value.run (F := Ideal) m ρ)

end Cert.FirstNorm

end
-- ==== Proof.Norm.Final.lean ====
/- The first norm: the call's result is the reference's, row by row. -/
module

public import proofs.«01_k».proof.Proof.Gen.NormIdeal.Value
public import proofs.«01_k».proof.Proof.Gen.NormRefIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.FirstNorm

open Idealize.ShloMosaic Idealize.ShloMosaic.TcCoe Idealize.ShloMosaic.Tactic Idealize.SL.Sem
open Cert.NormIdeal Cert.NormIdeal.Gen
open Cert.NormRefIdeal.Read (val_main_v0 val_main_v1 val_main_v2 val_main_v3 val_main_v4 val_main_v5 val_main_v6 val_main_v7 val_main_v8 val_main_v9 val_main_v10
  val_main_v11 val_main_v12 val_main_v13 val_main_v14 val_main_v15 val_main_cst val_main_cst_0 val_main_cst_1)

/-- A row's norm, from the row and the gains. -/
def norm (x : Fin 1024 → EReal) (g : Fin 1024 → EReal) (j : Fin 1024) : EReal :=
  x j * Ideal.rsqrt (Ideal.div (∑ k, x k * x k) (Ideal.ofBits .f32 0x44800000#32) + Ideal.ofBits .f32 0x358637BD#32) * g j

theorem ref_at (x0 : FVec Ideal S1x8192x1024 .f32) (x1 : FVec Ideal S1x1024 .f32) (t : Fin 8192) (j : Fin 1024) :
    val_main_v15 (F := Ideal) x0 x1 (ix2 t j) = norm (fun k => x0 (ix3 0 t k)) (fun k => x1 (ix2 0 k)) j := by
  pointwise [val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem pay_at {v : FVec Ideal S512x1024 .f32} {w : FVec Ideal S1x1024 .f32} (r : Fin 512) (j : Fin 1024) :
    k0_pay1 (F := Ideal) v w (ix2 r j) = norm (fun k => v (ix2 r k)) (fun k => w (ix2 0 k)) j := by
  pointwise [k0_pay1]
  rfl

/-- The token of a row of a tile. -/
def row (T : Fin 16) (r : Fin 512) : Fin 8192 := ⟨T.val * 512 + r.val, by omega⟩

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD) (t : Fin cfg0.N)

theorem host0 (t : Fin 8192) (j : Fin 1024) : V m c main_v0 (ix2 t j) = m ((c : Thread nD τ).loc main_arg0) (ix3 0 t j) := by
  simp only [V, hostOps0]
  entry_read
  pointwise

theorem raw0 (r : Fin 512) (j : Fin 1024) : iblk m c 0 t (ix2 r j) = V m c main_v0 (ix2 (row t r) j) := by
  blk_point [iblk, row, idx t]

theorem b1 (j : Fin 1024) : iblk m c 1 t (ix2 0 j) = m ((c : Thread nD τ).loc main_arg1) (ix2 0 j) := by
  blk_point [iblk, row, idx t]

theorem ld_whole {s : Shape} {e : EltTy} (X : s.Idx → Elt Ideal e) {off : Fin s.rank → ℕ} (inb : ∀ a, off a + s.size a ≤ s.size a) (ho : ∀ a, off a = 0) :
    View.ld X (Rect.unit off s.size inb) = X :=
  funext fun y => congrArg X (funext fun a => Fin.ext (by
    show off a + 1 * (y a).val = _
    rw [ho a, Nat.zero_add, Nat.one_mul]))

theorem full {S : Shape} {e : EltTy} {off : Fin S.rank → ℕ} (inb : ∀ a, off a + S.size a ≤ S.size a) (w : S.Idx → Elt Ideal e) (h : ∀ a, off a = 0) :
    View.canon (Val := Elt Ideal) (e := e) [⟨Rect.unit off S.size inb, w⟩] = w :=
  View.canon_cons_unit_lit' inb w [] h

theorem zero2 : ∀ a : Fin 2, (![0, 0] : Fin 2 → ℕ) a = 0 := by decide

theorem out_eq (x0 : FVec Ideal S512x1024 .f32) (x1 : FVec Ideal S1x1024 .f32) : out0_2 (F := Ideal) x0 x1 = k0_pay1 (F := Ideal) x0 x1 := by
  unfold out0_2
  exact (full (S := S512x1024) (e := .bf16) _ _ zero2).trans (congrArg₂ (k0_pay1 (F := Ideal))
    (ld_whole (s := S512x1024) (e := .f32) x0 _ zero2) (ld_whole (s := S1x1024) (e := .f32) x1 _ zero2))

theorem got (r : Fin 512) (j : Fin 1024) :
    out0_2 (iblk m c 0 t) (iblk m c 1 t) (ix2 r j) = norm (fun k => m ((c : Thread nD τ).loc main_arg0) (ix3 0 (row t r) k)) (fun k => m ((c : Thread nD τ).loc main_arg1) (ix2 0 k)) j :=
  (congrFun (out_eq (iblk m c 0 t) (iblk m c 1 t)) (ix2 r j)).trans ((pay_at r j).trans
    (congrArg₂ (fun x g => norm x g j) (funext fun k => (raw0 m c t r k).trans (host0 m c _ k)) (funext fun k => b1 m c t k)))

theorem final2 : (dats m 0 c).arrAt 2 cfg0.N
    = val_main_v15 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, k, rfl⟩ : ∃ (r : Fin 512) (k : Fin 1024), y = ix2 r k := ⟨y 0, y 1, eq_ix2 y⟩
  have e : ((View.whole main_v1).slice (win0_2.rect t)).emb (ix2 r k) = ix2 (row t r) k := by blk_ext [row, idx t]
  refine Eq.trans ?_ (congrArg _ e.symm)
  exact (got m c t r k).trans (ref_at _ _ _ _).symm

end Cert.FirstNorm

end
-- ==== Proof.lean ====
module

public import proofs.«01_k».proof.Defs
public import proofs.«01_k».proof.Proof.Gen.InProjBwd
public import proofs.«01_k».proof.Proof.Gen.InProjBwd.Skeleton
public import proofs.«01_k».proof.Proof.Gen.InProjBwd.Launch
public import proofs.«01_k».proof.Proof.Gen.InProjBwd.Points
public import proofs.«01_k».proof.Proof.Gen.InProjBwd.Frame
public import proofs.«01_k».proof.Proof.Gen.InProjBwdIdeal
public import proofs.«01_k».proof.Proof.Gen.InProjBwdIdeal.Skeleton
public import proofs.«01_k».proof.Proof.Gen.InProjBwdIdeal.Launch
public import proofs.«01_k».proof.Proof.Gen.InProjBwdIdeal.Points
public import proofs.«01_k».proof.Proof.Gen.InProjBwdIdeal.Frame
public import proofs.«01_k».proof.Proof.Gen.InProjBwdIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Pre_finite_in_proj
public import proofs.«01_k».proof.Proof.InProj.Pre
public import proofs.«01_k».proof.Proof.InProj.RefRun
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_finite_ffn
public import proofs.«01_k».proof.Proof.Ffn.Pre
public import proofs.«01_k».proof.Proof.Ffn.RefRun
public import proofs.«01_k».proof.Proof.Ffn.Ref
public import proofs.«01_k».proof.Proof.Ffn.Final
public import proofs.«01_k».proof.Proof.Gen.Mix
public import proofs.«01_k».proof.Proof.Gen.MixIdeal
public import proofs.«01_k».proof.Proof.Mix.BitsFrame
public import proofs.«01_k».proof.Proof.Mix.Results
public import proofs.«01_k».proof.Proof.Mix.Ref
public import proofs.«01_k».proof.Proof.Mix.Final
public import proofs.«01_k».proof.Proof.Gen.MixRefIdeal
public import proofs.«01_k».proof.Proof.Gen.MixRefIdeal.Run
public import proofs.«01_k».proof.Proof.Gen.MixRefIdeal.Read
public import proofs.«01_k».proof.Proof.Gen.Pre_finite_mix
public import proofs.«01_k».proof.Proof.Mix.Pre
public import proofs.«01_k».proof.Proof.Mix.RefRun
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.MixFwd.Words
public import proofs.«01_k».proof.Proof.MixFwd.RefRun
public import Idealize.ShloMosaic.Lib.Claim
public import Idealize.ShloMosaic.Lib.Quiescent
public import Idealize.ShloMosaic.Adequacy
public import Idealize.ShloMosaic.Init
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Norm.RefRun
public import proofs.«01_k».proof.Proof.Norm.Final
public import proofs.«01_k».proof.Proof.Gen.Gla
public import proofs.«01_k».proof.Proof.Gen.Gla.Frame
public import proofs.«01_k».proof.Proof.Gen.GlaIdeal
public import proofs.«01_k».proof.Proof.Gen.GlaIdeal.Frame

@[expose] public section

set_option maxRecDepth 16384

noncomputable section

namespace Cert.Proof

open Idealize.ShloMosaic Idealize.SL.Sem

/-- The reference of `InProjBwd` runs, leaves its arguments, and declares no semaphore. -/
theorem frame_ref_InProj : Cert.quiescent_InProjRefIdeal (hInProjRefIdeal := Cert.InProjRefIdeal.Gen.facts) := fun m g _ =>
  (θ_run Cert.InProjRefIdeal.defs _ _).mono (fun r h => And.intro (fun c => (h c).2.2.2) (sem_eq_zero_of_no_sems (by decide) r.2))
    (Cert.InProj.run_ref m g)

/-- The reference of `Ffn` runs, leaves its arguments, and declares no semaphore. -/
theorem frame_ref_Ffn : Cert.quiescent_FfnRefIdeal (hFfnRefIdeal := Cert.FfnRefIdeal.Gen.facts) := fun m g _ =>
  (θ_run Cert.FfnRefIdeal.defs _ _).mono (fun r h => And.intro (fun c => (h c).2.2.2.2.2.2.2.2.2) (sem_eq_zero_of_no_sems (by decide) r.2))
    (Cert.Ffn.run_ref m g)

/-- The reference of `Mix` runs, leaves its arguments, and declares no semaphore. -/
theorem frame_ref_Mix : Cert.quiescent_MixRefIdeal (hMixRefIdeal := Cert.MixRefIdeal.Gen.facts) := fun m g _ =>
  (θ_run Cert.MixRefIdeal.defs _ _).mono (fun r h => And.intro (fun c => (h c).2.2.2.2.2.2.2.2.2.2) (sem_eq_zero_of_no_sems (by decide) r.2))
    (Cert.MixBwd.run_ref m g)

/-- The reference of `MixFwd` runs, leaves its arguments, and declares no semaphore. -/
theorem frame_ref_MixFwd : Cert.quiescent_MixFwdRefIdeal (hMixFwdRefIdeal := Cert.MixFwdRefIdeal.Gen.facts) := fun m g _ =>
  (θ_run Cert.MixFwdRefIdeal.defs _ _).mono (fun r h => And.intro (fun c => (h c).2.2) (sem_eq_zero_of_no_sems (by decide) r.2))
    (Cert.Joined.run_ref m g)

/-- The reference of `Norm` runs, leaves its arguments, and declares no semaphore. -/
theorem frame_ref_Norm : Cert.quiescent_NormRefIdeal (hNormRefIdeal := Cert.NormRefIdeal.Gen.facts) := fun m g _ =>
  (θ_run Cert.NormRefIdeal.defs _ _).mono (fun r h => And.intro (fun c => (h c).2) (sem_eq_zero_of_no_sems (by decide) r.2))
    (Cert.FirstNorm.run_ref m g)

set_option maxHeartbeats 2000000 in
theorem claim : Cert.Claim := by
  refine ⟨Cert.InProjBwd.Gen.facts, Cert.InProjBwdIdeal.Gen.facts, Cert.InProjRefIdeal.Gen.facts, Cert.Ffn.Gen.facts, Cert.FfnIdeal.Gen.facts, Cert.FfnRefIdeal.Gen.facts, Cert.Mix.Gen.facts, Cert.MixIdeal.Gen.facts, Cert.MixRefIdeal.Gen.facts, Cert.MixFwd.Gen.facts, Cert.MixFwdIdeal.Gen.facts, Cert.MixFwdRefIdeal.Gen.facts, Cert.Norm.Gen.facts, Cert.NormIdeal.Gen.facts, Cert.NormRefIdeal.Gen.facts, Cert.Gla.Gen.facts, Cert.GlaIdeal.Gen.facts, Cert.Pre_finite_in_proj.Gen.facts, Cert.Pre_finite_ffn.Gen.facts, Cert.Pre_finite_mix.Gen.facts,
    fun m ρ _ => Cert.InProjBwd.Gen.frame m ρ,
    fun m ρ _ => Cert.InProjBwdIdeal.Gen.frame m ρ,
    fun m ρ _ => Cert.InProjBwdIdeal.Gen.frame m ρ,
    fun m g _ => frame_ref_InProj m g trivial,
    fun m g _ => frame_ref_InProj m g trivial,
    fun m ρ _ => Cert.Ffn.Gen.frame m ρ,
    fun m ρ _ => Cert.FfnIdeal.Gen.frame m ρ,
    fun m ρ _ => Cert.FfnIdeal.Gen.frame m ρ,
    fun m g _ => frame_ref_Ffn m g trivial,
    fun m g _ => frame_ref_Ffn m g trivial,
    fun m ρ h => Cert.MixBwd.frame_bits m ρ h,
    fun m ρ _ => Cert.MixBwd.frame m ρ,
    fun m ρ _ => Cert.MixBwd.frame m ρ,
    fun m g _ => frame_ref_Mix m g trivial,
    fun m g _ => frame_ref_Mix m g trivial,
    fun m ρ _ => Cert.MixFwd.Gen.frame m ρ,
    fun m ρ _ => Cert.MixFwdIdeal.Gen.frame m ρ,
    frame_ref_MixFwd,
    fun m ρ _ => Cert.Norm.Gen.frame m ρ,
    fun m ρ _ => Cert.NormIdeal.Gen.frame m ρ,
    frame_ref_Norm,
    fun m ρ _ => Cert.Gla.Gen.frame m ρ,
    fun m ρ _ => Cert.GlaIdeal.Gen.frame m ρ,
    trivial, ?_, trivial, ?_, ⟨IdealRules.named_const.statement _ _ _ _ _ rfl, IdealRules.named_const.statement _ _ _ _ _ rfl⟩, ?_, IdealRules.named_const.statement _ _ _ _ _ rfl, ?_,
    trivial, ?_, trivial⟩
  · pair_intro
    · run_from Cert.InProjBwdIdeal.Value.run_blocks m g
    · run_from Cert.InProj.run_ref m' g'
      · exact (Cert.InProj.final15 m c (Cert.InProj.nums_of_pre m hpre c)).symm
      · exact (Cert.InProj.final16 m c).symm
      · exact (Cert.InProj.final17 m c).symm
  · pair_intro
    · run_from Cert.FfnIdeal.Value.run_blocks m g
    · run_from Cert.Ffn.run_ref m' g'
      · obtain ⟨P, X, Y, H⟩ := Cert.Ffn.nums_of_pre m hpre c
        exact (Cert.Ffn.final7 H _ (fun t j => Cert.Ffn.Ref.v104_at H.h0 H.h1 H.h2 H.h3 H.h4 H.h5 H.h6 t j)).symm
      · obtain ⟨P, X, Y, H⟩ := Cert.Ffn.nums_of_pre m hpre c
        exact (Cert.Ffn.final8 H _ (fun t j => Cert.Ffn.Ref.v105_at H.h0 H.h2 t j)).symm
      · obtain ⟨P, X, Y, H⟩ := Cert.Ffn.nums_of_pre m hpre c
        exact (Cert.Ffn.final9 H _ (fun t j => Cert.Ffn.Ref.v106_at H.h0 H.h1 H.h2 H.h3 H.h4 H.h5 H.h6 t j)).symm
      · obtain ⟨P, X, Y, H⟩ := Cert.Ffn.nums_of_pre m hpre c
        exact (Cert.Ffn.final10 H _ (fun t j => Cert.Ffn.Ref.v107_at H.h0 H.h1 H.h2 H.h3 H.h4 H.h5 H.h6 t j)).symm
      · obtain ⟨P, X, Y, H⟩ := Cert.Ffn.nums_of_pre m hpre c
        exact (Cert.Ffn.final11 H _ (fun t j => Cert.Ffn.Ref.v108_at H.h0 H.h2 H.h4 H.h5 t j)).symm
      · obtain ⟨P, X, Y, H⟩ := Cert.Ffn.nums_of_pre m hpre c
        exact (Cert.Ffn.final12 H _ (fun t j => Cert.Ffn.Ref.v109_at H.h0 H.h1 H.h2 H.h3 H.h4 H.h5 H.h6 t j)).symm
      · obtain ⟨P, X, Y, H⟩ := Cert.Ffn.nums_of_pre m hpre c
        exact (Cert.Ffn.final13 H _ (fun a b => Cert.Ffn.Ref.v110_at H.h0 H.h1 H.h2 H.h3 H.h4 H.h5 H.h6 a b)).symm
      · obtain ⟨P, X, Y, H⟩ := Cert.Ffn.nums_of_pre m hpre c
        exact (Cert.Ffn.final14 H _ (fun j => Cert.Ffn.Ref.v111_at H.h0 H.h1 H.h2 H.h3 H.h4 H.h5 H.h6 j)).symm
      · obtain ⟨P, X, Y, H⟩ := Cert.Ffn.nums_of_pre m hpre c
        exact (Cert.Ffn.final15 H _ (fun j => Cert.Ffn.Ref.v112_at H.h0 H.h1 H.h2 H.h3 H.h4 H.h5 H.h6 j)).symm
  · pair_intro
    · run_from Cert.MixBwd.run_blocks m g
    · run_from Cert.MixBwd.run_ref m' g'
      · obtain ⟨P, H⟩ := Cert.MixBwd.nums_of_pre m hpre c
        exact (Cert.MixBwd.final13 H _ (fun t k => Cert.MixBwd.Ref.v164_at H.h0 H.h1 H.h2 H.h3 H.h4 H.h9 t k)).symm
      · obtain ⟨P, H⟩ := Cert.MixBwd.nums_of_pre m hpre c
        exact (Cert.MixBwd.final14 H _ (fun t k => Cert.MixBwd.Ref.v165_at H.h0 H.h1 H.h2 H.h3 H.h4 H.h9 t k)).symm
      · obtain ⟨P, H⟩ := Cert.MixBwd.nums_of_pre m hpre c
        exact (Cert.MixBwd.final15 H _ (fun t k => Cert.MixBwd.Ref.v167_at H.h0 H.h3 H.h5 H.h6 H.h7 H.h8 H.h9 t k)).symm
      · obtain ⟨P, H⟩ := Cert.MixBwd.nums_of_pre m hpre c
        exact (Cert.MixBwd.final16 H _ (fun t k => Cert.MixBwd.Ref.v169_at H.h0 H.h3 H.h5 H.h6 H.h7 H.h8 H.h9 t k)).symm
      · obtain ⟨P, H⟩ := Cert.MixBwd.nums_of_pre m hpre c
        exact (Cert.MixBwd.final17 H _ (fun t k => Cert.MixBwd.Ref.v80_at H.h0 H.h1 H.h2 H.h3 H.h4 H.h5 H.h6 H.h7 H.h8 t k)).symm
      · obtain ⟨P, H⟩ := Cert.MixBwd.nums_of_pre m hpre c
        exact (Cert.MixBwd.final18 H _ (fun k => Cert.MixBwd.Ref.v170_at H.h0 H.h1 H.h2 H.h3 H.h9 k)).symm
      · obtain ⟨P, H⟩ := Cert.MixBwd.nums_of_pre m hpre c
        exact (Cert.MixBwd.final19 H _ (fun k => Cert.MixBwd.Ref.v171_at H.h0 H.h3 H.h7 H.h9 k)).symm
      · obtain ⟨P, H⟩ := Cert.MixBwd.nums_of_pre m hpre c
        exact (Cert.MixBwd.final20 H _ (fun k => Cert.MixBwd.Ref.v172_at H.h0 H.h3 H.h7 H.h9 k)).symm
      · obtain ⟨P, H⟩ := Cert.MixBwd.nums_of_pre m hpre c
        exact (Cert.MixBwd.final21 H _ (fun g a b => Cert.MixBwd.Ref.v92_at H.h0 H.h3 H.h5 H.h6 H.h9 g a b)).symm
      · obtain ⟨P, H⟩ := Cert.MixBwd.nums_of_pre m hpre c
        exact (Cert.MixBwd.final22 H _ (fun g a => Cert.MixBwd.Ref.v173_at H.h0 H.h3 H.h9 g a)).symm
  · pair_intro
    · run_from Cert.MixFwdIdeal.Value.run_blocks m g
    · run_from Cert.Joined.run_ref m' g'
      · exact (Cert.Joined.final12 m c _ (fun t j => Cert.Joined.Ref.v70_at _ _ _ _ _ _ _ _ _ _ t j)).symm
      · exact (Cert.Joined.final13 m c _ (fun t e => Cert.Joined.Ref.v71_at _ _ _ _ _ _ _ _ _ _ t e)).symm
  · pair_intro
    · run_from Cert.NormIdeal.Value.run_blocks m g
    · run_from Cert.FirstNorm.run_ref m' g'
      · exact (Cert.FirstNorm.final2 m c).symm

end Cert.Proof

end
